-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8)) (m ((c.tc : Thread Cert.Kernel14Ideal.nD Cert.Kernel14Ideal.τ).loc Cert.Kernel14Ideal.main_arg9))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8)) (m ((c.tc : Thread Cert.Reference14Ideal.nD Cert.Reference14Ideal.τ).loc Cert.Reference14Ideal.main_arg9))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v56) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)) (v6 : (c : Dev Cert.Kernel14Ideal.nD) → Buf (Elt Ideal) ((c.tc : Thread Cert.Kernel14Ideal.nD Cert.Kernel14Ideal.τ).loc Cert.Kernel14Ideal.main_v0_6)) (v7 : (c : Dev Cert.Kernel14Ideal.nD) → Buf (Elt Ideal) ((c.tc : Thread Cert.Kernel14Ideal.nD Cert.Kernel14Ideal.τ).loc Cert.Kernel14Ideal.main_v0_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_v0_6) = v6 c
          ∧ r.2.mem ((c.tc : Thread Cert.Kernel14Ideal.nD Cert.Kernel14Ideal.τ).loc Cert.Kernel14Ideal.main_v0_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v33) = v2 c
          ∧ r.2.mem ((c.tc : Thread Cert.Reference14Ideal.nD Cert.Reference14Ideal.τ).loc Cert.Reference14Ideal.main_v35) = v3 c
          ∧ r.2.mem ((c.tc : Thread Cert.Reference14Ideal.nD Cert.Reference14Ideal.τ).loc Cert.Reference14Ideal.main_v37) = v4 c
          ∧ r.2.mem ((c.tc : Thread Cert.Reference14Ideal.nD Cert.Reference14Ideal.τ).loc Cert.Reference14Ideal.main_v39) = v5 c
          ∧ r.2.mem ((c.tc : Thread Cert.Reference14Ideal.nD Cert.Reference14Ideal.τ).loc Cert.Reference14Ideal.main_v41) = v6 c
          ∧ r.2.mem ((c.tc : Thread Cert.Reference14Ideal.nD Cert.Reference14Ideal.τ).loc Cert.Reference14Ideal.main_v42) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v22) = v0 c
          ∧ r.2.mem ((c.tc : Thread Cert.Reference15Ideal.nD Cert.Reference15Ideal.τ).loc Cert.Reference15Ideal.main_v18_11) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite14 : Cert.Pre_finite14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite14.lean ====
abbrev S4x2048x128 : Shape := ⟨3, ![4, 2048, 128]⟩
abbrev S4x2048x64 : Shape := ⟨3, ![4, 2048, 64]⟩
abbrev S32x4x8x128 : Shape := ⟨4, ![32, 4, 8, 128]⟩
abbrev S2048x3840 : Shape := ⟨2, ![2048, 3840]⟩
abbrev S1x128 : Shape := ⟨2, ![1, 128]⟩
abbrev S32x4x128x128 : Shape := ⟨4, ![32, 4, 128, 128]⟩
abbrev S2048x1024 : Shape := ⟨2, ![2048, 1024]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x2048x64 : S_.BroadcastsInDim S4x2048x64 (![] : Fin 0 → Fin S4x2048x64.rank)
  reducesTo_S4x2048x64_S_d0_1_2 : S4x2048x64.ReducesTo [0, 1, 2] S_
  bcast_S_S32x4x8x128 : S_.BroadcastsInDim S32x4x8x128 (![] : Fin 0 → Fin S32x4x8x128.rank)
  reducesTo_S32x4x8x128_S_d0_1_2_3 : S32x4x8x128.ReducesTo [0, 1, 2, 3] S_
  bcast_S_S2048x3840 : S_.BroadcastsInDim S2048x3840 (![] : Fin 0 → Fin S2048x3840.rank)
  reducesTo_S2048x3840_S_d0_1 : S2048x3840.ReducesTo [0, 1] S_
  bcast_S_S1x128 : S_.BroadcastsInDim S1x128 (![] : Fin 0 → Fin S1x128.rank)
  reducesTo_S1x128_S_d0_1 : S1x128.ReducesTo [0, 1] S_
  bcast_S_S32x4x128x128 : S_.BroadcastsInDim S32x4x128x128 (![] : Fin 0 → Fin S32x4x128x128.rank)
  reducesTo_S32x4x128x128_S_d0_1_2_3 : S32x4x128x128.ReducesTo [0, 1, 2, 3] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg7 : FVec F S1x128 .f32) (main_arg8 : FVec F S32x4x128x128 .f32) (main_arg9 : FVec F S2048x1024 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S32x4x128x128 .f32 := Host.absf main_arg8
  let main_cst_14 : FVec F S_ .f32 := constant S_ .f32 0x7F800000#32
  let main_v40 : FVec F S32x4x128x128 .f32 := broadcastInDim S32x4x128x128 ![] bcast_S_S32x4x128x128 main_cst_14
  let main_v41 : IVec S32x4x128x128 1 := cmpf .olt main_v39 main_v40
  let main_c_15 : IVec S_ 1 := constantI S_ 1 1#1
  let main_v42 : IVec S_ 1 := (fun x v => Host.reduce IntOp.andi x v reducesTo_S32x4x128x128_S_d0_1_2_3 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  main_v48

def fn_part1 {F : FTy → Type} [FloatOps F] (main_arg4 : FVec F S4x2048x64 .f32) (main_arg5 : FVec F S32x4x8x128 .f32) (main_arg6 : FVec F S2048x3840 .f32) (main_arg7 : FVec F S1x128 .f32) (main_arg8 : FVec F S32x4x128x128 .f32) (main_arg9 : FVec F S2048x1024 .f32) (main_v13 : IVec S_ 1) (main_v16 : IVec S4x2048x128 1) : IVec S_ 1 :=
  let main_c_5 : IVec S_ 1 := constantI S_ 1 1#1
  let main_v17 : IVec S_ 1 := (fun x v => Host.reduce IntOp.andi x v reducesTo_S4x2048x128_S_d0_1_2 h_S_) main_v16 main_c_5
  let main_v18 : IVec S_ 1 := andi main_v13 main_v17
  let main_v19 : FVec F S4x2048x64 .f32 := Host.absf main_arg4
  let main_cst_6 : FVec F S_ .f32 := constant S_ .f32 0x7F800000#32
  let main_v20 : FVec F S4x2048x64 .f32 := broadcastInDim S4x2048x64 ![] bcast_S_S4x2048x64 main_cst_6
  let main_v21 : IVec S4x2048x64 1 := cmpf .olt main_v19 main_v20
  let main_c_7 : IVec S_ 1 := constantI S_ 1 1#1
  let main_v22 : IVec S_ 1 := (fun x v => Host.reduce IntOp.andi x v reducesTo_S4x2048x64_S_d0_1_2 h_S_) main_v21 main_c_7
  let main_v23 : IVec S_ 1 := andi main_v18 main_v22
  let main_v24 : FVec F S32x4x8x128 .f32 := Host.absf main_arg5
  let main_cst_8 : FVec F S_ .f32 := constant S_ .f32 0x7F800000#32
  let main_v25 : FVec F S32x4x8x128 .f32 := broadcastInDim S32x4x8x128 ![] bcast_S_S32x4x8x128 main_cst_8
  let main_v26 : IVec S32x4x8x128 1 := cmpf .olt main_v24 main_v25
  let main_c_9 : IVec S_ 1 := constantI S_ 1 1#1
  let main_v27 : IVec S_ 1 := (fun x v => Host.reduce IntOp.andi x v reducesTo_S32x4x8x128_S_d0_1_2_3 h_S_) main_v26 main_c_9
  let main_v28 : IVec S_ 1 := andi main_v23 main_v27
  let main_v29 : FVec F S2048x3840 .f32 := Host.absf main_arg6
  let main_cst_10 : FVec F S_ .f32 := constant S_ .f32 0x7F800000#32
  let main_v30 : FVec F S2048x3840 .f32 := broadcastInDim S2048x3840 ![] bcast_S_S2048x3840 main_cst_10
  let main_v31 : IVec S2048x3840 1 := cmpf .olt main_v29 main_v30
  let main_c_11 : IVec S_ 1 := constantI S_ 1 1#1
  let main_v32 : IVec S_ 1 := (fun x v => Host.reduce IntOp.andi x v reducesTo_S2048x3840_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x128 .f32) (main_arg1 : FVec F S4x2048x128 .f32) (main_arg2 : FVec F S4x2048x128 .f32) (main_arg3 : FVec F S4x2048x128 .f32) (main_arg4 : FVec F S4x2048x64 .f32) (main_arg5 : FVec F S32x4x8x128 .f32) (main_arg6 : FVec F S2048x3840 .f32) (main_arg7 : FVec F S1x128 .f32) (main_arg8 : FVec F S32x4x128x128 .f32) (main_arg9 : FVec F S2048x1024 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2048x128 .f32 := Host.absf main_arg2
  let main_cst_2 : FVec F S_ .f32 := constant S_ .f32 0x7F800000#32
  let main_v10 : FVec F S4x2048x128 .f32 := broadcastInDim S4x2048x128 ![] bcast_S_S4x2048x128 main_cst_2
  let main_v11 : IVec S4x2048x128 1 := cmpf .olt main_v9 main_v10
  let main_c_3 : IVec S_ 1 := constantI S_ 1 1#1
  let main_v12 : IVec S_ 1 := (fun x v => Host.reduce IntOp.andi x v reducesTo_S4x2048x128_S_d0_1_2 h_S_) main_v11 main_c_3
  let main_v13 : IVec S_ 1 := andi main_v8 main_v12
  let main_v14 : FVec F S4x2048x128 .f32 := Host.absf main_arg3
  let main_cst_4 : FVec F S_ .f32 := constant S_ .f32 0x7F800000#32
  let main_v15 : FVec F S4x2048x128 .f32 := broadcastInDim S4x2048x128 ![] bcast_S_S4x2048x128 main_cst_4
  let main_v16 : IVec S4x2048x128 1 := cmpf .olt main_v14 main_v15
  fn_part1 (F := F) main_arg4 main_arg5 main_arg6 main_arg7 main_arg8 main_arg9 main_v13 main_v16
-- ==== Kernel.lean ====
abbrev S2048x1536 : Shape := ⟨2, ![2048, 1536]⟩
abbrev S2048x3840 : Shape := ⟨2, ![2048, 3840]⟩
abbrev S4x1536 : Shape := ⟨2, ![4, 1536]⟩
abbrev S256x512 : Shape := ⟨2, ![256, 512]⟩
abbrev S8x512 : Shape := ⟨2, ![8, 512]⟩
abbrev S4x512 : Shape := ⟨2, ![4, 512]⟩
abbrev S264x512 : Shape := ⟨2, ![264, 512]⟩
abbrev S1x512 : Shape := ⟨2, ![1, 512]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x3840, .f32⟩
  | .hbm, ⟨2, _⟩ => ⟨S4x1536, .f32⟩
  | .hbm, ⟨3, _⟩ => ⟨S2048x1536, .bf16⟩
  | .hbm, ⟨4, _⟩ => ⟨S4x1536, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S256x512, .bf16⟩
  | .local _ .vmem, ⟨11, _⟩ => ⟨S256x512, .bf16⟩
  | .local _ .vmem, ⟨12, _⟩ => ⟨S4x512, .f32⟩
  | .local _ .vmem, ⟨13, _⟩ => ⟨S4x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x1536 : Shape := ⟨2, ![2048, 1536]⟩
abbrev S2048x3840 : Shape := ⟨2, ![2048, 3840]⟩
abbrev S4x1536 : Shape := ⟨2, ![4, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩

abbrev nBuf : Space → Nat
  | .hbm => 99
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x3840, .f32⟩
  | .hbm, ⟨2, _⟩ => ⟨S4x1536, .f32⟩
  | .hbm, ⟨3, _⟩ => ⟨S2048x1536, .f32⟩
  | .hbm, ⟨4, _⟩ => ⟨S_, .f32⟩
  | .hbm, ⟨5, _⟩ => ⟨S3x1536, .f32⟩
  | .hbm, ⟨6, _⟩ => ⟨S2051x1536, .f32⟩
  | .hbm, ⟨7, _⟩ => ⟨S_, .f32⟩
  | .hbm, ⟨8, _⟩ => ⟨S3x1536, .f32⟩
  | .hbm, ⟨9, _⟩ => ⟨S2048x1536, .f32⟩
  | .hbm, ⟨10, _⟩ => ⟨S1x1536, .f32⟩
  | .hbm, ⟨11, _⟩ => ⟨S1536, .f32⟩
  | .hbm, ⟨12, _⟩ => ⟨S1x1536, .f32⟩
  | .hbm, ⟨13, _⟩ => ⟨S2048x1536, .f32⟩
  | .hbm, ⟨14, _⟩ => ⟨S2048x1536, .f32⟩
  | .hbm, ⟨15, _⟩ => ⟨S2048x1536, .f32⟩
  | .hbm, ⟨16, _⟩ => ⟨S1x1536, .f32⟩
  | .hbm, ⟨17, _⟩ => ⟨S1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S_, .f32⟩
  | .hbm, ⟨40, _⟩ => ⟨S1536, .f32⟩
  | .hbm, ⟨41, _⟩ => ⟨S1x1536, .f32⟩
  | .hbm, ⟨42, _⟩ => ⟨S2048x1536, .f32⟩
  | .hbm, ⟨43, _⟩ => ⟨S2048x1536, .f32⟩
  | .hbm, ⟨44, _⟩ => ⟨S_, .f32⟩
  | .hbm, ⟨45, _⟩ => ⟨S1536, .f32⟩
  | .hbm, ⟨46, _⟩ => ⟨S1x1536, .f32⟩
  | .hbm, ⟨47, _⟩ => ⟨S_, .f32⟩
  | .hbm, ⟨48, _⟩ => ⟨S4x1536, .f32⟩
  | .hbm, ⟨49, _⟩ => ⟨S_, .f32⟩
  | .hbm, ⟨50, _⟩ => ⟨S2051x1536, .f32⟩
  | .hbm, ⟨51, _⟩ => ⟨S2048x1536, .f32⟩
  | .hbm, ⟨52, _⟩ => ⟨S_, .f32⟩
  | .hbm, ⟨53, _⟩ => ⟨S1536, .f32⟩
  | .hbm, ⟨54, _⟩ => ⟨S1x1536, .f32⟩
  | .hbm, ⟨55, _⟩ => ⟨S2048x1536, .f32⟩
  | .hbm, ⟨56, _⟩ => ⟨S2048x1536, .f32⟩
  | .hbm, ⟨57, _⟩ => ⟨S_, .f32⟩
  | .hbm, ⟨58, _⟩ => ⟨S1536, .f32⟩
  | .hbm, ⟨59, _⟩ => ⟨S1x1536, .f32⟩
  | .hbm, ⟨60, _⟩ => ⟨S_, .f32⟩
  | .hbm, ⟨61, _⟩ => ⟨S4x1536, .f32⟩
  | .hbm, ⟨62, _⟩ => ⟨S4x1536, .f32⟩
  | .hbm, ⟨63, _⟩ => ⟨S_, .f32⟩
  | .hbm, ⟨64, _⟩ => ⟨S2051x1536, .f32⟩
  | .hbm, ⟨65, _⟩ => ⟨S2051x1536, .f32⟩
  | .hbm, ⟨66, _⟩ => ⟨S2048x1536, .f32⟩
  | .hbm, ⟨67, _⟩ => ⟨S_, .f32⟩
  | .hbm, ⟨68, _⟩ => ⟨S1536, .f32⟩
  | .hbm, ⟨69, _⟩ => ⟨S1x1536, .f32⟩
  | .hbm, ⟨70, _⟩ => ⟨S2048x1536, .f32⟩
  | .hbm, ⟨71, _⟩ => ⟨S2048x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S_, .f32⟩
  | .hbm, ⟨76, _⟩ => ⟨S4x1536, .f32⟩
  | .hbm, ⟨77, _⟩ => ⟨S4x1536, .f32⟩
  | .hbm, ⟨78, _⟩ => ⟨S_, .f32⟩
  | .hbm, ⟨79, _⟩ => ⟨S2051x1536, .f32⟩
  | .hbm, ⟨80, _⟩ => ⟨S2051x1536, .f32⟩
  | .hbm, ⟨81, _⟩ => ⟨S2048x1536, .f32⟩
  | .hbm, ⟨82, _⟩ => ⟨S_, .f32⟩
  | .hbm, ⟨83, _⟩ => ⟨S1536, .f32⟩
  | .hbm, ⟨84, _⟩ => ⟨S1x1536, .f32⟩
  | .hbm, ⟨85, _⟩ => ⟨S2048x1536, .f32⟩
  | .hbm, ⟨86, _⟩ => ⟨S2048x1536, .f32⟩
  | .hbm, ⟨87, _⟩ => ⟨S_, .f32⟩
  | .hbm, ⟨88, _⟩ => ⟨S1536, .f32⟩
  | .hbm, ⟨89, _⟩ => ⟨S1x1536, .f32⟩
  | .hbm, ⟨90, _⟩ => ⟨S_, .f32⟩
  | .hbm, ⟨91, _⟩ => ⟨S4x1536, .f32⟩
  | .hbm, ⟨92, _⟩ => ⟨S4x1536, .f32⟩
  | .hbm, ⟨93, _⟩ => ⟨S_, .f32⟩
  | .hbm, ⟨94, _⟩ => ⟨S2051x1536, .f32⟩
  | .hbm, ⟨95, _⟩ => ⟨S2051x1536, .f32⟩
  | .hbm, ⟨96, _⟩ => ⟨S3x1536, .f32⟩
  | .hbm, ⟨97, _⟩ => ⟨S2048x1536, .f32⟩
  | .hbm, ⟨98, _⟩ => ⟨S2048x1536, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S2048x2816 : Shape := ⟨2, ![2048, 2816]⟩
abbrev S4x1024x1408 : Shape := ⟨3, ![4, 1024, 1408]⟩
abbrev S2048x1024 : Shape := ⟨2, ![2048, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S256x1408 : Shape := ⟨2, ![256, 1408]⟩
abbrev S1x1024x1408 : Shape := ⟨3, ![1, 1024, 1408]⟩
abbrev S1024x1408 : Shape := ⟨2, ![1024, 1408]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S4x1024x1408, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S4x1024x1408, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S2048x2816 : Shape := ⟨2, ![2048, 2816]⟩
abbrev S4x1024x1408 : Shape := ⟨3, ![4, 1024, 1408]⟩
abbrev S2048x1024 : Shape := ⟨2, ![2048, 1024]⟩
abbrev S1x1024 : Shape := ⟨2, ![1, 1024]⟩
abbrev S1024x4x1408 : Shape := ⟨3, ![1024, 4, 1408]⟩
abbrev S1024x5632 : Shape := ⟨2, ![1024, 5632]⟩
abbrev S2048x5632 : Shape := ⟨2, ![2048, 5632]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S4x1024x1408, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S2048x5632, .bf16⟩
  | .hbm, ⟨10, _⟩ => ⟨S2048x5632, .f32⟩
  | .hbm, ⟨11, _⟩ => ⟨S1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x5632, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel3.lean ====
abbrev S2048x3840 : Shape := ⟨2, ![2048, 3840]⟩
abbrev S1024x3840 : Shape := ⟨2, ![1024, 3840]⟩
abbrev S2048x1024 : Shape := ⟨2, ![2048, 1024]⟩
abbrev S1x1024 : Shape := ⟨2, ![1, 1024]⟩
abbrev S1x1024x3840 : Shape := ⟨3, ![1, 1024, 3840]⟩
abbrev S256x3840 : Shape := ⟨2, ![256, 3840]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x3840, .bf16⟩
  | .hbm, ⟨1, _⟩ => ⟨S1024x3840, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024x3840, .bf16⟩
  | .hbm, ⟨6, _⟩ => ⟨S2048x1024, .f32⟩
  | .hbm, ⟨7, _⟩ => ⟨S1x1024, .f32⟩
  | .local _ .vmem, ⟨0, _⟩ => ⟨S256x3840, .bf16⟩
  | .local _ .vmem, ⟨1, _⟩ => ⟨S256x3840, .bf16⟩
  | .local _ .vmem, ⟨2, _⟩ => ⟨S1x1024x3840, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2048x3840 : Shape := ⟨2, ![2048, 3840]⟩
abbrev S1024x3840 : Shape := ⟨2, ![1024, 3840]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x3840, .bf16⟩
  | .hbm, ⟨1, _⟩ => ⟨S1024x3840, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1024x3840, .f32⟩
  | .hbm, ⟨27, _⟩ => ⟨S2048x3840, .f32⟩
  | .hbm, ⟨28, _⟩ => ⟨S2048x3840, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1x1024, .f32⟩
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel4.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S8x128 : Shape := ⟨2, ![8, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x128, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S1x1024, .f32⟩
  | .hbm, ⟨79, _⟩ => ⟨S8x128, .f32⟩
  | .hbm, ⟨80, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x1024 : Shape := ⟨2, ![2048, 1024]⟩
abbrev S2048x3840 : Shape := ⟨2, ![2048, 3840]⟩
abbrev S1024x3840 : Shape := ⟨2, ![1024, 3840]⟩
abbrev S2048x640 : Shape := ⟨2, ![2048, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3840, .bf16⟩
  | .hbm, ⟨2, _⟩ => ⟨S1024x3840, .f32⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .f32⟩
  | .local _ .vmem, ⟨4, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S2048x3840 : Shape := ⟨2, ![2048, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3840, .bf16⟩
  | .hbm, ⟨2, _⟩ => ⟨S_, .f32⟩
  | .hbm, ⟨3, _⟩ => ⟨S1024x3840, .f32⟩
  | .hbm, ⟨4, _⟩ => ⟨S2048x1024, .f32⟩
  | .hbm, ⟨5, _⟩ => ⟨S2048x3840, .f32⟩
  | .hbm, ⟨6, _⟩ => ⟨S2048x3840, .f32⟩
  | .hbm, ⟨7, _⟩ => ⟨S3840x1024, .f32⟩
  | .hbm, ⟨8, _⟩ => ⟨S1024x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x1024 : Shape := ⟨2, ![2048, 1024]⟩
abbrev S2048x2816 : Shape := ⟨2, ![2048, 2816]⟩
abbrev S4x1024x1408 : Shape := ⟨3, ![4, 1024, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S4x1024x1408, .f32⟩
  | .hbm, ⟨4, _⟩ => ⟨S4x1024x1408, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .f32⟩
  | .local _ .vmem, ⟨5, _⟩ => ⟨S1x512x1408, .f32⟩
  | .local _ .vmem, ⟨6, _⟩ => ⟨S2048x512, .bf16⟩
  | .local _ .vmem, ⟨7, _⟩ => ⟨S2048x512, .bf16⟩
  | .local _ .vmem, ⟨8, _⟩ => ⟨S2048x1408, .bf16⟩
  | .local _ .vmem, ⟨9, _⟩ => ⟨S2048x1408, .bf16⟩
  | .local _ .vmem, ⟨10, _⟩ => ⟨S1x512x1408, .f32⟩
  | .local _ .vmem, ⟨11, _⟩ => ⟨S1x512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference10Ideal.lean ====
abbrev S2048x1024 : Shape := ⟨2, ![2048, 1024]⟩
abbrev S2048x2816 : Shape := ⟨2, ![2048, 2816]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S2048x5632, .bf16⟩
  | .hbm, ⟨4, _⟩ => ⟨S2048x5632, .f32⟩
  | .hbm, ⟨5, _⟩ => ⟨S_, .f32⟩
  | .hbm, ⟨6, _⟩ => ⟨S1024x5632, .f32⟩
  | .hbm, ⟨7, _⟩ => ⟨S2048x1024, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel11.lean ====
abbrev S2048x1024 : Shape := ⟨2, ![2048, 1024]⟩
abbrev S1024x3840 : Shape := ⟨2, ![1024, 3840]⟩
abbrev S2048x3840 : Shape := ⟨2, ![2048, 3840]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x1024 : Shape := ⟨2, ![2048, 1024]⟩
abbrev S1024x3840 : Shape := ⟨2, ![1024, 3840]⟩
abbrev S2048x3840 : Shape := ⟨2, ![2048, 3840]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x1024, .f32⟩
  | .hbm, ⟨3, _⟩ => ⟨S1024x3840, .f32⟩
  | .hbm, ⟨4, _⟩ => ⟨S2048x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel13.lean ====
abbrev S2048x1024 : Shape := ⟨2, ![2048, 1024]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S4x2048x128 : Shape := ⟨3, ![4, 2048, 128]⟩
abbrev S4x2048x64 : Shape := ⟨3, ![4, 2048, 64]⟩
abbrev S32x4x8x128 : Shape := ⟨4, ![32, 4, 8, 128]⟩
abbrev S2048x3840 : Shape := ⟨2, ![2048, 3840]⟩
abbrev S1x128 : Shape := ⟨2, ![1, 128]⟩
abbrev S32x4x128x128 : Shape := ⟨4, ![32, 4, 128, 128]⟩
abbrev S2048x1024 : Shape := ⟨2, ![2048, 1024]⟩
abbrev S2048x512 : Shape := ⟨2, ![2048, 512]⟩
abbrev S4x256x128 : Shape := ⟨3, ![4, 256, 128]⟩
abbrev S4x256x64 : Shape := ⟨3, ![4, 256, 64]⟩
abbrev S4x4x8x128 : Shape := ⟨4, ![4, 4, 8, 128]⟩
abbrev S256x512 : Shape := ⟨2, ![256, 512]⟩
abbrev S4x4x128x128 : Shape := ⟨4, ![4, 4, 128, 128]⟩
abbrev S4x128x128 : Shape := ⟨3, ![4, 128, 128]⟩
abbrev S1x4x128x128 : Shape := ⟨4, ![1, 4, 128, 128]⟩
abbrev S4x64x128 : Shape := ⟨3, ![4, 64, 128]⟩
abbrev S4x64x64 : Shape := ⟨3, ![4, 64, 64]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S128 : Shape := ⟨1, ![128]⟩
abbrev S4x128 : Shape := ⟨2, ![4, 128]⟩
abbrev S4x128x1 : Shape := ⟨3, ![4, 128, 1]⟩
abbrev S4x1 : Shape := ⟨2, ![4, 1]⟩
abbrev S4x1x1 : Shape := ⟨3, ![4, 1, 1]⟩
abbrev S4x8x128 : Shape := ⟨3, ![4, 8, 128]⟩
abbrev S1x4x8x128 : Shape := ⟨4, ![1, 4, 8, 128]⟩

abbrev nBuf : Space → Nat
  | .hbm => 18
  | .vmem => 35
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x128, .f32⟩
  | .hbm, ⟨3, _⟩ => ⟨S4x2048x128, .f32⟩
  | .hbm, ⟨4, _⟩ => ⟨S4x2048x64, .f32⟩
  | .hbm, ⟨5, _⟩ => ⟨S32x4x8x128, .f32⟩
  | .hbm, ⟨6, _⟩ => ⟨S2048x3840, .f32⟩
  | .hbm, ⟨7, _⟩ => ⟨S1x128, .f32⟩
  | .hbm, ⟨8, _⟩ => ⟨S32x4x128x128, .f32⟩
  | .hbm, ⟨9, _⟩ => ⟨S2048x1024, .f32⟩
  | .hbm, ⟨10, _⟩ => ⟨S4x2048x128, .f32⟩
  | .hbm, ⟨11, _⟩ => ⟨S4x2048x128, .f32⟩
  | .hbm, ⟨12, _⟩ => ⟨S4x2048x128, .f32⟩
  | .hbm, ⟨13, _⟩ => ⟨S4x2048x128, .f32⟩
  | .hbm, ⟨14, _⟩ => ⟨S4x2048x64, .f32⟩
  | .hbm, ⟨15, _⟩ => ⟨S32x4x8x128, .f32⟩
  | .hbm, ⟨16, _⟩ => ⟨S2048x512, .f32⟩
  | .hbm, ⟨17, _⟩ => ⟨S1x128, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S4x256x128, .f32⟩
  | .local _ .vmem, ⟨5, _⟩ => ⟨S4x256x128, .f32⟩
  | .local _ .vmem, ⟨6, _⟩ => ⟨S4x256x128, .f32⟩
  | .local _ .vmem, ⟨7, _⟩ => ⟨S4x256x128, .f32⟩
  | .local _ .vmem, ⟨8, _⟩ => ⟨S4x256x64, .f32⟩
  | .local _ .vmem, ⟨9, _⟩ => ⟨S4x256x64, .f32⟩
  | .local _ .vmem, ⟨10, _⟩ => ⟨S4x4x8x128, .f32⟩
  | .local _ .vmem, ⟨11, _⟩ => ⟨S4x4x8x128, .f32⟩
  | .local _ .vmem, ⟨12, _⟩ => ⟨S256x512, .f32⟩
  | .local _ .vmem, ⟨13, _⟩ => ⟨S256x512, .f32⟩
  | .local _ .vmem, ⟨14, _⟩ => ⟨S1x128, .f32⟩
  | .local _ .vmem, ⟨15, _⟩ => ⟨S4x4x128x128, .f32⟩
  | .local _ .vmem, ⟨16, _⟩ => ⟨S4x4x128x128, .f32⟩
  | .local _ .vmem, ⟨17, _⟩ => ⟨S256x512, .f32⟩
  | .local _ .vmem, ⟨18, _⟩ => ⟨S256x512, .f32⟩
  | .local _ .vmem, ⟨19, _⟩ => ⟨S4x256x128, .f32⟩
  | .local _ .vmem, ⟨20, _⟩ => ⟨S4x256x128, .f32⟩
  | .local _ .vmem, ⟨21, _⟩ => ⟨S4x256x128, .f32⟩
  | .local _ .vmem, ⟨22, _⟩ => ⟨S4x256x128, .f32⟩
  | .local _ .vmem, ⟨23, _⟩ => ⟨S4x256x128, .f32⟩
  | .local _ .vmem, ⟨24, _⟩ => ⟨S4x256x128, .f32⟩
  | .local _ .vmem, ⟨25, _⟩ => ⟨S4x256x128, .f32⟩
  | .local _ .vmem, ⟨26, _⟩ => ⟨S4x256x128, .f32⟩
  | .local _ .vmem, ⟨27, _⟩ => ⟨S4x256x64, .f32⟩
  | .local _ .vmem, ⟨28, _⟩ => ⟨S4x256x64, .f32⟩
  | .local _ .vmem, ⟨29, _⟩ => ⟨S4x4x8x128, .f32⟩
  | .local _ .vmem, ⟨30, _⟩ => ⟨S4x4x8x128, .f32⟩
  | .local _ .vmem, ⟨31, _⟩ => ⟨S256x512, .f32⟩
  | .local _ .vmem, ⟨32, _⟩ => ⟨S256x512, .f32⟩
  | .local _ .vmem, ⟨33, _⟩ => ⟨S1x128, .f32⟩
  | .local _ .vmem, ⟨34, _⟩ => ⟨S4x128x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference14Ideal.lean ====
abbrev S4x2048x128 : Shape := ⟨3, ![4, 2048, 128]⟩
abbrev S4x2048x64 : Shape := ⟨3, ![4, 2048, 64]⟩
abbrev S32x4x8x128 : Shape := ⟨4, ![32, 4, 8, 128]⟩
abbrev S2048x3840 : Shape := ⟨2, ![2048, 3840]⟩
abbrev S1x128 : Shape := ⟨2, ![1, 128]⟩
abbrev S32x4x128x128 : Shape := ⟨4, ![32, 4, 128, 128]⟩
abbrev S2048x1024 : Shape := ⟨2, ![2048, 1024]⟩
abbrev S4x32x64x128 : Shape := ⟨4, ![4, 32, 64, 128]⟩
abbrev S32x4x64x128 : Shape := ⟨4, ![32, 4, 64, 128]⟩
abbrev S4x32x64x64 : Shape := ⟨4, ![4, 32, 64, 64]⟩
abbrev S32x4x64x64 : Shape := ⟨4, ![32, 4, 64, 64]⟩
abbrev S32x4x1x1 : Shape := ⟨4, ![32, 4, 1, 1]⟩
abbrev S32x4 : Shape := ⟨2, ![32, 4]⟩
abbrev S2048x512 : Shape := ⟨2, ![2048, 512]⟩
abbrev S32x64x4x128 : Shape := ⟨4, ![32, 64, 4, 128]⟩
abbrev S_ : Shape := ⟨0, ![]⟩
abbrev S4x128x128 : Shape := ⟨3, ![4, 128, 128]⟩
abbrev S128 : Shape := ⟨1, ![128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4 : Shape := ⟨2, ![1, 4]⟩
abbrev S4 : Shape := ⟨1, ![4]⟩
abbrev S4x1x1 : Shape := ⟨3, ![4, 1, 1]⟩
abbrev S4x64 : Shape := ⟨2, ![4, 64]⟩
abbrev S4x64x1 : Shape := ⟨3, ![4, 64, 1]⟩
abbrev S1x1x128 : Shape := ⟨3, ![1, 1, 128]⟩
abbrev S4x128x64 : Shape := ⟨3, ![4, 128, 64]⟩

abbrev nBuf : Space → Nat
  | .hbm => 268
  | .vmem => 0
  | .smem => 0
  | _ => 0

abbrev hbmTy0_0 (i : Nat) : BufTy := match i % 128 with
  | 0 => ⟨S4x2048x128, .f32⟩
  | 1 => ⟨S4x2048x128, .f32⟩
  | 2 => ⟨S4x2048x128, .f32⟩
  | 3 => ⟨S4x2048x128, .f32⟩
  | 4 => ⟨S4x2048x64, .f32⟩
  | 5 => ⟨S32x4x8x128, .f32⟩
  | 6 => ⟨S2048x3840, .f32⟩
  | 7 => ⟨S1x128, .f32⟩
  | 8 => ⟨S32x4x128x128, .f32⟩
  | 9 => ⟨S2048x1024, .f32⟩
  | 10 => ⟨S4x32x64x128, .f32⟩
  | 11 => ⟨S32x4x64x128, .f32⟩
  | 12 => ⟨S4x32x64x128, .f32⟩
  | 13 => ⟨S32x4x64x128, .f32⟩
  | 14 => ⟨S4x32x64x128, .f32⟩
  | 15 => ⟨S32x4x64x128, .f32⟩
  | 16 => ⟨S4x32x64x128, .f32⟩
  | 17 => ⟨S32x4x64x128, .f32⟩
  | 18 => ⟨S4x32x64x64, .f32⟩
  | 19 => ⟨S32x4x64x64, .f32⟩
  | 20 => ⟨S32x4x1x1, .f32⟩
  | 21 => ⟨S32x4, .f32⟩
  | 22 => ⟨S2048x512, .f32⟩
  | 23 => ⟨S32x64x4x128, .f32⟩
  | 24 => ⟨S32x4x64x128, .f32⟩
  | 25 => ⟨S2048x512, .f32⟩
  | 26 => ⟨S32x64x4x128, .f32⟩
  | 27 => ⟨S32x4x64x128, .f32⟩
  | 28 => ⟨S_, .f32⟩
  | 29 => ⟨S4x128x128, .f32⟩
  | 30 => ⟨S_, .f32⟩
  | 31 => ⟨S128, .f32⟩
  | 32 => ⟨S_, .f32⟩
  | 33 => ⟨S32x4x64x128, .f32⟩
  | 34 => ⟨S_, .f32⟩
  | 35 => ⟨S32x4x64x128, .f32⟩
  | 36 => ⟨S_, .f32⟩
  | 37 => ⟨S32x4x64x128, .f32⟩
  | 38 => ⟨S_, .f32⟩
  | 39 => ⟨S32x4x64x128, .f32⟩
  | 40 => ⟨S_, .f32⟩
  | 41 => ⟨S32x4x64x64, .f32⟩
  | 42 => ⟨S_, .f32⟩
  | 43 => ⟨S32x4, .f32⟩
  | 44 => ⟨S_, .f32⟩
  | 45 => ⟨S32x4x64x128, .f32⟩
  | 46 => ⟨S_, .i32⟩
  | 47 => ⟨S32x4x128x128, .f32⟩
  | 48 => ⟨S32x4x64x128, .f32⟩
  | 49 => ⟨S32x4x64x128, .f32⟩
  | 50 => ⟨S32x4x64x128, .f32⟩
  | 51 => ⟨S32x4x64x128, .f32⟩
  | 52 => ⟨S32x4x64x64, .f32⟩
  | 53 => ⟨S32x4, .f32⟩
  | 54 => ⟨S32x4x64x128, .f32⟩
  | 55 => ⟨S32x4x64x128, .f32⟩
  | 56 => ⟨S1x128, .f32⟩
  | 57 => ⟨S_, .i32⟩
  | 58 => ⟨S4x128x128, .f32⟩
  | 59 => ⟨S128, .f32⟩
  | 60 => ⟨S32x4x64x128, .f32⟩
  | 61 => ⟨S32x4x64x128, .f32⟩
  | 62 => ⟨S32x4x64x128, .f32⟩
  | 63 => ⟨S32x4x64x128, .f32⟩
  | 64 => ⟨S32x4x64x64, .f32⟩
  | 65 => ⟨S32x4, .f32⟩
  | 66 => ⟨S32x4x64x128, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S1x4x128x128, .f32⟩
  | 77 => ⟨S4x128x128, .f32⟩
  | 78 => ⟨S_, .i32⟩
  | 79 => ⟨S_, .i32⟩
  | 80 => ⟨S_, .i32⟩
  | 81 => ⟨S1x4x64x128, .f32⟩
  | 82 => ⟨S4x64x128, .f32⟩
  | 83 => ⟨S_, .i32⟩
  | 84 => ⟨S_, .i32⟩
  | 85 => ⟨S_, .i32⟩
  | 86 => ⟨S1x4x64x128, .f32⟩
  | 87 => ⟨S4x64x128, .f32⟩
  | 88 => ⟨S_, .i32⟩
  | 89 => ⟨S_, .i32⟩
  | 90 => ⟨S_, .i32⟩
  | 91 => ⟨S1x4x64x128, .f32⟩
  | 92 => ⟨S4x64x128, .f32⟩
  | 93 => ⟨S_, .i32⟩
  | 94 => ⟨S_, .i32⟩
  | 95 => ⟨S_, .i32⟩
  | 96 => ⟨S1x4x64x128, .f32⟩
  | 97 => ⟨S4x64x128, .f32⟩
  | 98 => ⟨S_, .i32⟩
  | 99 => ⟨S_, .i32⟩
  | 100 => ⟨S_, .i32⟩
  | 101 => ⟨S1x4x64x64, .f32⟩
  | 102 => ⟨S4x64x64, .f32⟩
  | 103 => ⟨S_, .i32⟩
  | 104 => ⟨S1x4, .f32⟩
  | 105 => ⟨S4, .f32⟩
  | 106 => ⟨S_, .i32⟩
  | 107 => ⟨S_, .i32⟩
  | 108 => ⟨S_, .i32⟩
  | 109 => ⟨S1x4x64x128, .f32⟩
  | 110 => ⟨S4x64x128, .f32⟩
  | 111 => ⟨S_, .i32⟩
  | 112 => ⟨S_, .i32⟩
  | 113 => ⟨S_, .i32⟩
  | 114 => ⟨S1x4x64x128, .f32⟩
  | 115 => ⟨S4x64x128, .f32⟩
  | 116 => ⟨S128, .f32⟩
  | 117 => ⟨S4x64x128, .f32⟩
  | 118 => ⟨S4x64x128, .f32⟩
  | 119 => ⟨S4x64x128, .f32⟩
  | 120 => ⟨S4x64x128, .f32⟩
  | 121 => ⟨S4x64x128, .f32⟩
  | 122 => ⟨S4x1x1, .f32⟩
  | 123 => ⟨S4x128x128, .f32⟩
  | 124 => ⟨S4x128x128, .f32⟩
  | 125 => ⟨S4x128x128, .f32⟩
  | 126 => ⟨S4x128x128, .f32⟩
  | 127 => ⟨S4x64x128, .f32⟩
  | _ => ⟨S4x2048x128, .f32⟩

abbrev hbmTy0_1 (i : Nat) : BufTy := match i % 128 with
  | 0 => ⟨S_, .f32⟩
  | 1 => ⟨S4x64, .f32⟩
  | 2 => ⟨S4x64x1, .f32⟩
  | 3 => ⟨S_, .f32⟩
  | 4 => ⟨S4x64x1, .f32⟩
  | 5 => ⟨S4x64x1, .f32⟩
  | 6 => ⟨S_, .f32⟩
  | 7 => ⟨S4x64x1, .f32⟩
  | 8 => ⟨S4x64x1, .f32⟩
  | 9 => ⟨S4x64x1, .f32⟩
  | 10 => ⟨S4x64x1, .f32⟩
  | 11 => ⟨S_, .f32⟩
  | 12 => ⟨S4x64x1, .f32⟩
  | 13 => ⟨S4x64x1, .f32⟩
  | 14 => ⟨S4x64x128, .f32⟩
  | 15 => ⟨S4x64x128, .f32⟩
  | 16 => ⟨S1x1x128, .f32⟩
  | 17 => ⟨S4x64x128, .f32⟩
  | 18 => ⟨S4x64x128, .f32⟩
  | 19 => ⟨S4x64x128, .f32⟩
  | 20 => ⟨S4x64x128, .f32⟩
  | 21 => ⟨S_, .f32⟩
  | 22 => ⟨S4x64x128, .f32⟩
  | 23 => ⟨S4x64x128, .f32⟩
  | 24 => ⟨S_, .f32⟩
  | 25 => ⟨S4x64x128, .f32⟩
  | 26 => ⟨S4x64x128, .f32⟩
  | 27 => ⟨S_, .f32⟩
  | 28 => ⟨S4x64x128, .f32⟩
  | 29 => ⟨S4x64x128, .f32⟩
  | 30 => ⟨S4x64x128, .f32⟩
  | 31 => ⟨S4x64x128, .f32⟩
  | 32 => ⟨S4x64x128, .f32⟩
  | 33 => ⟨S4x64x128, .f32⟩
  | 34 => ⟨S4x64x128, .f32⟩
  | 35 => ⟨S4x64x128, .f32⟩
  | 36 => ⟨S4x64x128, .f32⟩
  | 37 => ⟨S4x64x128, .f32⟩
  | 38 => ⟨S4x64x128, .f32⟩
  | 39 => ⟨S4x64x128, .f32⟩
  | 40 => ⟨S_, .f32⟩
  | 41 => ⟨S128, .f32⟩
  | 42 => ⟨S1x1x128, .f32⟩
  | 43 => ⟨S4x64x128, .f32⟩
  | 44 => ⟨S4x64x128, .f32⟩
  | 45 => ⟨S_, .f32⟩
  | 46 => ⟨S128, .f32⟩
  | 47 => ⟨S4x64x128, .f32⟩
  | 48 => ⟨S_, .f32⟩
  | 49 => ⟨S4x64, .f32⟩
  | 50 => ⟨S4x64x1, .f32⟩
  | 51 => ⟨S4x64x128, .f32⟩
  | 52 => ⟨S4x64x128, .f32⟩
  | 53 => ⟨S4x64x1, .f32⟩
  | 54 => ⟨S_, .f32⟩
  | 55 => ⟨S4x64x1, .f32⟩
  | 56 => ⟨S4x64x1, .f32⟩
  | 57 => ⟨S_, .f32⟩
  | 58 => ⟨S4x64, .f32⟩
  | 59 => ⟨S4x64x128, .f32⟩
  | 60 => ⟨S4x64x128, .f32⟩
  | 61 => ⟨S4x64x128, .f32⟩
  | 62 => ⟨S4x64x128, .f32⟩
  | 63 => ⟨S4x64x128, .f32⟩
  | 64 => ⟨S4x128x64, .f32⟩
  | 65 => ⟨S4x64x128, .f32⟩
  | 66 => ⟨S4x128x64, .f32⟩
  | 67 => ⟨S4x64x128, .f32⟩
  | 68 => ⟨S4x128x128, .f32⟩
  | 69 => ⟨S4x128x128, .f32⟩
  | 70 => ⟨S4x128x128, .f32⟩
  | 71 => ⟨S_, .f32⟩
  | 72 => ⟨S4, .f32⟩
  | 73 => ⟨S4x1x1, .f32⟩
  | 74 => ⟨S_, .f32⟩
  | 75 => ⟨S4, .f32⟩
  | 76 => ⟨S4x128x64, .f32⟩
  | 77 => ⟨S4x64x128, .f32⟩
  | 78 => ⟨S4x64x128, .f32⟩
  | 79 => ⟨S4x64x64, .f32⟩
  | 80 => ⟨S4x128x128, .f32⟩
  | 81 => ⟨S4x128x128, .f32⟩
  | 82 => ⟨S4x128x128, .f32⟩
  | 83 => ⟨S4x64x128, .f32⟩
  | 84 => ⟨S4x64x128, .f32⟩
  | 85 => ⟨S4x128x128, .f32⟩
  | 86 => ⟨S4x128x128, .f32⟩
  | 87 => ⟨S4x128x128, .f32⟩
  | 88 => ⟨S4x64x128, .f32⟩
  | 89 => ⟨S128, .f32⟩
  | 90 => ⟨S1x4x64x128, .f32⟩
  | 91 => ⟨S_, .i32⟩
  | 92 => ⟨S_, .i32⟩
  | 93 => ⟨S_, .i32⟩
  | 94 => ⟨S32x4x64x128, .f32⟩
  | 95 => ⟨S1x4x64x128, .f32⟩
  | 96 => ⟨S_, .i32⟩
  | 97 => ⟨S_, .i32⟩
  | 98 => ⟨S_, .i32⟩
  | 99 => ⟨S32x4x64x128, .f32⟩
  | 100 => ⟨S1x4x64x128, .f32⟩
  | 101 => ⟨S_, .i32⟩
  | 102 => ⟨S_, .i32⟩
  | 103 => ⟨S_, .i32⟩
  | 104 => ⟨S32x4x64x128, .f32⟩
  | 105 => ⟨S1x4x64x128, .f32⟩
  | 106 => ⟨S_, .i32⟩
  | 107 => ⟨S_, .i32⟩
  | 108 => ⟨S_, .i32⟩
  | 109 => ⟨S32x4x64x128, .f32⟩
  | 110 => ⟨S1x4x64x64, .f32⟩
  | 111 => ⟨S_, .i32⟩
  | 112 => ⟨S_, .i32⟩
  | 113 => ⟨S_, .i32⟩
  | 114 => ⟨S32x4x64x64, .f32⟩
  | 115 => ⟨S1x4, .f32⟩
  | 116 => ⟨S_, .i32⟩
  | 117 => ⟨S32x4, .f32⟩
  | 118 => ⟨S1x4x64x128, .f32⟩
  | 119 => ⟨S_, .i32⟩
  | 120 => ⟨S_, .i32⟩
  | 121 => ⟨S_, .i32⟩
  | 122 => ⟨S32x4x64x128, .f32⟩
  | 123 => ⟨S_, .i32⟩
  | 124 => ⟨S_, .i32⟩
  | 125 => ⟨S4x32x64x128, .f32⟩
  | 126 => ⟨S4x2048x128, .f32⟩
  | 127 => ⟨S4x32x64x128, .f32⟩
  | _ => ⟨S4x2048x128, .f32⟩

abbrev hbmTy0_2 (i : Nat) : BufTy := match i % 128 with
  | 0 => ⟨S4x2048x128, .f32⟩
  | 1 => ⟨S4x32x64x128, .f32⟩
  | 2 => ⟨S4x2048x128, .f32⟩
  | 3 => ⟨S4x32x64x128, .f32⟩
  | 4 => ⟨S4x2048x128, .f32⟩
  | 5 => ⟨S4x32x64x64, .f32⟩
  | 6 => ⟨S4x2048x64, .f32⟩
  | 7 => ⟨S32x4x1x1, .f32⟩
  | 8 => ⟨S32x4x8x128, .f32⟩
  | 9 => ⟨S32x64x4x128, .f32⟩
  | 10 => ⟨S2048x512, .f32⟩
  | 11 => ⟨S1x128, .f32⟩
  | _ => ⟨S4x2048x128, .f32⟩

abbrev hbmTy (i : Nat) : BufTy := match i / 128 with
  | 0 => hbmTy0_0 i
  | 1 => hbmTy0_1 i
  | 2 => hbmTy0_2 i
  | _ => ⟨S4x2048x128, .f32⟩

abbrev bufTy : (tb : Table) → Fin (tcTables nBuf tb) → BufTy
  | .hbm, ⟨i, _⟩ => hbmTy i
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_c : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev main_v27_4 : Ref sig .tc := ⟨.hbm, 51, rfl⟩
abbrev main_v27_5 : Ref sig .tc := ⟨.hbm, 52, rfl⟩
abbrev main_v27_6 : Ref sig .tc := ⟨.hbm, 53, rfl⟩
abbrev main_v27_7 : Ref sig .tc := ⟨.hbm, 54, rfl⟩
abbrev main_v27_8 : Ref sig .tc := ⟨.hbm, 55, rfl⟩
abbrev main_v27_9 : Ref sig .tc := ⟨.hbm, 56, rfl⟩
abbrev main_v27_10 : Ref sig .tc := ⟨.hbm, 57, rfl⟩
abbrev main_v27_11 : Ref sig .tc := ⟨.hbm, 58, rfl⟩
abbrev main_v27_12 : Ref sig .tc := ⟨.hbm, 59, rfl⟩
abbrev main_v27_13 : Ref sig .tc := ⟨.hbm, 60, rfl⟩
abbrev main_v27_14 : Ref sig .tc := ⟨.hbm, 61, rfl⟩
abbrev main_v27_15 : Ref sig .tc := ⟨.hbm, 62, rfl⟩
abbrev main_v27_16 : Ref sig .tc := ⟨.hbm, 63, rfl⟩
abbrev main_v27_17 : Ref sig .tc := ⟨.hbm, 64, rfl⟩
abbrev main_v27_18 : Ref sig .tc := ⟨.hbm, 65, rfl⟩
abbrev main_v27_19 : Ref sig .tc := ⟨.hbm, 66, rfl⟩
abbrev main_while0c_c_27 : Ref sig .tc := ⟨.hbm, 67, rfl⟩
abbrev main_while0c_v43 : Ref sig .tc := ⟨.hbm, 68, rfl⟩
abbrev main_while0b_c_27 : Ref sig .tc := ⟨.hbm, 69, rfl⟩
abbrev main_while0b_v43 : Ref sig .tc := ⟨.hbm, 70, rfl⟩
abbrev main_while0b_c_28 : Ref sig .tc := ⟨.hbm, 71, rfl⟩
abbrev main_while0b_v44 : Ref sig .tc := ⟨.hbm, 72, rfl⟩
abbrev main_while0b_call0_c : Ref sig .tc := ⟨.hbm, 73, rfl⟩
abbrev main_while0b_call0_c_0 : Ref sig .tc := ⟨.hbm, 74, rfl⟩
abbrev main_while0b_call0_c_1 : Ref sig .tc := ⟨.hbm, 75, rfl⟩
abbrev main_while0b_call0_v0 : Ref sig .tc := ⟨.hbm, 76, rfl⟩
abbrev main_while0b_v45 : Ref sig .tc := ⟨.hbm, 77, rfl⟩
abbrev main_while0b_call1_c : Ref sig .tc := ⟨.hbm, 78, rfl⟩
abbrev main_while0b_call1_c_0 : Ref sig .tc := ⟨.hbm, 79, rfl⟩
abbrev main_while0b_call1_c_1 : Ref sig .tc := ⟨.hbm, 80, rfl⟩
abbrev main_while0b_call1_v0 : Ref sig .tc := ⟨.hbm, 81, rfl⟩
abbrev main_while0b_v46 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_v0 : Ref sig .tc := ⟨.hbm, 86, rfl⟩
abbrev main_while0b_v47 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_v0 : Ref sig .tc := ⟨.hbm, 91, rfl⟩
abbrev main_while0b_v48 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_v0 : Ref sig .tc := ⟨.hbm, 96, rfl⟩
abbrev main_while0b_v49 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_v0 : Ref sig .tc := ⟨.hbm, 101, rfl⟩
abbrev main_while0b_v50 : Ref sig .tc := ⟨.hbm, 102, rfl⟩
abbrev main_while0b_call6_c : Ref sig .tc := ⟨.hbm, 103, rfl⟩
abbrev main_while0b_call6_v0 : Ref sig .tc := ⟨.hbm, 104, rfl⟩
abbrev main_while0b_v51 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_v0 : Ref sig .tc := ⟨.hbm, 109, rfl⟩
abbrev main_while0b_v52 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_v0 : Ref sig .tc := ⟨.hbm, 114, rfl⟩
abbrev main_while0b_v53 : Ref sig .tc := ⟨.hbm, 115, rfl⟩
abbrev main_while0b_v54 : Ref sig .tc := ⟨.hbm, 116, rfl⟩
abbrev main_while0b_v55 : Ref sig .tc := ⟨.hbm, 117, rfl⟩
abbrev main_while0b_v56 : Ref sig .tc := ⟨.hbm, 118, rfl⟩
abbrev main_while0b_v57 : Ref sig .tc := ⟨.hbm, 119, rfl⟩
abbrev main_while0b_v58 : Ref sig .tc := ⟨.hbm, 120, rfl⟩
abbrev main_while0b_v59 : Ref sig .tc := ⟨.hbm, 121, rfl⟩
abbrev main_while0b_v60 : Ref sig .tc := ⟨.hbm, 122, rfl⟩
abbrev main_while0b_v61 : Ref sig .tc := ⟨.hbm, 123, rfl⟩
abbrev main_while0b_v62 : Ref sig .tc := ⟨.hbm, 124, rfl⟩
abbrev main_while0b_v63 : Ref sig .tc := ⟨.hbm, 125, rfl⟩
abbrev main_while0b_v64 : Ref sig .tc := ⟨.hbm, 126, rfl⟩
abbrev main_while0b_v65 : Ref sig .tc := ⟨.hbm, 127, rfl⟩
abbrev main_while0b_cst_29 : Ref sig .tc := ⟨.hbm, 128, rfl⟩
abbrev main_while0b_v66 : Ref sig .tc := ⟨.hbm, 129, rfl⟩
abbrev main_while0b_v67 : Ref sig .tc := ⟨.hbm, 130, rfl⟩
abbrev main_while0b_cst_30 : Ref sig .tc := ⟨.hbm, 131, rfl⟩
abbrev main_while0b_v68 : Ref sig .tc := ⟨.hbm, 132, rfl⟩
abbrev main_while0b_v69 : Ref sig .tc := ⟨.hbm, 133, rfl⟩
abbrev main_while0b_cst_31 : Ref sig .tc := ⟨.hbm, 134, rfl⟩
abbrev main_while0b_v70 : Ref sig .tc := ⟨.hbm, 135, rfl⟩
abbrev main_while0b_v71 : Ref sig .tc := ⟨.hbm, 136, rfl⟩
abbrev main_while0b_v72 : Ref sig .tc := ⟨.hbm, 137, rfl⟩
abbrev main_while0b_v73 : Ref sig .tc := ⟨.hbm, 138, rfl⟩
abbrev main_while0b_cst_32 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_call9_v0 : Ref sig .tc := ⟨.hbm, 147, rfl⟩
abbrev main_while0b_call9_v1 : Ref sig .tc := ⟨.hbm, 148, rfl⟩
abbrev main_while0b_call9_cst : Ref sig .tc := ⟨.hbm, 149, rfl⟩
abbrev main_while0b_call9_v2 : Ref sig .tc := ⟨.hbm, 150, rfl⟩
abbrev main_while0b_call9_v3 : Ref sig .tc := ⟨.hbm, 151, rfl⟩
abbrev main_while0b_call9_cst_0 : Ref sig .tc := ⟨.hbm, 152, rfl⟩
abbrev main_while0b_call9_v4 : Ref sig .tc := ⟨.hbm, 153, rfl⟩
abbrev main_while0b_v81_2 : Ref sig .tc := ⟨.hbm, 154, rfl⟩
abbrev main_while0b_call9_cst_1 : Ref sig .tc := ⟨.hbm, 155, rfl⟩
abbrev main_while0b_call9_v6 : Ref sig .tc := ⟨.hbm, 156, rfl⟩
abbrev main_while0b_call9_v7 : Ref sig .tc := ⟨.hbm, 157, rfl⟩
abbrev main_while0b_v81_1 : Ref sig .tc := ⟨.hbm, 158, rfl⟩
abbrev main_while0b_v81_0 : Ref sig .tc := ⟨.hbm, 159, rfl⟩
abbrev main_while0b_v82 : Ref sig .tc := ⟨.hbm, 160, rfl⟩
abbrev main_while0b_v83 : Ref sig .tc := ⟨.hbm, 161, rfl⟩
abbrev main_while0b_v84 : Ref sig .tc := ⟨.hbm, 162, rfl⟩
abbrev main_while0b_call10_v0 : Ref sig .tc := ⟨.hbm, 163, rfl⟩
abbrev main_while0b_call10_v1 : Ref sig .tc := ⟨.hbm, 164, rfl⟩
abbrev main_while0b_call10_v2 : Ref sig .tc := ⟨.hbm, 165, rfl⟩
abbrev main_while0b_v85 : Ref sig .tc := ⟨.hbm, 166, rfl⟩
abbrev main_while0b_v86 : Ref sig .tc := ⟨.hbm, 167, rfl⟩
abbrev main_while0b_cst_33 : Ref sig .tc := ⟨.hbm, 168, rfl⟩
abbrev main_while0b_v87 : Ref sig .tc := ⟨.hbm, 169, rfl⟩
abbrev main_while0b_v88 : Ref sig .tc := ⟨.hbm, 170, rfl⟩
abbrev main_while0b_v89 : Ref sig .tc := ⟨.hbm, 171, rfl⟩
abbrev main_while0b_v90 : Ref sig .tc := ⟨.hbm, 172, rfl⟩
abbrev main_while0b_cst_34 : Ref sig .tc := ⟨.hbm, 173, rfl⟩
abbrev main_while0b_v91 : Ref sig .tc := ⟨.hbm, 174, rfl⟩
abbrev main_while0b_v92 : Ref sig .tc := ⟨.hbm, 175, rfl⟩
abbrev main_while0b_cst_35 : Ref sig .tc := ⟨.hbm, 176, rfl⟩
abbrev main_while0b_v93 : Ref sig .tc := ⟨.hbm, 177, rfl⟩
abbrev main_while0b_v94 : Ref sig .tc := ⟨.hbm, 178, rfl⟩
abbrev main_while0b_v95 : Ref sig .tc := ⟨.hbm, 179, rfl⟩
abbrev main_while0b_v96 : Ref sig .tc := ⟨.hbm, 180, rfl⟩
abbrev main_while0b_v97 : Ref sig .tc := ⟨.hbm, 181, rfl⟩
abbrev main_while0b_cst_36 : Ref sig .tc := ⟨.hbm, 182, rfl⟩
abbrev main_while0b_v98 : Ref sig .tc := ⟨.hbm, 183, rfl⟩
abbrev main_while0b_v99 : Ref sig .tc := ⟨.hbm, 184, rfl⟩
abbrev main_while0b_cst_37 : Ref sig .tc := ⟨.hbm, 185, rfl⟩
abbrev main_while0b_v100 : Ref sig .tc := ⟨.hbm, 186, rfl⟩
abbrev main_while0b_v101 : Ref sig .tc := ⟨.hbm, 187, rfl⟩
abbrev main_while0b_v102 : Ref sig .tc := ⟨.hbm, 188, rfl⟩
abbrev main_while0b_v103 : Ref sig .tc := ⟨.hbm, 189, rfl⟩
abbrev main_while0b_v104 : Ref sig .tc := ⟨.hbm, 190, rfl⟩
abbrev main_while0b_v105 : Ref sig .tc := ⟨.hbm, 191, rfl⟩
abbrev main_while0b_v106 : Ref sig .tc := ⟨.hbm, 192, rfl⟩
abbrev main_while0b_v107 : Ref sig .tc := ⟨.hbm, 193, rfl⟩
abbrev main_while0b_v108 : Ref sig .tc := ⟨.hbm, 194, rfl⟩
abbrev main_while0b_v109 : Ref sig .tc := ⟨.hbm, 195, rfl⟩
abbrev main_while0b_v110 : Ref sig .tc := ⟨.hbm, 196, rfl⟩
abbrev main_while0b_v111 : Ref sig .tc := ⟨.hbm, 197, rfl⟩
abbrev main_while0b_v112 : Ref sig .tc := ⟨.hbm, 198, rfl⟩
abbrev main_while0b_cst_38 : Ref sig .tc := ⟨.hbm, 199, rfl⟩
abbrev main_while0b_v113 : Ref sig .tc := ⟨.hbm, 200, rfl⟩
abbrev main_while0b_v114 : Ref sig .tc := ⟨.hbm, 201, rfl⟩
abbrev main_while0b_cst_39 : Ref sig .tc := ⟨.hbm, 202, rfl⟩
abbrev main_while0b_v115 : Ref sig .tc := ⟨.hbm, 203, rfl⟩
abbrev main_while0b_v116 : Ref sig .tc := ⟨.hbm, 204, rfl⟩
abbrev main_while0b_v117 : Ref sig .tc := ⟨.hbm, 205, rfl⟩
abbrev main_while0b_v118 : Ref sig .tc := ⟨.hbm, 206, rfl⟩
abbrev main_while0b_v119 : Ref sig .tc := ⟨.hbm, 207, rfl⟩
abbrev main_while0b_v120 : Ref sig .tc := ⟨.hbm, 208, rfl⟩
abbrev main_while0b_v121 : Ref sig .tc := ⟨.hbm, 209, rfl⟩
abbrev main_while0b_v122 : Ref sig .tc := ⟨.hbm, 210, rfl⟩
abbrev main_while0b_v123 : Ref sig .tc := ⟨.hbm, 211, rfl⟩
abbrev main_while0b_v124 : Ref sig .tc := ⟨.hbm, 212, rfl⟩
abbrev main_while0b_v125 : Ref sig .tc := ⟨.hbm, 213, rfl⟩
abbrev main_while0b_v126 : Ref sig .tc := ⟨.hbm, 214, rfl⟩
abbrev main_while0b_v127 : Ref sig .tc := ⟨.hbm, 215, rfl⟩
abbrev main_while0b_v128 : Ref sig .tc := ⟨.hbm, 216, rfl⟩
abbrev main_while0b_v129 : Ref sig .tc := ⟨.hbm, 217, rfl⟩
abbrev main_while0b_call11_v0 : Ref sig .tc := ⟨.hbm, 218, rfl⟩
abbrev main_while0b_call11_c : Ref sig .tc := ⟨.hbm, 219, rfl⟩
abbrev main_while0b_call11_c_0 : Ref sig .tc := ⟨.hbm, 220, rfl⟩
abbrev main_while0b_call11_c_1 : Ref sig .tc := ⟨.hbm, 221, rfl⟩
abbrev main_while0b_v130 : Ref sig .tc := ⟨.hbm, 222, rfl⟩
abbrev main_while0b_call12_v0 : Ref sig .tc := ⟨.hbm, 223, rfl⟩
abbrev main_while0b_call12_c : Ref sig .tc := ⟨.hbm, 224, rfl⟩
abbrev main_while0b_call12_c_0 : Ref sig .tc := ⟨.hbm, 225, rfl⟩
abbrev main_while0b_call12_c_1 : Ref sig .tc := ⟨.hbm, 226, rfl⟩
abbrev main_while0b_v131 : Ref sig .tc := ⟨.hbm, 227, rfl⟩
abbrev main_while0b_call13_v0 : Ref sig .tc := ⟨.hbm, 228, rfl⟩
abbrev main_while0b_call13_c : Ref sig .tc := ⟨.hbm, 229, rfl⟩
abbrev main_while0b_call13_c_0 : Ref sig .tc := ⟨.hbm, 230, rfl⟩
abbrev main_while0b_call13_c_1 : Ref sig .tc := ⟨.hbm, 231, rfl⟩
abbrev main_while0b_v132 : Ref sig .tc := ⟨.hbm, 232, rfl⟩
abbrev main_while0b_call14_v0 : Ref sig .tc := ⟨.hbm, 233, rfl⟩
abbrev main_while0b_call14_c : Ref sig .tc := ⟨.hbm, 234, rfl⟩
abbrev main_while0b_call14_c_0 : Ref sig .tc := ⟨.hbm, 235, rfl⟩
abbrev main_while0b_call14_c_1 : Ref sig .tc := ⟨.hbm, 236, rfl⟩
abbrev main_while0b_v133 : Ref sig .tc := ⟨.hbm, 237, rfl⟩
abbrev main_while0b_call15_v0 : Ref sig .tc := ⟨.hbm, 238, rfl⟩
abbrev main_while0b_call15_c : Ref sig .tc := ⟨.hbm, 239, rfl⟩
abbrev main_while0b_call15_c_0 : Ref sig .tc := ⟨.hbm, 240, rfl⟩
abbrev main_while0b_call15_c_1 : Ref sig .tc := ⟨.hbm, 241, rfl⟩
abbrev main_while0b_v134 : Ref sig .tc := ⟨.hbm, 242, rfl⟩
abbrev main_while0b_call16_v0 : Ref sig .tc := ⟨.hbm, 243, rfl⟩
abbrev main_while0b_call16_c : Ref sig .tc := ⟨.hbm, 244, rfl⟩
abbrev main_while0b_v135 : Ref sig .tc := ⟨.hbm, 245, rfl⟩
abbrev main_while0b_call17_v0 : Ref sig .tc := ⟨.hbm, 246, rfl⟩
abbrev main_while0b_call17_c : Ref sig .tc := ⟨.hbm, 247, rfl⟩
abbrev main_while0b_call17_c_0 : Ref sig .tc := ⟨.hbm, 248, rfl⟩
abbrev main_while0b_call17_c_1 : Ref sig .tc := ⟨.hbm, 249, rfl⟩
abbrev main_while0b_v136 : Ref sig .tc := ⟨.hbm, 250, rfl⟩
abbrev main_while0b_c_40 : Ref sig .tc := ⟨.hbm, 251, rfl⟩
abbrev main_while0b_v137 : Ref sig .tc := ⟨.hbm, 252, rfl⟩
abbrev main_v28 : Ref sig .tc := ⟨.hbm, 253, rfl⟩
abbrev main_v29 : Ref sig .tc := ⟨.hbm, 254, rfl⟩
abbrev main_v30 : Ref sig .tc := ⟨.hbm, 255, rfl⟩
abbrev main_v31 : Ref sig .tc := ⟨.hbm, 256, rfl⟩
abbrev main_v32 : Ref sig .tc := ⟨.hbm, 257, rfl⟩
abbrev main_v33 : Ref sig .tc := ⟨.hbm, 258, rfl⟩
abbrev main_v34 : Ref sig .tc := ⟨.hbm, 259, rfl⟩
abbrev main_v35 : Ref sig .tc := ⟨.hbm, 260, rfl⟩
abbrev main_v36 : Ref sig .tc := ⟨.hbm, 261, rfl⟩
abbrev main_v37 : Ref sig .tc := ⟨.hbm, 262, rfl⟩
abbrev main_v38 : Ref sig .tc := ⟨.hbm, 263, rfl⟩
abbrev main_v39 : Ref sig .tc := ⟨.hbm, 264, rfl⟩
abbrev main_v40 : Ref sig .tc := ⟨.hbm, 265, rfl⟩
abbrev main_v41 : Ref sig .tc := ⟨.hbm, 266, rfl⟩
abbrev main_v42 : Ref sig .tc := ⟨.hbm, 267, rfl⟩

abbrev nD : Nat := 1
abbrev τ : Topo := Topo.v7x

variable {F : FTy → Type} [FloatOps F]

abbrev main_while0_count : Scf.Loop 32 := ⟨0#32, 32#32, 1#32⟩
-- ==== Kernel15.lean ====
abbrev S4x2048x128 : Shape := ⟨3, ![4, 2048, 128]⟩
abbrev S4x2048x64 : Shape := ⟨3, ![4, 2048, 64]⟩
abbrev S32x4x8x128 : Shape := ⟨4, ![32, 4, 8, 128]⟩
abbrev S2048x3840 : Shape := ⟨2, ![2048, 3840]⟩
abbrev S1x128 : Shape := ⟨2, ![1, 128]⟩
abbrev S2048x1024 : Shape := ⟨2, ![2048, 1024]⟩
abbrev S32x4x128x128 : Shape := ⟨4, ![32, 4, 128, 128]⟩
abbrev S4x256x128 : Shape := ⟨3, ![4, 256, 128]⟩
abbrev S4x256x64 : Shape := ⟨3, ![4, 256, 64]⟩
abbrev S4x4x8x128 : Shape := ⟨4, ![4, 4, 8, 128]⟩
abbrev S256x512 : Shape := ⟨2, ![256, 512]⟩
abbrev S4x4x128x128 : Shape := ⟨4, ![4, 4, 128, 128]⟩
abbrev S4x128x128 : Shape := ⟨3, ![4, 128, 128]⟩
abbrev S1x4x128x128 : Shape := ⟨4, ![1, 4, 128, 128]⟩
abbrev S4x64x128 : Shape := ⟨3, ![4, 64, 128]⟩
abbrev S4x64x64 : Shape := ⟨3, ![4, 64, 64]⟩
abbrev S1x4x8x128 : Shape := ⟨4, ![1, 4, 8, 128]⟩
abbrev S4x8x128 : Shape := ⟨3, ![4, 8, 128]⟩
abbrev S4x1x1 : Shape := ⟨3, ![4, 1, 1]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩

abbrev nBuf : Space → Nat
  | .hbm => 11
  | .vmem => 20
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x128, .f32⟩
  | .hbm, ⟨3, _⟩ => ⟨S4x2048x128, .f32⟩
  | .hbm, ⟨4, _⟩ => ⟨S4x2048x64, .f32⟩
  | .hbm, ⟨5, _⟩ => ⟨S32x4x8x128, .f32⟩
  | .hbm, ⟨6, _⟩ => ⟨S2048x3840, .f32⟩
  | .hbm, ⟨7, _⟩ => ⟨S1x128, .f32⟩
  | .hbm, ⟨8, _⟩ => ⟨S2048x1024, .f32⟩
  | .hbm, ⟨9, _⟩ => ⟨S2048x1024, .f32⟩
  | .hbm, ⟨10, _⟩ => ⟨S32x4x128x128, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S4x256x128, .f32⟩
  | .local _ .vmem, ⟨5, _⟩ => ⟨S4x256x128, .f32⟩
  | .local _ .vmem, ⟨6, _⟩ => ⟨S4x256x128, .f32⟩
  | .local _ .vmem, ⟨7, _⟩ => ⟨S4x256x128, .f32⟩
  | .local _ .vmem, ⟨8, _⟩ => ⟨S4x256x64, .f32⟩
  | .local _ .vmem, ⟨9, _⟩ => ⟨S4x256x64, .f32⟩
  | .local _ .vmem, ⟨10, _⟩ => ⟨S4x4x8x128, .f32⟩
  | .local _ .vmem, ⟨11, _⟩ => ⟨S4x4x8x128, .f32⟩
  | .local _ .vmem, ⟨12, _⟩ => ⟨S256x512, .f32⟩
  | .local _ .vmem, ⟨13, _⟩ => ⟨S256x512, .f32⟩
  | .local _ .vmem, ⟨14, _⟩ => ⟨S1x128, .f32⟩
  | .local _ .vmem, ⟨15, _⟩ => ⟨S256x512, .f32⟩
  | .local _ .vmem, ⟨16, _⟩ => ⟨S256x512, .f32⟩
  | .local _ .vmem, ⟨17, _⟩ => ⟨S4x4x128x128, .f32⟩
  | .local _ .vmem, ⟨18, _⟩ => ⟨S4x4x128x128, .f32⟩
  | .local _ .vmem, ⟨19, _⟩ => ⟨S4x128x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S4x2048x128 : Shape := ⟨3, ![4, 2048, 128]⟩
abbrev S4x2048x64 : Shape := ⟨3, ![4, 2048, 64]⟩
abbrev S32x4x8x128 : Shape := ⟨4, ![32, 4, 8, 128]⟩
abbrev S2048x3840 : Shape := ⟨2, ![2048, 3840]⟩
abbrev S1x128 : Shape := ⟨2, ![1, 128]⟩
abbrev S2048x1024 : Shape := ⟨2, ![2048, 1024]⟩
abbrev S2048x512 : Shape := ⟨2, ![2048, 512]⟩
abbrev S32x64x4x128 : Shape := ⟨4, ![32, 64, 4, 128]⟩
abbrev S32x4x64x128 : Shape := ⟨4, ![32, 4, 64, 128]⟩
abbrev S4x32x64x128 : Shape := ⟨4, ![4, 32, 64, 128]⟩
abbrev S4x32x64x64 : Shape := ⟨4, ![4, 32, 64, 64]⟩
abbrev S32x4x64x64 : Shape := ⟨4, ![32, 4, 64, 64]⟩
abbrev S32x4x1x1 : Shape := ⟨4, ![32, 4, 1, 1]⟩
abbrev S32x4 : Shape := ⟨2, ![32, 4]⟩
abbrev S_ : Shape := ⟨0, ![]⟩
abbrev S4x128x128 : Shape := ⟨3, ![4, 128, 128]⟩
abbrev S32x4x128x128 : Shape := ⟨4, ![32, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4 : Shape := ⟨2, ![1, 4]⟩
abbrev S4 : Shape := ⟨1, ![4]⟩
abbrev S128 : Shape := ⟨1, ![128]⟩
abbrev S4x1x1 : Shape := ⟨3, ![4, 1, 1]⟩
abbrev S4x64 : Shape := ⟨2, ![4, 64]⟩
abbrev S4x64x1 : Shape := ⟨3, ![4, 64, 1]⟩
abbrev S1x1x128 : Shape := ⟨3, ![1, 1, 128]⟩
abbrev S1x4x128x128 : Shape := ⟨4, ![1, 4, 128, 128]⟩

abbrev nBuf : Space → Nat
  | .hbm => 131
  | .vmem => 0
  | .smem => 0
  | _ => 0

abbrev hbmTy0_0 (i : Nat) : BufTy := match i % 128 with
  | 0 => ⟨S4x2048x128, .f32⟩
  | 1 => ⟨S4x2048x128, .f32⟩
  | 2 => ⟨S4x2048x128, .f32⟩
  | 3 => ⟨S4x2048x128, .f32⟩
  | 4 => ⟨S4x2048x64, .f32⟩
  | 5 => ⟨S32x4x8x128, .f32⟩
  | 6 => ⟨S2048x3840, .f32⟩
  | 7 => ⟨S1x128, .f32⟩
  | 8 => ⟨S2048x1024, .f32⟩
  | 9 => ⟨S2048x512, .f32⟩
  | 10 => ⟨S32x64x4x128, .f32⟩
  | 11 => ⟨S32x4x64x128, .f32⟩
  | 12 => ⟨S4x32x64x128, .f32⟩
  | 13 => ⟨S32x4x64x128, .f32⟩
  | 14 => ⟨S4x32x64x128, .f32⟩
  | 15 => ⟨S32x4x64x128, .f32⟩
  | 16 => ⟨S4x32x64x128, .f32⟩
  | 17 => ⟨S32x4x64x128, .f32⟩
  | 18 => ⟨S4x32x64x128, .f32⟩
  | 19 => ⟨S32x4x64x128, .f32⟩
  | 20 => ⟨S4x32x64x64, .f32⟩
  | 21 => ⟨S32x4x64x64, .f32⟩
  | 22 => ⟨S32x4x1x1, .f32⟩
  | 23 => ⟨S32x4, .f32⟩
  | 24 => ⟨S_, .f32⟩
  | 25 => ⟨S4x128x128, .f32⟩
  | 26 => ⟨S_, .f32⟩
  | 27 => ⟨S32x4x64x128, .f32⟩
  | 28 => ⟨S_, .f32⟩
  | 29 => ⟨S32x4x128x128, .f32⟩
  | 30 => ⟨S_, .i32⟩
  | 31 => ⟨S32x4x64x128, .f32⟩
  | 32 => ⟨S32x4x64x128, .f32⟩
  | 33 => ⟨S32x4x64x128, .f32⟩
  | 34 => ⟨S32x4x64x128, .f32⟩
  | 35 => ⟨S32x4x64x64, .f32⟩
  | 36 => ⟨S32x4, .f32⟩
  | 37 => ⟨S32x4x64x128, .f32⟩
  | 38 => ⟨S1x128, .f32⟩
  | 39 => ⟨S_, .i32⟩
  | 40 => ⟨S4x128x128, .f32⟩
  | 41 => ⟨S32x4x64x128, .f32⟩
  | 42 => ⟨S32x4x128x128, .f32⟩
  | 43 => ⟨S_, .i32⟩
  | 44 => ⟨S_, .i1⟩
  | 45 => ⟨S_, .i32⟩
  | 46 => ⟨S_, .i32⟩
  | 47 => ⟨S_, .i32⟩
  | 48 => ⟨S1x4x64x128, .f32⟩
  | 49 => ⟨S4x64x128, .f32⟩
  | 50 => ⟨S_, .i32⟩
  | 51 => ⟨S_, .i32⟩
  | 52 => ⟨S_, .i32⟩
  | 53 => ⟨S1x4x64x128, .f32⟩
  | 54 => ⟨S4x64x128, .f32⟩
  | 55 => ⟨S_, .i32⟩
  | 56 => ⟨S_, .i32⟩
  | 57 => ⟨S_, .i32⟩
  | 58 => ⟨S1x4x64x128, .f32⟩
  | 59 => ⟨S4x64x128, .f32⟩
  | 60 => ⟨S_, .i32⟩
  | 61 => ⟨S_, .i32⟩
  | 62 => ⟨S_, .i32⟩
  | 63 => ⟨S1x4x64x128, .f32⟩
  | 64 => ⟨S4x64x128, .f32⟩
  | 65 => ⟨S_, .i32⟩
  | 66 => ⟨S_, .i32⟩
  | 67 => ⟨S_, .i32⟩
  | 68 => ⟨S1x4x64x64, .f32⟩
  | 69 => ⟨S4x64x64, .f32⟩
  | 70 => ⟨S_, .i32⟩
  | 71 => ⟨S1x4, .f32⟩
  | 72 => ⟨S4, .f32⟩
  | 73 => ⟨S_, .i32⟩
  | 74 => ⟨S_, .i32⟩
  | 75 => ⟨S_, .i32⟩
  | 76 => ⟨S1x4x64x128, .f32⟩
  | 77 => ⟨S4x64x128, .f32⟩
  | 78 => ⟨S128, .f32⟩
  | 79 => ⟨S4x64x128, .f32⟩
  | 80 => ⟨S4x64x128, .f32⟩
  | 81 => ⟨S4x64x128, .f32⟩
  | 82 => ⟨S4x64x128, .f32⟩
  | 83 => ⟨S4x64x128, .f32⟩
  | 84 => ⟨S4x1x1, .f32⟩
  | 85 => ⟨S4x128x128, .f32⟩
  | 86 => ⟨S4x128x128, .f32⟩
  | 87 => ⟨S4x128x128, .f32⟩
  | 88 => ⟨S4x128x128, .f32⟩
  | 89 => ⟨S4x64x128, .f32⟩
  | 90 => ⟨S_, .f32⟩
  | 91 => ⟨S4x64, .f32⟩
  | 92 => ⟨S4x64x1, .f32⟩
  | 93 => ⟨S_, .f32⟩
  | 94 => ⟨S4x64x1, .f32⟩
  | 95 => ⟨S4x64x1, .f32⟩
  | 96 => ⟨S_, .f32⟩
  | 97 => ⟨S4x64x1, .f32⟩
  | 98 => ⟨S4x64x1, .f32⟩
  | 99 => ⟨S4x64x1, .f32⟩
  | 100 => ⟨S4x64x128, .f32⟩
  | 101 => ⟨S4x64x128, .f32⟩
  | 102 => ⟨S1x1x128, .f32⟩
  | 103 => ⟨S4x64x128, .f32⟩
  | 104 => ⟨S4x64x128, .f32⟩
  | 105 => ⟨S4x64x128, .f32⟩
  | 106 => ⟨S4x64x128, .f32⟩
  | 107 => ⟨S_, .f32⟩
  | 108 => ⟨S4x64x128, .f32⟩
  | 109 => ⟨S4x64x128, .f32⟩
  | 110 => ⟨S_, .f32⟩
  | 111 => ⟨S4x64x128, .f32⟩
  | 112 => ⟨S4x64x128, .f32⟩
  | 113 => ⟨S4x64x128, .f32⟩
  | 114 => ⟨S4x64x128, .f32⟩
  | 115 => ⟨S1x4x64x128, .f32⟩
  | 116 => ⟨S_, .i32⟩
  | 117 => ⟨S_, .i32⟩
  | 118 => ⟨S_, .i32⟩
  | 119 => ⟨S32x4x64x128, .f32⟩
  | 120 => ⟨S1x4x128x128, .f32⟩
  | 121 => ⟨S_, .i32⟩
  | 122 => ⟨S_, .i32⟩
  | 123 => ⟨S_, .i32⟩
  | 124 => ⟨S32x4x128x128, .f32⟩
  | 125 => ⟨S_, .i32⟩
  | 126 => ⟨S_, .i32⟩
  | 127 => ⟨S32x64x4x128, .f32⟩
  | _ => ⟨S4x2048x128, .f32⟩

abbrev hbmTy0_1 (i : Nat) : BufTy := match i % 128 with
  | 0 => ⟨S2048x512, .f32⟩
  | 1 => ⟨S2048x512, .f32⟩
  | 2 => ⟨S2048x1024, .f32⟩
  | _ => ⟨S4x2048x128, .f32⟩

abbrev hbmTy (i : Nat) : BufTy := match i / 128 with
  | 0 => hbmTy0_0 i
  | 1 => hbmTy0_1 i
  | _ => ⟨S4x2048x128, .f32⟩

abbrev bufTy : (tb : Table) → Fin (tcTables nBuf tb) → BufTy
  | .hbm, ⟨i, _⟩ => hbmTy i
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_c : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_v18_7 : Ref sig .tc := ⟨.hbm, 38, rfl⟩
abbrev main_v18_8 : Ref sig .tc := ⟨.hbm, 39, rfl⟩
abbrev main_v18_9 : Ref sig .tc := ⟨.hbm, 40, rfl⟩
abbrev main_v18_10 : Ref sig .tc := ⟨.hbm, 41, rfl⟩
abbrev main_v18_11 : Ref sig .tc := ⟨.hbm, 42, rfl⟩
abbrev main_while0c_c_13 : Ref sig .tc := ⟨.hbm, 43, rfl⟩
abbrev main_while0c_v23 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v23 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v24 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v25 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v26 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v27 : Ref sig .tc := ⟨.hbm, 69, rfl⟩
abbrev main_while0b_call5_c : Ref sig .tc := ⟨.hbm, 70, rfl⟩
abbrev main_while0b_call5_v0 : Ref sig .tc := ⟨.hbm, 71, rfl⟩
abbrev main_while0b_v28 : Ref sig .tc := ⟨.hbm, 72, rfl⟩
abbrev main_while0b_call6_c : Ref sig .tc := ⟨.hbm, 73, rfl⟩
abbrev main_while0b_call6_c_0 : Ref sig .tc := ⟨.hbm, 74, rfl⟩
abbrev main_while0b_call6_c_1 : Ref sig .tc := ⟨.hbm, 75, rfl⟩
abbrev main_while0b_call6_v0 : Ref sig .tc := ⟨.hbm, 76, rfl⟩
abbrev main_while0b_v29 : Ref sig .tc := ⟨.hbm, 77, rfl⟩
abbrev main_while0b_v30 : Ref sig .tc := ⟨.hbm, 78, rfl⟩
abbrev main_while0b_v31 : Ref sig .tc := ⟨.hbm, 79, rfl⟩
abbrev main_while0b_v32 : Ref sig .tc := ⟨.hbm, 80, rfl⟩
abbrev main_while0b_v33 : Ref sig .tc := ⟨.hbm, 81, rfl⟩
abbrev main_while0b_v34 : Ref sig .tc := ⟨.hbm, 82, rfl⟩
abbrev main_while0b_v35 : Ref sig .tc := ⟨.hbm, 83, rfl⟩
abbrev main_while0b_v36 : Ref sig .tc := ⟨.hbm, 84, rfl⟩
abbrev main_while0b_v37 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_cst_13 : Ref sig .tc := ⟨.hbm, 90, rfl⟩
abbrev main_while0b_v42 : Ref sig .tc := ⟨.hbm, 91, rfl⟩
abbrev main_while0b_v43 : Ref sig .tc := ⟨.hbm, 92, rfl⟩
abbrev main_while0b_cst_14 : Ref sig .tc := ⟨.hbm, 93, rfl⟩
abbrev main_while0b_v44 : Ref sig .tc := ⟨.hbm, 94, rfl⟩
abbrev main_while0b_v45 : Ref sig .tc := ⟨.hbm, 95, rfl⟩
abbrev main_while0b_cst_15 : Ref sig .tc := ⟨.hbm, 96, rfl⟩
abbrev main_while0b_v46 : Ref sig .tc := ⟨.hbm, 97, rfl⟩
abbrev main_while0b_v47 : Ref sig .tc := ⟨.hbm, 98, rfl⟩
abbrev main_while0b_v48 : Ref sig .tc := ⟨.hbm, 99, rfl⟩
abbrev main_while0b_v49 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_call7_v0 : Ref sig .tc := ⟨.hbm, 105, rfl⟩
abbrev main_while0b_call7_v1 : Ref sig .tc := ⟨.hbm, 106, rfl⟩
abbrev main_while0b_call7_cst : Ref sig .tc := ⟨.hbm, 107, rfl⟩
abbrev main_while0b_call7_v2 : Ref sig .tc := ⟨.hbm, 108, rfl⟩
abbrev main_while0b_call7_v3 : Ref sig .tc := ⟨.hbm, 109, rfl⟩
abbrev main_while0b_call7_cst_0 : Ref sig .tc := ⟨.hbm, 110, rfl⟩
abbrev main_while0b_call7_v4 : Ref sig .tc := ⟨.hbm, 111, rfl⟩
abbrev main_while0b_call7_v5 : Ref sig .tc := ⟨.hbm, 112, rfl⟩
abbrev main_while0b_v54 : Ref sig .tc := ⟨.hbm, 113, rfl⟩
abbrev main_while0b_v55 : Ref sig .tc := ⟨.hbm, 114, rfl⟩
abbrev main_while0b_call8_v0 : Ref sig .tc := ⟨.hbm, 115, rfl⟩
abbrev main_while0b_call8_c : Ref sig .tc := ⟨.hbm, 116, rfl⟩
abbrev main_while0b_call8_c_0 : Ref sig .tc := ⟨.hbm, 117, rfl⟩
abbrev main_while0b_call8_c_1 : Ref sig .tc := ⟨.hbm, 118, rfl⟩
abbrev main_while0b_v56 : Ref sig .tc := ⟨.hbm, 119, rfl⟩
abbrev main_while0b_call9_v0 : Ref sig .tc := ⟨.hbm, 120, rfl⟩
abbrev main_while0b_call9_c : Ref sig .tc := ⟨.hbm, 121, rfl⟩
abbrev main_while0b_call9_c_0 : Ref sig .tc := ⟨.hbm, 122, rfl⟩
abbrev main_while0b_call9_c_1 : Ref sig .tc := ⟨.hbm, 123, rfl⟩
abbrev main_while0b_v57 : Ref sig .tc := ⟨.hbm, 124, rfl⟩
abbrev main_while0b_c_16 : Ref sig .tc := ⟨.hbm, 125, rfl⟩
abbrev main_while0b_v58 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩

abbrev nD : Nat := 1
abbrev τ : Topo := Topo.v7x

variable {F : FTy → Type} [FloatOps F]

abbrev main_while0_count : Scf.Loop 32 := ⟨0#32, 32#32, 1#32⟩
-- ==== Kernel16.lean ====
abbrev S2048x5632 : Shape := ⟨2, ![2048, 5632]⟩
abbrev S3x5632 : Shape := ⟨2, ![3, 5632]⟩
abbrev S2048x2816 : Shape := ⟨2, ![2048, 2816]⟩
abbrev S256x1408 : Shape := ⟨2, ![256, 1408]⟩
abbrev S16x1408 : Shape := ⟨2, ![16, 1408]⟩
abbrev S3x1408 : Shape := ⟨2, ![3, 1408]⟩
abbrev S8x128 : Shape := ⟨2, ![8, 128]⟩
abbrev S256x128 : Shape := ⟨2, ![256, 128]⟩
abbrev S264x128 : Shape := ⟨2, ![264, 128]⟩
abbrev S3x128 : Shape := ⟨2, ![3, 128]⟩
abbrev S1x128 : Shape := ⟨2, ![1, 128]⟩

abbrev nBuf : Space → Nat
  | .hbm => 3
  | .vmem => 14
  | .smem => 0
  | _ => 0

abbrev bufTy : (tb : Table) → Fin (tcTables nBuf tb) → BufTy
  | .hbm, ⟨0, _⟩ => ⟨S2048x5632, .bf16⟩
  | .hbm, ⟨1, _⟩ => ⟨S3x5632, .f32⟩
  | .hbm, ⟨2, _⟩ => ⟨S2048x2816, .bf16⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S256x1408, .bf16⟩
  | .local _ .vmem, ⟨5, _⟩ => ⟨S256x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S256x1408, .bf16⟩
  | .local _ .vmem, ⟨13, _⟩ => ⟨S256x1408, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c11_i32 : BitVec 32 := 11#32
  let v2 : BitVec 32 := Scalar.addi c0_i32_1 c11_i32
  let c1_i32 : BitVec 32 := 1#32
  ⟨c0_i32_1, v2, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  v3
def k0_off1 (k0_t1 : Fin k0_t1_loop.trips) : Fin 2 → Nat :=
  let c8 : Index := 8#32
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  let v4 : BitVec 32 := v3
  let v5 : Index := Scalar.indexCast v4
  ![8, v5.toNat]
def k0_off2 (k0_t1 : Fin k0_t1_loop.trips) : Fin 2 → Nat :=
  let c0 : Index := 0#32
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  let v4 : BitVec 32 := v3
  let v10 : Index := Scalar.indexCast v4
  ![0, v10.toNat]
def k0_off3 (k0_t1 : Fin k0_t1_loop.trips) : Fin 2 → Nat :=
  let c0_3 : Index := 0#32
  let c0_i32_1 : BitVec 32 := 0#32
  let c1_i32 : BitVec 32 := 1#32
  let arg9 : BitVec 32 := Scf.iv c0_i32_1 c1_i32 k0_t1
  let c128_i32 : BitVec 32 := 128#32
  let v3 : BitVec 32 := Scalar.muli arg9 c128_i32
  let v4 : BitVec 32 := v3
  let v14 : Index := Scalar.indexCast v4
  ![0, v14.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2048x5632 : Shape := ⟨2, ![2048, 5632]⟩
abbrev S3x5632 : Shape := ⟨2, ![3, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩
abbrev S2048x2816 : Shape := ⟨2, ![2048, 2816]⟩

abbrev nBuf : Space → Nat
  | .hbm => 39
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S3x5632, .f32⟩
  | .hbm, ⟨2, _⟩ => ⟨S2048x5632, .f32⟩
  | .hbm, ⟨3, _⟩ => ⟨S_, .f32⟩
  | .hbm, ⟨4, _⟩ => ⟨S2x5632, .f32⟩
  | .hbm, ⟨5, _⟩ => ⟨S2050x5632, .f32⟩
  | .hbm, ⟨6, _⟩ => ⟨S2048x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.ConvPieces.lean ====
/-
  What one grid point of the convolution's backward kernel leaves in its two output blocks, in terms of its input blocks:
  `dxBlock` (the payload of the one covering store) and `dwBlock` (four row stores over the block held before).
-/
module

public import proofs.«01_k».proof.Proof.Gen.KernelIdeal.Value
public import Idealize.ShloMosaic.Lib.Pipeline.Value
public import Idealize.ShloMosaic.Lib.Pipeline.ReadBack
public import Idealize.ShloMosaic.Lib.Tactic

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The tap gradient's block after the point's four row stores, each row read from `acc` before;
    `L` are the stores before them, which the four rows cover. -/
def dwBlock (i : grid0.Coords) (x0 : Vec F S256x512 .f32) (x2 : Vec F S256x512 .f32) (x3 : Vec F S8x512 .f32)
    (acc : Vec F S4x512 .f32) (L : List (View.Piece (Elt F) S4x512 .f32)) : Vec F S4x512 .f32 :=
  View.canon (
    ⟨Rect.unit ![3, 0] ![1, 512] inb_S4x512_S1x512_3_0,
        k0_pay1 x0 (k0_pay4 (k0_pay3 i x3) x2) (View.ld acc (Rect.unit ![3, 0] ![1, 512] inb_S4x512_S1x512_3_0))⟩ ::
      ⟨Rect.unit ![2, 0] ![1, 512] inb_S4x512_S1x512_2_0,
        k0_pay8 x0 (k0_pay3 i x3) x2 (View.ld acc (Rect.unit ![2, 0] ![1, 512] inb_S4x512_S1x512_2_0))⟩ ::
      ⟨Rect.unit ![1, 0] ![1, 512] inb_S4x512_S1x512_1_0,
        k0_pay7 x0 (k0_pay3 i x3) x2 (View.ld acc (Rect.unit ![1, 0] ![1, 512] inb_S4x512_S1x512_1_0))⟩ ::
      ⟨Rect.unit ![0, 0] ![1, 512] inb_S4x512_S1x512_0_0,
        k0_pay6 x0 (k0_pay3 i x3) x2 (View.ld acc (Rect.unit ![0, 0] ![1, 512] inb_S4x512_S1x512_0_0))⟩ :: L)

section Cases

variable (c : Dev nD) (i : grid0.Coords) (arg2 : Memref sig .tc .vmem S256x512 .f32) (harg2 : arg2.IsWhole) (arg3 : Memref sig .tc .vmem S8x512 .f32) (harg3 : arg3.IsWhole) (arg4 : Memref sig .tc .vmem S256x512 .f32) (harg4 : arg4.IsWhole) (arg5 : Memref sig .tc .vmem S8x512 .f32) (harg5 : arg5.IsWhole) (arg6 : Memref sig .tc .vmem S4x512 .f32) (harg6 : arg6.IsWhole) (arg7 : Memref sig .tc .vmem S256x512 .bf16) (harg7 : arg7.IsWhole) (arg8 : Memref sig .tc .vmem S4x512 .f32) (harg8 : arg8.IsWhole)
  (x0 : Vec F S256x512 .f32) (x1 : Vec F S8x512 .f32) (x2 : Vec F S256x512 .f32) (x3 : Vec F S8x512 .f32) (x4 : Vec F S4x512 .f32) (x6 : Vec F S4x512 .f32)

/-- The input gradient's block at a point that opens a column of blocks. -/
theorem out_A5 (hc0 : cond0_0 i) : out0_A_5 c i arg2 harg2 arg3 harg3 arg4 harg4 arg5 harg5 arg6 harg6 arg7 harg7 arg8 harg8 hc0 x0 x1 x2 x3 x4 = k0_pay2 i x1 x0 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg8.read_unread, View.ld_unit_zero (S := S256x512) hz, View.ld_unit_zero (S := S8x512) hz, View.ld_unit_zero (S := S4x512) hz]

/-- The input gradient's block at every other point. -/
theorem out_B5 (hc0 : ¬cond0_0 i) : out0_B_5 c i arg2 harg2 arg3 harg3 arg4 harg4 arg5 harg5 arg6 harg6 arg7 harg7 arg8 harg8 hc0 x0 x1 x2 x3 x4 x6 = k0_pay2 i x1 x0 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 x6)]
  unfold kernelRun0_B
  dsimp only
  sl_unfold_words
  rw [View.canon_unit_zero hz]
  simp only [View.readAt_eq_ld, harg2.read_unread, harg3.read_unread, harg4.read_unread, harg5.read_unread, harg6.read_unread, harg8.read_unread, View.ld_unit_zero (S := S256x512) hz, View.ld_unit_zero (S := S8x512) hz, View.ld_unit_zero (S := S4x512) hz]

/-- The tap gradient's block at every other point. -/
theorem out_B6 (hc0 : ¬cond0_0 i) : out0_B_6 c i arg2 harg2 arg3 harg3 arg4 harg4 arg5 harg5 arg6 harg6 arg7 harg7 arg8 harg8 hc0 x0 x1 x2 x3 x4 x6 = dwBlock i x0 x2 x3 x6 [] := by
  unfold out0_B_6
  rw [View.read_writes_eq_canon _ _ _ (cover0_B_6 c i arg2 harg2 arg3 harg3 arg4 harg4 arg5 harg5 arg6 harg6 arg7 harg7 arg8 harg8 hc0 x0 x1 x2 x3 x4 x6)]
  unfold kernelRun0_B
  dsimp only
  sl_unfold_words
  simp only [View.readAt_eq_ld, harg2.read_unread, harg3.read_unread, harg4.read_unread, harg5.read_unread, harg6.read_unread, harg8.read_unread, View.ld_unit_zero (S := S256x512) hz, View.ld_unit_zero (S := S8x512) hz, View.ld_unit_zero (S := S4x512) hz]
  rfl

/-- The tap gradient's block at a point that opens a column of blocks: the rows are stored over zeros. -/
theorem out_A6 (hc0 : cond0_0 i) : out0_A_6 c i arg2 harg2 arg3 harg3 arg4 harg4 arg5 harg5 arg6 harg6 arg7 harg7 arg8 harg8 hc0 x0 x1 x2 x3 x4 = dwBlock i x0 x2 x3 k0_pay5
      [⟨Rect.unit ![0, 0] ![4, 512] inb_S4x512_S4x512_0_0, k0_pay5⟩] := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg3.read_unread, harg4.read_unread, harg5.read_unread, harg6.read_unread, harg8.read_unread, View.ld_unit_zero (S := S256x512) hz, View.ld_unit_zero (S := S8x512) hz, View.ld_unit_zero (S := S4x512) hz]
  simp (disch := decide) only [View.readCov_skip, View.readCov_fill]
  rfl

end Cases

end Cert.KernelIdeal.Conv

end
-- ==== Proof.ConvPayload.lean ====
/-
  The convolution kernel's two stored blocks at the ideal values, entry by entry, with the neighbouring rows that the
  kernel masks at the array's two ends.
-/
module

public import proofs.«01_k».proof.Proof.ConvPieces
public import Idealize.ShloMosaic.Lib.Pointwise
public import Idealize.ShloMosaic.Lib.KernelVsHost

@[expose] public section

set_option maxRecDepth 16384

noncomputable section

namespace Cert.KernelIdeal.Conv

open Cert.KernelIdeal Cert.KernelIdeal.Gen Idealize.ShloMosaic Idealize.ShloMosaic.TcCoe Idealize.SL.Sem

/-- Row `n` of a block of 256 rows followed by the 8 rows of `y`, those replaced by zeros where `b`. -/
def below (x : Vec Ideal S256x512 .f32) (b : Prop) [Decidable b] (y : Vec Ideal S8x512 .f32) (n : ℕ) (l : Fin 512) : EReal :=
  if h : n < 256 then x (ix2 ⟨n, h⟩ l) else if b then 0 else if h' : n - 256 < 8 then y (ix2 ⟨n - 256, h'⟩ l) else 0

/-- Row `n` of the 8 rows of `y`, replaced by zeros where `b`, followed by a block of 256 rows. -/
def above (x : Vec Ideal S256x512 .f32) (b : Prop) [Decidable b] (y : Vec Ideal S8x512 .f32) (n : ℕ) (l : Fin 512) : EReal :=
  if h : n < 8 then (if b then 0 else y (ix2 ⟨n, h⟩ l)) else if h' : n - 8 < 256 then x (ix2 ⟨n - 8, h'⟩ l) else 0

/-- A selection on an equality of a small grid coordinate with a literal. -/
theorem select_coord (n : ℕ) (hn : n < 4294967296) (k : ℕ) (hk : k < 4294967296) (a b : EReal) :
    Scalar.select (Scalar.cmpi .eq (BitVec.ofNat 32 n) (BitVec.ofNat 32 k)) a b = if n = k then a else b := by
  by_cases h : n = k
  · subst h; simp [Scalar.select, Scalar.cmpi, IntOp.cmpi]
  · have : BitVec.ofNat 32 n ≠ BitVec.ofNat 32 k := fun e => h (by
      have := congrArg BitVec.toNat e
      rwa [BitVec.toNat_ofNat, BitVec.toNat_ofNat, Nat.mod_eq_of_lt hn, Nat.mod_eq_of_lt hk] at this)
    have hb : (BitVec.ofNat 32 n == BitVec.ofNat 32 k) = false := by simpa using this
    simp only [Scalar.select, Scalar.cmpi, IntOp.cmpi, hb, if_neg h]
    rfl

/-- The input gradient's block: four rows of the incoming gradient, each times its tap. -/
theorem pay2_apply (i : grid0.Coords) (x1 : Vec Ideal S8x512 .f32) (x0 : Vec Ideal S256x512 .f32) (w : Vec Ideal S4x512 .f32)
    (r : Fin 256) (l : Fin 512) :
    k0_pay2 i x1 x0 w (ix2 r l)
      = (below x0 ((i 1).val = 7) x1 (r.val + 3) l * w (ix2 0 l) + below x0 ((i 1).val = 7) x1 (r.val + 2) l * w (ix2 1 l)
          + below x0 ((i 1).val = 7) x1 (r.val + 1) l * w (ix2 2 l) + below x0 ((i 1).val = 7) x1 r.val l * w (ix2 3 l) : EReal) := by
  have hr := r.isLt
  have hi : (i 1).val < 8 := (i 1).isLt
  pointwise [k0_pay2]
  have key : ∀ (n : ℕ) (n' : ℕ) (h8 : n < 264) (_ : n = n'),
      (if h : n < 256 then x0 (ix2 ⟨n, h⟩ l) else
        Scalar.select (Scalar.cmpi CmpIPredicate.eq (BitVec.ofNat 32 (i 1).val) 7#32) (0 : EReal) (x1 (ix2 ⟨n - 256, by omega⟩ l)))
      = below x0 ((i 1).val = 7) x1 n' l := by
    rintro n _ h8 rfl
    unfold below
    by_cases h : n < 256
    · rw [dif_pos h, dif_pos h]
    · rw [dif_neg h, dif_neg h, select_coord _ (by omega) 7 (by omega), dif_pos (by omega)]
  refine congrArg₂ (· + ·) (congrArg₂ (· + ·) (congrArg₂ (· + ·) (congrArg (· * _) (key _ _ (by omega) (by omega)))
    (congrArg (· * _) (key _ _ (by omega) (by omega)))) (congrArg (· * _) (key _ _ (by omega) (by omega)))) (congrArg (· * _) ?_)
  unfold below
  rw [dif_pos hr]

/-- The zero block. -/
theorem pay5_apply (j : S4x512.Idx) : k0_pay5 (F := Ideal) j = (0 : EReal) := by
  pointwise [k0_pay5]

/-- One row of the tap gradient: the row before plus the products of 256 rows, for each of the four rotations. -/
theorem rowSum_key (i : grid0.Coords) (x2 : Vec Ideal S256x512 .f32) (x3 : Vec Ideal S8x512 .f32) (l : Fin 512) (n n' : ℕ)
    (h8 : n < 264) (e : n = n') :
    (if h : n < 8 then k0_pay3 i x3 (ix2 ⟨n, h⟩ l) else x2 (ix2 ⟨n - 8, by omega⟩ l))
      = (above x2 ((i 1).val = 0) x3 n' l : EReal) := by
  subst e
  have hi : (i 1).val < 8 := (i 1).isLt
  unfold above
  by_cases h : n < 8
  · rw [dif_pos h, dif_pos h]
    pointwise [k0_pay3]
    exact select_coord _ (by omega) 0 (by omega) _ _
  · rw [dif_neg h, dif_neg h, dif_pos (by omega)]

theorem pay6_apply (i : grid0.Coords) (x0 : Vec Ideal S256x512 .f32) (x3 : Vec Ideal S8x512 .f32) (x2 : Vec Ideal S256x512 .f32)
    (a : Vec Ideal S1x512 .f32) (l : Fin 512) :
    k0_pay6 x0 (k0_pay3 i x3) x2 a (ix2 0 l)
      = (a (ix2 0 l) + ∑ r : Fin 256, x0 (ix2 r l) * above x2 ((i 1).val = 0) x3 (r.val + 5) l : EReal) := by
  have h3 := rowSum_key i x2 x3 l
  generalize k0_pay3 i x3 = y at h3 ⊢
  pointwise [k0_pay6, k0_pay4]
  refine congrArg (_ + ·) (Finset.sum_congr rfl fun r _ => congrArg (_ * ·) ?_)
  have hr := r.isLt
  exact h3 _ _ (by omega) (by omega)

theorem pay7_apply (i : grid0.Coords) (x0 : Vec Ideal S256x512 .f32) (x3 : Vec Ideal S8x512 .f32) (x2 : Vec Ideal S256x512 .f32)
    (a : Vec Ideal S1x512 .f32) (l : Fin 512) :
    k0_pay7 x0 (k0_pay3 i x3) x2 a (ix2 0 l)
      = (a (ix2 0 l) + ∑ r : Fin 256, x0 (ix2 r l) * above x2 ((i 1).val = 0) x3 (r.val + 6) l : EReal) := by
  have h3 := rowSum_key i x2 x3 l
  generalize k0_pay3 i x3 = y at h3 ⊢
  pointwise [k0_pay7, k0_pay4]
  refine congrArg (_ + ·) (Finset.sum_congr rfl fun r _ => congrArg (_ * ·) ?_)
  have hr := r.isLt
  exact h3 _ _ (by omega) (by omega)

theorem pay8_apply (i : grid0.Coords) (x0 : Vec Ideal S256x512 .f32) (x3 : Vec Ideal S8x512 .f32) (x2 : Vec Ideal S256x512 .f32)
    (a : Vec Ideal S1x512 .f32) (l : Fin 512) :
    k0_pay8 x0 (k0_pay3 i x3) x2 a (ix2 0 l)
      = (a (ix2 0 l) + ∑ r : Fin 256, x0 (ix2 r l) * above x2 ((i 1).val = 0) x3 (r.val + 7) l : EReal) := by
  have h3 := rowSum_key i x2 x3 l
  generalize k0_pay3 i x3 = y at h3 ⊢
  pointwise [k0_pay8, k0_pay4]
  refine congrArg (_ + ·) (Finset.sum_congr rfl fun r _ => congrArg (_ * ·) ?_)
  have hr := r.isLt
  exact h3 _ _ (by omega) (by omega)

theorem pay1_apply (i : grid0.Coords) (x0 : Vec Ideal S256x512 .f32) (x3 : Vec Ideal S8x512 .f32) (x2 : Vec Ideal S256x512 .f32)
    (a : Vec Ideal S1x512 .f32) (l : Fin 512) :
    k0_pay1 x0 (k0_pay4 (k0_pay3 i x3) x2) a (ix2 0 l)
      = (a (ix2 0 l) + ∑ r : Fin 256, x0 (ix2 r l) * above x2 ((i 1).val = 0) x3 (r.val + 8) l : EReal) := by
  have h3 := rowSum_key i x2 x3 l
  generalize k0_pay3 i x3 = y at h3 ⊢
  pointwise [k0_pay1, k0_pay4]
  refine congrArg (_ + ·) (Finset.sum_congr rfl fun r _ => congrArg (_ * ·) ?_)
  have hr := r.isLt
  unfold above
  rw [dif_neg (by omega), dif_pos (by omega)]
  exact congrArg x2 (congrArg (ix2 · l) (Fin.ext (by show r.val = r.val + 8 - 8; omega)))

/-- A row rectangle's embedding. -/
theorem row_emb (k : ℕ) (hk : k < 4) (h : ∀ a, (![k, 0] : Fin 2 → ℕ) a + (![1, 512] : Fin 2 → ℕ) a ≤ S4x512.size a) (l : Fin 512) :
    (Rect.unit (s := S4x512) ![k, 0] ![1, 512] h).emb (ix2 (0 : Fin 1) l) = ix2 (⟨k, hk⟩ : Fin 4) l :=
  funext fun a => Fin.ext (by
    match a with
    | ⟨0, _⟩ => show k + 1 * 0 = k; omega
    | ⟨1, _⟩ => show 0 + 1 * l.val = l.val; omega)

/-- Another row is outside of the rectangle. -/
theorem row_not_mem (k k' : ℕ) (hk : k' ≠ k) (hk' : k' < 4) (h : ∀ a, (![k, 0] : Fin 2 → ℕ) a + (![1, 512] : Fin 2 → ℕ) a ≤ S4x512.size a)
    (l : Fin 512) : (ix2 (⟨k', hk'⟩ : Fin 4) l : S4x512.Idx) ∉ (Rect.unit (s := S4x512) ![k, 0] ![1, 512] h).set := by
  rw [Rect.mem_set_unit]
  intro hm
  have h0 : k ≤ k' ∧ k' < k + 1 := hm 0
  omega

/-- A row stored last, read in that row. -/
theorem canon_row (k : ℕ) (hk : k < 4) (h : ∀ a, (![k, 0] : Fin 2 → ℕ) a + (![1, 512] : Fin 2 → ℕ) a ≤ S4x512.size a) (l : Fin 512)
    (p : S1x512.Idx → EReal) (L : List (View.Piece (Elt Ideal) S4x512 .f32)) :
    (View.canon (Val := Elt Ideal) (e := .f32) (⟨Rect.unit ![k, 0] ![1, 512] h, p⟩ :: L) (ix2 (⟨k, hk⟩ : Fin 4) l) : EReal)
      = p (ix2 (0 : Fin 1) l) := by
  let r : Rect S4x512 := Rect.unit (s := S4x512) ![k, 0] ![1, 512] h
  have e := View.canon_cons_emb (Val := Elt Ideal) (e := .f32) r p L (show r.shape.Idx from ix2 (0 : Fin 1) l)
  rw [show r.emb (show r.shape.Idx from ix2 (0 : Fin 1) l) = ix2 (⟨k, hk⟩ : Fin 4) l from row_emb k hk h l] at e
  exact e

/-- A row stored last, read in another row. -/
theorem canon_other (k k' : ℕ) (hne : k' ≠ k) (hk : k' < 4) (h : ∀ a, (![k, 0] : Fin 2 → ℕ) a + (![1, 512] : Fin 2 → ℕ) a ≤ S4x512.size a)
    (l : Fin 512) (p : S1x512.Idx → EReal) (L : List (View.Piece (Elt Ideal) S4x512 .f32)) :
    (View.canon (Val := Elt Ideal) (e := .f32) (⟨Rect.unit ![k, 0] ![1, 512] h, p⟩ :: L) (ix2 (⟨k', hk⟩ : Fin 4) l) : EReal)
      = View.canon L (ix2 (⟨k', hk⟩ : Fin 4) l) :=
  View.canon_cons_of_not_mem _ _ (row_not_mem k k' hne hk h l)

/-- Four row stores, read at an entry: the row's store there, whatever was stored before. -/
theorem rows_apply (p0 p1 p2 p3 : S1x512.Idx → EReal) (L : List (View.Piece (Elt Ideal) S4x512 .f32)) (l : Fin 512) :
    let C : S4x512.Idx → EReal := View.canon (Val := Elt Ideal) (e := .f32)
      (⟨Rect.unit ![3, 0] ![1, 512] inb_S4x512_S1x512_3_0, p3⟩ :: ⟨Rect.unit ![2, 0] ![1, 512] inb_S4x512_S1x512_2_0, p2⟩ ::
        ⟨Rect.unit ![1, 0] ![1, 512] inb_S4x512_S1x512_1_0, p1⟩ :: ⟨Rect.unit ![0, 0] ![1, 512] inb_S4x512_S1x512_0_0, p0⟩ :: L)
    C (ix2 0 l) = p0 (ix2 0 l) ∧ C (ix2 1 l) = p1 (ix2 0 l) ∧ C (ix2 2 l) = p2 (ix2 0 l) ∧ C (ix2 3 l) = p3 (ix2 0 l) := by
  intro C
  exact ⟨(canon_other 3 0 (by decide) (by decide) _ l p3 _).trans ((canon_other 2 0 (by decide) (by decide) _ l p2 _).trans
      ((canon_other 1 0 (by decide) (by decide) _ l p1 _).trans (canon_row 0 (by decide) _ l p0 _))),
    (canon_other 3 1 (by decide) (by decide) _ l p3 _).trans ((canon_other 2 1 (by decide) (by decide) _ l p2 _).trans
      (canon_row 1 (by decide) _ l p1 _)),
    (canon_other 3 2 (by decide) (by decide) _ l p3 _).trans (canon_row 2 (by decide) _ l p2 _),
    canon_row 3 (by decide) _ l p3 _⟩

/-- THE TAP GRADIENT'S BLOCK after a point, entry by entry. -/
theorem dwBlock_apply (i : grid0.Coords) (x0 : Vec Ideal S256x512 .f32) (x2 : Vec Ideal S256x512 .f32) (x3 : Vec Ideal S8x512 .f32)
    (acc : Vec Ideal S4x512 .f32) (L : List (View.Piece (Elt Ideal) S4x512 .f32)) (a : Fin 4) (l : Fin 512) :
    dwBlock i x0 x2 x3 acc L (ix2 a l)
      = (acc (ix2 a l) + ∑ r : Fin 256, x0 (ix2 r l) * above x2 ((i 1).val = 0) x3 (r.val + 5 + a.val) l : EReal) := by
  unfold dwBlock
  have h := rows_apply (L := L) (l := l) (p0 := k0_pay6 x0 (k0_pay3 i x3) x2 (View.ld acc (Rect.unit ![0, 0] ![1, 512] inb_S4x512_S1x512_0_0)))
    (p1 := k0_pay7 x0 (k0_pay3 i x3) x2 (View.ld acc (Rect.unit ![1, 0] ![1, 512] inb_S4x512_S1x512_1_0)))
    (p2 := k0_pay8 x0 (k0_pay3 i x3) x2 (View.ld acc (Rect.unit ![2, 0] ![1, 512] inb_S4x512_S1x512_2_0)))
    (p3 := k0_pay1 x0 (k0_pay4 (k0_pay3 i x3) x2) (View.ld acc (Rect.unit ![3, 0] ![1, 512] inb_S4x512_S1x512_3_0)))
  rw [pay6_apply, pay7_apply, pay8_apply, pay1_apply] at h
  match a with
  | ⟨0, _⟩ => exact h.1.trans (congrArg (· + _) (congrArg acc (row_emb 0 (by decide) inb_S4x512_S1x512_0_0 l)))
  | ⟨1, _⟩ => exact h.2.1.trans (congrArg (· + _) (congrArg acc (row_emb 1 (by decide) inb_S4x512_S1x512_1_0 l)))
  | ⟨2, _⟩ => exact h.2.2.1.trans (congrArg (· + _) (congrArg acc (row_emb 2 (by decide) inb_S4x512_S1x512_2_0 l)))
  | ⟨3, _⟩ => exact h.2.2.2.trans (congrArg (· + _) (congrArg acc (row_emb 3 (by decide) inb_S4x512_S1x512_3_0 l)))

end Cert.KernelIdeal.Conv

end
-- ==== Proof.ConvSpec.lean ====
/-
  The gradient of a causal depthwise convolution with four taps, as plain sums over the extended reals. The two results
  of the certificate are compared through these functions.
-/
module

public import Idealize.ShloMosaic.Lib.Pointwise

@[expose] public section

noncomputable section

namespace Cert.Conv

open Idealize.ShloMosaic

/-- Entry `(n, k)` of a matrix; zero outside of it. -/
def entry {N K : ℕ} (x : (⟨2, ![N, K]⟩ : Shape).Idx → EReal) (n k : ℕ) : EReal :=
  if h : n < N ∧ k < K then x (ix2 ⟨n, h.1⟩ ⟨k, h.2⟩) else 0

/-- Inside the matrix, `entry` is the matrix. -/
theorem entry_of_lt {N K : ℕ} (x : (⟨2, ![N, K]⟩ : Shape).Idx → EReal) (n k : ℕ) (hn : n < N) (hk : k < K) :
    entry x n k = x (ix2 ⟨n, hn⟩ ⟨k, hk⟩) := dif_pos ⟨hn, hk⟩

/-- Past the last row, `entry` is zero. -/
theorem entry_of_le {N K : ℕ} (x : (⟨2, ![N, K]⟩ : Shape).Idx → EReal) (n k : ℕ) (hn : N ≤ n) : entry x n k = 0 :=
  dif_neg fun h => absurd h.1 (Nat.not_lt.mpr hn)

/-- Equal rows and columns give equal entries. -/
theorem entry_congr {N K : ℕ} (x : (⟨2, ![N, K]⟩ : Shape).Idx → EReal) {n n' k k' : ℕ} (hn : n = n') (hk : k = k') :
    entry x n k = entry x n' k' := by rw [hn, hk]

/-- The matrix delayed by three rows: zero in the first three rows. -/
def late {N K : ℕ} (x : (⟨2, ![N, K]⟩ : Shape).Idx → EReal) (n k : ℕ) : EReal := if 3 ≤ n then entry x (n - 3) k else 0

/-- The gradient with respect to the input: row `n` was read by the outputs `n`, `n + 1`, `n + 2`, `n + 3`. -/
def dX {N K L : ℕ} (d : (⟨2, ![N, K]⟩ : Shape).Idx → EReal) (w : (⟨2, ![4, L]⟩ : Shape).Idx → EReal) (n k : ℕ) : EReal :=
  entry d (n + 3) k * entry w 0 k + entry d (n + 2) k * entry w 1 k + entry d (n + 1) k * entry w 2 k
    + entry d n k * entry w 3 k

/-- The first `T` rows' part of the gradient with respect to tap `a`. -/
def dWto {N K M L : ℕ} (d : (⟨2, ![N, K]⟩ : Shape).Idx → EReal) (x : (⟨2, ![M, L]⟩ : Shape).Idx → EReal) (T a k : ℕ) : EReal :=
  ∑ n ∈ Finset.range T, entry d n k * late x (n + a) k

/-- One more block of `b` rows. -/
theorem dWto_add {N K M L : ℕ} (d : (⟨2, ![N, K]⟩ : Shape).Idx → EReal) (x : (⟨2, ![M, L]⟩ : Shape).Idx → EReal)
    (T b a k : ℕ) :
    dWto d x (T + b) a k = dWto d x T a k + ∑ r : Fin b, entry d (T + r.val) k * late x (T + r.val + a) k := by
  unfold dWto
  rw [Finset.sum_range_add, Finset.sum_range (fun r => entry d (T + r) k * late x (T + r + a) k)]

end Cert.Conv

end
-- ==== Proof.ConvKernel.lean ====
/-
  The convolution's backward kernel at the ideal values: after its 24 grid points the two result arrays hold
  `Conv.dX` and the whole sums `Conv.dWto … 2048` of the argument arrays.
-/
module

public import proofs.«01_k».proof.Proof.ConvPayload
public import proofs.«01_k».proof.Proof.ConvSpec

@[expose] public section

set_option maxRecDepth 16384

noncomputable section

namespace Cert.KernelIdeal.Conv

open Cert.KernelIdeal Cert.KernelIdeal.Gen Cert.Conv
open Idealize.ShloMosaic Idealize.ShloMosaic.TcCoe Idealize.SL.Sem
open Idealize.ShloMosaic.Pipeline (Dat)

variable (m : (ℓ : Loc nD τ sig) → Buf (Elt Ideal) ℓ) (c : Dev nD)

/-- The incoming gradient. -/
abbrev dIn : (⟨2, ![2048, 1536]⟩ : Shape).Idx → EReal := m ((c : Thread nD τ).loc main_arg0)
/-- The projection whose first 1536 columns were convolved. -/
abbrev xIn : (⟨2, ![2048, 3840]⟩ : Shape).Idx → EReal := m ((c : Thread nD τ).loc main_arg1)
/-- The taps. -/
abbrev wIn : (⟨2, ![4, 1536]⟩ : Shape).Idx → EReal := m ((c : Thread nD τ).loc main_arg2)

/-! ## The blocks the windows read -/

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = (if t.val % 8 = 7 then 255 else 32 * (t.val % 8) + 32) ∧ win0_1.index t 1 = t.val / 8 :=
  (by decide +kernel : ∀ t : Fin grid0.N, win0_1.index t 0 = (if t.val % 8 = 7 then 255 else 32 * (t.val % 8) + 32) ∧ win0_1.index t 1 = t.val / 8)
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem index3 : ∀ t : Fin cfg0.N, win0_3.index t 0 = 32 * (t.val % 8) - 1 ∧ win0_3.index t 1 = t.val / 8 :=
  (by decide +kernel : ∀ t : Fin grid0.N, win0_3.index t 0 = 32 * (t.val % 8) - 1 ∧ win0_3.index t 1 = t.val / 8)
theorem index4 : ∀ t : Fin cfg0.N, win0_4.index t 0 = 0 ∧ win0_4.index t 1 = t.val / 8 :=
  (by decide +kernel : ∀ t : Fin grid0.N, win0_4.index t 0 = 0 ∧ win0_4.index t 1 = t.val / 8)
theorem index5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)
theorem index6 : ∀ t : Fin cfg0.N, win0_6.index t 0 = 0 ∧ win0_6.index t 1 = t.val / 8 :=
  (by decide +kernel : ∀ t : Fin grid0.N, win0_6.index t 0 = 0 ∧ win0_6.index t 1 = t.val / 8)
theorem coord1 : ∀ t : Fin cfg0.N, (grid0.coords t 1).val = t.val % 8 :=
  (by decide +kernel : ∀ t : Fin grid0.N, (grid0.coords t 1).val = t.val % 8)
theorem lt24 (t : Fin cfg0.N) : t.val < 24 := lt_of_lt_of_eq t.isLt N_0

/-- A matrix read at an index whose coordinates are `n` and `k`. -/
theorem eq_entry {N K : ℕ} (x : (⟨2, ![N, K]⟩ : Shape).Idx → EReal) (i : (⟨2, ![N, K]⟩ : Shape).Idx) (n k : ℕ)
    (h0 : (i 0).val = n) (h1 : (i 1).val = k) : x i = entry x n k := by
  subst h0 h1
  rw [entry_of_lt x _ _ (i 0).isLt (i 1).isLt]
  exact congrArg x (funext fun a => by match a with | ⟨0, _⟩ => rfl | ⟨1, _⟩ => rfl)

theorem block0 (t : Fin cfg0.N) (r : Fin 256) (l : Fin 512) :
    (iblk m c 0 t : Vec Ideal S256x512 .f32) (ix2 r l) = entry (dIn m c) (256 * (t.val % 8) + r.val) (512 * (t.val / 8) + l.val) := by
  unfold iblk
  rw [View.read_apply]
  refine eq_entry (N := 2048) (K := 1536) (dIn m c) _ _ _ ?_ ?_
  · show win0_0.index t 0 * 256 + 1 * r.val = _; rw [(index0 t).1]; omega
  · show win0_0.index t 1 * 512 + 1 * l.val = _; rw [(index0 t).2]; omega

theorem block1 (t : Fin cfg0.N) (h : t.val % 8 ≠ 7) (r : Fin 8) (l : Fin 512) :
    (iblk m c 1 t : Vec Ideal S8x512 .f32) (ix2 r l) = entry (dIn m c) (256 * (t.val % 8) + 256 + r.val) (512 * (t.val / 8) + l.val) := by
  unfold iblk
  rw [View.read_apply]
  refine eq_entry (N := 2048) (K := 1536) (dIn m c) _ _ _ ?_ ?_
  · show win0_1.index t 0 * 8 + 1 * r.val = _; rw [(index1 t).1, if_neg h]; omega
  · show win0_1.index t 1 * 512 + 1 * l.val = _; rw [(index1 t).2]; omega

theorem block2 (t : Fin cfg0.N) (r : Fin 256) (l : Fin 512) :
    (X0_2 m c t : Vec Ideal S256x512 .f32) (ix2 r l) = entry (xIn m c) (256 * (t.val % 8) + r.val) (512 * (t.val / 8) + l.val) := by
  unfold X0_2 Pipeline.Window.fill
  rw [dif_pos (moved0_2 t _)]
  unfold iblk
  rw [View.read_apply]
  refine eq_entry (N := 2048) (K := 3840) (xIn m c) _ _ _ ?_ ?_
  · show win0_2.index t 0 * 256 + 1 * r.val = _; rw [(index2 t).1]; omega
  · show win0_2.index t 1 * 512 + 1 * l.val = _; rw [(index2 t).2]; omega

theorem block3 (t : Fin cfg0.N) (h : t.val % 8 ≠ 0) (r : Fin 8) (l : Fin 512) :
    (X0_3 m c t : Vec Ideal S8x512 .f32) (ix2 r l) = entry (xIn m c) (256 * (t.val % 8) + r.val - 8) (512 * (t.val / 8) + l.val) := by
  unfold X0_3 Pipeline.Window.fill
  rw [dif_pos (moved0_3 t _)]
  unfold iblk
  rw [View.read_apply]
  refine eq_entry (N := 2048) (K := 3840) (xIn m c) _ _ _ ?_ ?_
  · show win0_3.index t 0 * 8 + 1 * r.val = _; rw [(index3 t).1]; omega
  · show win0_3.index t 1 * 512 + 1 * l.val = _; rw [(index3 t).2]; omega

theorem block4 (t : Fin cfg0.N) (r : Fin 4) (l : Fin 512) :
    (iblk m c 4 t : Vec Ideal S4x512 .f32) (ix2 r l) = entry (wIn m c) r.val (512 * (t.val / 8) + l.val) := by
  unfold iblk
  rw [View.read_apply]
  refine eq_entry (N := 4) (K := 1536) (wIn m c) _ _ _ ?_ ?_
  · show win0_4.index t 0 * 4 + 1 * r.val = _; rw [(index4 t).1]; omega
  · show win0_4.index t 1 * 512 + 1 * l.val = _; rw [(index4 t).2]; omega

/-- A block of the incoming gradient with the rows below it: the array's own rows, zero past its end. -/
theorem below_eq (t : Fin cfg0.N) (n : ℕ) (hn : n < 264) (l : Fin 512) :
    below (iblk m c 0 t) ((grid0.coords t 1).val = 7) (iblk m c 1 t) n l
      = entry (dIn m c) (256 * (t.val % 8) + n) (512 * (t.val / 8) + l.val) := by
  unfold below
  by_cases h : n < 256
  · rw [dif_pos h]
    exact block0 m c t ⟨n, h⟩ l
  · rw [dif_neg h, coord1]
    by_cases h7 : t.val % 8 = 7
    · rw [if_pos h7]
      exact (entry_of_le (N := 2048) (K := 1536) _ _ _ (by omega)).symm
    · rw [if_neg h7, dif_pos (by omega)]
      exact (block1 m c t h7 ⟨n - 256, by omega⟩ l).trans (entry_congr _ (by show 256 * (t.val % 8) + 256 + (n - 256) = _; omega) rfl)

/-- A block of the projection with the rows above it: the array three rows late. -/
theorem above_eq (t : Fin cfg0.N) (n : ℕ) (h5 : 5 ≤ n) (hn : n < 264) (l : Fin 512) :
    above (X0_2 m c t) ((grid0.coords t 1).val = 0) (X0_3 m c t) n l
      = late (xIn m c) (256 * (t.val % 8) + n - 5) (512 * (t.val / 8) + l.val) := by
  unfold above late
  by_cases h : n < 8
  · rw [dif_pos h, coord1]
    by_cases h0 : t.val % 8 = 0
    · rw [if_pos h0, if_neg (by omega)]
    · rw [if_neg h0, if_pos (by omega)]
      exact (block3 m c t h0 ⟨n, h⟩ l).trans (entry_congr _ (by show 256 * (t.val % 8) + n - 8 = _; omega) rfl)
  · rw [dif_neg h, dif_pos (by omega), if_pos (by omega)]
    exact (block2 m c t ⟨n - 8, by omega⟩ l).trans (entry_congr _ (by show 256 * (t.val % 8) + (n - 8) = _; omega) rfl)

/-! ## The two blocks after a point -/

/-- One point's contribution to the tap gradient. -/
theorem step_eq (t : Fin cfg0.N) (acc : Vec Ideal S4x512 .f32) (L : List (View.Piece (Elt Ideal) S4x512 .f32)) (a : Fin 4) (l : Fin 512) (s : EReal)
    (hs : acc (ix2 a l) = s) :
    dwBlock (grid0.coords t) (iblk m c 0 t) (X0_2 m c t) (X0_3 m c t) acc L (ix2 a l)
      = (s + ∑ r : Fin 256, entry (dIn m c) (256 * (t.val % 8) + r.val) (512 * (t.val / 8) + l.val)
          * late (xIn m c) (256 * (t.val % 8) + r.val + a.val) (512 * (t.val / 8) + l.val) : EReal) := by
  rw [dwBlock_apply, hs]
  refine congrArg (s + ·) (Finset.sum_congr rfl fun r _ => congrArg₂ (· * ·) (block0 m c t r l) ?_)
  have hr := r.isLt
  have ha := a.isLt
  exact (above_eq m c t (r.val + 5 + a.val) (by omega) (by omega) l).trans (congrArg (late _ · _) (by omega))

/-- The tap gradient's block after a point that opens a column: the step from zeros. -/
theorem dw_A (t : Fin cfg0.N) (h0 : t.val % 8 = 0) : (outsAt0 m c t.val t.isLt).2
    = dwBlock (grid0.coords t) (iblk m c 0 t) (X0_2 m c t) (X0_3 m c t) (k0_pay5 (F := Ideal))
        [⟨Rect.unit ![0, 0] ![4, 512] inb_S4x512_S4x512_0_0, k0_pay5 (F := Ideal)⟩] := by
  rw [outsAt0_A m c t h0, out_A6]

/-- The tap gradient's block after any other point: the step from what the point before left. -/
theorem dw_B (t : Fin cfg0.N) (h0 : ¬t.val % 8 = 0) : (outsAt0 m c t.val t.isLt).2
    = dwBlock (grid0.coords t) (iblk m c 0 t) (X0_2 m c t) (X0_3 m c t)
        (outsAt0 m c (t.val - 1) (Nat.lt_of_le_of_lt (Nat.sub_le _ _) t.isLt)).2 [] := by
  rw [outsAt0_B m c t h0, out_B6]

/-- The tap gradient's block after point `n`: the sum over the column's rows read so far. -/
theorem dw_after (a : Fin 4) (l : Fin 512) : ∀ (n : ℕ) (h : n < cfg0.N),
    ((outsAt0 m c n h).2 (ix2 a l) : EReal) = dWto (dIn m c) (xIn m c) (256 * (n % 8) + 256) a.val (512 * (n / 8) + l.val) := by
  intro n
  induction n with
  | zero =>
    intro h
    have e := dw_A m c ⟨0, h⟩ rfl
    refine (congrFun e (ix2 a l)).trans ?_
    refine (step_eq m c ⟨0, h⟩ _ _ a l 0 (pay5_apply _)).trans ?_
    refine Eq.trans ?_ (dWto_add _ _ _ _ _ _).symm
    refine congrArg (· + _) ?_
    rfl
  | succ n ih =>
    intro h
    by_cases h0 : (n + 1) % 8 = 0
    · have e := dw_A m c ⟨n + 1, h⟩ h0
      refine (congrFun e (ix2 a l)).trans ?_
      refine (step_eq m c ⟨n + 1, h⟩ _ _ a l 0 (pay5_apply _)).trans ?_
      refine Eq.trans ?_ (dWto_add _ _ _ _ _ _).symm
      refine congrArg (· + _) ?_
      rw [h0]
      rfl
    · have e := dw_B m c ⟨n + 1, h⟩ h0
      refine (congrFun e (ix2 a l)).trans ?_
      refine (step_eq m c ⟨n + 1, h⟩ _ _ a l _ (ih (Nat.lt_of_succ_lt h))).trans ?_
      refine Eq.trans ?_ (dWto_add _ _ _ _ _ _).symm
      refine congrArg (· + _) ?_
      rw [show 256 * (n % 8) + 256 = 256 * ((n + 1) % 8) by omega, show n / 8 = (n + 1) / 8 by omega]

/-- The input gradient's block after point `t`. -/
theorem dx_after (t : Fin cfg0.N) (r : Fin 256) (l : Fin 512) :
    ((outsAt0 m c t.val t.isLt).1 (ix2 r l) : EReal)
      = dX (dIn m c) (wIn m c) (256 * (t.val % 8) + r.val) (512 * (t.val / 8) + l.val) := by
  have key : (outsAt0 m c t.val t.isLt).1 = k0_pay2 (grid0.coords t) (iblk m c 1 t) (iblk m c 0 t) (iblk m c 4 t) := by
    by_cases h0 : t.val % 8 = 0
    · rw [outsAt0_A m c t h0, out_A5]
    · rw [outsAt0_B m c t h0, out_B5]
  have hr := r.isLt
  rw [key, pay2_apply]
  unfold dX
  refine congrArg₂ (· + ·) (congrArg₂ (· + ·) (congrArg₂ (· + ·) ?_ ?_) ?_) ?_
  · exact congrArg₂ (· * ·) (below_eq m c t (r.val + 3) (by omega) l) (block4 m c t 0 l)
  · exact congrArg₂ (· * ·) (below_eq m c t (r.val + 2) (by omega) l) (block4 m c t 1 l)
  · exact congrArg₂ (· * ·) (below_eq m c t (r.val + 1) (by omega) l) (block4 m c t 2 l)
  · exact congrArg₂ (· * ·) (below_eq m c t r.val (by omega) l) (block4 m c t 3 l)

/-! ## The arrays after the run -/

/-- The input gradient, as the result array's contents. -/
def dxOut : S2048x1536.Idx → EReal := fun i => dX (dIn m c) (wIn m c) (i 0).val (i 1).val
/-- The tap gradient, as the result array's contents. -/
def dwOut : S4x1536.Idx → EReal := fun i => dWto (dIn m c) (xIn m c) 2048 (i 0).val (i 1).val

theorem final_dx : (dats m 0 c).arrAt 5 cfg0.N = dxOut m c := by
  refine (dats m 0 c).arrAt_eq_of_cover 5 (dxOut m c) (fun t _ => ?_) fun i => ?_
  · rw [Value.flushed5]
    funext j
    rw [View.read_apply]
    have hj : j = ix2 (j 0) (j 1) := funext fun a => by match a with | ⟨0, _⟩ => rfl | ⟨1, _⟩ => rfl
    have e := dx_after m c t (j 0) (j 1)
    refine (congrArg (outsAt0 m c t.val t.isLt).1 (?_ : _ = ix2 (j 0) (j 1))).trans (e.trans ?_)
    · funext a; match a with | ⟨0, _⟩ => rfl | ⟨1, _⟩ => rfl
    · refine congrArg₂ (dX (dIn m c) (wIn m c)) ?_ ?_
      · show _ = win0_5.index t 0 * 256 + 1 * (j 0).val; rw [(index5 t).1]; omega
      · show _ = win0_5.index t 1 * 512 + 1 * (j 1).val; rw [(index5 t).2]; omega
  · have h0 : (i 0 : ℕ) < 2048 := (i 0).isLt
    have h1 : (i 1 : ℕ) < 1536 := (i 1).isLt
    refine ⟨⟨8 * ((i 1 : ℕ) / 512) + (i 0 : ℕ) / 256, by rw [show cfg0.N = 24 from N_0]; omega⟩, flush0_5 _, ?_⟩
    generalize ht : (⟨8 * ((i 1 : ℕ) / 512) + (i 0 : ℕ) / 256, _⟩ : Fin cfg0.N) = t
    have hv : t.val = 8 * ((i 1 : ℕ) / 512) + (i 0 : ℕ) / 256 := by rw [← ht]
    show i ∈ ((View.whole main_v0_0).slice (win0_5.rect t)).set
    rw [View.set_slice_whole, Rect.mem_set_unit]
    intro a
    match a with
    | ⟨0, _⟩ => show win0_5.index t 0 * 256 ≤ (i 0 : ℕ) ∧ (i 0 : ℕ) < win0_5.index t 0 * 256 + 256
                rw [(index5 t).1]; omega
    | ⟨1, _⟩ => show win0_5.index t 1 * 512 ≤ (i 1 : ℕ) ∧ (i 1 : ℕ) < win0_5.index t 1 * 512 + 512
                rw [(index5 t).2]; omega

theorem final_dw : (dats m 0 c).arrAt 6 cfg0.N = dwOut m c := by
  refine (dats m 0 c).arrAt_eq_of_cover 6 (dwOut m c) (fun t hf => ?_) fun i => ?_
  · have h7 := (flush0_6 t).mp hf
    rw [Value.flushed6]
    funext j
    rw [View.read_apply]
    have e := dw_after m c (j 0) (j 1) t.val t.isLt
    refine (congrArg (outsAt0 m c t.val t.isLt).2 (?_ : _ = ix2 (j 0) (j 1))).trans (e.trans ?_)
    · funext a; match a with | ⟨0, _⟩ => rfl | ⟨1, _⟩ => rfl
    · rw [h7]
      refine congrArg₂ (dWto (dIn m c) (xIn m c) 2048) ?_ ?_
      · show _ = win0_6.index t 0 * 4 + 1 * (j 0).val; rw [(index6 t).1]; omega
      · show _ = win0_6.index t 1 * 512 + 1 * (j 1).val; rw [(index6 t).2]; omega
  · have h0 : (i 0 : ℕ) < 4 := (i 0).isLt
    have h1 : (i 1 : ℕ) < 1536 := (i 1).isLt
    refine ⟨⟨8 * ((i 1 : ℕ) / 512) + 7, by rw [show cfg0.N = 24 from N_0]; omega⟩, (flush0_6 _).mpr (by dsimp only; omega), ?_⟩
    generalize ht : (⟨8 * ((i 1 : ℕ) / 512) + 7, _⟩ : Fin cfg0.N) = t
    have hv : t.val = 8 * ((i 1 : ℕ) / 512) + 7 := by rw [← ht]
    show i ∈ ((View.whole main_v0_1).slice (win0_6.rect t)).set
    rw [View.set_slice_whole, Rect.mem_set_unit]
    intro a
    match a with
    | ⟨0, _⟩ => show win0_6.index t 0 * 4 ≤ (i 0 : ℕ) ∧ (i 0 : ℕ) < win0_6.index t 0 * 4 + 4
                rw [(index6 t).1]; omega
    | ⟨1, _⟩ => show win0_6.index t 1 * 512 ≤ (i 1 : ℕ) ∧ (i 1 : ℕ) < win0_6.index t 1 * 512 + 512
                rw [(index6 t).2]; omega

end Cert.KernelIdeal.Conv

end
-- ==== Proof.ConvReference.lean ====
/-
  The reference's two results, entry by entry: the input gradient is `Conv.dX` and the tap gradient is the whole sum
  `Conv.dWto … 2048`.
-/
module

public import proofs.«01_k».proof.Proof.Gen.ReferenceIdeal.Read
public import proofs.«01_k».proof.Proof.ConvSpec
public import Idealize.ShloMosaic.Lib.Pointwise
public import Idealize.ShloMosaic.Lib.KernelVsHost

@[expose] public section

set_option maxRecDepth 16384

noncomputable section

namespace Cert.ReferenceIdeal.Conv

open Cert.ReferenceIdeal Cert.ReferenceIdeal.Gen Cert.ReferenceIdeal.Read Cert.Conv
open Idealize.ShloMosaic Idealize.ShloMosaic.TcCoe Idealize.SL.Sem

variable (x0 : (⟨S2048x1536, .f32⟩ : BufTy).Contents (Elt Ideal)) (x1 : (⟨S2048x3840, .f32⟩ : BufTy).Contents (Elt Ideal))
  (x2 : (⟨S4x1536, .f32⟩ : BufTy).Contents (Elt Ideal))

/-- The reference's input gradient. -/
theorem dx_apply (r : Fin 2048) (l : Fin 1536) :
    val_main_v77 (F := Ideal) x0 x2 (ix2 r l) = (dX (N := 2048) (K := 1536) x0 x2 r.val l.val : EReal) := by
  have hl := l.isLt
  have hr := r.isLt
  pointwise [val_main_cst, val_main_cst_0, val_main_cst_1, val_main_cst_10, val_main_cst_11, val_main_cst_12, val_main_cst_13, val_main_cst_14, val_main_cst_15, val_main_cst_16, val_main_cst_2, val_main_cst_3, val_main_cst_4, val_main_cst_5, val_main_cst_6, val_main_cst_7, val_main_cst_8, val_main_cst_9, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v40, val_main_v41, val_main_v42, val_main_v43, val_main_v44, val_main_v45, val_main_v46, val_main_v47, val_main_v48, val_main_v49, val_main_v5, val_main_v50, val_main_v51, val_main_v52, val_main_v53, val_main_v54, val_main_v55, val_main_v56, val_main_v57, val_main_v58, val_main_v59, val_main_v6, val_main_v60, val_main_v61, val_main_v62, val_main_v63, val_main_v64, val_main_v65, val_main_v66, val_main_v67, val_main_v68, val_main_v69, val_main_v7, val_main_v70, val_main_v71, val_main_v72, val_main_v73, val_main_v74, val_main_v75, val_main_v76, val_main_v77, val_main_v8, val_main_v9]
  unfold dX
  rw [entry_of_lt (N := 4) (K := 1536) x2 0 l.val (by omega) hl, entry_of_lt (N := 4) (K := 1536) x2 1 l.val (by omega) hl,
    entry_of_lt (N := 4) (K := 1536) x2 2 l.val (by omega) hl, entry_of_lt (N := 4) (K := 1536) x2 3 l.val (by omega) hl,
    entry_of_lt (N := 2048) (K := 1536) x0 r.val l.val hr hl]
  have hz : ∀ (n : ℕ) (w : EReal), (if h : n < 2048 then x0 (ix2 ⟨n, h⟩ l) * w else (0 : EReal))
      = entry (N := 2048) (K := 1536) x0 n l.val * w := by
    intro n w
    by_cases h : n < 2048
    · rw [dif_pos h, entry_of_lt (N := 2048) (K := 1536) x0 n l.val h hl]
    · rw [dif_neg h, entry_of_le (N := 2048) (K := 1536) x0 n l.val (by omega), zero_mul]
  rw [← hz (r.val + 3), ← hz (r.val + 2), ← hz (r.val + 1)]
  have e3 : 3 + r.val = r.val + 3 := by omega
  have e2 : 3 + r.val - 2 = r.val + 1 := by omega
  have e1 : 3 + r.val - 1 = r.val + 2 := by omega
  have f2 : r.val + 3 - 2 = r.val + 1 := by omega
  have f1 : r.val + 3 - 1 = r.val + 2 := by omega
  simp only [e3, f2, f1, show (2 ≤ r.val + 3) = True from eq_true (by omega), show (1 ≤ r.val + 3) = True from eq_true (by omega), true_and]
  exact (by intros; abel : ∀ A B C D : EReal, D + C + B + A = A + B + C + D) _ _ _ _

/-- The reference's tap gradient. -/
theorem dw_apply (a : Fin 4) (l : Fin 1536) :
    val_main_v72 (F := Ideal) x0 x1 (ix2 a l)
      = (dWto (N := 2048) (K := 1536) (M := 2048) (L := 3840) x0 x1 2048 a.val l.val : EReal) := by
  have hl := l.isLt
  unfold dWto
  rw [Finset.sum_range (fun n => entry (N := 2048) (K := 1536) x0 n l.val * late (N := 2048) (K := 3840) x1 (n + a.val) l.val)]
  have hd : ∀ n : Fin 2048, entry (N := 2048) (K := 1536) x0 n.val l.val = x0 (ix2 n l) := fun n =>
    entry_of_lt (N := 2048) (K := 1536) x0 n.val l.val n.isLt hl
  have hx : ∀ (n : ℕ) (h : n < 2048), x1 (ix2 ⟨n, h⟩ ⟨l.val, by omega⟩) = entry (N := 2048) (K := 3840) x1 n l.val := fun n h =>
    (entry_of_lt (N := 2048) (K := 3840) x1 n l.val h (by omega)).symm
  match a with
  | ⟨3, _⟩ =>
    pointwise [val_main_cst, val_main_cst_0, val_main_cst_1, val_main_cst_10, val_main_cst_11, val_main_cst_12, val_main_cst_13, val_main_cst_14, val_main_cst_15, val_main_cst_16, val_main_cst_2, val_main_cst_3, val_main_cst_4, val_main_cst_5, val_main_cst_6, val_main_cst_7, val_main_cst_8, val_main_cst_9, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v40, val_main_v41, val_main_v42, val_main_v43, val_main_v44, val_main_v45, val_main_v46, val_main_v47, val_main_v48, val_main_v49, val_main_v5, val_main_v50, val_main_v51, val_main_v52, val_main_v53, val_main_v54, val_main_v55, val_main_v56, val_main_v57, val_main_v58, val_main_v59, val_main_v6, val_main_v60, val_main_v61, val_main_v62, val_main_v63, val_main_v64, val_main_v65, val_main_v66, val_main_v67, val_main_v68, val_main_v69, val_main_v7, val_main_v70, val_main_v71, val_main_v72, val_main_v73, val_main_v74, val_main_v75, val_main_v76, val_main_v77, val_main_v8, val_main_v9]
    rw [Fin.sum_univ_one]
    refine Finset.sum_congr rfl fun n _ => ?_
    have hn := n.isLt
    rw [hd, mul_comm]
    refine congrArg _ ?_
    unfold late
    rw [if_pos (by omega)]
    exact hx n.val n.isLt
  | ⟨2, _⟩ =>
    pointwise [val_main_cst, val_main_cst_0, val_main_cst_1, val_main_cst_10, val_main_cst_11, val_main_cst_12, val_main_cst_13, val_main_cst_14, val_main_cst_15, val_main_cst_16, val_main_cst_2, val_main_cst_3, val_main_cst_4, val_main_cst_5, val_main_cst_6, val_main_cst_7, val_main_cst_8, val_main_cst_9, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v40, val_main_v41, val_main_v42, val_main_v43, val_main_v44, val_main_v45, val_main_v46, val_main_v47, val_main_v48, val_main_v49, val_main_v5, val_main_v50, val_main_v51, val_main_v52, val_main_v53, val_main_v54, val_main_v55, val_main_v56, val_main_v57, val_main_v58, val_main_v59, val_main_v6, val_main_v60, val_main_v61, val_main_v62, val_main_v63, val_main_v64, val_main_v65, val_main_v66, val_main_v67, val_main_v68, val_main_v69, val_main_v7, val_main_v70, val_main_v71, val_main_v72, val_main_v73, val_main_v74, val_main_v75, val_main_v76, val_main_v77, val_main_v8, val_main_v9]
    rw [Fin.sum_univ_one]
    refine Finset.sum_congr rfl fun n _ => ?_
    have hn := n.isLt
    rw [hd, mul_comm]
    refine congrArg _ ?_
    unfold late
    by_cases h : 2 + n.val < 3
    · rw [dif_pos h, if_neg (by omega)]
    · rw [dif_neg h]
      exact ((hx _ _).trans (entry_congr _ (by omega) rfl)).trans (if_pos (by omega)).symm
  | ⟨1, _⟩ =>
    pointwise [val_main_cst, val_main_cst_0, val_main_cst_1, val_main_cst_10, val_main_cst_11, val_main_cst_12, val_main_cst_13, val_main_cst_14, val_main_cst_15, val_main_cst_16, val_main_cst_2, val_main_cst_3, val_main_cst_4, val_main_cst_5, val_main_cst_6, val_main_cst_7, val_main_cst_8, val_main_cst_9, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v40, val_main_v41, val_main_v42, val_main_v43, val_main_v44, val_main_v45, val_main_v46, val_main_v47, val_main_v48, val_main_v49, val_main_v5, val_main_v50, val_main_v51, val_main_v52, val_main_v53, val_main_v54, val_main_v55, val_main_v56, val_main_v57, val_main_v58, val_main_v59, val_main_v6, val_main_v60, val_main_v61, val_main_v62, val_main_v63, val_main_v64, val_main_v65, val_main_v66, val_main_v67, val_main_v68, val_main_v69, val_main_v7, val_main_v70, val_main_v71, val_main_v72, val_main_v73, val_main_v74, val_main_v75, val_main_v76, val_main_v77, val_main_v8, val_main_v9]
    rw [Fin.sum_univ_one]
    refine Finset.sum_congr rfl fun n _ => ?_
    have hn := n.isLt
    rw [hd, mul_comm]
    refine congrArg _ ?_
    unfold late
    by_cases h : 1 + n.val < 3
    · rw [dif_pos h, if_neg (by omega)]
    · rw [dif_neg h]
      exact ((hx _ _).trans (entry_congr _ (by omega) rfl)).trans (if_pos (by omega)).symm
  | ⟨0, _⟩ =>
    pointwise [val_main_cst, val_main_cst_0, val_main_cst_1, val_main_cst_10, val_main_cst_11, val_main_cst_12, val_main_cst_13, val_main_cst_14, val_main_cst_15, val_main_cst_16, val_main_cst_2, val_main_cst_3, val_main_cst_4, val_main_cst_5, val_main_cst_6, val_main_cst_7, val_main_cst_8, val_main_cst_9, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v40, val_main_v41, val_main_v42, val_main_v43, val_main_v44, val_main_v45, val_main_v46, val_main_v47, val_main_v48, val_main_v49, val_main_v5, val_main_v50, val_main_v51, val_main_v52, val_main_v53, val_main_v54, val_main_v55, val_main_v56, val_main_v57, val_main_v58, val_main_v59, val_main_v6, val_main_v60, val_main_v61, val_main_v62, val_main_v63, val_main_v64, val_main_v65, val_main_v66, val_main_v67, val_main_v68, val_main_v69, val_main_v7, val_main_v70, val_main_v71, val_main_v72, val_main_v73, val_main_v74, val_main_v75, val_main_v76, val_main_v77, val_main_v8, val_main_v9]
    refine (Fin.sum_univ_one (fun _ => _)).trans ?_
    refine Eq.trans ?_ (Fin.sum_univ_add (a := 3) (b := 2045) (fun n => entry (N := 2048) (K := 1536) x0 n.val l.val
      * late (N := 2048) (K := 3840) x1 (n.val + 0) l.val)).symm
    refine congrArg₂ (· + ·) (Finset.sum_congr rfl fun n _ => ?_) (Finset.sum_congr rfl fun n _ => ?_)
    · have hn := n.isLt
      unfold late
      rw [if_neg (by show ¬3 ≤ n.val + 0; omega), zero_mul, mul_zero]
    · have hn := n.isLt
      rw [mul_comm]
      refine congrArg₂ (· * ·) (hd ⟨3 + n.val, by omega⟩).symm ?_
      exact ((hx n.val (by omega)).trans (entry_congr _ (by show n.val = 3 + n.val + 0 - 3; omega) rfl)).trans
        (if_pos (by show 3 ≤ 3 + n.val + 0; omega)).symm

end Cert.ReferenceIdeal.Conv

end
-- ==== Proof.ConvAlgebraic.lean ====
/- The value claim of the convolution gradient: over the extended reals the kernel's two arrays and the
   reference's two arrays are the same two closed forms of the arguments. -/
module

public import proofs.«01_k».proof.Defs
public import proofs.«01_k».proof.Proof.ConvKernel
public import proofs.«01_k».proof.Proof.ConvReference

@[expose] public section

noncomputable section

namespace Cert.Proof

open Idealize.ShloMosaic Idealize.ShloMosaic.TcCoe Idealize.SL.Sem

/-- The reference's input gradient is the closed form of the same cotangent and taps. -/
theorem conv_dx (m : (ℓ : Loc Cert.KernelIdeal.nD Cert.KernelIdeal.τ Cert.KernelIdeal.sig) → Buf (Elt Ideal) ℓ) (c : Dev Cert.KernelIdeal.nD) :
    Cert.ReferenceIdeal.Read.val_main_v77 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
      = Cert.KernelIdeal.Conv.dxOut m c := by
  funext i
  obtain ⟨r, l, rfl⟩ : ∃ (r : Fin 2048) (l : Fin 1536), i = ix2 r l := ⟨i 0, i 1, eq_ix2 i⟩
  exact Cert.ReferenceIdeal.Conv.dx_apply _ _ r l

/-- The reference's tap gradient is the closed form of the same cotangent and input. -/
theorem conv_dw (m : (ℓ : Loc Cert.KernelIdeal.nD Cert.KernelIdeal.τ Cert.KernelIdeal.sig) → Buf (Elt Ideal) ℓ) (c : Dev Cert.KernelIdeal.nD) :
    Cert.ReferenceIdeal.Read.val_main_v72 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Conv.dwOut m c := by
  funext i
  obtain ⟨a, l, rfl⟩ : ∃ (a : Fin 4) (l : Fin 1536), i = ix2 a l := ⟨i 0, i 1, eq_ix2 i⟩
  exact Cert.ReferenceIdeal.Conv.dw_apply _ _ a l

/-- The reference runs, leaves its three arguments unchanged and, declaring no semaphore, ends with every counter at zero. -/
theorem conv_reference_frame : Cert.quiescent_ReferenceIdeal := by
  intro m g _
  exact (θ_run Cert.ReferenceIdeal.defs _ _).mono
    (fun r h => ⟨fun c => (h c).2.2, sem_eq_zero_of_no_sems (by decide) r.2⟩) (Cert.ReferenceIdeal.Value.run (F := Ideal) m g)

/-- The convolution gradient and its reference compute the same two arrays over the extended reals. -/
theorem conv_algebraic : Cert.algebraic_KernelIdeal_ReferenceIdeal := by
  intro m g m' g' _ hargs
  refine ⟨fun c => Cert.KernelIdeal.Conv.dxOut m c, fun c => Cert.KernelIdeal.Conv.dwOut m c, ?_, ?_⟩
  · refine (θ_run Cert.KernelIdeal.defs _ _).mono (fun r h c => ?_) (Cert.KernelIdeal.Value.run_blocks (F := Ideal) m g)
    obtain ⟨h5, h6, ha, hb, hw⟩ := h c
    exact ⟨h5.trans (Cert.KernelIdeal.Conv.final_dx m c), h6.trans (Cert.KernelIdeal.Conv.final_dw m c), ha, hb, hw⟩
  · refine (θ_run Cert.ReferenceIdeal.defs _ _).mono (fun r h c => ?_) (Cert.ReferenceIdeal.Value.run (F := Ideal) m' g')
    obtain ⟨h77, h72, ha, hb, hw⟩ := h c
    obtain ⟨e0, e1, e2⟩ := hargs c
    refine ⟨?_, ?_, ha, hb, hw⟩
    · rw [h77, Cert.ReferenceIdeal.Read.val_main_v77_eq, e0, e2]
      exact conv_dx m c
    · rw [h72, Cert.ReferenceIdeal.Read.val_main_v72_eq, e0, e1]
      exact conv_dw m c

end Cert.Proof

end
-- ==== Proof.ProductSpec.lean ====
/-
  The three products of the training step, as plain sums over the extended reals: rows by columns, columns by columns
  (the gradient of a weight) and rows by rows (the gradient of an input). The certificate's products are compared
  through these functions.
-/
module

public import proofs.«01_k».proof.Proof.ConvSpec

@[expose] public section

noncomputable section

namespace Cert.Product

open Idealize.ShloMosaic Cert.Conv

/-- A matrix read at an index whose coordinates are `n` and `k`. -/
theorem eq_entry {N K : ℕ} (x : (⟨2, ![N, K]⟩ : Shape).Idx → EReal) (i : (⟨2, ![N, K]⟩ : Shape).Idx) (n k : ℕ)
    (h0 : (i 0).val = n) (h1 : (i 1).val = k) : x i = entry x n k := by
  subst h0 h1
  rw [entry_of_lt x _ _ (i 0).isLt (i 1).isLt]
  exact congrArg x (funext fun a => by match a with | ⟨0, _⟩ => rfl | ⟨1, _⟩ => rfl)

/-- Entry `(r, l)` of `a · b`. -/
def nn (K : ℕ) {A B C D : ℕ} (a : (⟨2, ![A, B]⟩ : Shape).Idx → EReal) (b : (⟨2, ![C, D]⟩ : Shape).Idx → EReal) (r l : ℕ) : EReal :=
  ∑ k : Fin K, entry a r k.val * entry b k.val l
/-- Entry `(r, l)` of `aᵀ · b`. -/
def tn (K : ℕ) {A B C D : ℕ} (a : (⟨2, ![A, B]⟩ : Shape).Idx → EReal) (b : (⟨2, ![C, D]⟩ : Shape).Idx → EReal) (r l : ℕ) : EReal :=
  ∑ k : Fin K, entry a k.val r * entry b k.val l
/-- Entry `(r, l)` of `a · bᵀ`. -/
def nt (K : ℕ) {A B C D : ℕ} (a : (⟨2, ![A, B]⟩ : Shape).Idx → EReal) (b : (⟨2, ![C, D]⟩ : Shape).Idx → EReal) (r l : ℕ) : EReal :=
  ∑ k : Fin K, entry a r k.val * entry b l k.val

/-- Entry `(a, n, k)` of a stack of matrices; zero outside of it. -/
def entry3 {A N K : ℕ} (x : (⟨3, ![A, N, K]⟩ : Shape).Idx → EReal) (a n k : ℕ) : EReal :=
  if h : a < A ∧ n < N ∧ k < K then x (ix3 ⟨a, h.1⟩ ⟨n, h.2.1⟩ ⟨k, h.2.2⟩) else 0

/-- Inside the stack, `entry3` is the stack. -/
theorem entry3_of_lt {A N K : ℕ} (x : (⟨3, ![A, N, K]⟩ : Shape).Idx → EReal) (a n k : ℕ) (ha : a < A) (hn : n < N) (hk : k < K) :
    entry3 x a n k = x (ix3 ⟨a, ha⟩ ⟨n, hn⟩ ⟨k, hk⟩) := dif_pos ⟨ha, hn, hk⟩

/-- A stack read at an index whose coordinates are `a`, `n` and `k`. -/
theorem eq_entry3 {A N K : ℕ} (x : (⟨3, ![A, N, K]⟩ : Shape).Idx → EReal) (i : (⟨3, ![A, N, K]⟩ : Shape).Idx) (a n k : ℕ)
    (h0 : (i 0).val = a) (h1 : (i 1).val = n) (h2 : (i 2).val = k) : x i = entry3 x a n k := by
  subst h0 h1 h2
  rw [entry3_of_lt x _ _ _ (i 0).isLt (i 1).isLt (i 2).isLt]
  exact congrArg x (funext fun a => by match a with | ⟨0, _⟩ => rfl | ⟨1, _⟩ => rfl | ⟨2, _⟩ => rfl)

/-- Equal coordinates give equal entries. -/
theorem entry3_congr {A N K : ℕ} (x : (⟨3, ![A, N, K]⟩ : Shape).Idx → EReal) {a a' n n' k k' : ℕ} (ha : a = a') (hn : n = n')
    (hk : k = k') : entry3 x a n k = entry3 x a' n' k' := by rw [ha, hn, hk]

end Cert.Product

end
-- ==== Proof.NormSpec.lean ====
/-
  The gradient of the root mean square norm, one row of 1024 values at a time. The kernels form it as
  `rs · (g − x̂ · mean (g · x̂))` with `x̂ = x · rs`; differentiating the norm's plain text gives
  `g · rs + 2 · x · (∑ x · g · (−rs / (2 · ms))) / 1024`. The two are the same extended real whatever the arguments: in a
  row of real numbers the factors moved through the sums are real and of one sign, and in a row with an infinity the
  factor `rs` is zero on both sides.
-/
module

public import proofs.«01_k».proof.Proof.ProductSpec
public import Idealize.ShloMosaic.Lib.KernelVsHost

@[expose] public section

noncomputable section

namespace Cert.Norm

open Idealize.ShloMosaic Cert.Conv Cert.Product

/-! ## Finite extended reals -/

/-- The value is a real number. -/
def IsReal (e : EReal) : Prop := ∃ r : ℝ, e = (r : EReal)

/-- A finite sum of real numbers, as the extended real of the sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-! ## The norm of a row -/

/-- The mean of the squares plus the small constant. -/
def ms (X : Fin 1024 → EReal) : EReal :=
  Ideal.div (∑ k : Fin 1024, (X k * X k : EReal)) (Ideal.ofBits FTy.f32 1149239296#32) + Ideal.ofBits FTy.f32 897988541#32
/-- One over its root. -/
def rs (X : Fin 1024 → EReal) : EReal := Ideal.rsqrt (ms X)

/-- The kernels' input gradient: row `X`, incoming row `D`, weights `W`, and what is added to it. -/
def dxK (X D W : Fin 1024 → EReal) (R : EReal) (l : Fin 1024) : EReal :=
  R + rs X * (D l * W l - X l * rs X * Ideal.div (∑ k : Fin 1024, (D k * W k * (X k * rs X) : EReal)) (Ideal.ofBits FTy.f32 1149239296#32))

/-- The weight of each entry in the derivative of the mean of squares. -/
def half (X D W : Fin 1024 → EReal) : EReal :=
  ∑ _x : Fin 1, Ideal.div ((∑ k : Fin 1024, (X k * (D k * W k) : EReal)) * (Ideal.ofBits FTy.f32 3204448256#32 * Ideal.div (rs X) (ms X)))
      (Ideal.ofBits FTy.f32 1149239296#32)

/-- The plain text's input gradient. -/
def dxR (X D W : Fin 1024 → EReal) (R : EReal) (l : Fin 1024) : EReal :=
  R + D l * W l * rs X + X l * half X D W + half X D W * X l

theorem c1024 : Ideal.ofBits FTy.f32 1149239296#32 = ((1024 : ℝ) : EReal) := by
  simp [Ideal.ofBits, Ideal.ieee, -EReal.coe_mul, -EReal.coe_neg]; norm_num
theorem cNegHalf : Ideal.ofBits FTy.f32 3204448256#32 = ((-(1 / 2) : ℝ) : EReal) := by
  simp [Ideal.ofBits, Ideal.ieee, -EReal.coe_mul, -EReal.coe_neg]; norm_num
theorem cEps : ∃ e : ℝ, 0 < e ∧ Ideal.ofBits FTy.f32 897988541#32 = (e : EReal) := by
  refine ⟨8796093 * 2 ^ (-43 : ℤ), by positivity, ?_⟩
  simp [Ideal.ofBits, Ideal.ieee]

/-- A quotient of real numbers. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe (a : ℝ) (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (by linarith), if_neg (by linarith)]

/-- A quotient by 1024 is a product. -/
theorem div_1024 (a : EReal) : Ideal.div a (Ideal.ofBits FTy.f32 1149239296#32) = a * ((1 / 1024 : ℝ) : EReal) := by
  rw [c1024]
  unfold Ideal.div
  rw [if_neg (by exact_mod_cast (by norm_num : (1024 : ℝ) ≠ 0)), ← EReal.coe_inv]
  norm_num

/-- A real factor that is not negative moves out of a sum. -/
theorem sum_mul {ι : Type} (s : Finset ι) (f : ι → EReal) (p : ℝ) (hp : 0 ≤ p) : (∑ k ∈ s, f k * (p : EReal)) = (∑ k ∈ s, f k) * (p : EReal) := by
  classical
  induction s using Finset.induction_on with
  | empty => simp
  | insert a s ha ih =>
    rw [Finset.sum_insert ha, Finset.sum_insert ha, ih]
    exact (EReal.right_distrib_of_nonneg_of_ne_top (by exact_mod_cast hp) (EReal.coe_ne_top _) _ _).symm

/-- A value added to itself is twice the value. -/
theorem add_same (w : EReal) : w + w = w * ((2 : ℝ) : EReal) := by
  induction w using EReal.rec with
  | bot => rw [EReal.bot_mul_coe_of_pos (by norm_num)]; rfl
  | coe r => rw [← EReal.coe_add, ← EReal.coe_mul]; congr 1; ring
  | top => rw [EReal.top_mul_coe_of_pos (by norm_num)]; rfl

/-- A square is not negative. -/
theorem sq_nonneg' (a : EReal) : 0 ≤ a * a := by
  induction a using EReal.rec with
  | bot => rw [EReal.bot_mul_bot]; exact le_top
  | coe r => rw [← EReal.coe_mul]; exact_mod_cast mul_self_nonneg r
  | top => rw [EReal.top_mul_top]; exact le_top

/-- The square of an infinity. -/
theorem sq_top (a : EReal) (h : ¬IsReal a) : a * a = ⊤ := by
  induction a using EReal.rec with
  | bot => exact EReal.bot_mul_bot
  | coe r => exact absurd ⟨r, rfl⟩ h
  | top => exact EReal.top_mul_top

/-- In a row with an infinity the mean of the squares is infinite. -/
theorem ms_top (X : Fin 1024 → EReal) (h : ¬∀ k, IsReal (X k)) : ms X = ⊤ := by
  obtain ⟨k, hk⟩ := not_forall.mp h
  obtain ⟨e, he, hE⟩ := cEps
  have hs : (∑ k : Fin 1024, (X k * X k : EReal)) = ⊤ := by
    refine top_unique ?_
    rw [← sq_top (X k) hk]
    exact Finset.single_le_sum (f := fun k => (X k * X k : EReal)) (fun j _ => sq_nonneg' (X j)) (Finset.mem_univ k)
  unfold ms
  rw [div_1024, hs, hE, EReal.top_mul_coe_of_pos (by norm_num), EReal.top_add_coe]

/-- The two gradients agree. -/
theorem dx_eq (X D W : Fin 1024 → EReal) (R : EReal) (l : Fin 1024) : dxK X D W R l = dxR X D W R l := by
  unfold dxK dxR half
  simp only [div_1024, Finset.univ_unique, Finset.sum_singleton]
  generalize hG : (fun k => D k * W k) = G
  have hGk : ∀ k, D k * W k = G k := fun k => congrFun hG k
  simp only [hGk]
  by_cases hX : ∀ k, IsReal (X k)
  · choose x hx using hX
    obtain ⟨e, he, hE⟩ := cEps
    have hsq : 0 ≤ ∑ k : Fin 1024, x k * x k := Finset.sum_nonneg fun k _ => mul_self_nonneg _
    generalize hm : (∑ k : Fin 1024, x k * x k) / 1024 + e = q
    have hq : 0 < q := by rw [← hm]; positivity
    have hms : ms X = (q : EReal) := by
      obtain rfl : X = fun k => (x k : EReal) := funext hx
      unfold ms
      rw [c1024, hE]
      simp only [← EReal.coe_mul]
      rw [coe_sum, div_coe _ _ (by norm_num), ← EReal.coe_add, hm]
    have hrs : rs X = (((Real.sqrt q)⁻¹ : ℝ) : EReal) := by
      unfold rs; rw [hms, rsqrt_coe _ hq]
    have hs : (Real.sqrt q)⁻¹ * (Real.sqrt q)⁻¹ = q⁻¹ := by
      rw [← mul_inv, Real.mul_self_sqrt hq.le]
    have hp : 0 < (Real.sqrt q)⁻¹ := inv_pos.mpr (Real.sqrt_pos.mpr hq)
    generalize (Real.sqrt q)⁻¹ = p at hrs hs hp
    rw [hrs, hms, cNegHalf, div_coe _ _ hq.ne', ← EReal.coe_mul]
    have hsum : (∑ k : Fin 1024, (G k * (X k * (p : EReal)) : EReal)) = (∑ k : Fin 1024, (X k * G k : EReal)) * (p : EReal) := by
      rw [← sum_mul _ _ _ hp.le]
      exact Finset.sum_congr rfl fun k _ => by rw [← mul_assoc, mul_comm (G k)]
    rw [hsum]
    generalize (∑ k : Fin 1024, (X k * G k : EReal)) = S
    have hK : X l * (p : EReal) * (S * (p : EReal) * ((1 / 1024 : ℝ) : EReal)) = X l * S * ((p * p * (1 / 1024) : ℝ) : EReal) := by
      rw [EReal.coe_mul, EReal.coe_mul]; ac_rfl
    have hR : X l * (S * ((-(1 / 2) * (p / q) : ℝ) : EReal) * ((1 / 1024 : ℝ) : EReal)) = X l * S * ((-(1 / 2) * (p / q) * (1 / 1024) : ℝ) : EReal) := by
      rw [EReal.coe_mul (-(1 / 2) * (p / q))]; ac_rfl
    rw [mul_comm _ (X l), hR, hK, add_assoc, add_assoc, add_same, mul_assoc (X l * S), ← EReal.coe_mul, sub_eq_add_neg,
      EReal.left_distrib_of_nonneg_of_ne_top (by exact_mod_cast hp.le) (EReal.coe_ne_top _), mul_comm (p : EReal) (G l)]
    refine congrArg (fun a => R + (G l * (p : EReal) + a)) ?_
    rw [mul_neg, mul_comm (p : EReal), mul_assoc, ← EReal.coe_mul, ← mul_neg, ← EReal.coe_neg]
    refine congrArg (fun a : ℝ => X l * S * (a : EReal)) ?_
    have hq3 : p / q = p * (p * p) := by rw [hs, div_eq_mul_inv]
    rw [hq3]
    ring
  · have hrs : rs X = 0 := by unfold rs; rw [ms_top X hX]; rfl
    have hd : Ideal.div (0 : EReal) ⊤ = 0 := by
      unfold Ideal.div
      rw [if_neg (by simp), zero_mul]
    simp only [hrs, ms_top X hX, hd, mul_zero, zero_mul, add_zero]

/-- The kernels' two sums over rows: the weight gradient accumulated over `8` blocks of 256 rows is the whole sum. -/
def dwTo (n : ℕ) (G : ℕ → EReal) : EReal := ∑ k ∈ Finset.range n, G k

theorem dwTo_add (n : ℕ) (G : ℕ → EReal) : dwTo (n + 256) G = dwTo n G + ∑ r : Fin 256, G (n + r.val) := by
  unfold dwTo
  rw [Finset.sum_range_add, ← Fin.sum_univ_eq_sum_range (fun x => G (n + x))]

/-- `a · bᵀ` at indices inside the two arrays. -/
theorem nt_eq {A C K : ℕ} (a : (⟨2, ![A, K]⟩ : Shape).Idx → EReal) (b : (⟨2, ![C, K]⟩ : Shape).Idx → EReal) (r : Fin A) (l : Fin C) :
    nt K a b r.val l.val = ∑ q : Fin K, (a (ix2 r q) * b (ix2 l q) : EReal) := by
  unfold nt
  exact Finset.sum_congr rfl fun q _ => congrArg₂ (fun a b : EReal => a * b) (entry_of_lt _ _ _ r.isLt q.isLt) (entry_of_lt _ _ _ l.isLt q.isLt)

/-- A sum over 2816 columns in two halves. -/
theorem sum_halves (f : Fin 2816 → EReal) :
    ∑ k : Fin 2816, f k = (∑ k : Fin 1408, f ⟨k.val, by omega⟩) + ∑ k : Fin 1408, f ⟨1408 + k.val, by omega⟩ :=
  Fin.sum_univ_add (a := 1408) (b := 1408) f

/-- Entry `(r, l)` of the sum of four products: the two halves of `a`'s columns with the first two weight blocks, the two
    halves of `b`'s with the last two. -/
def four {A B : ℕ} (a b : (⟨2, ![A, B]⟩ : Shape).Idx → EReal) (w : (⟨3, ![4, 1024, 1408]⟩ : Shape).Idx → EReal) (r l : ℕ) : EReal :=
  (∑ k : Fin 1408, (entry a r k.val * entry3 w 0 l k.val : EReal)) + (∑ k : Fin 1408, (entry a r (1408 + k.val) * entry3 w 1 l k.val : EReal))
    + (∑ k : Fin 1408, (entry b r k.val * entry3 w 2 l k.val : EReal)) + ∑ k : Fin 1408, (entry b r (1408 + k.val) * entry3 w 3 l k.val : EReal)

/-- The four products read only row `r` of the arrays and row `l` of the weights. -/
theorem four_congr {A A' : ℕ} (a b : (⟨2, ![A, 2816]⟩ : Shape).Idx → EReal) (a' b' : (⟨2, ![A', 2816]⟩ : Shape).Idx → EReal)
    (w w' : (⟨3, ![4, 1024, 1408]⟩ : Shape).Idx → EReal) (r r' l : ℕ) (ha : ∀ k, k < 2816 → entry a r k = entry a' r' k)
    (hb : ∀ k, k < 2816 → entry b r k = entry b' r' k) (hw : ∀ j k, j < 4 → k < 1408 → entry3 w j l k = entry3 w' j l k) :
    four a b w r l = four a' b' w' r' l := by
  unfold four
  refine congrArg₂ (fun a b : EReal => a + b) (congrArg₂ (fun a b : EReal => a + b) (congrArg₂ (fun a b : EReal => a + b) ?_ ?_) ?_) ?_
  · exact Finset.sum_congr rfl fun k _ => congrArg₂ (fun a b : EReal => a * b) (ha _ (by omega)) (hw _ _ (by omega) k.isLt)
  · exact Finset.sum_congr rfl fun k _ => congrArg₂ (fun a b : EReal => a * b) (ha _ (by omega)) (hw _ _ (by omega) k.isLt)
  · exact Finset.sum_congr rfl fun k _ => congrArg₂ (fun a b : EReal => a * b) (hb _ (by omega)) (hw _ _ (by omega) k.isLt)
  · exact Finset.sum_congr rfl fun k _ => congrArg₂ (fun a b : EReal => a * b) (hb _ (by omega)) (hw _ _ (by omega) k.isLt)

end Cert.Norm

end
-- ==== Proof.NormTwo.lean ====
/-
  The second norm's backward kernel: it takes the gradient of the up projection, in two halves, times that projection's
  weights transposed, in four blocks of columns, and after its 8 grid points holds the gradient of the residual stream and, summed over the rows, of the norm's weight. So does
  differentiating the plain text.
-/
module

public import proofs.«01_k».proof.Defs
public import proofs.«01_k».proof.Proof.NormSpec
public import proofs.«01_k».proof.Proof.Gen.Kernel2Ideal.Value
public import proofs.«01_k».proof.Proof.Gen.Reference2Ideal.Read
public import Idealize.ShloMosaic.Lib.Pipeline.ReadBack
public import Idealize.ShloMosaic.Lib.Pointwise
public import Idealize.ShloMosaic.Lib.KernelVsHost
public import Idealize.ShloMosaic.Lib.Quiescent

@[expose] public section

set_option maxRecDepth 16384

noncomputable section

namespace Cert.Kernel2Ideal.Norm

open Cert.Kernel2Ideal Cert.Kernel2Ideal.Gen Cert.Conv Cert.Product Cert.Norm
open Idealize.ShloMosaic Idealize.ShloMosaic.TcCoe Idealize.SL.Sem
open Idealize.ShloMosaic.Pipeline (Dat)

theorem hz : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

section Cases

variable {F : FTy → Type} [FloatOps F]
variable (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S4x1024x1408 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole)
  (x0 : Vec F S256x2816 .bf16) (x1 : Vec F S256x2816 .bf16) (x2 : Vec F S4x1024x1408 .bf16) (x3 : Vec F S256x1024 .f32) (x4 : Vec F S1x1024 .f32) (x5 : Vec F S256x1024 .f32) (x7 : Vec F S1x1024 .f32)

/-- The gradient of the norm's result: four products, each of half the columns of one half of the gradient. -/
def gM (x0 x1 : Vec F S256x2816 .bf16) (x2 : Vec F S4x1024x1408 .bf16) : FVec F S256x1024 .f32 :=
  k0_pay6 (View.ld x0 (Rect.unit (s := S256x2816) ![0, 0] S256x1408.size inb_S256x2816_S256x1408_0_0))
    (View.ld x2 (Rect.unit (s := S4x1024x1408) ![0, 0, 0] S1x1024x1408.size inb_S4x1024x1408_S1x1024x1408_0_0_0))
    (View.ld x0 (Rect.unit (s := S256x2816) ![0, 1408] S256x1408.size inb_S256x2816_S256x1408_0_1408))
    (View.ld x2 (Rect.unit (s := S4x1024x1408) ![1, 0, 0] S1x1024x1408.size inb_S4x1024x1408_S1x1024x1408_1_0_0))
    (View.ld x1 (Rect.unit (s := S256x2816) ![0, 0] S256x1408.size inb_S256x2816_S256x1408_0_0))
    (View.ld x2 (Rect.unit (s := S4x1024x1408) ![2, 0, 0] S1x1024x1408.size inb_S4x1024x1408_S1x1024x1408_2_0_0))
    (View.ld x1 (Rect.unit (s := S256x2816) ![0, 1408] S256x1408.size inb_S256x2816_S256x1408_0_1408))
    (View.ld x2 (Rect.unit (s := S4x1024x1408) ![3, 0, 0] S1x1024x1408.size inb_S4x1024x1408_S1x1024x1408_3_0_0))

/-- The input gradient's block at the first point. -/
theorem out_A6 (hc0 : cond0_0 i) : out0_A_6 c i arg1 harg1 arg2 harg2 arg3 harg3 arg4 harg4 arg5 harg5 arg6 harg6 arg7 harg7 arg8 harg8 hc0 x0 x1 x2 x3 x4 x5 = k0_pay1 (k0_pay4 x3) (k0_pay5 x3) (gM x0 x1 x2) x4 x5 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S256x1024) hz, View.ld_unit_zero (S := S1x1024) hz]
  rfl

/-- The input gradient's block at every other point. -/
theorem out_B6 (hc0 : ¬cond0_0 i) : out0_B_6 c i arg1 harg1 arg2 harg2 arg3 harg3 arg4 harg4 arg5 harg5 arg6 harg6 arg7 harg7 arg8 harg8 hc0 x0 x1 x2 x3 x4 x5 x7 = k0_pay1 (k0_pay4 x3) (k0_pay5 x3) (gM x0 x1 x2) x4 x5 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 x7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S256x1024) hz, View.ld_unit_zero (S := S1x1024) hz]
  rfl

/-- The weight gradient at every other point: this block's rows added to what was held. -/
theorem out_B7 (hc0 : ¬cond0_0 i) : out0_B_7 c i arg1 harg1 arg2 harg2 arg3 harg3 arg4 harg4 arg5 harg5 arg6 harg6 arg7 harg7 arg8 harg8 hc0 x0 x1 x2 x3 x4 x5 x7 = k0_pay3 (k0_pay5 x3) (gM x0 x1 x2) x7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 x7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S256x1024) hz, View.ld_unit_zero (S := S1x1024) hz]
  rfl

/-- The weight gradient at the first point: this block's rows added to zeros. -/
theorem out_A7 (hc0 : cond0_0 i) : out0_A_7 c i arg1 harg1 arg2 harg2 arg3 harg3 arg4 harg4 arg5 harg5 arg6 harg6 arg7 harg7 arg8 harg8 hc0 x0 x1 x2 x3 x4 x5 = k0_pay3 (k0_pay5 x3) (gM x0 x1 x2) k0_pay2 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x1024) hz]
  simp only [View.readAt_eq_ld, harg1.read_unread, harg2.read_unread, harg3.read_unread, harg4.read_unread, harg5.read_unread, harg6.read_unread, harg8.read_unread, View.ld_unit_zero (S := S256x1024) hz, View.ld_unit_zero (S := S1x1024) hz]
  simp (disch := decide) only [View.readCov_skip, View.readCov_fill]
  rw [View.ld_unit_zero (S := S1x1024) hz]
  rfl

end Cases

/-! ## The two blocks, entry by entry -/

/-- Row `r` of the four products' sum. -/
def dBlock (x0 x1 : Vec Ideal S256x2816 .bf16) (x2 : Vec Ideal S4x1024x1408 .bf16) (r : Fin 256) (k : Fin 1024) : EReal :=
  four (A := 256) (B := 2816) x0 x1 x2 r.val k.val

theorem ldX0 (x : Vec Ideal S256x2816 .bf16) (r : Fin 256) (k : Fin 1408) :
    View.ld x (Rect.unit (s := S256x2816) ![0, 0] S256x1408.size inb_S256x2816_S256x1408_0_0) (ix2 r k) = entry (N := 256) (K := 2816) x r.val k.val := by
  refine eq_entry (N := 256) (K := 2816) x _ _ _ ?_ ?_
  · show 0 + 1 * r.val = _; omega
  · show 0 + 1 * k.val = _; omega
theorem ldX1 (x : Vec Ideal S256x2816 .bf16) (r : Fin 256) (k : Fin 1408) :
    View.ld x (Rect.unit (s := S256x2816) ![0, 1408] S256x1408.size inb_S256x2816_S256x1408_0_1408) (ix2 r k) = entry (N := 256) (K := 2816) x r.val (1408 + k.val) := by
  refine eq_entry (N := 256) (K := 2816) x _ _ _ ?_ ?_
  · show 0 + 1 * r.val = _; omega
  · show 1408 + 1 * k.val = _; omega
theorem ldW0 (x : Vec Ideal S4x1024x1408 .bf16) (l : Fin 1024) (k : Fin 1408) :
    View.ld x (Rect.unit (s := S4x1024x1408) ![0, 0, 0] S1x1024x1408.size inb_S4x1024x1408_S1x1024x1408_0_0_0) (ix3 0 l k) = entry3 (A := 4) (N := 1024) (K := 1408) x 0 l.val k.val := by
  refine eq_entry3 (A := 4) (N := 1024) (K := 1408) x _ _ _ _ rfl ?_ ?_
  · show 0 + 1 * l.val = _; omega
  · show 0 + 1 * k.val = _; omega
theorem ldW1 (x : Vec Ideal S4x1024x1408 .bf16) (l : Fin 1024) (k : Fin 1408) :
    View.ld x (Rect.unit (s := S4x1024x1408) ![1, 0, 0] S1x1024x1408.size inb_S4x1024x1408_S1x1024x1408_1_0_0) (ix3 0 l k) = entry3 (A := 4) (N := 1024) (K := 1408) x 1 l.val k.val := by
  refine eq_entry3 (A := 4) (N := 1024) (K := 1408) x _ _ _ _ rfl ?_ ?_
  · show 0 + 1 * l.val = _; omega
  · show 0 + 1 * k.val = _; omega
theorem ldW2 (x : Vec Ideal S4x1024x1408 .bf16) (l : Fin 1024) (k : Fin 1408) :
    View.ld x (Rect.unit (s := S4x1024x1408) ![2, 0, 0] S1x1024x1408.size inb_S4x1024x1408_S1x1024x1408_2_0_0) (ix3 0 l k) = entry3 (A := 4) (N := 1024) (K := 1408) x 2 l.val k.val := by
  refine eq_entry3 (A := 4) (N := 1024) (K := 1408) x _ _ _ _ rfl ?_ ?_
  · show 0 + 1 * l.val = _; omega
  · show 0 + 1 * k.val = _; omega
theorem ldW3 (x : Vec Ideal S4x1024x1408 .bf16) (l : Fin 1024) (k : Fin 1408) :
    View.ld x (Rect.unit (s := S4x1024x1408) ![3, 0, 0] S1x1024x1408.size inb_S4x1024x1408_S1x1024x1408_3_0_0) (ix3 0 l k) = entry3 (A := 4) (N := 1024) (K := 1408) x 3 l.val k.val := by
  refine eq_entry3 (A := 4) (N := 1024) (K := 1408) x _ _ _ _ rfl ?_ ?_
  · show 0 + 1 * l.val = _; omega
  · show 0 + 1 * k.val = _; omega

theorem pay6_apply (a b c d : Vec Ideal S256x1408 .bf16) (w x y z : Vec Ideal S1x1024x1408 .bf16) (r : Fin 256) (l : Fin 1024) :
    (k0_pay6 (F := Ideal)) a w b x c y d z (ix2 r l)
      = ((∑ k : Fin 1408, (a (ix2 r k) * w (ix3 0 l k) : EReal)) + (∑ k : Fin 1408, (b (ix2 r k) * x (ix3 0 l k) : EReal))
          + (∑ k : Fin 1408, (c (ix2 r k) * y (ix3 0 l k) : EReal)) + (∑ k : Fin 1408, (d (ix2 r k) * z (ix3 0 l k) : EReal)) : EReal) := by
  pointwise [k0_pay6]

theorem gM_apply (x0 x1 : Vec Ideal S256x2816 .bf16) (x2 : Vec Ideal S4x1024x1408 .bf16) (r : Fin 256) (l : Fin 1024) :
    gM (F := Ideal) x0 x1 x2 (ix2 r l) = dBlock x0 x1 x2 r l := by
  unfold gM
  refine (pay6_apply _ _ _ _ _ _ _ _ r l).trans ?_
  unfold dBlock four
  refine congrArg₂ (fun a b : EReal => a + b) (congrArg₂ (fun a b : EReal => a + b) (congrArg₂ (fun a b : EReal => a + b) ?_ ?_) ?_) ?_
  · exact Finset.sum_congr rfl fun k _ => congrArg₂ (fun a b : EReal => a * b) (ldX0 x0 r k) (ldW0 x2 l k)
  · exact Finset.sum_congr rfl fun k _ => congrArg₂ (fun a b : EReal => a * b) (ldX1 x0 r k) (ldW1 x2 l k)
  · exact Finset.sum_congr rfl fun k _ => congrArg₂ (fun a b : EReal => a * b) (ldX0 x1 r k) (ldW2 x2 l k)
  · exact Finset.sum_congr rfl fun k _ => congrArg₂ (fun a b : EReal => a * b) (ldX1 x1 r k) (ldW3 x2 l k)

theorem pay5_apply (x3 : Vec Ideal S256x1024 .f32) (r : Fin 256) (l : Fin 1024) :
    k0_pay5 (F := Ideal) x3 (ix2 r l) = (x3 (ix2 r l) * rs (fun k => x3 (ix2 r k)) : EReal) := by
  pointwise [k0_pay4, k0_pay5]
  rfl

theorem pay1_apply (g : Vec Ideal S256x1024 .f32) (x3 : Vec Ideal S256x1024 .f32) (x4 : Vec Ideal S1x1024 .f32) (x5 : Vec Ideal S256x1024 .f32) (r : Fin 256) (l : Fin 1024) :
    (k0_pay1 (F := Ideal)) (k0_pay4 x3) (k0_pay5 x3) g x4 x5 (ix2 r l)
      = dxK (fun k => x3 (ix2 r k)) (fun k => g (ix2 r k)) (fun k => x4 (ix2 0 k)) (x5 (ix2 r l)) l := by
  pointwise [k0_pay1, k0_pay4, k0_pay5]
  rfl

theorem pay3_apply (a b : Vec Ideal S256x1024 .f32) (acc : Vec Ideal S1x1024 .f32) (l : Fin 1024) :
    k0_pay3 (F := Ideal) a b acc (ix2 0 l) = (acc (ix2 0 l) + ∑ r : Fin 256, (b (ix2 r l) * a (ix2 r l) : EReal) : EReal) := by
  pointwise [k0_pay3]

theorem pay2_apply (l : Fin 1024) : k0_pay2 (F := Ideal) (ix2 0 l) = (0 : EReal) := by
  pointwise [k0_pay2]

/-! ## The blocks the windows read -/

variable (m : (ℓ : Loc nD τ sig) → Buf (Elt Ideal) ℓ) (c : Dev nD)

/-- The gate half of the up projection's gradient. -/
abbrev gIn : (⟨2, ![2048, 2816]⟩ : Shape).Idx → EReal := m ((c : Thread nD τ).loc main_arg0)
/-- Its value half. -/
abbrev vIn : (⟨2, ![2048, 2816]⟩ : Shape).Idx → EReal := m ((c : Thread nD τ).loc main_arg1)
/-- The projection's weights, in four blocks of columns. -/
abbrev wIn : (⟨3, ![4, 1024, 1408]⟩ : Shape).Idx → EReal := m ((c : Thread nD τ).loc main_arg2)
/-- The norm's input. -/
abbrev xIn : (⟨2, ![2048, 1024]⟩ : Shape).Idx → EReal := m ((c : Thread nD τ).loc main_arg3)
/-- The norm's weight. -/
abbrev nIn : (⟨2, ![1, 1024]⟩ : Shape).Idx → EReal := m ((c : Thread nD τ).loc main_arg4)
/-- The gradient that passed the norm by. -/
abbrev sIn : (⟨2, ![2048, 1024]⟩ : Shape).Idx → EReal := m ((c : Thread nD τ).loc main_arg5)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

theorem block0 (t : Fin cfg0.N) (r : Fin 256) (l : Fin 2816) :
    (iblk m c 0 t : Vec Ideal S256x2816 .bf16) (ix2 r l) = entry (gIn m c) (256 * t.val + r.val) l.val := by
  unfold iblk
  rw [View.read_apply]
  refine eq_entry (N := 2048) (K := 2816) (gIn m c) _ _ _ ?_ ?_
  · show win0_0.index t 0 * 256 + 1 * r.val = _; rw [(index0 t).1]; omega
  · show win0_0.index t 1 * 2816 + 1 * l.val = _; rw [(index0 t).2]; omega

theorem block1 (t : Fin cfg0.N) (r : Fin 256) (l : Fin 2816) :
    (iblk m c 1 t : Vec Ideal S256x2816 .bf16) (ix2 r l) = entry (vIn m c) (256 * t.val + r.val) l.val := by
  unfold iblk
  rw [View.read_apply]
  refine eq_entry (N := 2048) (K := 2816) (vIn m c) _ _ _ ?_ ?_
  · show win0_1.index t 0 * 256 + 1 * r.val = _; rw [(index1 t).1]; omega
  · show win0_1.index t 1 * 2816 + 1 * l.val = _; rw [(index1 t).2]; omega

theorem block3 (t : Fin cfg0.N) (r : Fin 256) (l : Fin 1024) :
    (iblk m c 3 t : Vec Ideal S256x1024 .f32) (ix2 r l) = entry (xIn m c) (256 * t.val + r.val) l.val := by
  unfold iblk
  rw [View.read_apply]
  refine eq_entry (N := 2048) (K := 1024) (xIn m c) _ _ _ ?_ ?_
  · show win0_3.index t 0 * 256 + 1 * r.val = _; rw [(index3 t).1]; omega
  · show win0_3.index t 1 * 1024 + 1 * l.val = _; rw [(index3 t).2]; omega

theorem block4 (t : Fin cfg0.N) (r : Fin 1) (l : Fin 1024) :
    (iblk m c 4 t : Vec Ideal S1x1024 .f32) (ix2 r l) = entry (nIn m c) 0 l.val := by
  unfold iblk
  rw [View.read_apply]
  refine eq_entry (N := 1) (K := 1024) (nIn m c) _ _ _ ?_ ?_
  · show win0_4.index t 0 * 1 + 1 * r.val = _; rw [(index4 t).1]; omega
  · show win0_4.index t 1 * 1024 + 1 * l.val = _; rw [(index4 t).2]; omega

theorem block5 (t : Fin cfg0.N) (r : Fin 256) (l : Fin 1024) :
    (iblk m c 5 t : Vec Ideal S256x1024 .f32) (ix2 r l) = entry (sIn m c) (256 * t.val + r.val) l.val := by
  unfold iblk
  rw [View.read_apply]
  refine eq_entry (N := 2048) (K := 1024) (sIn m c) _ _ _ ?_ ?_
  · show win0_5.index t 0 * 256 + 1 * r.val = _; rw [(index5 t).1]; omega
  · show win0_5.index t 1 * 1024 + 1 * l.val = _; rw [(index5 t).2]; omega

theorem block2 (t : Fin cfg0.N) (j : Fin 4) (l : Fin 1024) (k : Fin 1408) :
    (iblk m c 2 t : Vec Ideal S4x1024x1408 .bf16) (ix3 j l k) = entry3 (wIn m c) j.val l.val k.val := by
  unfold iblk
  rw [View.read_apply]
  refine eq_entry3 (A := 4) (N := 1024) (K := 1408) (wIn m c) _ _ _ _ ?_ ?_ ?_
  · show win0_2.index t 0 * 4 + 1 * j.val = _; rw [(index2 t).1]; omega
  · show win0_2.index t 1 * 1024 + 1 * l.val = _; rw [(index2 t).2.1]; omega
  · show win0_2.index t 2 * 1408 + 1 * k.val = _; rw [(index2 t).2.2]; omega

/-! ## The arrays after the run -/

/-- Row `r` of the norm's input. -/
def X (r : ℕ) (k : Fin 1024) : EReal := entry (xIn m c) r k.val
/-- Row `r` of the gradient of the norm's result: the projection's gradient times its weights transposed. -/
def D (r : ℕ) (k : Fin 1024) : EReal := four (gIn m c) (vIn m c) (wIn m c) r k.val
/-- The norm's weight. -/
def W (k : Fin 1024) : EReal := entry (nIn m c) 0 k.val

theorem rowX (t : Fin cfg0.N) (r : Fin 256) : (fun k => (iblk m c 3 t : Vec Ideal S256x1024 .f32) (ix2 r k)) = X m c (256 * t.val + r.val) :=
  funext fun k => block3 m c t r k
theorem rowD (t : Fin cfg0.N) (r : Fin 256) :
    dBlock (iblk m c 0 t) (iblk m c 1 t) (iblk m c 2 t) r = D m c (256 * t.val + r.val) := by
  funext l
  unfold D dBlock
  refine four_congr _ _ _ _ _ _ _ _ l.val (fun k hk => ?_) (fun k hk => ?_) fun j k hj hk => ?_
  · exact (entry_of_lt _ _ _ r.isLt hk).trans (block0 m c t r ⟨k, hk⟩)
  · exact (entry_of_lt _ _ _ r.isLt hk).trans (block1 m c t r ⟨k, hk⟩)
  · exact (entry3_of_lt _ _ _ _ hj l.isLt hk).trans (block2 m c t ⟨j, hj⟩ l ⟨k, hk⟩)
theorem rowG (t : Fin cfg0.N) (r : Fin 256) :
    (fun k => gM (F := Ideal) (iblk m c 0 t) (iblk m c 1 t) (iblk m c 2 t) (ix2 r k)) = D m c (256 * t.val + r.val) :=
  (funext fun k => gM_apply _ _ _ r k).trans (rowD m c t r)
theorem rowW (t : Fin cfg0.N) : (fun k => (iblk m c 4 t : Vec Ideal S1x1024 .f32) (ix2 0 k)) = W m c :=
  funext fun k => block4 m c t 0 k

/-- The input gradient's block after point `t`. -/
theorem dx_after (t : Fin cfg0.N) (r : Fin 256) (l : Fin 1024) :
    ((outsAt0 m c t.val t.isLt).1 (ix2 r l) : EReal)
      = dxK (X m c (256 * t.val + r.val)) (D m c (256 * t.val + r.val)) (W m c) (entry (sIn m c) (256 * t.val + r.val) l.val) l := by
  have key : (outsAt0 m c t.val t.isLt).1 = (k0_pay1 (F := Ideal)) (k0_pay4 (iblk m c 3 t)) (k0_pay5 (iblk m c 3 t))
      (gM (iblk m c 0 t) (iblk m c 1 t) (iblk m c 2 t)) (iblk m c 4 t) (iblk m c 5 t) := by
    by_cases h0 : t.val % 8 = 0
    · rw [outsAt0_A m c t h0, out_A6]
    · rw [outsAt0_B m c t h0, out_B6]
  rw [key, pay1_apply, rowX, rowG, rowW, block5]

/-- One row's summand of the weight gradient. -/
def G (l : Fin 1024) (r : ℕ) : EReal := D m c r l * (X m c r l * rs (X m c r))

/-- One point's contribution to the weight gradient. -/
theorem step_eq (t : Fin cfg0.N) (acc : Vec Ideal S1x1024 .f32) (l : Fin 1024) (s : EReal) (hs : acc (ix2 0 l) = s) :
    k0_pay3 (F := Ideal) (k0_pay5 (iblk m c 3 t)) (gM (iblk m c 0 t) (iblk m c 1 t) (iblk m c 2 t)) acc (ix2 0 l)
      = (s + ∑ r : Fin 256, G m c l (256 * t.val + r.val) : EReal) := by
  rw [pay3_apply, hs]
  refine congrArg (s + ·) (Finset.sum_congr rfl fun r _ => ?_)
  rw [pay5_apply, rowX]
  unfold G
  exact congrArg₂ (fun a b : EReal => a * b) (congrFun (rowG m c t r) l) (congrArg (· * _) (block3 m c t r l))

theorem dw_A (t : Fin cfg0.N) (h0 : t.val % 8 = 0) : (outsAt0 m c t.val t.isLt).2
    = k0_pay3 (F := Ideal) (k0_pay5 (iblk m c 3 t)) (gM (iblk m c 0 t) (iblk m c 1 t) (iblk m c 2 t)) (k0_pay2 (F := Ideal)) := by
  rw [outsAt0_A m c t h0, out_A7]
theorem dw_B (t : Fin cfg0.N) (h0 : ¬t.val % 8 = 0) : (outsAt0 m c t.val t.isLt).2
    = k0_pay3 (F := Ideal) (k0_pay5 (iblk m c 3 t)) (gM (iblk m c 0 t) (iblk m c 1 t) (iblk m c 2 t))
        (outsAt0 m c (t.val - 1) (Nat.lt_of_le_of_lt (Nat.sub_le _ _) t.isLt)).2 := by
  rw [outsAt0_B m c t h0, out_B7]

theorem lt_points (n : ℕ) (h : n < cfg0.N) : n < 8 := lt_of_lt_of_eq h N_0

/-- The weight gradient after point `n`: the sum over the rows read so far. -/
theorem dw_after (l : Fin 1024) : ∀ (n : ℕ) (h : n < cfg0.N),
    ((outsAt0 m c n h).2 (ix2 0 l) : EReal) = dwTo (256 * n + 256) (G m c l) := by
  intro n
  induction n with
  | zero =>
    intro h
    refine (congrFun (dw_A m c ⟨0, h⟩ rfl) (ix2 0 l)).trans ?_
    refine (step_eq m c ⟨0, h⟩ _ l 0 (pay2_apply _)).trans ?_
    refine Eq.trans ?_ (dwTo_add _ _).symm
    refine congrArg (· + _) ?_
    rfl
  | succ n ih =>
    intro h
    have h8 := lt_points _ h
    refine (congrFun (dw_B m c ⟨n + 1, h⟩ (by dsimp only; omega)) (ix2 0 l)).trans ?_
    refine (step_eq m c ⟨n + 1, h⟩ _ l _ (ih (Nat.lt_of_succ_lt h))).trans ?_
    refine Eq.trans ?_ (dwTo_add _ _).symm
    rfl

/-- The input gradient, as the result array's contents. -/
def dxOut : S2048x1024.Idx → EReal := fun i => dxK (X m c (i 0).val) (D m c (i 0).val) (W m c) (entry (sIn m c) (i 0).val (i 1).val) (i 1)
/-- The weight gradient, as the result array's contents. -/
def dwOut : S1x1024.Idx → EReal := fun i => dwTo 2048 (G m c (i 1))

theorem dx_congr {r r' : ℕ} {l l' : Fin 1024} (hr : r = r') (hl : l = l') :
    dxK (X m c r) (D m c r) (W m c) (entry (sIn m c) r l.val) l = dxK (X m c r') (D m c r') (W m c) (entry (sIn m c) r' l'.val) l' := by
  rw [hr, hl]

theorem final_dx : (dats m 0 c).arrAt 6 cfg0.N = dxOut m c := by
  refine (dats m 0 c).arrAt_eq_of_cover 6 (dxOut m c) (fun t _ => ?_) fun i => ?_
  · rw [Value.flushed6]
    funext j
    rw [View.read_apply]
    have e := dx_after m c t (j 0) (j 1)
    refine (congrArg (outsAt0 m c t.val t.isLt).1 (?_ : _ = ix2 (j 0) (j 1))).trans (e.trans ?_)
    · funext a; match a with | ⟨0, _⟩ => rfl | ⟨1, _⟩ => rfl
    · refine dx_congr m c ?_ (Fin.ext ?_)
      · show _ = win0_6.index t 0 * 256 + 1 * (j 0).val; rw [(index6 t).1]; omega
      · show (j 1).val = win0_6.index t 1 * 1024 + 1 * (j 1).val; rw [(index6 t).2]; omega
  · have h0 : (i 0 : ℕ) < 2048 := (i 0).isLt
    have h1 : (i 1 : ℕ) < 1024 := (i 1).isLt
    refine ⟨⟨(i 0 : ℕ) / 256, by rw [show cfg0.N = 8 from N_0]; omega⟩, flush0_6 _, ?_⟩
    generalize ht : (⟨(i 0 : ℕ) / 256, _⟩ : Fin cfg0.N) = t
    have hv : t.val = (i 0 : ℕ) / 256 := by rw [← ht]
    show i ∈ ((View.whole main_v0_0).slice (win0_6.rect t)).set
    rw [View.set_slice_whole, Rect.mem_set_unit]
    intro a
    match a with
    | ⟨0, _⟩ => show win0_6.index t 0 * 256 ≤ (i 0 : ℕ) ∧ (i 0 : ℕ) < win0_6.index t 0 * 256 + 256
                rw [(index6 t).1]; omega
    | ⟨1, _⟩ => show win0_6.index t 1 * 1024 ≤ (i 1 : ℕ) ∧ (i 1 : ℕ) < win0_6.index t 1 * 1024 + 1024
                rw [(index6 t).2]; omega

theorem final_dw : (dats m 0 c).arrAt 7 cfg0.N = dwOut m c := by
  refine (dats m 0 c).arrAt_eq_of_cover 7 (dwOut m c) (fun t hf => ?_) fun i => ?_
  · have h7 := (flush0_7 t).mp hf
    have h8 := lt_points _ t.isLt
    have h7' : t.val = 7 := by omega
    rw [Value.flushed7]
    funext j
    rw [View.read_apply]
    have e := dw_after m c (j 1) t.val t.isLt
    refine (congrArg (outsAt0 m c t.val t.isLt).2 (?_ : _ = ix2 0 (j 1))).trans (e.trans ?_)
    · funext a; match a with | ⟨0, _⟩ => exact Subsingleton.elim (α := Fin 1) _ _ | ⟨1, _⟩ => rfl
    · rw [h7']
      refine congrArg (fun l => dwTo 2048 (G m c l)) (Fin.ext ?_)
      show (j 1).val = win0_7.index t 1 * 1024 + 1 * (j 1).val; rw [(index7 t).2]; omega
  · have h0 : (i 0 : ℕ) < 1 := (i 0).isLt
    have h1 : (i 1 : ℕ) < 1024 := (i 1).isLt
    refine ⟨⟨7, by rw [show cfg0.N = 8 from N_0]; omega⟩, (flush0_7 _).mpr (by dsimp only), ?_⟩
    generalize ht : (⟨7, _⟩ : Fin cfg0.N) = t
    show i ∈ ((View.whole main_v0_1).slice (win0_7.rect t)).set
    rw [View.set_slice_whole, Rect.mem_set_unit]
    intro a
    match a with
    | ⟨0, _⟩ => show win0_7.index t 0 * 1 ≤ (i 0 : ℕ) ∧ (i 0 : ℕ) < win0_7.index t 0 * 1 + 1
                rw [(index7 t).1]; omega
    | ⟨1, _⟩ => show win0_7.index t 1 * 1024 ≤ (i 1 : ℕ) ∧ (i 1 : ℕ) < win0_7.index t 1 * 1024 + 1024
                rw [(index7 t).2]; omega

end Cert.Kernel2Ideal.Norm

namespace Cert.Reference2Ideal.Norm

open Cert.Reference2Ideal Cert.Reference2Ideal.Read Cert.Conv Cert.Product Cert.Norm
open Idealize.ShloMosaic

variable (x0 x1 : (⟨2, ![2048, 2816]⟩ : Shape).Idx → EReal) (x2 : (⟨3, ![4, 1024, 1408]⟩ : Shape).Idx → EReal) (x3 : (⟨2, ![2048, 1024]⟩ : Shape).Idx → EReal)
  (x4 : (⟨2, ![1, 1024]⟩ : Shape).Idx → EReal) (x5 : (⟨2, ![2048, 1024]⟩ : Shape).Idx → EReal)

/-- The reference's product with the whole weights, its columns read from the four blocks. -/
def whole (r : Fin 2048) (l : Fin 1024) : EReal :=
  (∑ k : Fin 2816, (x0 (ix2 r k) * x2 (ix3 ⟨k.val / 1408, by omega⟩ l ⟨k.val % 1408, by omega⟩) : EReal))
    + ∑ k : Fin 2816, (x1 (ix2 r k) * x2 (ix3 ⟨(2816 + k.val) / 1408, by omega⟩ l ⟨(2816 + k.val) % 1408, by omega⟩) : EReal)

/-- It is the sum of the four products. -/
theorem whole_eq (r : Fin 2048) (l : Fin 1024) : whole x0 x1 x2 r l = four x0 x1 x2 r.val l.val := by
  unfold whole four
  have h : ∀ (x : (⟨2, ![2048, 2816]⟩ : Shape).Idx → EReal) (f : Fin 2816 → EReal) (j j' : ℕ) (hj : j < 4) (hj' : j' < 4)
      (_ : ∀ k : Fin 1408, f ⟨k.val, by omega⟩ = x (ix2 r ⟨k.val, by omega⟩) * x2 (ix3 ⟨j, hj⟩ l k))
      (_ : ∀ k : Fin 1408, f ⟨1408 + k.val, by omega⟩ = x (ix2 r ⟨1408 + k.val, by omega⟩) * x2 (ix3 ⟨j', hj'⟩ l k)),
      ∑ k : Fin 2816, f k = (∑ k : Fin 1408, (entry x r.val k.val * entry3 x2 j l.val k.val : EReal))
        + ∑ k : Fin 1408, (entry x r.val (1408 + k.val) * entry3 x2 j' l.val k.val : EReal) := by
    intro x f j j' hj hj' h0 h1
    rw [sum_halves f]
    refine congrArg₂ (fun a b : EReal => a + b) (Finset.sum_congr rfl fun k _ => (h0 k).trans ?_) (Finset.sum_congr rfl fun k _ => (h1 k).trans ?_)
    · rw [entry_of_lt x _ _ r.isLt (by omega), entry3_of_lt x2 _ _ _ hj l.isLt k.isLt]
    · rw [entry_of_lt x _ _ r.isLt (by omega), entry3_of_lt x2 _ _ _ hj' l.isLt k.isLt]
  have key : ∀ (a a' : Fin 4) (k k' : Fin 1408), a = a' → k = k' → x2 (ix3 a l k) = x2 (ix3 a' l k') := by
    rintro a _ k _ rfl rfl; rfl
  refine (congrArg₂ (fun a b : EReal => a + b)
    (h x0 (fun k => x0 (ix2 r k) * x2 (ix3 ⟨k.val / 1408, by omega⟩ l ⟨k.val % 1408, by omega⟩)) 0 1 (by omega) (by omega) (fun k => congrArg (_ * ·) (key _ _ _ _ ?_ ?_)) (fun k => congrArg (_ * ·) (key _ _ _ _ ?_ ?_)))
    (h x1 (fun k => x1 (ix2 r k) * x2 (ix3 ⟨(2816 + k.val) / 1408, by omega⟩ l ⟨(2816 + k.val) % 1408, by omega⟩)) 2 3 (by omega) (by omega) (fun k => congrArg (_ * ·) (key _ _ _ _ ?_ ?_)) (fun k => congrArg (_ * ·) (key _ _ _ _ ?_ ?_)))).trans
    (add_assoc _ _ _).symm
  all_goals exact Fin.ext (by dsimp only; omega)

/-- The reference's input gradient, entry by entry. -/
theorem dx_apply (r : Fin 2048) (l : Fin 1024) :
    val_main_v44 (F := Ideal) x0 x1 x2 x3 x4 x5 (ix2 r l)
      = dxR (fun k => x3 (ix2 r k)) (fun k => whole x0 x1 x2 r k) (fun k => x4 (ix2 0 k)) (x5 (ix2 r l)) l := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_cst_0, val_main_cst_1, val_main_cst_2, val_main_cst_3, val_main_cst_4, val_main_cst_5, val_main_cst_6, val_main_cst_7]
  rfl

/-- The reference's weight gradient, entry by entry. -/
theorem dw_raw (l : Fin 1024) :
    val_main_v45 (F := Ideal) x0 x1 x2 x3 (ix2 0 l)
      = ∑ _u : Fin 1, ∑ r : Fin 2048, (x3 (ix2 r l) * rs (fun k => x3 (ix2 r k)) * whole x0 x1 x2 r l : EReal) := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_cst_0, val_main_cst_1, val_main_cst_2, val_main_cst_3, val_main_cst_4, val_main_cst_5, val_main_cst_6, val_main_cst_7]
  rfl

end Cert.Reference2Ideal.Norm

namespace Cert.Proof

open Idealize.ShloMosaic Idealize.ShloMosaic.TcCoe Idealize.SL.Sem
open Cert.Conv Cert.Product Cert.Norm

/-- The reference runs, leaves its arguments unchanged and, declaring no semaphore, ends with every counter at zero. -/
theorem reference_frame2 : Cert.quiescent_Reference2Ideal := by
  intro m g _
  exact (θ_run Cert.Reference2Ideal.defs _ _).mono
    (fun r h => ⟨fun c => (h c).2.2, sem_eq_zero_of_no_sems (by decide) r.2⟩) (Cert.Reference2Ideal.Value.run (F := Ideal) m g)

/-- The second norm's backward: the kernel and its reference compute the same two arrays. -/
theorem algebraic2 : Cert.algebraic_Kernel2Ideal_Reference2Ideal := by
  intro m g m' g' _ hargs
  refine ⟨fun c => Cert.Kernel2Ideal.Norm.dxOut m c, fun c => Cert.Kernel2Ideal.Norm.dwOut m c, ?_, ?_⟩
  · refine (θ_run Cert.Kernel2Ideal.defs _ _).mono (fun r h c => ?_) (Cert.Kernel2Ideal.Value.run_blocks (F := Ideal) m g)
    obtain ⟨h5, h6, ha⟩ := h c
    exact ⟨h5.trans (Cert.Kernel2Ideal.Norm.final_dx m c), h6.trans (Cert.Kernel2Ideal.Norm.final_dw m c), ha⟩
  · refine (θ_run Cert.Reference2Ideal.defs _ _).mono (fun r h c => ?_) (Cert.Reference2Ideal.Value.run (F := Ideal) m' g')
    obtain ⟨h5, h6, ha⟩ := h c
    obtain ⟨e0, e1, e2, e3, e4, e5⟩ := hargs c
    refine ⟨?_, ?_, ha⟩
    · rw [h5, Cert.Reference2Ideal.Read.val_main_v44_eq, e0, e1, e2, e3, e4, e5]
      funext i
      obtain ⟨r, l, rfl⟩ : ∃ (r : Fin 2048) (l : Fin 1024), i = ix2 r l := ⟨i 0, i 1, eq_ix2 i⟩
      refine (Cert.Reference2Ideal.Norm.dx_apply _ _ _ _ _ _ r l).trans ?_
      refine (dx_eq _ _ _ _ l).symm.trans ?_
      unfold Cert.Kernel2Ideal.Norm.dxOut
      have hX : Cert.Kernel2Ideal.Norm.X m c r.val = fun k => Cert.Kernel2Ideal.Norm.xIn m c (ix2 r k) :=
        funext fun k => entry_of_lt _ _ _ r.isLt k.isLt
      have hD : Cert.Kernel2Ideal.Norm.D m c r.val
          = fun k => Cert.Reference2Ideal.Norm.whole (Cert.Kernel2Ideal.Norm.gIn m c) (Cert.Kernel2Ideal.Norm.vIn m c) (Cert.Kernel2Ideal.Norm.wIn m c) r k :=
        funext fun k => (Cert.Reference2Ideal.Norm.whole_eq _ _ _ r k).symm
      have hW : Cert.Kernel2Ideal.Norm.W m c = fun k => Cert.Kernel2Ideal.Norm.nIn m c (ix2 0 k) :=
        funext fun k => entry_of_lt _ 0 _ (by omega) k.isLt
      have hS : entry (Cert.Kernel2Ideal.Norm.sIn m c) r.val l.val = Cert.Kernel2Ideal.Norm.sIn m c (ix2 r l) := entry_of_lt _ _ _ r.isLt l.isLt
      show _ = dxK (Cert.Kernel2Ideal.Norm.X m c r.val) (Cert.Kernel2Ideal.Norm.D m c r.val) (Cert.Kernel2Ideal.Norm.W m c)
        (entry (Cert.Kernel2Ideal.Norm.sIn m c) r.val l.val) l
      rw [hX, hD, hW, hS]
    · rw [h6, Cert.Reference2Ideal.Read.val_main_v45_eq, e0, e1, e2, e3]
      funext i
      obtain ⟨u, l, rfl⟩ : ∃ (u : Fin 1) (l : Fin 1024), i = ix2 u l := ⟨i 0, i 1, eq_ix2 i⟩
      obtain rfl : u = 0 := Subsingleton.elim _ _
      refine (Cert.Reference2Ideal.Norm.dw_raw _ _ _ _ l).trans ?_
      show _ = dwTo 2048 (Cert.Kernel2Ideal.Norm.G m c l)
      unfold dwTo
      rw [Finset.univ_unique, Finset.sum_singleton, ← Fin.sum_univ_eq_sum_range (fun r => Cert.Kernel2Ideal.Norm.G m c l r)]
      refine Finset.sum_congr rfl fun r _ => ?_
      have hX : Cert.Kernel2Ideal.Norm.X m c r.val = fun k => Cert.Kernel2Ideal.Norm.xIn m c (ix2 r k) :=
        funext fun k => entry_of_lt _ _ _ r.isLt k.isLt
      have hD : Cert.Kernel2Ideal.Norm.D m c r.val l
          = Cert.Reference2Ideal.Norm.whole (Cert.Kernel2Ideal.Norm.gIn m c) (Cert.Kernel2Ideal.Norm.vIn m c) (Cert.Kernel2Ideal.Norm.wIn m c) r l :=
        (Cert.Reference2Ideal.Norm.whole_eq _ _ _ r l).symm
      unfold Cert.Kernel2Ideal.Norm.G
      rw [hX, hD, mul_comm]

end Cert.Proof

end
-- ==== Proof.NormOne.lean ====
/-
  The first norm's backward kernel: it takes the gradient of the projection times the projection's weights transposed, and
  after its 8 grid points holds the gradient of the residual stream and, summed over the rows, of the norm's weight. So does
  differentiating the plain text.
-/
module

public import proofs.«01_k».proof.Defs
public import proofs.«01_k».proof.Proof.NormSpec
public import proofs.«01_k».proof.Proof.Gen.Kernel3Ideal.Value
public import proofs.«01_k».proof.Proof.Gen.Reference3Ideal.Read
public import Idealize.ShloMosaic.Lib.Pipeline.ReadBack
public import Idealize.ShloMosaic.Lib.Pointwise
public import Idealize.ShloMosaic.Lib.KernelVsHost
public import Idealize.ShloMosaic.Lib.Quiescent

@[expose] public section

set_option maxRecDepth 16384

noncomputable section

namespace Cert.Kernel3Ideal.Norm

open Cert.Kernel3Ideal Cert.Kernel3Ideal.Gen Cert.Conv Cert.Product Cert.Norm
open Idealize.ShloMosaic Idealize.ShloMosaic.TcCoe Idealize.SL.Sem
open Idealize.ShloMosaic.Pipeline (Dat)

theorem hz : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

section Cases

variable {F : FTy → Type} [FloatOps F]
variable (c : Dev nD) (i : grid0.Coords) (arg1 : Memref sig .tc .vmem S256x3840 .bf16) (harg1 : arg1.IsWhole) (arg2 : Memref sig .tc .vmem S1x1024x3840 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)
  (x0 : Vec F S256x3840 .bf16) (x1 : Vec F S1x1024x3840 .bf16) (x2 : Vec F S256x1024 .f32) (x3 : Vec F S1x1024 .f32) (x4 : Vec F S256x1024 .f32) (x6 : Vec F S1x1024 .f32)

/-- The input gradient's block at the first point. -/
theorem out_A5 (hc0 : cond0_0 i) : out0_A_5 c i arg1 harg1 arg2 harg2 arg3 harg3 arg4 harg4 arg5 harg5 arg6 harg6 arg7 harg7 hc0 x0 x1 x2 x3 x4 = k0_pay5 x2 x0 x1 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg7.read_unread, View.ld_unit_zero (S := S256x3840) hz, View.ld_unit_zero (S := S1x1024x3840) hz3, View.ld_unit_zero (S := S256x1024) hz, View.ld_unit_zero (S := S1x1024) hz]

/-- The input gradient's block at every other point. -/
theorem out_B5 (hc0 : ¬cond0_0 i) : out0_B_5 c i arg1 harg1 arg2 harg2 arg3 harg3 arg4 harg4 arg5 harg5 arg6 harg6 arg7 harg7 hc0 x0 x1 x2 x3 x4 x6 = k0_pay5 x2 x0 x1 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 x6)]
  unfold kernelRun0_B
  dsimp only
  sl_unfold_words
  rw [View.canon_unit_zero hz]
  simp only [View.readAt_eq_ld, harg1.read_unread, harg2.read_unread, harg3.read_unread, harg4.read_unread, harg5.read_unread, harg7.read_unread, View.ld_unit_zero (S := S256x3840) hz, View.ld_unit_zero (S := S1x1024x3840) hz3, View.ld_unit_zero (S := S256x1024) hz, View.ld_unit_zero (S := S1x1024) hz]

/-- The weight gradient at every other point: this block's rows added to what was held. -/
theorem out_B6 (hc0 : ¬cond0_0 i) : out0_B_6 c i arg1 harg1 arg2 harg2 arg3 harg3 arg4 harg4 arg5 harg5 arg6 harg6 arg7 harg7 hc0 x0 x1 x2 x3 x4 x6 = k0_pay1 (k0_pay3 x2) (k0_pay4 x0 x1) x6 := by
  unfold out0_B_6
  rw [View.read_writes_eq_canon _ _ _ (cover0_B_6 c i arg1 harg1 arg2 harg2 arg3 harg3 arg4 harg4 arg5 harg5 arg6 harg6 arg7 harg7 hc0 x0 x1 x2 x3 x4 x6)]
  unfold kernelRun0_B
  dsimp only
  sl_unfold_words
  rw [View.canon_unit_zero hz]
  simp only [View.readAt_eq_ld, harg1.read_unread, harg2.read_unread, harg3.read_unread, harg4.read_unread, harg5.read_unread, harg7.read_unread, View.ld_unit_zero (S := S256x3840) hz, View.ld_unit_zero (S := S1x1024x3840) hz3, View.ld_unit_zero (S := S256x1024) hz, View.ld_unit_zero (S := S1x1024) hz]

/-- The weight gradient at the first point: this block's rows added to zeros. -/
theorem out_A6 (hc0 : cond0_0 i) : out0_A_6 c i arg1 harg1 arg2 harg2 arg3 harg3 arg4 harg4 arg5 harg5 arg6 harg6 arg7 harg7 hc0 x0 x1 x2 x3 x4 = k0_pay1 (k0_pay3 x2) (k0_pay4 x0 x1) k0_pay6 := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x1024) hz]
  simp only [View.readAt_eq_ld, harg1.read_unread, harg2.read_unread, harg3.read_unread, harg4.read_unread, harg5.read_unread, harg7.read_unread, View.ld_unit_zero (S := S256x3840) hz, View.ld_unit_zero (S := S1x1024x3840) hz3, View.ld_unit_zero (S := S256x1024) hz, View.ld_unit_zero (S := S1x1024) hz]
  simp (disch := decide) only [View.readCov_skip, View.readCov_fill]
  rw [View.ld_unit_zero (S := S1x1024) hz]

end Cases

/-! ## The two blocks, entry by entry -/

/-- Row `r` of the product of a block of the incoming gradient with the transposed weights. -/
def dBlock (x0 : Vec Ideal S256x3840 .bf16) (x1 : Vec Ideal S1x1024x3840 .bf16) (r : Fin 256) (k : Fin 1024) : EReal :=
  ∑ q : Fin 3840, (x0 (ix2 r q) * x1 (ix3 0 k q) : EReal)

theorem pay4_apply (x0 : Vec Ideal S256x3840 .bf16) (x1 : Vec Ideal S1x1024x3840 .bf16) (r : Fin 256) (l : Fin 1024) :
    k0_pay4 (F := Ideal) x0 x1 (ix2 r l) = dBlock x0 x1 r l := by
  pointwise [k0_pay4]
  rfl

theorem pay3_apply (x2 : Vec Ideal S256x1024 .f32) (r : Fin 256) (l : Fin 1024) :
    k0_pay3 (F := Ideal) x2 (ix2 r l) = (x2 (ix2 r l) * rs (fun k => x2 (ix2 r k)) : EReal) := by
  pointwise [k0_pay2, k0_pay3]
  rfl

theorem pay5_apply (x0 : Vec Ideal S256x3840 .bf16) (x1 : Vec Ideal S1x1024x3840 .bf16) (x2 : Vec Ideal S256x1024 .f32) (x3 : Vec Ideal S1x1024 .f32) (x4 : Vec Ideal S256x1024 .f32) (r : Fin 256) (l : Fin 1024) :
    (k0_pay5 (F := Ideal)) x2 x0 x1 x3 x4 (ix2 r l)
      = dxK (fun k => x2 (ix2 r k)) (dBlock x0 x1 r) (fun k => x3 (ix2 0 k)) (x4 (ix2 r l)) l := by
  pointwise [k0_pay2, k0_pay3, k0_pay4, k0_pay5]
  rfl

theorem pay1_apply (a b : Vec Ideal S256x1024 .f32) (acc : Vec Ideal S1x1024 .f32) (l : Fin 1024) :
    k0_pay1 (F := Ideal) a b acc (ix2 0 l) = (acc (ix2 0 l) + ∑ r : Fin 256, (b (ix2 r l) * a (ix2 r l) : EReal) : EReal) := by
  pointwise [k0_pay1]

theorem pay6_apply (l : Fin 1024) : k0_pay6 (F := Ideal) (ix2 0 l) = (0 : EReal) := by
  pointwise [k0_pay6]

/-! ## The blocks the windows read -/

variable (m : (ℓ : Loc nD τ sig) → Buf (Elt Ideal) ℓ) (c : Dev nD)

/-- The projection's gradient. -/
abbrev gIn : (⟨2, ![2048, 3840]⟩ : Shape).Idx → EReal := m ((c : Thread nD τ).loc main_arg0)
/-- The projection's weights. -/
abbrev wIn : (⟨2, ![1024, 3840]⟩ : Shape).Idx → EReal := m ((c : Thread nD τ).loc main_arg1)
/-- The norm's input. -/
abbrev xIn : (⟨2, ![2048, 1024]⟩ : Shape).Idx → EReal := m ((c : Thread nD τ).loc main_arg2)
/-- The norm's weight. -/
abbrev nIn : (⟨2, ![1, 1024]⟩ : Shape).Idx → EReal := m ((c : Thread nD τ).loc main_arg3)
/-- The gradient that passed the norm by. -/
abbrev sIn : (⟨2, ![2048, 1024]⟩ : Shape).Idx → EReal := m ((c : Thread nD τ).loc main_arg4)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem block0 (t : Fin cfg0.N) (r : Fin 256) (l : Fin 3840) :
    (iblk m c 0 t : Vec Ideal S256x3840 .bf16) (ix2 r l) = entry (gIn m c) (256 * t.val + r.val) l.val := by
  unfold iblk
  rw [View.read_apply]
  refine eq_entry (N := 2048) (K := 3840) (gIn m c) _ _ _ ?_ ?_
  · show win0_0.index t 0 * 256 + 1 * r.val = _; rw [(index0 t).1]; omega
  · show win0_0.index t 1 * 3840 + 1 * l.val = _; rw [(index0 t).2]; omega

theorem block2 (t : Fin cfg0.N) (r : Fin 256) (l : Fin 1024) :
    (iblk m c 2 t : Vec Ideal S256x1024 .f32) (ix2 r l) = entry (xIn m c) (256 * t.val + r.val) l.val := by
  unfold iblk
  rw [View.read_apply]
  refine eq_entry (N := 2048) (K := 1024) (xIn m c) _ _ _ ?_ ?_
  · show win0_2.index t 0 * 256 + 1 * r.val = _; rw [(index2 t).1]; omega
  · show win0_2.index t 1 * 1024 + 1 * l.val = _; rw [(index2 t).2]; omega

theorem block3 (t : Fin cfg0.N) (r : Fin 1) (l : Fin 1024) :
    (iblk m c 3 t : Vec Ideal S1x1024 .f32) (ix2 r l) = entry (nIn m c) 0 l.val := by
  unfold iblk
  rw [View.read_apply]
  refine eq_entry (N := 1) (K := 1024) (nIn m c) _ _ _ ?_ ?_
  · show win0_3.index t 0 * 1 + 1 * r.val = _; rw [(index3 t).1]; omega
  · show win0_3.index t 1 * 1024 + 1 * l.val = _; rw [(index3 t).2]; omega

theorem block4 (t : Fin cfg0.N) (r : Fin 256) (l : Fin 1024) :
    (iblk m c 4 t : Vec Ideal S256x1024 .f32) (ix2 r l) = entry (sIn m c) (256 * t.val + r.val) l.val := by
  unfold iblk
  rw [View.read_apply]
  refine eq_entry (N := 2048) (K := 1024) (sIn m c) _ _ _ ?_ ?_
  · show win0_4.index t 0 * 256 + 1 * r.val = _; rw [(index4 t).1]; omega
  · show win0_4.index t 1 * 1024 + 1 * l.val = _; rw [(index4 t).2]; omega

/-- The weights reach the region with a leading axis of one. -/
theorem stacked (i : S1x1024x3840.Idx) : (V m c main_v0 : S1x1024x3840.Idx → EReal) i = wIn m c (ix2 (i 1) (i 2)) := by
  rw [show (V m c main_v0 : S1x1024x3840.Idx → EReal) = broadcastInDim S1x1024x3840 ![1, 2] bcast_S1024x3840_S1x1024x3840_1_2 (wIn m c) from rfl]
  obtain ⟨a, r, l, rfl⟩ : ∃ (a : Fin 1) (r : Fin 1024) (l : Fin 3840), i = ix3 a r l := ⟨i 0, i 1, i 2, eq_ix3 i⟩
  pointwise []

theorem block1 (t : Fin cfg0.N) (r : Fin 1024) (l : Fin 3840) :
    (iblk m c 1 t : Vec Ideal S1x1024x3840 .bf16) (ix3 0 r l) = entry (wIn m c) r.val l.val := by
  unfold iblk
  rw [View.read_apply]
  refine (stacked m c _).trans (eq_entry (N := 1024) (K := 3840) (wIn m c) _ _ _ ?_ ?_)
  · show win0_1.index t 1 * 1024 + 1 * r.val = _; rw [(index1 t).2.1]; omega
  · show win0_1.index t 2 * 3840 + 1 * l.val = _; rw [(index1 t).2.2]; omega

/-! ## The arrays after the run -/

/-- Row `r` of the norm's input. -/
def X (r : ℕ) (k : Fin 1024) : EReal := entry (xIn m c) r k.val
/-- Row `r` of the gradient of the norm's result: the projection's gradient times its weights transposed. -/
def D (r : ℕ) (k : Fin 1024) : EReal := nt 3840 (gIn m c) (wIn m c) r k.val
/-- The norm's weight. -/
def W (k : Fin 1024) : EReal := entry (nIn m c) 0 k.val

theorem rowX (t : Fin cfg0.N) (r : Fin 256) : (fun k => (iblk m c 2 t : Vec Ideal S256x1024 .f32) (ix2 r k)) = X m c (256 * t.val + r.val) :=
  funext fun k => block2 m c t r k
theorem rowD (t : Fin cfg0.N) (r : Fin 256) :
    dBlock (iblk m c 0 t) (iblk m c 1 t) r = D m c (256 * t.val + r.val) := by
  funext k
  unfold D nt dBlock
  exact Finset.sum_congr rfl fun q _ => congrArg₂ (fun a b : EReal => a * b) (block0 m c t r q) (block1 m c t k q)
theorem rowW (t : Fin cfg0.N) : (fun k => (iblk m c 3 t : Vec Ideal S1x1024 .f32) (ix2 0 k)) = W m c :=
  funext fun k => block3 m c t 0 k

/-- The input gradient's block after point `t`. -/
theorem dx_after (t : Fin cfg0.N) (r : Fin 256) (l : Fin 1024) :
    ((outsAt0 m c t.val t.isLt).1 (ix2 r l) : EReal)
      = dxK (X m c (256 * t.val + r.val)) (D m c (256 * t.val + r.val)) (W m c) (entry (sIn m c) (256 * t.val + r.val) l.val) l := by
  have key : (outsAt0 m c t.val t.isLt).1 = (k0_pay5 (F := Ideal)) (iblk m c 2 t) (iblk m c 0 t) (iblk m c 1 t) (iblk m c 3 t) (iblk m c 4 t) := by
    by_cases h0 : t.val % 8 = 0
    · rw [outsAt0_A m c t h0, out_A5]
    · rw [outsAt0_B m c t h0, out_B5]
  rw [key, pay5_apply, rowX, rowD, rowW, block4]

/-- One row's summand of the weight gradient. -/
def G (l : Fin 1024) (r : ℕ) : EReal := D m c r l * (X m c r l * rs (X m c r))

/-- One point's contribution to the weight gradient. -/
theorem step_eq (t : Fin cfg0.N) (acc : Vec Ideal S1x1024 .f32) (l : Fin 1024) (s : EReal) (hs : acc (ix2 0 l) = s) :
    k0_pay1 (F := Ideal) (k0_pay3 (iblk m c 2 t)) (k0_pay4 (iblk m c 0 t) (iblk m c 1 t)) acc (ix2 0 l)
      = (s + ∑ r : Fin 256, G m c l (256 * t.val + r.val) : EReal) := by
  rw [pay1_apply, hs]
  refine congrArg (s + ·) (Finset.sum_congr rfl fun r _ => ?_)
  rw [pay3_apply, pay4_apply, rowX]
  unfold G
  exact congrArg₂ (fun a b : EReal => a * b) (congrFun (rowD m c t r) l) (congrArg (· * _) (block2 m c t r l))

theorem dw_A (t : Fin cfg0.N) (h0 : t.val % 8 = 0) : (outsAt0 m c t.val t.isLt).2
    = k0_pay1 (F := Ideal) (k0_pay3 (iblk m c 2 t)) (k0_pay4 (iblk m c 0 t) (iblk m c 1 t)) (k0_pay6 (F := Ideal)) := by
  rw [outsAt0_A m c t h0, out_A6]
theorem dw_B (t : Fin cfg0.N) (h0 : ¬t.val % 8 = 0) : (outsAt0 m c t.val t.isLt).2
    = k0_pay1 (F := Ideal) (k0_pay3 (iblk m c 2 t)) (k0_pay4 (iblk m c 0 t) (iblk m c 1 t))
        (outsAt0 m c (t.val - 1) (Nat.lt_of_le_of_lt (Nat.sub_le _ _) t.isLt)).2 := by
  rw [outsAt0_B m c t h0, out_B6]

theorem lt_points (n : ℕ) (h : n < cfg0.N) : n < 8 := lt_of_lt_of_eq h N_0

/-- The weight gradient after point `n`: the sum over the rows read so far. -/
theorem dw_after (l : Fin 1024) : ∀ (n : ℕ) (h : n < cfg0.N),
    ((outsAt0 m c n h).2 (ix2 0 l) : EReal) = dwTo (256 * n + 256) (G m c l) := by
  intro n
  induction n with
  | zero =>
    intro h
    refine (congrFun (dw_A m c ⟨0, h⟩ rfl) (ix2 0 l)).trans ?_
    refine (step_eq m c ⟨0, h⟩ _ l 0 (pay6_apply _)).trans ?_
    refine Eq.trans ?_ (dwTo_add _ _).symm
    refine congrArg (· + _) ?_
    rfl
  | succ n ih =>
    intro h
    have h8 := lt_points _ h
    refine (congrFun (dw_B m c ⟨n + 1, h⟩ (by dsimp only; omega)) (ix2 0 l)).trans ?_
    refine (step_eq m c ⟨n + 1, h⟩ _ l _ (ih (Nat.lt_of_succ_lt h))).trans ?_
    refine Eq.trans ?_ (dwTo_add _ _).symm
    rfl

/-- The input gradient, as the result array's contents. -/
def dxOut : S2048x1024.Idx → EReal := fun i => dxK (X m c (i 0).val) (D m c (i 0).val) (W m c) (entry (sIn m c) (i 0).val (i 1).val) (i 1)
/-- The weight gradient, as the result array's contents. -/
def dwOut : S1x1024.Idx → EReal := fun i => dwTo 2048 (G m c (i 1))

theorem dx_congr {r r' : ℕ} {l l' : Fin 1024} (hr : r = r') (hl : l = l') :
    dxK (X m c r) (D m c r) (W m c) (entry (sIn m c) r l.val) l = dxK (X m c r') (D m c r') (W m c) (entry (sIn m c) r' l'.val) l' := by
  rw [hr, hl]

theorem final_dx : (dats m 0 c).arrAt 5 cfg0.N = dxOut m c := by
  refine (dats m 0 c).arrAt_eq_of_cover 5 (dxOut m c) (fun t _ => ?_) fun i => ?_
  · rw [Value.flushed5]
    funext j
    rw [View.read_apply]
    have e := dx_after m c t (j 0) (j 1)
    refine (congrArg (outsAt0 m c t.val t.isLt).1 (?_ : _ = ix2 (j 0) (j 1))).trans (e.trans ?_)
    · funext a; match a with | ⟨0, _⟩ => rfl | ⟨1, _⟩ => rfl
    · refine dx_congr m c ?_ (Fin.ext ?_)
      · show _ = win0_5.index t 0 * 256 + 1 * (j 0).val; rw [(index5 t).1]; omega
      · show (j 1).val = win0_5.index t 1 * 1024 + 1 * (j 1).val; rw [(index5 t).2]; omega
  · have h0 : (i 0 : ℕ) < 2048 := (i 0).isLt
    have h1 : (i 1 : ℕ) < 1024 := (i 1).isLt
    refine ⟨⟨(i 0 : ℕ) / 256, by rw [show cfg0.N = 8 from N_0]; omega⟩, flush0_5 _, ?_⟩
    generalize ht : (⟨(i 0 : ℕ) / 256, _⟩ : Fin cfg0.N) = t
    have hv : t.val = (i 0 : ℕ) / 256 := by rw [← ht]
    show i ∈ ((View.whole main_v1_0).slice (win0_5.rect t)).set
    rw [View.set_slice_whole, Rect.mem_set_unit]
    intro a
    match a with
    | ⟨0, _⟩ => show win0_5.index t 0 * 256 ≤ (i 0 : ℕ) ∧ (i 0 : ℕ) < win0_5.index t 0 * 256 + 256
                rw [(index5 t).1]; omega
    | ⟨1, _⟩ => show win0_5.index t 1 * 1024 ≤ (i 1 : ℕ) ∧ (i 1 : ℕ) < win0_5.index t 1 * 1024 + 1024
                rw [(index5 t).2]; omega

theorem final_dw : (dats m 0 c).arrAt 6 cfg0.N = dwOut m c := by
  refine (dats m 0 c).arrAt_eq_of_cover 6 (dwOut m c) (fun t hf => ?_) fun i => ?_
  · have h7 := (flush0_6 t).mp hf
    have h8 := lt_points _ t.isLt
    have h7' : t.val = 7 := by omega
    rw [Value.flushed6]
    funext j
    rw [View.read_apply]
    have e := dw_after m c (j 1) t.val t.isLt
    refine (congrArg (outsAt0 m c t.val t.isLt).2 (?_ : _ = ix2 0 (j 1))).trans (e.trans ?_)
    · funext a; match a with | ⟨0, _⟩ => exact Subsingleton.elim (α := Fin 1) _ _ | ⟨1, _⟩ => rfl
    · rw [h7']
      refine congrArg (fun l => dwTo 2048 (G m c l)) (Fin.ext ?_)
      show (j 1).val = win0_6.index t 1 * 1024 + 1 * (j 1).val; rw [(index6 t).2]; omega
  · have h0 : (i 0 : ℕ) < 1 := (i 0).isLt
    have h1 : (i 1 : ℕ) < 1024 := (i 1).isLt
    refine ⟨⟨7, by rw [show cfg0.N = 8 from N_0]; omega⟩, (flush0_6 _).mpr (by dsimp only), ?_⟩
    generalize ht : (⟨7, _⟩ : Fin cfg0.N) = t
    show i ∈ ((View.whole main_v1_1).slice (win0_6.rect t)).set
    rw [View.set_slice_whole, Rect.mem_set_unit]
    intro a
    match a with
    | ⟨0, _⟩ => show win0_6.index t 0 * 1 ≤ (i 0 : ℕ) ∧ (i 0 : ℕ) < win0_6.index t 0 * 1 + 1
                rw [(index6 t).1]; omega
    | ⟨1, _⟩ => show win0_6.index t 1 * 1024 ≤ (i 1 : ℕ) ∧ (i 1 : ℕ) < win0_6.index t 1 * 1024 + 1024
                rw [(index6 t).2]; omega

end Cert.Kernel3Ideal.Norm

namespace Cert.Reference3Ideal.Norm

open Cert.Reference3Ideal Cert.Reference3Ideal.Read Cert.Conv Cert.Product Cert.Norm
open Idealize.ShloMosaic

variable (x0 : (⟨2, ![2048, 3840]⟩ : Shape).Idx → EReal) (x1 : (⟨2, ![1024, 3840]⟩ : Shape).Idx → EReal) (x2 : (⟨2, ![2048, 1024]⟩ : Shape).Idx → EReal)
  (x3 : (⟨2, ![1, 1024]⟩ : Shape).Idx → EReal) (x4 : (⟨2, ![2048, 1024]⟩ : Shape).Idx → EReal)

/-- The reference's input gradient, entry by entry. -/
theorem dx_apply (r : Fin 2048) (l : Fin 1024) :
    val_main_v41 (F := Ideal) x0 x1 x2 x3 x4 (ix2 r l)
      = dxR (fun k => x2 (ix2 r k)) (fun k => ∑ q : Fin 3840, (x0 (ix2 r q) * x1 (ix2 k q) : EReal)) (fun k => x3 (ix2 0 k)) (x4 (ix2 r l)) l := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_0, val_main_cst_1, val_main_cst_2, val_main_cst_3, val_main_cst_4, val_main_cst_5, val_main_cst_6, val_main_cst_7]
  rfl

/-- The reference's weight gradient, entry by entry. -/
theorem dw_raw (l : Fin 1024) :
    val_main_v42 (F := Ideal) x0 x1 x2 (ix2 0 l)
      = ∑ _u : Fin 1, ∑ r : Fin 2048, (x2 (ix2 r l) * rs (fun k => x2 (ix2 r k)) * (∑ q : Fin 3840, (x0 (ix2 r q) * x1 (ix2 l q) : EReal)) : EReal) := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_0, val_main_cst_1, val_main_cst_2, val_main_cst_3, val_main_cst_4, val_main_cst_5, val_main_cst_6, val_main_cst_7]
  rfl

end Cert.Reference3Ideal.Norm

namespace Cert.Proof

open Idealize.ShloMosaic Idealize.ShloMosaic.TcCoe Idealize.SL.Sem
open Cert.Conv Cert.Product Cert.Norm

/-- The reference runs, leaves its arguments unchanged and, declaring no semaphore, ends with every counter at zero. -/
theorem reference_frame3 : Cert.quiescent_Reference3Ideal := by
  intro m g _
  exact (θ_run Cert.Reference3Ideal.defs _ _).mono
    (fun r h => ⟨fun c => (h c).2.2, sem_eq_zero_of_no_sems (by decide) r.2⟩) (Cert.Reference3Ideal.Value.run (F := Ideal) m g)

/-- The first norm's backward: the kernel and its reference compute the same two arrays. -/
theorem algebraic3 : Cert.algebraic_Kernel3Ideal_Reference3Ideal := by
  intro m g m' g' _ hargs
  refine ⟨fun c => Cert.Kernel3Ideal.Norm.dxOut m c, fun c => Cert.Kernel3Ideal.Norm.dwOut m c, ?_, ?_⟩
  · refine (θ_run Cert.Kernel3Ideal.defs _ _).mono (fun r h c => ?_) (Cert.Kernel3Ideal.Value.run_blocks (F := Ideal) m g)
    obtain ⟨h5, h6, ha⟩ := h c
    exact ⟨h5.trans (Cert.Kernel3Ideal.Norm.final_dx m c), h6.trans (Cert.Kernel3Ideal.Norm.final_dw m c), ha⟩
  · refine (θ_run Cert.Reference3Ideal.defs _ _).mono (fun r h c => ?_) (Cert.Reference3Ideal.Value.run (F := Ideal) m' g')
    obtain ⟨h5, h6, ha⟩ := h c
    obtain ⟨e0, e1, e2, e3, e4⟩ := hargs c
    refine ⟨?_, ?_, ha⟩
    · rw [h5, Cert.Reference3Ideal.Read.val_main_v41_eq, e0, e1, e2, e3, e4]
      funext i
      obtain ⟨r, l, rfl⟩ : ∃ (r : Fin 2048) (l : Fin 1024), i = ix2 r l := ⟨i 0, i 1, eq_ix2 i⟩
      refine (Cert.Reference3Ideal.Norm.dx_apply _ _ _ _ _ r l).trans ?_
      refine (dx_eq _ _ _ _ l).symm.trans ?_
      unfold Cert.Kernel3Ideal.Norm.dxOut
      have hX : Cert.Kernel3Ideal.Norm.X m c r.val = fun k => Cert.Kernel3Ideal.Norm.xIn m c (ix2 r k) :=
        funext fun k => entry_of_lt _ _ _ r.isLt k.isLt
      have hD : Cert.Kernel3Ideal.Norm.D m c r.val
          = fun k => ∑ q : Fin 3840, (Cert.Kernel3Ideal.Norm.gIn m c (ix2 r q) * Cert.Kernel3Ideal.Norm.wIn m c (ix2 k q) : EReal) :=
        funext fun k => nt_eq _ _ r k
      have hW : Cert.Kernel3Ideal.Norm.W m c = fun k => Cert.Kernel3Ideal.Norm.nIn m c (ix2 0 k) :=
        funext fun k => entry_of_lt _ 0 _ (by omega) k.isLt
      have hS : entry (Cert.Kernel3Ideal.Norm.sIn m c) r.val l.val = Cert.Kernel3Ideal.Norm.sIn m c (ix2 r l) := entry_of_lt _ _ _ r.isLt l.isLt
      show _ = dxK (Cert.Kernel3Ideal.Norm.X m c r.val) (Cert.Kernel3Ideal.Norm.D m c r.val) (Cert.Kernel3Ideal.Norm.W m c)
        (entry (Cert.Kernel3Ideal.Norm.sIn m c) r.val l.val) l
      rw [hX, hD, hW, hS]
    · rw [h6, Cert.Reference3Ideal.Read.val_main_v42_eq, e0, e1, e2]
      funext i
      obtain ⟨u, l, rfl⟩ : ∃ (u : Fin 1) (l : Fin 1024), i = ix2 u l := ⟨i 0, i 1, eq_ix2 i⟩
      obtain rfl : u = 0 := Subsingleton.elim _ _
      refine (Cert.Reference3Ideal.Norm.dw_raw _ _ _ l).trans ?_
      show _ = dwTo 2048 (Cert.Kernel3Ideal.Norm.G m c l)
      unfold dwTo
      rw [Finset.univ_unique, Finset.sum_singleton, ← Fin.sum_univ_eq_sum_range (fun r => Cert.Kernel3Ideal.Norm.G m c l r)]
      refine Finset.sum_congr rfl fun r _ => ?_
      have hX : Cert.Kernel3Ideal.Norm.X m c r.val = fun k => Cert.Kernel3Ideal.Norm.xIn m c (ix2 r k) :=
        funext fun k => entry_of_lt _ _ _ r.isLt k.isLt
      have hD : Cert.Kernel3Ideal.Norm.D m c r.val l
          = ∑ q : Fin 3840, (Cert.Kernel3Ideal.Norm.gIn m c (ix2 r q) * Cert.Kernel3Ideal.Norm.wIn m c (ix2 l q) : EReal) :=
        nt_eq _ _ r l
      unfold Cert.Kernel3Ideal.Norm.G
      rw [hX, hD, mul_comm]

end Cert.Proof

end
-- ==== Proof.HeadSpec.lean ====
/-
  The head of the loss, one row of 1024 values at a time: half the mean of the squared differences between the normalised
  row and the target, and its gradients. The kernel scales the differences by `1 / 1024` and their squares by `1 / 2048`;
  differentiating the plain text scales twice the differences by `(1 / 2) / 1024` and divides each row's sum of squares by 1024.
-/
module

public import proofs.«01_k».proof.Proof.NormSpec

@[expose] public section

noncomputable section

namespace Cert.Norm

open Idealize.ShloMosaic Cert.Conv Cert.Product

/-- The difference between the normalised row and the target. -/
def err (X W T : Fin 1024 → EReal) (l : Fin 1024) : EReal := X l * rs X * W l - T l
/-- The kernel's gradient of the normalised row. -/
def dyK (X W T : Fin 1024 → EReal) (l : Fin 1024) : EReal := err X W T l * Ideal.ofBits FTy.f32 981467136#32
/-- The plain text's. -/
def dyR (X W T : Fin 1024 → EReal) (l : Fin 1024) : EReal :=
  Ideal.div (Ideal.ofBits FTy.f32 1056964608#32) (Ideal.ofBits FTy.f32 1149239296#32) * (Ideal.ofBits FTy.f32 1073741824#32 * err X W T l)
/-- The row's sum of squared differences. -/
def rowLoss (X W T : Fin 1024 → EReal) : EReal := ∑ k : Fin 1024, err X W T k * err X W T k
/-- The kernel's gradient of the row. -/
def dxHead (X W T : Fin 1024 → EReal) (l : Fin 1024) : EReal :=
  rs X * (dyK X W T l * W l - X l * rs X * Ideal.div (∑ k : Fin 1024, (dyK X W T k * W k * (X k * rs X) : EReal)) (Ideal.ofBits FTy.f32 1149239296#32))
/-- The plain text's. -/
def dxPlain (X W T : Fin 1024 → EReal) (l : Fin 1024) : EReal :=
  dyR X W T l * W l * rs X + X l * half X (dyR X W T) W + half X (dyR X W T) W * X l

theorem cHalf : Ideal.ofBits FTy.f32 1056964608#32 = ((1 / 2 : ℝ) : EReal) := by
  simp [Ideal.ofBits, Ideal.ieee, -EReal.coe_mul, -EReal.coe_neg]; norm_num
theorem cTwo : Ideal.ofBits FTy.f32 1073741824#32 = ((2 : ℝ) : EReal) := by
  simp [Ideal.ofBits, Ideal.ieee, -EReal.coe_mul, -EReal.coe_neg]; norm_num
theorem c1024th : Ideal.ofBits FTy.f32 981467136#32 = ((1 / 1024 : ℝ) : EReal) := by
  simp [Ideal.ofBits, Ideal.ieee, -EReal.coe_mul, -EReal.coe_neg]; norm_num
theorem c2048th : Ideal.ofBits FTy.f32 973078528#32 = ((1 / 2048 : ℝ) : EReal) := by
  simp [Ideal.ofBits, Ideal.ieee, -EReal.coe_mul, -EReal.coe_neg]; norm_num

/-- The two scalings of the difference agree. -/
theorem dy_eq (X W T : Fin 1024 → EReal) (l : Fin 1024) : dyK X W T l = dyR X W T l := by
  unfold dyK dyR
  rw [c1024th, cHalf, c1024, cTwo, div_coe _ _ (by norm_num), ← mul_assoc, ← EReal.coe_mul, mul_comm]
  refine congrArg (fun a : ℝ => (a : EReal) * err X W T l) ?_
  norm_num

/-- The two gradients of the row agree. -/
theorem head_eq (X W T : Fin 1024 → EReal) (l : Fin 1024) : dxHead X W T l = dxPlain X W T l := by
  have e : dyK X W T = dyR X W T := funext fun k => dy_eq X W T k
  have h := dx_eq X (dyK X W T) W 0 l
  unfold dxK dxR at h
  rw [zero_add, zero_add] at h
  unfold dxHead dxPlain
  rw [← e]
  exact h

/-- A finite factor that is not negative distributes over a sum. -/
theorem add_loss (a b : EReal) : (a + b) * Ideal.ofBits FTy.f32 973078528#32
    = a * Ideal.ofBits FTy.f32 973078528#32 + b * Ideal.ofBits FTy.f32 973078528#32 := by
  rw [c2048th]
  exact EReal.right_distrib_of_nonneg_of_ne_top (by exact_mod_cast (by norm_num : (0 : ℝ) ≤ 1 / 2048)) (EReal.coe_ne_top _) a b

/-- The loss: the rows' sums added and scaled once, or each divided by 1024, added and halved. -/
theorem loss_eq (L : ℕ → EReal) : dwTo 2048 L * Ideal.ofBits FTy.f32 973078528#32
    = Ideal.ofBits FTy.f32 1056964608#32 * ∑ r : Fin 2048, Ideal.div (L r.val) (Ideal.ofBits FTy.f32 1149239296#32) := by
  unfold dwTo
  simp only [div_1024]
  rw [Fin.sum_univ_eq_sum_range (fun r => L r * ((1 / 1024 : ℝ) : EReal)), sum_mul _ _ _ (by norm_num), c2048th, cHalf, mul_left_comm, ← EReal.coe_mul]
  refine congrArg (fun a : ℝ => (∑ r ∈ Finset.range 2048, L r) * (a : EReal)) ?_
  norm_num

end Cert.Norm

end
-- ==== Proof.LossHead.lean ====
/-
  The head of the loss: the down projection and the residual stream give the last hidden rows, which the kernel normalises,
  compares with the target and differentiates, 256 rows at a point. After its 8 grid points it holds the loss, the gradient
  of the hidden rows twice over, and, summed over the rows, of the norm's weight. So does differentiating the plain text.
-/
module

public import proofs.«01_k».proof.Defs
public import proofs.«01_k».proof.Proof.HeadSpec
public import proofs.«01_k».proof.Proof.Gen.Kernel4Ideal.Value
public import proofs.«01_k».proof.Proof.Gen.Reference4Ideal.Read
public import Idealize.ShloMosaic.Lib.Pipeline.ReadBack
public import Idealize.ShloMosaic.Lib.Pointwise
public import Idealize.ShloMosaic.Lib.KernelVsHost
public import Idealize.ShloMosaic.Lib.Quiescent

@[expose] public section

set_option maxRecDepth 16384

noncomputable section

namespace Cert.Kernel4Ideal.Head

open Cert.Kernel4Ideal Cert.Kernel4Ideal.Gen Cert.Conv Cert.Product Cert.Norm
open Idealize.ShloMosaic Idealize.ShloMosaic.TcCoe Idealize.SL.Sem
open Idealize.ShloMosaic.Pipeline (Dat)

theorem hz : (![0, 0] : Fin 2 → Nat) = fun _ => 0 := funext fun a => by match a with | ⟨0, _⟩ => rfl | ⟨1, _⟩ => rfl

section Cases

variable {F : FTy → Type} [FloatOps F]
variable (c : Dev nD) (i : grid0.Coords) (arg1 : Memref sig .tc .vmem S256x2816 .bf16) (harg1 : arg1.IsWhole) (arg2 : Memref sig .tc .vmem S2816x1024 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S8x128 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S1x1024 .f32) (harg9 : arg9.IsWhole)
  (x0 : Vec F S256x2816 .bf16) (x1 : Vec F S2816x1024 .bf16) (x2 : Vec F S256x1024 .f32) (x3 : Vec F S1x1024 .f32) (x4 : Vec F S256x1024 .f32) (x5 : Vec F S8x128 .f32) (x8 : Vec F S1x1024 .f32)

/-- The loss at the first point. -/
theorem out_A5 (hc0 : cond0_0 i) : out0_A_5 c i arg1 harg1 arg2 harg2 arg3 harg3 arg4 harg4 arg5 harg5 arg6 harg6 arg7 harg7 arg8 harg8 arg9 harg9 hc0 x0 x1 x2 x3 x4 = k0_pay4 (k0_pay8 x0 x1 x2 x3 x4) k0_pay2 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S8x128) hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]
  simp (disch := decide) only [View.readCov_skip, View.readCov_fill]
  rw [View.ld_unit_zero (S := S8x128) hz]

/-- The input gradient's block at the first point. -/
theorem out_A6 (hc0 : cond0_0 i) : out0_A_6 c i arg1 harg1 arg2 harg2 arg3 harg3 arg4 harg4 arg5 harg5 arg6 harg6 arg7 harg7 arg8 harg8 arg9 harg9 hc0 x0 x1 x2 x3 x4 = k0_pay10 x0 x1 x2 x3 x4 x3 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]

/-- Its copy in the products' format at the first point. -/
theorem out_A7 (hc0 : cond0_0 i) : out0_A_7 c i arg1 harg1 arg2 harg2 arg3 harg3 arg4 harg4 arg5 harg5 arg6 harg6 arg7 harg7 arg8 harg8 arg9 harg9 hc0 x0 x1 x2 x3 x4 = k0_pay11 x0 x1 x2 x3 x4 x3 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]

/-- The weight gradient at the first point. -/
theorem out_A8 (hc0 : cond0_0 i) : out0_A_8 c i arg1 harg1 arg2 harg2 arg3 harg3 arg4 harg4 arg5 harg5 arg6 harg6 arg7 harg7 arg8 harg8 arg9 harg9 hc0 x0 x1 x2 x3 x4 = k0_pay3 (k0_pay7 x0 x1 x2) (k0_pay9 x0 x1 x2 x3 x4) k0_pay1 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1024) hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]
  simp (disch := decide) only [View.readCov_skip, View.readCov_fill]
  rw [View.ld_unit_zero (S := S1x1024) hz]

/-- The loss at every other point. -/
theorem out_B5 (hc0 : ¬cond0_0 i) : out0_B_5 c i arg1 harg1 arg2 harg2 arg3 harg3 arg4 harg4 arg5 harg5 arg6 harg6 arg7 harg7 arg8 harg8 arg9 harg9 hc0 x0 x1 x2 x3 x4 x5 x8 = k0_pay4 (k0_pay8 x0 x1 x2 x3 x4) x5 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]

/-- The input gradient's block at every other point. -/
theorem out_B6 (hc0 : ¬cond0_0 i) : out0_B_6 c i arg1 harg1 arg2 harg2 arg3 harg3 arg4 harg4 arg5 harg5 arg6 harg6 arg7 harg7 arg8 harg8 arg9 harg9 hc0 x0 x1 x2 x3 x4 x5 x8 = k0_pay10 x0 x1 x2 x3 x4 x3 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]

/-- Its copy in the products' format at every other point. -/
theorem out_B7 (hc0 : ¬cond0_0 i) : out0_B_7 c i arg1 harg1 arg2 harg2 arg3 harg3 arg4 harg4 arg5 harg5 arg6 harg6 arg7 harg7 arg8 harg8 arg9 harg9 hc0 x0 x1 x2 x3 x4 x5 x8 = k0_pay11 x0 x1 x2 x3 x4 x3 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]

/-- The weight gradient at every other point. -/
theorem out_B8 (hc0 : ¬cond0_0 i) : out0_B_8 c i arg1 harg1 arg2 harg2 arg3 harg3 arg4 harg4 arg5 harg5 arg6 harg6 arg7 harg7 arg8 harg8 arg9 harg9 hc0 x0 x1 x2 x3 x4 x5 x8 = k0_pay3 (k0_pay7 x0 x1 x2) (k0_pay9 x0 x1 x2 x3 x4) x8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S256x2816) hz, View.ld_unit_zero (S := S2816x1024) hz, View.ld_unit_zero (S := S256x1024) hz, View.ld_unit_zero (S := S1x1024) hz, View.ld_unit_zero (S := S8x128) hz]

end Cases

/-! ## The blocks, entry by entry -/

/-- Row `r` of the hidden rows' block. -/
def xBlock (x0 : Vec Ideal S256x2816 .bf16) (x1 : Vec Ideal S2816x1024 .bf16) (x2 : Vec Ideal S256x1024 .f32) (r : Fin 256) (k : Fin 1024) : EReal :=
  (∑ q : Fin 2816, (x0 (ix2 r q) * x1 (ix2 q k) : EReal)) + x2 (ix2 r k)

section Payloads

variable (x0 : Vec Ideal S256x2816 .bf16) (x1 : Vec Ideal S2816x1024 .bf16) (x2 : Vec Ideal S256x1024 .f32) (x3 : Vec Ideal S1x1024 .f32) (x4 : Vec Ideal S256x1024 .f32)

theorem pay7_apply (r : Fin 256) (l : Fin 1024) :
    (k0_pay7 (F := Ideal)) x0 x1 x2 (ix2 r l) = (xBlock x0 x1 x2 r l * rs (xBlock x0 x1 x2 r) : EReal) := by
  pointwise [k0_pay5, k0_pay6, k0_pay7]
  rfl

theorem pay8_apply (r : Fin 256) (l : Fin 1024) :
    (k0_pay8 (F := Ideal)) x0 x1 x2 x3 x4 (ix2 r l) = err (xBlock x0 x1 x2 r) (fun k => x3 (ix2 0 k)) (fun k => x4 (ix2 r k)) l := by
  pointwise [k0_pay5, k0_pay6, k0_pay7, k0_pay8]
  rfl

theorem pay9_apply (r : Fin 256) (l : Fin 1024) :
    (k0_pay9 (F := Ideal)) x0 x1 x2 x3 x4 (ix2 r l) = dyK (xBlock x0 x1 x2 r) (fun k => x3 (ix2 0 k)) (fun k => x4 (ix2 r k)) l := by
  pointwise [k0_pay5, k0_pay6, k0_pay7, k0_pay8, k0_pay9]
  rfl

theorem pay10_apply (r : Fin 256) (l : Fin 1024) :
    (k0_pay10 (F := Ideal)) x0 x1 x2 x3 x4 x3 (ix2 r l) = dxHead (xBlock x0 x1 x2 r) (fun k => x3 (ix2 0 k)) (fun k => x4 (ix2 r k)) l := by
  pointwise [k0_pay5, k0_pay6, k0_pay7, k0_pay8, k0_pay9, k0_pay10]
  rfl

theorem pay11_apply (r : Fin 256) (l : Fin 1024) :
    (k0_pay11 (F := Ideal)) x0 x1 x2 x3 x4 x3 (ix2 r l) = dxHead (xBlock x0 x1 x2 r) (fun k => x3 (ix2 0 k)) (fun k => x4 (ix2 r k)) l :=
  pay10_apply x0 x1 x2 x3 x4 r l

theorem pay3_apply (a b : Vec Ideal S256x1024 .f32) (acc : Vec Ideal S1x1024 .f32) (l : Fin 1024) :
    k0_pay3 (F := Ideal) a b acc (ix2 0 l) = (acc (ix2 0 l) + ∑ r : Fin 256, (b (ix2 r l) * a (ix2 r l) : EReal) : EReal) := by
  pointwise [k0_pay3]

theorem pay4_apply (a : Vec Ideal S256x1024 .f32) (acc : Vec Ideal S8x128 .f32) (u : Fin 8) (l : Fin 128) :
    k0_pay4 (F := Ideal) a acc (ix2 u l)
      = (acc (ix2 u l) + (∑ r : Fin 256, ∑ k : Fin 1024, (a (ix2 r k) * a (ix2 r k) : EReal)) * Ideal.ofBits FTy.f32 973078528#32 : EReal) := by
  pointwise [k0_pay4]

theorem pay1_apply (l : Fin 1024) : k0_pay1 (F := Ideal) (ix2 0 l) = (0 : EReal) := by
  pointwise [k0_pay1]

theorem pay2_apply (u : Fin 8) (l : Fin 128) : k0_pay2 (F := Ideal) (ix2 u l) = (0 : EReal) := by
  pointwise [k0_pay2]

end Payloads

/-! ## The blocks the windows read -/

variable (m : (ℓ : Loc nD τ sig) → Buf (Elt Ideal) ℓ) (c : Dev nD)

/-- The activation. -/
abbrev aIn : (⟨2, ![2048, 2816]⟩ : Shape).Idx → EReal := m ((c : Thread nD τ).loc main_arg0)
/-- The down projection's weights. -/
abbrev wIn : (⟨2, ![2816, 1024]⟩ : Shape).Idx → EReal := m ((c : Thread nD τ).loc main_arg1)
/-- The residual stream. -/
abbrev sIn : (⟨2, ![2048, 1024]⟩ : Shape).Idx → EReal := m ((c : Thread nD τ).loc main_arg2)
/-- The norm's weight. -/
abbrev nIn : (⟨2, ![1, 1024]⟩ : Shape).Idx → EReal := m ((c : Thread nD τ).loc main_arg3)
/-- The target. -/
abbrev tIn : (⟨2, ![2048, 1024]⟩ : Shape).Idx → EReal := m ((c : Thread nD τ).loc main_arg4)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

theorem block0 (t : Fin cfg0.N) (r : Fin 256) (l : Fin 2816) :
    (iblk m c 0 t : Vec Ideal S256x2816 .bf16) (ix2 r l) = entry (aIn m c) (256 * t.val + r.val) l.val := by
  unfold iblk
  rw [View.read_apply]
  refine eq_entry (N := 2048) (K := 2816) (aIn m c) _ _ _ ?_ ?_
  · show win0_0.index t 0 * 256 + 1 * r.val = _; rw [(index0 t).1]; omega
  · show win0_0.index t 1 * 2816 + 1 * l.val = _; rw [(index0 t).2]; omega

theorem block1 (t : Fin cfg0.N) (r : Fin 2816) (l : Fin 1024) :
    (iblk m c 1 t : Vec Ideal S2816x1024 .bf16) (ix2 r l) = entry (wIn m c) r.val l.val := by
  unfold iblk
  rw [View.read_apply]
  refine eq_entry (N := 2816) (K := 1024) (wIn m c) _ _ _ ?_ ?_
  · show win0_1.index t 0 * 2816 + 1 * r.val = _; rw [(index1 t).1]; omega
  · show win0_1.index t 1 * 1024 + 1 * l.val = _; rw [(index1 t).2]; omega

theorem block2 (t : Fin cfg0.N) (r : Fin 256) (l : Fin 1024) :
    (iblk m c 2 t : Vec Ideal S256x1024 .f32) (ix2 r l) = entry (sIn m c) (256 * t.val + r.val) l.val := by
  unfold iblk
  rw [View.read_apply]
  refine eq_entry (N := 2048) (K := 1024) (sIn m c) _ _ _ ?_ ?_
  · show win0_2.index t 0 * 256 + 1 * r.val = _; rw [(index2 t).1]; omega
  · show win0_2.index t 1 * 1024 + 1 * l.val = _; rw [(index2 t).2]; omega

theorem block3 (t : Fin cfg0.N) (r : Fin 1) (l : Fin 1024) :
    (iblk m c 3 t : Vec Ideal S1x1024 .f32) (ix2 r l) = entry (nIn m c) 0 l.val := by
  unfold iblk
  rw [View.read_apply]
  refine eq_entry (N := 1) (K := 1024) (nIn m c) _ _ _ ?_ ?_
  · show win0_3.index t 0 * 1 + 1 * r.val = _; rw [(index3 t).1]; omega
  · show win0_3.index t 1 * 1024 + 1 * l.val = _; rw [(index3 t).2]; omega

theorem block4 (t : Fin cfg0.N) (r : Fin 256) (l : Fin 1024) :
    (iblk m c 4 t : Vec Ideal S256x1024 .f32) (ix2 r l) = entry (tIn m c) (256 * t.val + r.val) l.val := by
  unfold iblk
  rw [View.read_apply]
  refine eq_entry (N := 2048) (K := 1024) (tIn m c) _ _ _ ?_ ?_
  · show win0_4.index t 0 * 256 + 1 * r.val = _; rw [(index4 t).1]; omega
  · show win0_4.index t 1 * 1024 + 1 * l.val = _; rw [(index4 t).2]; omega

/-! ## The arrays after the run -/

/-- Row `r` of the last hidden rows. -/
def X (r : ℕ) (k : Fin 1024) : EReal := nn 2816 (aIn m c) (wIn m c) r k.val + entry (sIn m c) r k.val
/-- The norm's weight. -/
def W (k : Fin 1024) : EReal := entry (nIn m c) 0 k.val
/-- Row `r` of the target. -/
def T (r : ℕ) (k : Fin 1024) : EReal := entry (tIn m c) r k.val

theorem rowX (t : Fin cfg0.N) (r : Fin 256) : xBlock (iblk m c 0 t) (iblk m c 1 t) (iblk m c 2 t) r = X m c (256 * t.val + r.val) := by
  funext k
  unfold X nn xBlock
  exact congrArg₂ (fun a b : EReal => a + b)
    (Finset.sum_congr rfl fun q _ => congrArg₂ (fun a b : EReal => a * b) (block0 m c t r q) (block1 m c t q k)) (block2 m c t r k)
theorem rowW (t : Fin cfg0.N) : (fun k => (iblk m c 3 t : Vec Ideal S1x1024 .f32) (ix2 0 k)) = W m c :=
  funext fun k => block3 m c t 0 k
theorem rowT (t : Fin cfg0.N) (r : Fin 256) : (fun k => (iblk m c 4 t : Vec Ideal S256x1024 .f32) (ix2 r k)) = T m c (256 * t.val + r.val) :=
  funext fun k => block4 m c t r k

/-- The input gradient's block after point `t`. -/
theorem dx_after (t : Fin cfg0.N) (r : Fin 256) (l : Fin 1024) :
    ((outsAt0 m c t.val t.isLt).2.1 (ix2 r l) : EReal) = dxHead (X m c (256 * t.val + r.val)) (W m c) (T m c (256 * t.val + r.val)) l := by
  have key : (outsAt0 m c t.val t.isLt).2.1
      = (k0_pay10 (F := Ideal)) (iblk m c 0 t) (iblk m c 1 t) (iblk m c 2 t) (iblk m c 3 t) (iblk m c 4 t) (iblk m c 3 t) := by
    by_cases h0 : t.val % 8 = 0
    · rw [outsAt0_A m c t h0]; dsimp only; rw [out_A6]
    · rw [outsAt0_B m c t h0]; dsimp only; rw [out_B6]
  rw [key, pay10_apply, rowX, rowW, rowT]

/-- Its copy's block after point `t`. -/
theorem copy_after (t : Fin cfg0.N) (r : Fin 256) (l : Fin 1024) :
    ((outsAt0 m c t.val t.isLt).2.2.1 (ix2 r l) : EReal) = dxHead (X m c (256 * t.val + r.val)) (W m c) (T m c (256 * t.val + r.val)) l := by
  have key : (outsAt0 m c t.val t.isLt).2.2.1
      = (k0_pay11 (F := Ideal)) (iblk m c 0 t) (iblk m c 1 t) (iblk m c 2 t) (iblk m c 3 t) (iblk m c 4 t) (iblk m c 3 t) := by
    by_cases h0 : t.val % 8 = 0
    · rw [outsAt0_A m c t h0]; dsimp only; rw [out_A7]
    · rw [outsAt0_B m c t h0]; dsimp only; rw [out_B7]
  rw [key, pay11_apply, rowX, rowW, rowT]

/-- One row's summand of the weight gradient. -/
def G (l : Fin 1024) (r : ℕ) : EReal := dyK (X m c r) (W m c) (T m c r) l * (X m c r l * rs (X m c r))
/-- One row's sum of squares. -/
def L (r : ℕ) : EReal := rowLoss (X m c r) (W m c) (T m c r)

/-- One point's contribution to the weight gradient. -/
theorem step_dw (t : Fin cfg0.N) (acc : Vec Ideal S1x1024 .f32) (l : Fin 1024) (s : EReal) (hs : acc (ix2 0 l) = s) :
    k0_pay3 (F := Ideal) (k0_pay7 (iblk m c 0 t) (iblk m c 1 t) (iblk m c 2 t))
        (k0_pay9 (iblk m c 0 t) (iblk m c 1 t) (iblk m c 2 t) (iblk m c 3 t) (iblk m c 4 t)) acc (ix2 0 l)
      = (s + ∑ r : Fin 256, G m c l (256 * t.val + r.val) : EReal) := by
  rw [pay3_apply, hs]
  refine congrArg (s + ·) (Finset.sum_congr rfl fun r _ => ?_)
  rw [pay7_apply, pay9_apply, rowX, rowW, rowT]
  rfl

/-- One point's contribution to the loss. -/
theorem step_loss (t : Fin cfg0.N) (acc : Vec Ideal S8x128 .f32) (u : Fin 8) (l : Fin 128) (s : EReal) (hs : acc (ix2 u l) = s) :
    k0_pay4 (F := Ideal) (k0_pay8 (iblk m c 0 t) (iblk m c 1 t) (iblk m c 2 t) (iblk m c 3 t) (iblk m c 4 t)) acc (ix2 u l)
      = (s + (∑ r : Fin 256, L m c (256 * t.val + r.val)) * Ideal.ofBits FTy.f32 973078528#32 : EReal) := by
  rw [pay4_apply, hs]
  refine congrArg (fun e : EReal => s + e * Ideal.ofBits FTy.f32 973078528#32) (Finset.sum_congr rfl fun r _ => ?_)
  have hk : ∀ k : Fin 1024, (k0_pay8 (F := Ideal) (iblk m c 0 t) (iblk m c 1 t) (iblk m c 2 t) (iblk m c 3 t) (iblk m c 4 t) (ix2 r k) : EReal)
      = err (X m c (256 * t.val + r.val)) (W m c) (T m c (256 * t.val + r.val)) k := by
    intro k
    rw [pay8_apply, rowX, rowW, rowT]
  unfold L rowLoss
  exact Finset.sum_congr rfl fun k _ => congrArg₂ (fun a b : EReal => a * b) (hk k) (hk k)

theorem dw_A (t : Fin cfg0.N) (h0 : t.val % 8 = 0) : (outsAt0 m c t.val t.isLt).2.2.2
    = k0_pay3 (F := Ideal) (k0_pay7 (iblk m c 0 t) (iblk m c 1 t) (iblk m c 2 t))
        (k0_pay9 (iblk m c 0 t) (iblk m c 1 t) (iblk m c 2 t) (iblk m c 3 t) (iblk m c 4 t)) (k0_pay1 (F := Ideal)) := by
  rw [outsAt0_A m c t h0]; dsimp only; rw [out_A8]
theorem dw_B (t : Fin cfg0.N) (h0 : ¬t.val % 8 = 0) : (outsAt0 m c t.val t.isLt).2.2.2
    = k0_pay3 (F := Ideal) (k0_pay7 (iblk m c 0 t) (iblk m c 1 t) (iblk m c 2 t))
        (k0_pay9 (iblk m c 0 t) (iblk m c 1 t) (iblk m c 2 t) (iblk m c 3 t) (iblk m c 4 t))
        (outsAt0 m c (t.val - 1) (Nat.lt_of_le_of_lt (Nat.sub_le _ _) t.isLt)).2.2.2 := by
  rw [outsAt0_B m c t h0]; dsimp only; rw [out_B8]
theorem loss_A (t : Fin cfg0.N) (h0 : t.val % 8 = 0) : (outsAt0 m c t.val t.isLt).1
    = k0_pay4 (F := Ideal) (k0_pay8 (iblk m c 0 t) (iblk m c 1 t) (iblk m c 2 t) (iblk m c 3 t) (iblk m c 4 t)) (k0_pay2 (F := Ideal)) := by
  rw [outsAt0_A m c t h0]; dsimp only; rw [out_A5]
theorem loss_B (t : Fin cfg0.N) (h0 : ¬t.val % 8 = 0) : (outsAt0 m c t.val t.isLt).1
    = k0_pay4 (F := Ideal) (k0_pay8 (iblk m c 0 t) (iblk m c 1 t) (iblk m c 2 t) (iblk m c 3 t) (iblk m c 4 t))
        (outsAt0 m c (t.val - 1) (Nat.lt_of_le_of_lt (Nat.sub_le _ _) t.isLt)).1 := by
  rw [outsAt0_B m c t h0]; dsimp only; rw [out_B5]

theorem lt_points (n : ℕ) (h : n < cfg0.N) : n < 8 := lt_of_lt_of_eq h N_0

/-- The weight gradient after point `n`: the sum over the rows read so far. -/
theorem dw_after (l : Fin 1024) : ∀ (n : ℕ) (h : n < cfg0.N),
    ((outsAt0 m c n h).2.2.2 (ix2 0 l) : EReal) = dwTo (256 * n + 256) (G m c l) := by
  intro n
  induction n with
  | zero =>
    intro h
    refine (congrFun (dw_A m c ⟨0, h⟩ rfl) (ix2 0 l)).trans ?_
    refine (step_dw m c ⟨0, h⟩ _ l 0 (pay1_apply _)).trans ?_
    refine Eq.trans ?_ (dwTo_add _ _).symm
    refine congrArg (· + _) ?_
    rfl
  | succ n ih =>
    intro h
    have h8 := lt_points _ h
    refine (congrFun (dw_B m c ⟨n + 1, h⟩ (by dsimp only; omega)) (ix2 0 l)).trans ?_
    refine (step_dw m c ⟨n + 1, h⟩ _ l _ (ih (Nat.lt_of_succ_lt h))).trans ?_
    refine Eq.trans ?_ (dwTo_add _ _).symm
    rfl

/-- The loss after point `n`: the sum over the rows read so far, times its constant. -/
theorem loss_after (u : Fin 8) (l : Fin 128) : ∀ (n : ℕ) (h : n < cfg0.N),
    ((outsAt0 m c n h).1 (ix2 u l) : EReal) = dwTo (256 * n + 256) (L m c) * Ideal.ofBits FTy.f32 973078528#32 := by
  intro n
  induction n with
  | zero =>
    intro h
    refine (congrFun (loss_A m c ⟨0, h⟩ rfl) (ix2 u l)).trans ?_
    refine (step_loss m c ⟨0, h⟩ _ u l 0 (pay2_apply _ _)).trans ?_
    rw [dwTo_add, add_loss]
    refine congrArg (· + _) ?_
    exact (zero_mul _).symm
  | succ n ih =>
    intro h
    have h8 := lt_points _ h
    refine (congrFun (loss_B m c ⟨n + 1, h⟩ (by dsimp only; omega)) (ix2 u l)).trans ?_
    refine (step_loss m c ⟨n + 1, h⟩ _ u l _ (ih (Nat.lt_of_succ_lt h))).trans ?_
    refine Eq.trans ?_ (congrArg (· * Ideal.ofBits FTy.f32 973078528#32) (dwTo_add _ _)).symm
    refine Eq.trans ?_ (add_loss _ _).symm
    rfl

/-- The loss, as the result array's contents: the same value everywhere. -/
def lossOut : S8x128.Idx → EReal := fun _ => dwTo 2048 (L m c) * Ideal.ofBits FTy.f32 973078528#32
/-- The input gradient, as the contents of two result arrays. -/
def dxOut : S2048x1024.Idx → EReal := fun i => dxHead (X m c (i 0).val) (W m c) (T m c (i 0).val) (i 1)
/-- The weight gradient, as the result array's contents. -/
def dwOut : S1x1024.Idx → EReal := fun i => dwTo 2048 (G m c (i 1))

theorem dx_congr {r r' : ℕ} {l l' : Fin 1024} (hr : r = r') (hl : l = l') :
    dxHead (X m c r) (W m c) (T m c r) l = dxHead (X m c r') (W m c) (T m c r') l' := by
  rw [hr, hl]

theorem final_dx : (dats m 0 c).arrAt 6 cfg0.N = dxOut m c := by
  refine (dats m 0 c).arrAt_eq_of_cover 6 (dxOut m c) (fun t _ => ?_) fun i => ?_
  · rw [Value.flushed6]
    funext j
    rw [View.read_apply]
    have e := dx_after m c t (j 0) (j 1)
    refine (congrArg (outsAt0 m c t.val t.isLt).2.1 (?_ : _ = ix2 (j 0) (j 1))).trans (e.trans ?_)
    · funext a; match a with | ⟨0, _⟩ => rfl | ⟨1, _⟩ => rfl
    · refine dx_congr m c ?_ (Fin.ext ?_)
      · show _ = win0_6.index t 0 * 256 + 1 * (j 0).val; rw [(index6 t).1]; omega
      · show (j 1).val = win0_6.index t 1 * 1024 + 1 * (j 1).val; rw [(index6 t).2]; omega
  · have h0 : (i 0 : ℕ) < 2048 := (i 0).isLt
    have h1 : (i 1 : ℕ) < 1024 := (i 1).isLt
    refine ⟨⟨(i 0 : ℕ) / 256, by rw [show cfg0.N = 8 from N_0]; omega⟩, flush0_6 _, ?_⟩
    generalize ht : (⟨(i 0 : ℕ) / 256, _⟩ : Fin cfg0.N) = t
    have hv : t.val = (i 0 : ℕ) / 256 := by rw [← ht]
    show i ∈ ((View.whole main_v0_1).slice (win0_6.rect t)).set
    rw [View.set_slice_whole, Rect.mem_set_unit]
    intro a
    match a with
    | ⟨0, _⟩ => show win0_6.index t 0 * 256 ≤ (i 0 : ℕ) ∧ (i 0 : ℕ) < win0_6.index t 0 * 256 + 256
                rw [(index6 t).1]; omega
    | ⟨1, _⟩ => show win0_6.index t 1 * 1024 ≤ (i 1 : ℕ) ∧ (i 1 : ℕ) < win0_6.index t 1 * 1024 + 1024
                rw [(index6 t).2]; omega

theorem final_copy : (dats m 0 c).arrAt 7 cfg0.N = dxOut m c := by
  refine (dats m 0 c).arrAt_eq_of_cover 7 (dxOut m c) (fun t _ => ?_) fun i => ?_
  · rw [Value.flushed7]
    funext j
    rw [View.read_apply]
    have e := copy_after m c t (j 0) (j 1)
    refine (congrArg (outsAt0 m c t.val t.isLt).2.2.1 (?_ : _ = ix2 (j 0) (j 1))).trans (e.trans ?_)
    · funext a; match a with | ⟨0, _⟩ => rfl | ⟨1, _⟩ => rfl
    · refine dx_congr m c ?_ (Fin.ext ?_)
      · show _ = win0_7.index t 0 * 256 + 1 * (j 0).val; rw [(index7 t).1]; omega
      · show (j 1).val = win0_7.index t 1 * 1024 + 1 * (j 1).val; rw [(index7 t).2]; omega
  · have h0 : (i 0 : ℕ) < 2048 := (i 0).isLt
    have h1 : (i 1 : ℕ) < 1024 := (i 1).isLt
    refine ⟨⟨(i 0 : ℕ) / 256, by rw [show cfg0.N = 8 from N_0]; omega⟩, flush0_7 _, ?_⟩
    generalize ht : (⟨(i 0 : ℕ) / 256, _⟩ : Fin cfg0.N) = t
    have hv : t.val = (i 0 : ℕ) / 256 := by rw [← ht]
    show i ∈ ((View.whole main_v0_2).slice (win0_7.rect t)).set
    rw [View.set_slice_whole, Rect.mem_set_unit]
    intro a
    match a with
    | ⟨0, _⟩ => show win0_7.index t 0 * 256 ≤ (i 0 : ℕ) ∧ (i 0 : ℕ) < win0_7.index t 0 * 256 + 256
                rw [(index7 t).1]; omega
    | ⟨1, _⟩ => show win0_7.index t 1 * 1024 ≤ (i 1 : ℕ) ∧ (i 1 : ℕ) < win0_7.index t 1 * 1024 + 1024
                rw [(index7 t).2]; omega

theorem final_dw : (dats m 0 c).arrAt 8 cfg0.N = dwOut m c := by
  refine (dats m 0 c).arrAt_eq_of_cover 8 (dwOut m c) (fun t hf => ?_) fun i => ?_
  · have h7 := (flush0_8 t).mp hf
    have h8 := lt_points _ t.isLt
    have h7' : t.val = 7 := by omega
    rw [Value.flushed8]
    funext j
    rw [View.read_apply]
    have e := dw_after m c (j 1) t.val t.isLt
    refine (congrArg (outsAt0 m c t.val t.isLt).2.2.2 (?_ : _ = ix2 0 (j 1))).trans (e.trans ?_)
    · funext a; match a with | ⟨0, _⟩ => exact Subsingleton.elim (α := Fin 1) _ _ | ⟨1, _⟩ => rfl
    · rw [h7']
      refine congrArg (fun l => dwTo 2048 (G m c l)) (Fin.ext ?_)
      show (j 1).val = win0_8.index t 1 * 1024 + 1 * (j 1).val; rw [(index8 t).2]; omega
  · have h0 : (i 0 : ℕ) < 1 := (i 0).isLt
    have h1 : (i 1 : ℕ) < 1024 := (i 1).isLt
    refine ⟨⟨7, by rw [show cfg0.N = 8 from N_0]; omega⟩, (flush0_8 _).mpr (by dsimp only), ?_⟩
    generalize ht : (⟨7, _⟩ : Fin cfg0.N) = t
    show i ∈ ((View.whole main_v0_3).slice (win0_8.rect t)).set
    rw [View.set_slice_whole, Rect.mem_set_unit]
    intro a
    match a with
    | ⟨0, _⟩ => show win0_8.index t 0 * 1 ≤ (i 0 : ℕ) ∧ (i 0 : ℕ) < win0_8.index t 0 * 1 + 1
                rw [(index8 t).1]; omega
    | ⟨1, _⟩ => show win0_8.index t 1 * 1024 ≤ (i 1 : ℕ) ∧ (i 1 : ℕ) < win0_8.index t 1 * 1024 + 1024
                rw [(index8 t).2]; omega

theorem final_loss : (dats m 0 c).arrAt 5 cfg0.N = lossOut m c := by
  refine (dats m 0 c).arrAt_eq_of_cover 5 (lossOut m c) (fun t hf => ?_) fun i => ?_
  · have h7 := (flush0_5 t).mp hf
    have h8 := lt_points _ t.isLt
    have h7' : t.val = 7 := by omega
    rw [Value.flushed5]
    funext j
    rw [View.read_apply]
    have e := loss_after m c (j 0) (j 1) t.val t.isLt
    refine (congrArg (outsAt0 m c t.val t.isLt).1 (?_ : _ = ix2 (j 0) (j 1))).trans (e.trans ?_)
    · funext a; match a with | ⟨0, _⟩ => rfl | ⟨1, _⟩ => rfl
    · rw [h7']; rfl
  · have h0 : (i 0 : ℕ) < 8 := (i 0).isLt
    have h1 : (i 1 : ℕ) < 128 := (i 1).isLt
    refine ⟨⟨7, by rw [show cfg0.N = 8 from N_0]; omega⟩, (flush0_5 _).mpr (by dsimp only), ?_⟩
    generalize ht : (⟨7, _⟩ : Fin cfg0.N) = t
    show i ∈ ((View.whole main_v0_0).slice (win0_5.rect t)).set
    rw [View.set_slice_whole, Rect.mem_set_unit]
    intro a
    match a with
    | ⟨0, _⟩ => show win0_5.index t 0 * 8 ≤ (i 0 : ℕ) ∧ (i 0 : ℕ) < win0_5.index t 0 * 8 + 8
                rw [(index5 t).1]; omega
    | ⟨1, _⟩ => show win0_5.index t 1 * 128 ≤ (i 1 : ℕ) ∧ (i 1 : ℕ) < win0_5.index t 1 * 128 + 128
                rw [(index5 t).2]; omega

end Cert.Kernel4Ideal.Head

namespace Cert.Reference4Ideal.Head

open Cert.Reference4Ideal Cert.Reference4Ideal.Read Cert.Conv Cert.Product Cert.Norm
open Idealize.ShloMosaic

variable (x0 : (⟨2, ![2048, 2816]⟩ : Shape).Idx → EReal) (x1 : (⟨2, ![2816, 1024]⟩ : Shape).Idx → EReal) (x2 : (⟨2, ![2048, 1024]⟩ : Shape).Idx → EReal)
  (x3 : (⟨2, ![1, 1024]⟩ : Shape).Idx → EReal) (x4 : (⟨2, ![2048, 1024]⟩ : Shape).Idx → EReal)

/-- Row `r` of the reference's last hidden rows. -/
def hidden (r : Fin 2048) (k : Fin 1024) : EReal := x2 (ix2 r k) + ∑ q : Fin 2816, (x0 (ix2 r q) * x1 (ix2 q k) : EReal)

/-- The reference's loss, at every entry. -/
theorem loss_apply (u : Fin 8) (l : Fin 128) :
    val_main_v57 (F := Ideal) x0 x1 x2 x3 x4 (ix2 u l)
      = (Ideal.ofBits FTy.f32 1056964608#32 * ∑ r : Fin 2048, Ideal.div (rowLoss (hidden x0 x1 x2 r) (fun k => x3 (ix2 0 k)) (fun k => x4 (ix2 r k)))
          (Ideal.ofBits FTy.f32 1149239296#32) : EReal) := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

/-- The reference's input gradient, entry by entry. -/
theorem dx_apply (r : Fin 2048) (l : Fin 1024) :
    val_main_v55 (F := Ideal) x0 x1 x2 x3 x4 (ix2 r l)
      = dxPlain (hidden x0 x1 x2 r) (fun k => x3 (ix2 0 k)) (fun k => x4 (ix2 r k)) l := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

/-- Its copy. -/
theorem copy_apply (r : Fin 2048) (l : Fin 1024) :
    val_main_v58 (F := Ideal) x0 x1 x2 x3 x4 (ix2 r l)
      = dxPlain (hidden x0 x1 x2 r) (fun k => x3 (ix2 0 k)) (fun k => x4 (ix2 r k)) l := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

/-- The reference's weight gradient, entry by entry. -/
theorem dw_raw (l : Fin 1024) :
    val_main_v56 (F := Ideal) x0 x1 x2 x3 x4 (ix2 0 l)
      = ∑ _u : Fin 1, ∑ r : Fin 2048, (hidden x0 x1 x2 r l * rs (hidden x0 x1 x2 r)
          * dyR (hidden x0 x1 x2 r) (fun k => x3 (ix2 0 k)) (fun k => x4 (ix2 r k)) l : EReal) := by
  pointwise [val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

end Cert.Reference4Ideal.Head

namespace Cert.Proof

open Idealize.ShloMosaic Idealize.ShloMosaic.TcCoe Idealize.SL.Sem
open Cert.Conv Cert.Product Cert.Norm

/-- The reference runs, leaves its arguments unchanged and, declaring no semaphore, ends with every counter at zero. -/
theorem reference_frame4 : Cert.quiescent_Reference4Ideal := by
  intro m g _
  exact (θ_run Cert.Reference4Ideal.defs _ _).mono
    (fun r h => ⟨fun c => (h c).2.2.2.2, sem_eq_zero_of_no_sems (by decide) r.2⟩) (Cert.Reference4Ideal.Value.run (F := Ideal) m g)

section Rows

variable (m : (ℓ : Loc Cert.Kernel4Ideal.nD Cert.Kernel4Ideal.τ Cert.Kernel4Ideal.sig) → Buf (Elt Ideal) ℓ) (c : Dev Cert.Kernel4Ideal.nD)

/-- The kernel's hidden row is the reference's: the product and the stream are added in the other order. -/
theorem hidden_eq (r : Fin 2048) : Cert.Kernel4Ideal.Head.X m c r.val
    = Cert.Reference4Ideal.Head.hidden (Cert.Kernel4Ideal.Head.aIn m c) (Cert.Kernel4Ideal.Head.wIn m c) (Cert.Kernel4Ideal.Head.sIn m c) r := by
  funext k
  unfold Cert.Kernel4Ideal.Head.X Cert.Reference4Ideal.Head.hidden nn
  rw [add_comm]
  refine congrArg₂ (fun a b : EReal => a + b) (entry_of_lt _ _ _ r.isLt k.isLt) (Finset.sum_congr rfl fun q _ => ?_)
  exact congrArg₂ (fun a b : EReal => a * b) (entry_of_lt _ _ _ r.isLt q.isLt) (entry_of_lt _ _ _ q.isLt k.isLt)
theorem weight_eq : Cert.Kernel4Ideal.Head.W m c = fun k => Cert.Kernel4Ideal.Head.nIn m c (ix2 0 k) :=
  funext fun k => entry_of_lt _ 0 _ (by omega) k.isLt
theorem target_eq (r : Fin 2048) : Cert.Kernel4Ideal.Head.T m c r.val = fun k => Cert.Kernel4Ideal.Head.tIn m c (ix2 r k) :=
  funext fun k => entry_of_lt _ _ _ r.isLt k.isLt

end Rows

/-- The head of the loss: the kernel and its reference compute the same four arrays. -/
theorem algebraic4 : Cert.algebraic_Kernel4Ideal_Reference4Ideal := by
  intro m g m' g' _ hargs
  refine ⟨fun c => Cert.Kernel4Ideal.Head.lossOut m c, fun c => Cert.Kernel4Ideal.Head.dxOut m c, fun c => Cert.Kernel4Ideal.Head.dxOut m c,
    fun c => Cert.Kernel4Ideal.Head.dwOut m c, ?_, ?_⟩
  · refine (θ_run Cert.Kernel4Ideal.defs _ _).mono (fun r h c => ?_) (Cert.Kernel4Ideal.Value.run_blocks (F := Ideal) m g)
    obtain ⟨h5, h6, h7, h8, ha⟩ := h c
    exact ⟨h5.trans (Cert.Kernel4Ideal.Head.final_loss m c), h6.trans (Cert.Kernel4Ideal.Head.final_dx m c), h7.trans (Cert.Kernel4Ideal.Head.final_copy m c),
      h8.trans (Cert.Kernel4Ideal.Head.final_dw m c), ha⟩
  · refine (θ_run Cert.Reference4Ideal.defs _ _).mono (fun r h c => ?_) (Cert.Reference4Ideal.Value.run (F := Ideal) m' g')
    obtain ⟨h5, h6, h7, h8, ha⟩ := h c
    obtain ⟨e0, e1, e2, e3, e4⟩ := hargs c
    have dx : ∀ (r : Fin 2048) (l : Fin 1024),
        dxPlain (Cert.Reference4Ideal.Head.hidden (Cert.Kernel4Ideal.Head.aIn m c) (Cert.Kernel4Ideal.Head.wIn m c) (Cert.Kernel4Ideal.Head.sIn m c) r)
          (fun k => Cert.Kernel4Ideal.Head.nIn m c (ix2 0 k)) (fun k => Cert.Kernel4Ideal.Head.tIn m c (ix2 r k)) l = Cert.Kernel4Ideal.Head.dxOut m c (ix2 r l) := by
      intro r l
      refine (head_eq _ _ _ l).symm.trans ?_
      show _ = dxHead (Cert.Kernel4Ideal.Head.X m c r.val) (Cert.Kernel4Ideal.Head.W m c) (Cert.Kernel4Ideal.Head.T m c r.val) l
      rw [hidden_eq, weight_eq, target_eq]
    refine ⟨?_, ?_, ?_, ?_, ha⟩
    · rw [h5, Cert.Reference4Ideal.Read.val_main_v57_eq, e0, e1, e2, e3, e4]
      funext i
      obtain ⟨u, l, rfl⟩ : ∃ (u : Fin 8) (l : Fin 128), i = ix2 u l := ⟨i 0, i 1, eq_ix2 i⟩
      refine (Cert.Reference4Ideal.Head.loss_apply _ _ _ _ _ u l).trans ?_
      show _ = dwTo 2048 (Cert.Kernel4Ideal.Head.L m c) * Ideal.ofBits FTy.f32 973078528#32
      rw [loss_eq]
      refine congrArg (Ideal.ofBits FTy.f32 1056964608#32 * ·) (Finset.sum_congr rfl fun r _ => ?_)
      unfold Cert.Kernel4Ideal.Head.L
      rw [hidden_eq, weight_eq, target_eq]
    · rw [h6, Cert.Reference4Ideal.Read.val_main_v55_eq, e0, e1, e2, e3, e4]
      funext i
      obtain ⟨r, l, rfl⟩ : ∃ (r : Fin 2048) (l : Fin 1024), i = ix2 r l := ⟨i 0, i 1, eq_ix2 i⟩
      exact (Cert.Reference4Ideal.Head.dx_apply _ _ _ _ _ r l).trans (dx r l)
    · rw [h7, Cert.Reference4Ideal.Read.val_main_v58_eq, e0, e1, e2, e3, e4]
      funext i
      obtain ⟨r, l, rfl⟩ : ∃ (r : Fin 2048) (l : Fin 1024), i = ix2 r l := ⟨i 0, i 1, eq_ix2 i⟩
      exact (Cert.Reference4Ideal.Head.copy_apply _ _ _ _ _ r l).trans (dx r l)
    · rw [h8, Cert.Reference4Ideal.Read.val_main_v56_eq, e0, e1, e2, e3, e4]
      funext i
      obtain ⟨u, l, rfl⟩ : ∃ (u : Fin 1) (l : Fin 1024), i = ix2 u l := ⟨i 0, i 1, eq_ix2 i⟩
      obtain rfl : u = 0 := Subsingleton.elim _ _
      refine (Cert.Reference4Ideal.Head.dw_raw _ _ _ _ _ l).trans ?_
      show _ = dwTo 2048 (Cert.Kernel4Ideal.Head.G m c l)
      unfold dwTo
      rw [Finset.univ_unique, Finset.sum_singleton, ← Fin.sum_univ_eq_sum_range (fun r => Cert.Kernel4Ideal.Head.G m c l r)]
      refine Finset.sum_congr rfl fun r _ => ?_
      unfold Cert.Kernel4Ideal.Head.G
      rw [hidden_eq, weight_eq, target_eq, dy_eq, mul_comm]

end Cert.Proof

end
-- ==== Proof.ProductDWdown.lean ====
/-
  The gradient of the down projection: after its 11 grid points the result array of the kernel is the product of the two argument arrays, and so
  is the reference's.
-/
module

public import proofs.«01_k».proof.Defs
public import proofs.«01_k».proof.Proof.ProductSpec
public import proofs.«01_k».proof.Proof.Gen.Kernel5Ideal.Value
public import proofs.«01_k».proof.Proof.Gen.Reference5Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel5Ideal.Product

open Cert.Kernel5Ideal Cert.Kernel5Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The left factor. -/
abbrev aIn : (⟨2, ![2048, 2816]⟩ : Shape).Idx → EReal := m ((c : Thread nD τ).loc main_arg0)
/-- The right factor. -/
abbrev bIn : (⟨2, ![2048, 1024]⟩ : Shape).Idx → EReal := m ((c : Thread nD τ).loc main_arg1)

theorem index0 : ∀ t : Fin cfg0.N, win0_0.index t 0 = 0 ∧ win0_0.index t 1 = t.val % 11 :=
  (by decide +kernel : ∀ t : Fin grid0.N, win0_0.index t 0 = 0 ∧ win0_0.index t 1 = t.val % 11)
theorem index1 : ∀ t : Fin cfg0.N, win0_1.index t 0 = 0 ∧ win0_1.index t 1 = t.val / 11 :=
  (by decide +kernel : ∀ t : Fin grid0.N, win0_1.index t 0 = 0 ∧ win0_1.index t 1 = t.val / 11)
theorem index2 : ∀ t : Fin cfg0.N, win0_2.index t 0 = t.val % 11 ∧ win0_2.index t 1 = t.val / 11 :=
  (by decide +kernel : ∀ t : Fin grid0.N, win0_2.index t 0 = t.val % 11 ∧ win0_2.index t 1 = t.val / 11)

theorem lt_points (t : Fin cfg0.N) : t.val < 11 := lt_of_lt_of_eq t.isLt N_0

theorem block0 (t : Fin cfg0.N) (r : Fin 2048) (l : Fin 256) :
    (iblk m c 0 t : Vec Ideal S2048x256 .bf16) (ix2 r l) = entry (aIn m c) r.val (256 * (t.val % 11) + l.val) := by
  unfold iblk
  rw [View.read_apply]
  refine eq_entry (N := 2048) (K := 2816) (aIn m c) _ _ _ ?_ ?_
  · show win0_0.index t 0 * 2048 + 1 * r.val = _; rw [(index0 t).1]; omega
  · show win0_0.index t 1 * 256 + 1 * l.val = _; rw [(index0 t).2]; omega

theorem block1 (t : Fin cfg0.N) (r : Fin 2048) (l : Fin 1024) :
    (iblk m c 1 t : Vec Ideal S2048x1024 .bf16) (ix2 r l) = entry (bIn m c) r.val (1024 * (t.val / 11) + l.val) := by
  unfold iblk
  rw [View.read_apply]
  refine eq_entry (N := 2048) (K := 1024) (bIn m c) _ _ _ ?_ ?_
  · show win0_1.index t 0 * 2048 + 1 * r.val = _; rw [(index1 t).1]; omega
  · show win0_1.index t 1 * 1024 + 1 * l.val = _; rw [(index1 t).2]; omega

theorem hz : (![0, 0] : Fin 2 → Nat) = fun _ => 0 := funext fun a => by match a with | ⟨0, _⟩ => rfl | ⟨1, _⟩ => rfl

/-- What the body stores is the product of the two blocks. -/
theorem out_eq (x0 : Vec Ideal S2048x256 .bf16) (x1 : Vec Ideal S2048x1024 .bf16) : out0_2 x0 x1 = k0_pay1 x0 x1 := by
  unfold out0_2
  rw [View.canon_unit_zero hz]
  simp only [View.ld_unit_zero (S := S2048x256) hz, View.ld_unit_zero (S := S2048x1024) hz]

theorem pay_apply (x0 : Vec Ideal S2048x256 .bf16) (x1 : Vec Ideal S2048x1024 .bf16) (r : Fin 256) (l : Fin 1024) :
    k0_pay1 (F := Ideal) x0 x1 (ix2 r l) = (∑ k : Fin 2048, (x0 (ix2 k r) * x1 (ix2 k l) : EReal) : EReal) := by
  pointwise [k0_pay1]

/-- The product, as the result array's contents. -/
def prod : S2816x1024.Idx → EReal := fun i => tn 2048 (aIn m c) (bIn m c) (i 0).val (i 1).val

theorem final : (dats m 0 c).arrAt 2 cfg0.N = prod m c := by
  refine (dats m 0 c).arrAt_eq_of_cover 2 (prod m c) (fun t _ => ?_) fun i => ?_
  · rw [Value.flushed2, out_eq]
    funext j
    rw [View.read_apply]
    refine (congrArg (k0_pay1 _ _) (?_ : _ = ix2 (j 0) (j 1))).trans ((pay_apply _ _ (j 0) (j 1)).trans ?_)
    · funext a; match a with | ⟨0, _⟩ => rfl | ⟨1, _⟩ => rfl
    · refine Eq.trans ?_ (congrArg₂ (tn 2048 (aIn m c) (bIn m c)) (?_ : 256 * (t.val % 11) + (j 0).val = _) (?_ : 1024 * (t.val / 11) + (j 1).val = _))
      · unfold tn
        exact Finset.sum_congr rfl fun k _ => congrArg₂ (· * ·) (block0 m c t _ _) (block1 m c t _ _)
      · show _ = win0_2.index t 0 * 256 + 1 * (j 0).val; rw [(index2 t).1]; omega
      · show _ = win0_2.index t 1 * 1024 + 1 * (j 1).val; rw [(index2 t).2]; omega
  · have h0 : (i 0 : ℕ) < 2816 := (i 0).isLt
    have h1 : (i 1 : ℕ) < 1024 := (i 1).isLt
    refine ⟨⟨11 * ((i 1 : ℕ) / 1024) + (i 0 : ℕ) / 256, by rw [show cfg0.N = 11 from N_0]; omega⟩, flush0_2 _, ?_⟩
    generalize ht : (⟨11 * ((i 1 : ℕ) / 1024) + (i 0 : ℕ) / 256, _⟩ : Fin cfg0.N) = t
    have hv : t.val = 11 * ((i 1 : ℕ) / 1024) + (i 0 : ℕ) / 256 := by rw [← ht]
    show i ∈ ((View.whole main_v0).slice (win0_2.rect t)).set
    rw [View.set_slice_whole, Rect.mem_set_unit]
    intro a
    match a with
    | ⟨0, _⟩ => show win0_2.index t 0 * 256 ≤ (i 0 : ℕ) ∧ (i 0 : ℕ) < win0_2.index t 0 * 256 + 256
                rw [(index2 t).1]; omega
    | ⟨1, _⟩ => show win0_2.index t 1 * 1024 ≤ (i 1 : ℕ) ∧ (i 1 : ℕ) < win0_2.index t 1 * 1024 + 1024
                rw [(index2 t).2]; omega

end Cert.Kernel5Ideal.Product

namespace Cert.Reference5Ideal.Product

open Cert.Reference5Ideal Cert.Reference5Ideal.Read Cert.Conv Cert.Product
open Idealize.ShloMosaic

theorem val_apply (x0 : (⟨2, ![2048, 2816]⟩ : Shape).Idx → EReal) (x1 : (⟨2, ![2048, 1024]⟩ : Shape).Idx → EReal) (r : Fin 2816) (l : Fin 1024) :
    val_main_v5 (F := Ideal) x0 x1 (ix2 r l) = tn 2048 x0 x1 r.val l.val := by
  pointwise [val_main_cst, val_main_v0, val_main_v1, val_main_v2, val_main_v3, val_main_v4, val_main_v5]
  unfold tn
  refine Finset.sum_congr rfl fun k _ => ?_
  rw [entry_of_lt x0 _ _ (by omega) (by omega), entry_of_lt x1 _ _ (by omega) (by omega)]
  exact mul_comm _ _

end Cert.Reference5Ideal.Product

namespace Cert.Proof

open Idealize.ShloMosaic Idealize.ShloMosaic.TcCoe Idealize.SL.Sem

/-- The reference runs, leaves its arguments unchanged and, declaring no semaphore, ends with every counter at zero. -/
theorem reference_frame5 : Cert.quiescent_Reference5Ideal := by
  intro m g _
  exact (θ_run Cert.Reference5Ideal.defs _ _).mono
    (fun r h => ⟨fun c => (h c).2, sem_eq_zero_of_no_sems (by decide) r.2⟩) (Cert.Reference5Ideal.Value.run (F := Ideal) m g)

/-- The gradient of the down projection: the kernel and its reference compute the same array over the extended reals. -/
theorem algebraic5 : Cert.algebraic_Kernel5Ideal_Reference5Ideal := by
  intro m g m' g' _ hargs
  refine ⟨fun c => Cert.Kernel5Ideal.Product.prod m c, ?_, ?_⟩
  · refine (θ_run Cert.Kernel5Ideal.defs _ _).mono (fun r h c => ?_) (Cert.Kernel5Ideal.Value.run_blocks (F := Ideal) m g)
    obtain ⟨h2, ha⟩ := h c
    exact ⟨h2.trans (Cert.Kernel5Ideal.Product.final m c), ha⟩
  · refine (θ_run Cert.Reference5Ideal.defs _ _).mono (fun r h c => ?_) (Cert.Reference5Ideal.Value.run (F := Ideal) m' g')
    obtain ⟨h2, ha⟩ := h c
    obtain ⟨e0, e1⟩ := hargs c
    refine ⟨?_, ha⟩
    rw [h2, Cert.Reference5Ideal.Read.val_main_v5_eq, e0, e1]
    funext i
    obtain ⟨r, l, rfl⟩ : ∃ (r : Fin 2816) (l : Fin 1024), i = ix2 r l := ⟨i 0, i 1, eq_ix2 i⟩
    exact Cert.Reference5Ideal.Product.val_apply _ _ r l

end Cert.Proof

end
-- ==== Proof.ProductDAct.lean ====
/-
  The gradient of the gated activation: after its 4 grid points the result array of the kernel is the product of the two argument arrays, and so
  is the reference's.
-/
module

public import proofs.«01_k».proof.Defs
public import proofs.«01_k».proof.Proof.ProductSpec
public import proofs.«01_k».proof.Proof.Gen.Kernel6Ideal.Value
public import proofs.«01_k».proof.Proof.Gen.Reference6Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel6Ideal.Product

open Cert.Kernel6Ideal Cert.Kernel6Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The left factor. -/
abbrev aIn : (⟨2, ![2048, 1024]⟩ : Shape).Idx → EReal := m ((c : Thread nD τ).loc main_arg0)
/-- The right factor. -/
abbrev bIn : (⟨2, ![2816, 1024]⟩ : Shape).Idx → EReal := m ((c : Thread nD τ).loc main_arg1)

theorem index0 : ∀ t : Fin cfg0.N, win0_0.index t 0 = t.val % 2 ∧ win0_0.index t 1 = 0 :=
  (by decide +kernel : ∀ t : Fin grid0.N, win0_0.index t 0 = t.val % 2 ∧ win0_0.index t 1 = 0)
theorem index1 : ∀ t : Fin cfg0.N, win0_1.index t 0 = t.val / 2 ∧ win0_1.index t 1 = 0 :=
  (by decide +kernel : ∀ t : Fin grid0.N, win0_1.index t 0 = t.val / 2 ∧ win0_1.index t 1 = 0)
theorem index2 : ∀ t : Fin cfg0.N, win0_2.index t 0 = t.val % 2 ∧ win0_2.index t 1 = t.val / 2 :=
  (by decide +kernel : ∀ t : Fin grid0.N, win0_2.index t 0 = t.val % 2 ∧ win0_2.index t 1 = t.val / 2)

theorem lt_points (t : Fin cfg0.N) : t.val < 4 := lt_of_lt_of_eq t.isLt N_0

theorem block0 (t : Fin cfg0.N) (r : Fin 1024) (l : Fin 1024) :
    (iblk m c 0 t : Vec Ideal S1024x1024 .bf16) (ix2 r l) = entry (aIn m c) (1024 * (t.val % 2) + r.val) l.val := by
  unfold iblk
  rw [View.read_apply]
  refine eq_entry (N := 2048) (K := 1024) (aIn m c) _ _ _ ?_ ?_
  · show win0_0.index t 0 * 1024 + 1 * r.val = _; rw [(index0 t).1]; omega
  · show win0_0.index t 1 * 1024 + 1 * l.val = _; rw [(index0 t).2]; omega

theorem block1 (t : Fin cfg0.N) (r : Fin 1408) (l : Fin 1024) :
    (iblk m c 1 t : Vec Ideal S1408x1024 .bf16) (ix2 r l) = entry (bIn m c) (1408 * (t.val / 2) + r.val) l.val := by
  unfold iblk
  rw [View.read_apply]
  refine eq_entry (N := 2816) (K := 1024) (bIn m c) _ _ _ ?_ ?_
  · show win0_1.index t 0 * 1408 + 1 * r.val = _; rw [(index1 t).1]; omega
  · show win0_1.index t 1 * 1024 + 1 * l.val = _; rw [(index1 t).2]; omega

theorem hz : (![0, 0] : Fin 2 → Nat) = fun _ => 0 := funext fun a => by match a with | ⟨0, _⟩ => rfl | ⟨1, _⟩ => rfl

/-- What the body stores is the product of the two blocks. -/
theorem out_eq (x0 : Vec Ideal S1024x1024 .bf16) (x1 : Vec Ideal S1408x1024 .bf16) : out0_2 x0 x1 = k0_pay1 x0 x1 := by
  unfold out0_2
  rw [View.canon_unit_zero hz]
  simp only [View.ld_unit_zero (S := S1024x1024) hz, View.ld_unit_zero (S := S1408x1024) hz]

theorem pay_apply (x0 : Vec Ideal S1024x1024 .bf16) (x1 : Vec Ideal S1408x1024 .bf16) (r : Fin 1024) (l : Fin 1408) :
    k0_pay1 (F := Ideal) x0 x1 (ix2 r l) = (∑ k : Fin 1024, (x0 (ix2 r k) * x1 (ix2 l k) : EReal) : EReal) := by
  pointwise [k0_pay1]

/-- The product, as the result array's contents. -/
def prod : S2048x2816.Idx → EReal := fun i => nt 1024 (aIn m c) (bIn m c) (i 0).val (i 1).val

theorem final : (dats m 0 c).arrAt 2 cfg0.N = prod m c := by
  refine (dats m 0 c).arrAt_eq_of_cover 2 (prod m c) (fun t _ => ?_) fun i => ?_
  · rw [Value.flushed2, out_eq]
    funext j
    rw [View.read_apply]
    refine (congrArg (k0_pay1 _ _) (?_ : _ = ix2 (j 0) (j 1))).trans ((pay_apply _ _ (j 0) (j 1)).trans ?_)
    · funext a; match a with | ⟨0, _⟩ => rfl | ⟨1, _⟩ => rfl
    · refine Eq.trans ?_ (congrArg₂ (nt 1024 (aIn m c) (bIn m c)) (?_ : 1024 * (t.val % 2) + (j 0).val = _) (?_ : 1408 * (t.val / 2) + (j 1).val = _))
      · unfold nt
        exact Finset.sum_congr rfl fun k _ => congrArg₂ (· * ·) (block0 m c t _ _) (block1 m c t _ _)
      · show _ = win0_2.index t 0 * 1024 + 1 * (j 0).val; rw [(index2 t).1]; omega
      · show _ = win0_2.index t 1 * 1408 + 1 * (j 1).val; rw [(index2 t).2]; omega
  · have h0 : (i 0 : ℕ) < 2048 := (i 0).isLt
    have h1 : (i 1 : ℕ) < 2816 := (i 1).isLt
    refine ⟨⟨2 * ((i 1 : ℕ) / 1408) + (i 0 : ℕ) / 1024, by rw [show cfg0.N = 4 from N_0]; omega⟩, flush0_2 _, ?_⟩
    generalize ht : (⟨2 * ((i 1 : ℕ) / 1408) + (i 0 : ℕ) / 1024, _⟩ : Fin cfg0.N) = t
    have hv : t.val = 2 * ((i 1 : ℕ) / 1408) + (i 0 : ℕ) / 1024 := by rw [← ht]
    show i ∈ ((View.whole main_v0).slice (win0_2.rect t)).set
    rw [View.set_slice_whole, Rect.mem_set_unit]
    intro a
    match a with
    | ⟨0, _⟩ => show win0_2.index t 0 * 1024 ≤ (i 0 : ℕ) ∧ (i 0 : ℕ) < win0_2.index t 0 * 1024 + 1024
                rw [(index2 t).1]; omega
    | ⟨1, _⟩ => show win0_2.index t 1 * 1408 ≤ (i 1 : ℕ) ∧ (i 1 : ℕ) < win0_2.index t 1 * 1408 + 1408
                rw [(index2 t).2]; omega

end Cert.Kernel6Ideal.Product

namespace Cert.Reference6Ideal.Product

open Cert.Reference6Ideal Cert.Reference6Ideal.Read Cert.Conv Cert.Product
open Idealize.ShloMosaic

theorem val_apply (x0 : (⟨2, ![2048, 1024]⟩ : Shape).Idx → EReal) (x1 : (⟨2, ![2816, 1024]⟩ : Shape).Idx → EReal) (r : Fin 2048) (l : Fin 2816) :
    val_main_v4 (F := Ideal) x0 x1 (ix2 r l) = nt 1024 x0 x1 r.val l.val := by
  pointwise [val_main_cst, val_main_v0, val_main_v1, val_main_v2, val_main_v3, val_main_v4]
  unfold nt
  refine Finset.sum_congr rfl fun k _ => ?_
  rw [entry_of_lt x0 _ _ (by omega) (by omega), entry_of_lt x1 _ _ (by omega) (by omega)]

end Cert.Reference6Ideal.Product

namespace Cert.Proof

open Idealize.ShloMosaic Idealize.ShloMosaic.TcCoe Idealize.SL.Sem

/-- The reference runs, leaves its arguments unchanged and, declaring no semaphore, ends with every counter at zero. -/
theorem reference_frame6 : Cert.quiescent_Reference6Ideal := by
  intro m g _
  exact (θ_run Cert.Reference6Ideal.defs _ _).mono
    (fun r h => ⟨fun c => (h c).2, sem_eq_zero_of_no_sems (by decide) r.2⟩) (Cert.Reference6Ideal.Value.run (F := Ideal) m g)

/-- The gradient of the gated activation: the kernel and its reference compute the same array over the extended reals. -/
theorem algebraic6 : Cert.algebraic_Kernel6Ideal_Reference6Ideal := by
  intro m g m' g' _ hargs
  refine ⟨fun c => Cert.Kernel6Ideal.Product.prod m c, ?_, ?_⟩
  · refine (θ_run Cert.Kernel6Ideal.defs _ _).mono (fun r h c => ?_) (Cert.Kernel6Ideal.Value.run_blocks (F := Ideal) m g)
    obtain ⟨h2, ha⟩ := h c
    exact ⟨h2.trans (Cert.Kernel6Ideal.Product.final m c), ha⟩
  · refine (θ_run Cert.Reference6Ideal.defs _ _).mono (fun r h c => ?_) (Cert.Reference6Ideal.Value.run (F := Ideal) m' g')
    obtain ⟨h2, ha⟩ := h c
    obtain ⟨e0, e1⟩ := hargs c
    refine ⟨?_, ha⟩
    rw [h2, Cert.Reference6Ideal.Read.val_main_v4_eq, e0, e1]
    funext i
    obtain ⟨r, l, rfl⟩ : ∃ (r : Fin 2048) (l : Fin 2816), i = ix2 r l := ⟨i 0, i 1, eq_ix2 i⟩
    exact Cert.Reference6Ideal.Product.val_apply _ _ r l

end Cert.Proof

end
-- ==== Proof.ProductDWout.lean ====
/-
  The gradient of the output projection: after its 2 grid points the result array of the kernel is the product of the two argument arrays, and so
  is the reference's.
-/
module

public import proofs.«01_k».proof.Defs
public import proofs.«01_k».proof.Proof.ProductSpec
public import proofs.«01_k».proof.Proof.Gen.Kernel7Ideal.Value
public import proofs.«01_k».proof.Proof.Gen.Reference7Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel7Ideal.Product

open Cert.Kernel7Ideal Cert.Kernel7Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The left factor. -/
abbrev aIn : (⟨2, ![2048, 1024]⟩ : Shape).Idx → EReal := m ((c : Thread nD τ).loc main_arg0)
/-- The right factor. -/
abbrev bIn : (⟨2, ![2048, 1024]⟩ : Shape).Idx → EReal := m ((c : Thread nD τ).loc main_arg1)

theorem index0 : ∀ t : Fin cfg0.N, win0_0.index t 0 = 0 ∧ win0_0.index t 1 = t.val % 2 :=
  (by decide +kernel : ∀ t : Fin grid0.N, win0_0.index t 0 = 0 ∧ win0_0.index t 1 = t.val % 2)
theorem index1 : ∀ t : Fin cfg0.N, win0_1.index t 0 = 0 ∧ win0_1.index t 1 = t.val / 2 :=
  (by decide +kernel : ∀ t : Fin grid0.N, win0_1.index t 0 = 0 ∧ win0_1.index t 1 = t.val / 2)
theorem index2 : ∀ t : Fin cfg0.N, win0_2.index t 0 = t.val % 2 ∧ win0_2.index t 1 = t.val / 2 :=
  (by decide +kernel : ∀ t : Fin grid0.N, win0_2.index t 0 = t.val % 2 ∧ win0_2.index t 1 = t.val / 2)

theorem lt_points (t : Fin cfg0.N) : t.val < 2 := lt_of_lt_of_eq t.isLt N_0

theorem block0 (t : Fin cfg0.N) (r : Fin 2048) (l : Fin 512) :
    (iblk m c 0 t : Vec Ideal S2048x512 .f32) (ix2 r l) = entry (aIn m c) r.val (512 * (t.val % 2) + l.val) := by
  unfold iblk
  rw [View.read_apply]
  refine eq_entry (N := 2048) (K := 1024) (aIn m c) _ _ _ ?_ ?_
  · show win0_0.index t 0 * 2048 + 1 * r.val = _; rw [(index0 t).1]; omega
  · show win0_0.index t 1 * 512 + 1 * l.val = _; rw [(index0 t).2]; omega

theorem block1 (t : Fin cfg0.N) (r : Fin 2048) (l : Fin 1024) :
    (iblk m c 1 t : Vec Ideal S2048x1024 .f32) (ix2 r l) = entry (bIn m c) r.val (1024 * (t.val / 2) + l.val) := by
  unfold iblk
  rw [View.read_apply]
  refine eq_entry (N := 2048) (K := 1024) (bIn m c) _ _ _ ?_ ?_
  · show win0_1.index t 0 * 2048 + 1 * r.val = _; rw [(index1 t).1]; omega
  · show win0_1.index t 1 * 1024 + 1 * l.val = _; rw [(index1 t).2]; omega

theorem hz : (![0, 0] : Fin 2 → Nat) = fun _ => 0 := funext fun a => by match a with | ⟨0, _⟩ => rfl | ⟨1, _⟩ => rfl

/-- What the body stores is the product of the two blocks. -/
theorem out_eq (x0 : Vec Ideal S2048x512 .f32) (x1 : Vec Ideal S2048x1024 .f32) : out0_2 x0 x1 = k0_pay1 x0 x1 := by
  unfold out0_2
  rw [View.canon_unit_zero hz]
  simp only [View.ld_unit_zero (S := S2048x512) hz, View.ld_unit_zero (S := S2048x1024) hz]

theorem pay_apply (x0 : Vec Ideal S2048x512 .f32) (x1 : Vec Ideal S2048x1024 .f32) (r : Fin 512) (l : Fin 1024) :
    k0_pay1 (F := Ideal) x0 x1 (ix2 r l) = (∑ k : Fin 2048, (x0 (ix2 k r) * x1 (ix2 k l) : EReal) : EReal) := by
  pointwise [k0_pay1]

/-- The product, as the result array's contents. -/
def prod : S1024x1024.Idx → EReal := fun i => tn 2048 (aIn m c) (bIn m c) (i 0).val (i 1).val

theorem final : (dats m 0 c).arrAt 2 cfg0.N = prod m c := by
  refine (dats m 0 c).arrAt_eq_of_cover 2 (prod m c) (fun t _ => ?_) fun i => ?_
  · rw [Value.flushed2, out_eq]
    funext j
    rw [View.read_apply]
    refine (congrArg (k0_pay1 _ _) (?_ : _ = ix2 (j 0) (j 1))).trans ((pay_apply _ _ (j 0) (j 1)).trans ?_)
    · funext a; match a with | ⟨0, _⟩ => rfl | ⟨1, _⟩ => rfl
    · refine Eq.trans ?_ (congrArg₂ (tn 2048 (aIn m c) (bIn m c)) (?_ : 512 * (t.val % 2) + (j 0).val = _) (?_ : 1024 * (t.val / 2) + (j 1).val = _))
      · unfold tn
        exact Finset.sum_congr rfl fun k _ => congrArg₂ (· * ·) (block0 m c t _ _) (block1 m c t _ _)
      · show _ = win0_2.index t 0 * 512 + 1 * (j 0).val; rw [(index2 t).1]; omega
      · show _ = win0_2.index t 1 * 1024 + 1 * (j 1).val; rw [(index2 t).2]; omega
  · have h0 : (i 0 : ℕ) < 1024 := (i 0).isLt
    have h1 : (i 1 : ℕ) < 1024 := (i 1).isLt
    refine ⟨⟨2 * ((i 1 : ℕ) / 1024) + (i 0 : ℕ) / 512, by rw [show cfg0.N = 2 from N_0]; omega⟩, flush0_2 _, ?_⟩
    generalize ht : (⟨2 * ((i 1 : ℕ) / 1024) + (i 0 : ℕ) / 512, _⟩ : Fin cfg0.N) = t
    have hv : t.val = 2 * ((i 1 : ℕ) / 1024) + (i 0 : ℕ) / 512 := by rw [← ht]
    show i ∈ ((View.whole main_v0).slice (win0_2.rect t)).set
    rw [View.set_slice_whole, Rect.mem_set_unit]
    intro a
    match a with
    | ⟨0, _⟩ => show win0_2.index t 0 * 512 ≤ (i 0 : ℕ) ∧ (i 0 : ℕ) < win0_2.index t 0 * 512 + 512
                rw [(index2 t).1]; omega
    | ⟨1, _⟩ => show win0_2.index t 1 * 1024 ≤ (i 1 : ℕ) ∧ (i 1 : ℕ) < win0_2.index t 1 * 1024 + 1024
                rw [(index2 t).2]; omega

end Cert.Kernel7Ideal.Product

namespace Cert.Reference7Ideal.Product

open Cert.Reference7Ideal Cert.Reference7Ideal.Read Cert.Conv Cert.Product
open Idealize.ShloMosaic

theorem val_apply (x0 : (⟨2, ![2048, 1024]⟩ : Shape).Idx → EReal) (x1 : (⟨2, ![2048, 1024]⟩ : Shape).Idx → EReal) (r : Fin 1024) (l : Fin 1024) :
    val_main_v3 (F := Ideal) x0 x1 (ix2 r l) = tn 2048 x0 x1 r.val l.val := by
  pointwise [val_main_cst, val_main_v0, val_main_v1, val_main_v2, val_main_v3]
  unfold tn
  refine Finset.sum_congr rfl fun k _ => ?_
  rw [entry_of_lt x0 _ _ (by omega) (by omega), entry_of_lt x1 _ _ (by omega) (by omega)]
  exact mul_comm _ _

end Cert.Reference7Ideal.Product

namespace Cert.Proof

open Idealize.ShloMosaic Idealize.ShloMosaic.TcCoe Idealize.SL.Sem

/-- The reference runs, leaves its arguments unchanged and, declaring no semaphore, ends with every counter at zero. -/
theorem reference_frame7 : Cert.quiescent_Reference7Ideal := by
  intro m g _
  exact (θ_run Cert.Reference7Ideal.defs _ _).mono
    (fun r h => ⟨fun c => (h c).2, sem_eq_zero_of_no_sems (by decide) r.2⟩) (Cert.Reference7Ideal.Value.run (F := Ideal) m g)

/-- The gradient of the output projection: the kernel and its reference compute the same array over the extended reals. -/
theorem algebraic7 : Cert.algebraic_Kernel7Ideal_Reference7Ideal := by
  intro m g m' g' _ hargs
  refine ⟨fun c => Cert.Kernel7Ideal.Product.prod m c, ?_, ?_⟩
  · refine (θ_run Cert.Kernel7Ideal.defs _ _).mono (fun r h c => ?_) (Cert.Kernel7Ideal.Value.run_blocks (F := Ideal) m g)
    obtain ⟨h2, ha⟩ := h c
    exact ⟨h2.trans (Cert.Kernel7Ideal.Product.final m c), ha⟩
  · refine (θ_run Cert.Reference7Ideal.defs _ _).mono (fun r h c => ?_) (Cert.Reference7Ideal.Value.run (F := Ideal) m' g')
    obtain ⟨h2, ha⟩ := h c
    obtain ⟨e0, e1⟩ := hargs c
    refine ⟨?_, ha⟩
    rw [h2, Cert.Reference7Ideal.Read.val_main_v3_eq, e0, e1]
    funext i
    obtain ⟨r, l, rfl⟩ : ∃ (r : Fin 1024) (l : Fin 1024), i = ix2 r l := ⟨i 0, i 1, eq_ix2 i⟩
    exact Cert.Reference7Ideal.Product.val_apply _ _ r l

end Cert.Proof

end
-- ==== Proof.ProductDMix.lean ====
/-
  The gradient of the two mixers' joined output: after its 2 grid points the result array of the kernel is the product of the two argument arrays, and so
  is the reference's.
-/
module

public import proofs.«01_k».proof.Defs
public import proofs.«01_k».proof.Proof.ProductSpec
public import proofs.«01_k».proof.Proof.Gen.Kernel8Ideal.Value
public import proofs.«01_k».proof.Proof.Gen.Reference8Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel8Ideal.Product

open Cert.Kernel8Ideal Cert.Kernel8Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The left factor. -/
abbrev aIn : (⟨2, ![2048, 1024]⟩ : Shape).Idx → EReal := m ((c : Thread nD τ).loc main_arg0)
/-- The right factor. -/
abbrev bIn : (⟨2, ![1024, 1024]⟩ : Shape).Idx → EReal := m ((c : Thread nD τ).loc main_arg1)

theorem index0 : ∀ t : Fin cfg0.N, win0_0.index t 0 = t.val % 2 ∧ win0_0.index t 1 = 0 :=
  (by decide +kernel : ∀ t : Fin grid0.N, win0_0.index t 0 = t.val % 2 ∧ win0_0.index t 1 = 0)
theorem index1 : ∀ t : Fin cfg0.N, win0_1.index t 0 = t.val / 2 ∧ win0_1.index t 1 = 0 :=
  (by decide +kernel : ∀ t : Fin grid0.N, win0_1.index t 0 = t.val / 2 ∧ win0_1.index t 1 = 0)
theorem index2 : ∀ t : Fin cfg0.N, win0_2.index t 0 = t.val % 2 ∧ win0_2.index t 1 = t.val / 2 :=
  (by decide +kernel : ∀ t : Fin grid0.N, win0_2.index t 0 = t.val % 2 ∧ win0_2.index t 1 = t.val / 2)

theorem lt_points (t : Fin cfg0.N) : t.val < 2 := lt_of_lt_of_eq t.isLt N_0

theorem block0 (t : Fin cfg0.N) (r : Fin 1024) (l : Fin 1024) :
    (iblk m c 0 t : Vec Ideal S1024x1024 .f32) (ix2 r l) = entry (aIn m c) (1024 * (t.val % 2) + r.val) l.val := by
  unfold iblk
  rw [View.read_apply]
  refine eq_entry (N := 2048) (K := 1024) (aIn m c) _ _ _ ?_ ?_
  · show win0_0.index t 0 * 1024 + 1 * r.val = _; rw [(index0 t).1]; omega
  · show win0_0.index t 1 * 1024 + 1 * l.val = _; rw [(index0 t).2]; omega

theorem block1 (t : Fin cfg0.N) (r : Fin 1024) (l : Fin 1024) :
    (iblk m c 1 t : Vec Ideal S1024x1024 .bf16) (ix2 r l) = entry (bIn m c) (1024 * (t.val / 2) + r.val) l.val := by
  unfold iblk
  rw [View.read_apply]
  refine eq_entry (N := 1024) (K := 1024) (bIn m c) _ _ _ ?_ ?_
  · show win0_1.index t 0 * 1024 + 1 * r.val = _; rw [(index1 t).1]; omega
  · show win0_1.index t 1 * 1024 + 1 * l.val = _; rw [(index1 t).2]; omega

theorem hz : (![0, 0] : Fin 2 → Nat) = fun _ => 0 := funext fun a => by match a with | ⟨0, _⟩ => rfl | ⟨1, _⟩ => rfl

/-- What the body stores is the product of the two blocks. -/
theorem out_eq (x0 : Vec Ideal S1024x1024 .f32) (x1 : Vec Ideal S1024x1024 .bf16) : out0_2 x0 x1 = k0_pay1 x0 x1 := by
  unfold out0_2
  rw [View.canon_unit_zero hz]
  simp only [View.ld_unit_zero (S := S1024x1024) hz, View.ld_unit_zero (S := S1024x1024) hz]

theorem pay_apply (x0 : Vec Ideal S1024x1024 .f32) (x1 : Vec Ideal S1024x1024 .bf16) (r : Fin 1024) (l : Fin 1024) :
    k0_pay1 (F := Ideal) x0 x1 (ix2 r l) = (∑ k : Fin 1024, (x0 (ix2 r k) * x1 (ix2 l k) : EReal) : EReal) := by
  pointwise [k0_pay1]

/-- The product, as the result array's contents. -/
def prod : S2048x1024.Idx → EReal := fun i => nt 1024 (aIn m c) (bIn m c) (i 0).val (i 1).val

theorem final : (dats m 0 c).arrAt 2 cfg0.N = prod m c := by
  refine (dats m 0 c).arrAt_eq_of_cover 2 (prod m c) (fun t _ => ?_) fun i => ?_
  · rw [Value.flushed2, out_eq]
    funext j
    rw [View.read_apply]
    refine (congrArg (k0_pay1 _ _) (?_ : _ = ix2 (j 0) (j 1))).trans ((pay_apply _ _ (j 0) (j 1)).trans ?_)
    · funext a; match a with | ⟨0, _⟩ => rfl | ⟨1, _⟩ => rfl
    · refine Eq.trans ?_ (congrArg₂ (nt 1024 (aIn m c) (bIn m c)) (?_ : 1024 * (t.val % 2) + (j 0).val = _) (?_ : 1024 * (t.val / 2) + (j 1).val = _))
      · unfold nt
        exact Finset.sum_congr rfl fun k _ => congrArg₂ (· * ·) (block0 m c t _ _) (block1 m c t _ _)
      · show _ = win0_2.index t 0 * 1024 + 1 * (j 0).val; rw [(index2 t).1]; omega
      · show _ = win0_2.index t 1 * 1024 + 1 * (j 1).val; rw [(index2 t).2]; omega
  · have h0 : (i 0 : ℕ) < 2048 := (i 0).isLt
    have h1 : (i 1 : ℕ) < 1024 := (i 1).isLt
    refine ⟨⟨2 * ((i 1 : ℕ) / 1024) + (i 0 : ℕ) / 1024, by rw [show cfg0.N = 2 from N_0]; omega⟩, flush0_2 _, ?_⟩
    generalize ht : (⟨2 * ((i 1 : ℕ) / 1024) + (i 0 : ℕ) / 1024, _⟩ : Fin cfg0.N) = t
    have hv : t.val = 2 * ((i 1 : ℕ) / 1024) + (i 0 : ℕ) / 1024 := by rw [← ht]
    show i ∈ ((View.whole main_v0).slice (win0_2.rect t)).set
    rw [View.set_slice_whole, Rect.mem_set_unit]
    intro a
    match a with
    | ⟨0, _⟩ => show win0_2.index t 0 * 1024 ≤ (i 0 : ℕ) ∧ (i 0 : ℕ) < win0_2.index t 0 * 1024 + 1024
                rw [(index2 t).1]; omega
    | ⟨1, _⟩ => show win0_2.index t 1 * 1024 ≤ (i 1 : ℕ) ∧ (i 1 : ℕ) < win0_2.index t 1 * 1024 + 1024
                rw [(index2 t).2]; omega

end Cert.Kernel8Ideal.Product

namespace Cert.Reference8Ideal.Product

open Cert.Reference8Ideal Cert.Reference8Ideal.Read Cert.Conv Cert.Product
open Idealize.ShloMosaic

theorem val_apply (x0 : (⟨2, ![2048, 1024]⟩ : Shape).Idx → EReal) (x1 : (⟨2, ![1024, 1024]⟩ : Shape).Idx → EReal) (r : Fin 2048) (l : Fin 1024) :
    val_main_v3 (F := Ideal) x0 x1 (ix2 r l) = nt 1024 x0 x1 r.val l.val := by
  pointwise [val_main_cst, val_main_v0, val_main_v1, val_main_v2, val_main_v3]
  unfold nt
  refine Finset.sum_congr rfl fun k _ => ?_
  rw [entry_of_lt x0 _ _ (by omega) (by omega), entry_of_lt x1 _ _ (by omega) (by omega)]

end Cert.Reference8Ideal.Product

namespace Cert.Proof

open Idealize.ShloMosaic Idealize.ShloMosaic.TcCoe Idealize.SL.Sem

/-- The reference runs, leaves its arguments unchanged and, declaring no semaphore, ends with every counter at zero. -/
theorem reference_frame8 : Cert.quiescent_Reference8Ideal := by
  intro m g _
  exact (θ_run Cert.Reference8Ideal.defs _ _).mono
    (fun r h => ⟨fun c => (h c).2, sem_eq_zero_of_no_sems (by decide) r.2⟩) (Cert.Reference8Ideal.Value.run (F := Ideal) m g)

/-- The gradient of the two mixers' joined output: the kernel and its reference compute the same array over the extended reals. -/
theorem algebraic8 : Cert.algebraic_Kernel8Ideal_Reference8Ideal := by
  intro m g m' g' _ hargs
  refine ⟨fun c => Cert.Kernel8Ideal.Product.prod m c, ?_, ?_⟩
  · refine (θ_run Cert.Kernel8Ideal.defs _ _).mono (fun r h c => ?_) (Cert.Kernel8Ideal.Value.run_blocks (F := Ideal) m g)
    obtain ⟨h2, ha⟩ := h c
    exact ⟨h2.trans (Cert.Kernel8Ideal.Product.final m c), ha⟩
  · refine (θ_run Cert.Reference8Ideal.defs _ _).mono (fun r h c => ?_) (Cert.Reference8Ideal.Value.run (F := Ideal) m' g')
    obtain ⟨h2, ha⟩ := h c
    obtain ⟨e0, e1⟩ := hargs c
    refine ⟨?_, ha⟩
    rw [h2, Cert.Reference8Ideal.Read.val_main_v3_eq, e0, e1]
    funext i
    obtain ⟨r, l, rfl⟩ : ∃ (r : Fin 2048) (l : Fin 1024), i = ix2 r l := ⟨i 0, i 1, eq_ix2 i⟩
    exact Cert.Reference8Ideal.Product.val_apply _ _ r l

end Cert.Proof

end
-- ==== Proof.ProductDWin.lean ====
/-
  The gradient of the input projection: after its 6 grid points the result array of the kernel is the product of the two argument arrays, and so
  is the reference's.
-/
module

public import proofs.«01_k».proof.Defs
public import proofs.«01_k».proof.Proof.ProductSpec
public import proofs.«01_k».proof.Proof.Gen.Kernel9Ideal.Value
public import proofs.«01_k».proof.Proof.Gen.Reference9Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel9Ideal.Product

open Cert.Kernel9Ideal Cert.Kernel9Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The left factor. -/
abbrev aIn : (⟨2, ![2048, 1024]⟩ : Shape).Idx → EReal := m ((c : Thread nD τ).loc main_arg0)
/-- The right factor. -/
abbrev bIn : (⟨2, ![2048, 3840]⟩ : Shape).Idx → EReal := m ((c : Thread nD τ).loc main_arg1)

theorem index0 : ∀ t : Fin cfg0.N, win0_0.index t 0 = 0 ∧ win0_0.index t 1 = t.val % 1 :=
  (by decide +kernel : ∀ t : Fin grid0.N, win0_0.index t 0 = 0 ∧ win0_0.index t 1 = t.val % 1)
theorem index1 : ∀ t : Fin cfg0.N, win0_1.index t 0 = 0 ∧ win0_1.index t 1 = t.val / 1 :=
  (by decide +kernel : ∀ t : Fin grid0.N, win0_1.index t 0 = 0 ∧ win0_1.index t 1 = t.val / 1)
theorem index2 : ∀ t : Fin cfg0.N, win0_2.index t 0 = t.val % 1 ∧ win0_2.index t 1 = t.val / 1 :=
  (by decide +kernel : ∀ t : Fin grid0.N, win0_2.index t 0 = t.val % 1 ∧ win0_2.index t 1 = t.val / 1)

theorem lt_points (t : Fin cfg0.N) : t.val < 6 := lt_of_lt_of_eq t.isLt N_0

theorem block0 (t : Fin cfg0.N) (r : Fin 2048) (l : Fin 1024) :
    (iblk m c 0 t : Vec Ideal S2048x1024 .bf16) (ix2 r l) = entry (aIn m c) r.val (1024 * (t.val % 1) + l.val) := by
  unfold iblk
  rw [View.read_apply]
  refine eq_entry (N := 2048) (K := 1024) (aIn m c) _ _ _ ?_ ?_
  · show win0_0.index t 0 * 2048 + 1 * r.val = _; rw [(index0 t).1]; omega
  · show win0_0.index t 1 * 1024 + 1 * l.val = _; rw [(index0 t).2]; omega

theorem block1 (t : Fin cfg0.N) (r : Fin 2048) (l : Fin 640) :
    (iblk m c 1 t : Vec Ideal S2048x640 .bf16) (ix2 r l) = entry (bIn m c) r.val (640 * (t.val / 1) + l.val) := by
  unfold iblk
  rw [View.read_apply]
  refine eq_entry (N := 2048) (K := 3840) (bIn m c) _ _ _ ?_ ?_
  · show win0_1.index t 0 * 2048 + 1 * r.val = _; rw [(index1 t).1]; omega
  · show win0_1.index t 1 * 640 + 1 * l.val = _; rw [(index1 t).2]; omega

theorem hz : (![0, 0] : Fin 2 → Nat) = fun _ => 0 := funext fun a => by match a with | ⟨0, _⟩ => rfl | ⟨1, _⟩ => rfl

/-- What the body stores is the product of the two blocks. -/
theorem out_eq (x0 : Vec Ideal S2048x1024 .bf16) (x1 : Vec Ideal S2048x640 .bf16) : out0_2 x0 x1 = k0_pay1 x0 x1 := by
  unfold out0_2
  rw [View.canon_unit_zero hz]
  simp only [View.ld_unit_zero (S := S2048x1024) hz, View.ld_unit_zero (S := S2048x640) hz]

theorem pay_apply (x0 : Vec Ideal S2048x1024 .bf16) (x1 : Vec Ideal S2048x640 .bf16) (r : Fin 1024) (l : Fin 640) :
    k0_pay1 (F := Ideal) x0 x1 (ix2 r l) = (∑ k : Fin 2048, (x0 (ix2 k r) * x1 (ix2 k l) : EReal) : EReal) := by
  pointwise [k0_pay1]

/-- The product, as the result array's contents. -/
def prod : S1024x3840.Idx → EReal := fun i => tn 2048 (aIn m c) (bIn m c) (i 0).val (i 1).val

theorem final : (dats m 0 c).arrAt 2 cfg0.N = prod m c := by
  refine (dats m 0 c).arrAt_eq_of_cover 2 (prod m c) (fun t _ => ?_) fun i => ?_
  · rw [Value.flushed2, out_eq]
    funext j
    rw [View.read_apply]
    refine (congrArg (k0_pay1 _ _) (?_ : _ = ix2 (j 0) (j 1))).trans ((pay_apply _ _ (j 0) (j 1)).trans ?_)
    · funext a; match a with | ⟨0, _⟩ => rfl | ⟨1, _⟩ => rfl
    · refine Eq.trans ?_ (congrArg₂ (tn 2048 (aIn m c) (bIn m c)) (?_ : 1024 * (t.val % 1) + (j 0).val = _) (?_ : 640 * (t.val / 1) + (j 1).val = _))
      · unfold tn
        exact Finset.sum_congr rfl fun k _ => congrArg₂ (· * ·) (block0 m c t _ _) (block1 m c t _ _)
      · show _ = win0_2.index t 0 * 1024 + 1 * (j 0).val; rw [(index2 t).1]; omega
      · show _ = win0_2.index t 1 * 640 + 1 * (j 1).val; rw [(index2 t).2]; omega
  · have h0 : (i 0 : ℕ) < 1024 := (i 0).isLt
    have h1 : (i 1 : ℕ) < 3840 := (i 1).isLt
    refine ⟨⟨1 * ((i 1 : ℕ) / 640) + (i 0 : ℕ) / 1024, by rw [show cfg0.N = 6 from N_0]; omega⟩, flush0_2 _, ?_⟩
    generalize ht : (⟨1 * ((i 1 : ℕ) / 640) + (i 0 : ℕ) / 1024, _⟩ : Fin cfg0.N) = t
    have hv : t.val = 1 * ((i 1 : ℕ) / 640) + (i 0 : ℕ) / 1024 := by rw [← ht]
    show i ∈ ((View.whole main_v0).slice (win0_2.rect t)).set
    rw [View.set_slice_whole, Rect.mem_set_unit]
    intro a
    match a with
    | ⟨0, _⟩ => show win0_2.index t 0 * 1024 ≤ (i 0 : ℕ) ∧ (i 0 : ℕ) < win0_2.index t 0 * 1024 + 1024
                rw [(index2 t).1]; omega
    | ⟨1, _⟩ => show win0_2.index t 1 * 640 ≤ (i 1 : ℕ) ∧ (i 1 : ℕ) < win0_2.index t 1 * 640 + 640
                rw [(index2 t).2]; omega

end Cert.Kernel9Ideal.Product

namespace Cert.Reference9Ideal.Product

open Cert.Reference9Ideal Cert.Reference9Ideal.Read Cert.Conv Cert.Product
open Idealize.ShloMosaic

theorem val_apply (x0 : (⟨2, ![2048, 1024]⟩ : Shape).Idx → EReal) (x1 : (⟨2, ![2048, 3840]⟩ : Shape).Idx → EReal) (r : Fin 1024) (l : Fin 3840) :
    val_main_v5 (F := Ideal) x0 x1 (ix2 r l) = tn 2048 x0 x1 r.val l.val := by
  pointwise [val_main_cst, val_main_v0, val_main_v1, val_main_v2, val_main_v3, val_main_v4, val_main_v5]
  unfold tn
  refine Finset.sum_congr rfl fun k _ => ?_
  rw [entry_of_lt x0 _ _ (by omega) (by omega), entry_of_lt x1 _ _ (by omega) (by omega)]
  exact mul_comm _ _

end Cert.Reference9Ideal.Product

namespace Cert.Proof

open Idealize.ShloMosaic Idealize.ShloMosaic.TcCoe Idealize.SL.Sem

/-- The reference runs, leaves its arguments unchanged and, declaring no semaphore, ends with every counter at zero. -/
theorem reference_frame9 : Cert.quiescent_Reference9Ideal := by
  intro m g _
  exact (θ_run Cert.Reference9Ideal.defs _ _).mono
    (fun r h => ⟨fun c => (h c).2, sem_eq_zero_of_no_sems (by decide) r.2⟩) (Cert.Reference9Ideal.Value.run (F := Ideal) m g)

/-- The gradient of the input projection: the kernel and its reference compute the same array over the extended reals. -/
theorem algebraic9 : Cert.algebraic_Kernel9Ideal_Reference9Ideal := by
  intro m g m' g' _ hargs
  refine ⟨fun c => Cert.Kernel9Ideal.Product.prod m c, ?_, ?_⟩
  · refine (θ_run Cert.Kernel9Ideal.defs _ _).mono (fun r h c => ?_) (Cert.Kernel9Ideal.Value.run_blocks (F := Ideal) m g)
    obtain ⟨h2, ha⟩ := h c
    exact ⟨h2.trans (Cert.Kernel9Ideal.Product.final m c), ha⟩
  · refine (θ_run Cert.Reference9Ideal.defs _ _).mono (fun r h c => ?_) (Cert.Reference9Ideal.Value.run (F := Ideal) m' g')
    obtain ⟨h2, ha⟩ := h c
    obtain ⟨e0, e1⟩ := hargs c
    refine ⟨?_, ha⟩
    rw [h2, Cert.Reference9Ideal.Read.val_main_v5_eq, e0, e1]
    funext i
    obtain ⟨r, l, rfl⟩ : ∃ (r : Fin 1024) (l : Fin 3840), i = ix2 r l := ⟨i 0, i 1, eq_ix2 i⟩
    exact Cert.Reference9Ideal.Product.val_apply _ _ r l

end Cert.Proof

end
-- ==== Proof.ProductDWup.lean ====
/-
  The gradient of the up weights: two calls, one per half of the columns, the second writing its half of the stacked result
  in place over the first's. The result is the product of the transposed rows with the two gradients side by side.
-/
module

public import proofs.«01_k».proof.Defs
public import proofs.«01_k».proof.Proof.ProductSpec
public import proofs.«01_k».proof.Proof.Gen.Kernel10Ideal.Frame
public import proofs.«01_k».proof.Proof.Gen.Reference10Ideal.Read
public import Idealize.ShloMosaic.Lib.Pointwise
public import Idealize.ShloMosaic.Lib.KernelVsHost
public import Idealize.ShloMosaic.Lib.Quiescent
public import Idealize.ShloMosaic.Lib.Pipeline.ReadBack
public import Idealize.ShloMosaic.Lib.Pipeline.ValueKit.Partial

@[expose] public section

set_option maxRecDepth 16384

noncomputable section

namespace Cert.Kernel10Ideal.Product

open Cert.Kernel10Ideal Cert.Kernel10Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)
variable (V : (c : Dev nD) → (b : Ref sig .tc) → Buf (Elt Ideal) ((c : Thread nD τ).loc b))

theorem indexA0 : ∀ t : Fin cfg0.N, win0_0.index t 0 = 0 ∧ win0_0.index t 1 = t.val % 2 :=
  (by decide +kernel : ∀ t : Fin grid0.N, win0_0.index t 0 = 0 ∧ win0_0.index t 1 = t.val % 2)
theorem indexA1 : ∀ t : Fin cfg0.N, win0_1.index t 0 = 0 ∧ win0_1.index t 1 = t.val / 2 :=
  (by decide +kernel : ∀ t : Fin grid0.N, win0_1.index t 0 = 0 ∧ win0_1.index t 1 = t.val / 2)
theorem indexA2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem indexB0 : ∀ t : Fin cfg1.N, win1_0.index t 0 = 0 ∧ win1_0.index t 1 = t.val % 2 :=
  (by decide +kernel : ∀ t : Fin grid1.N, win1_0.index t 0 = 0 ∧ win1_0.index t 1 = t.val % 2)
theorem indexB1 : ∀ t : Fin cfg1.N, win1_1.index t 0 = 0 ∧ win1_1.index t 1 = t.val / 2 :=
  (by decide +kernel : ∀ t : Fin grid1.N, win1_1.index t 0 = 0 ∧ win1_1.index t 1 = t.val / 2)
theorem indexB2 : ∀ t : Fin cfg1.N, win1_2.index t 0 = t.val / 2 + 2 ∧ win1_2.index t 1 = t.val % 2 ∧ win1_2.index t 2 = 0 :=
  (by decide +kernel : ∀ t : Fin grid1.N, win1_2.index t 0 = t.val / 2 + 2 ∧ win1_2.index t 1 = t.val % 2 ∧ win1_2.index t 2 = 0)

theorem ltA (t : Fin cfg0.N) : t.val < 4 := lt_of_lt_of_eq t.isLt N_0
theorem ltB (t : Fin cfg1.N) : t.val < 4 := lt_of_lt_of_eq t.isLt N_1

theorem blockA0 (t : Fin cfg0.N) (r : Fin 2048) (l : Fin 512) :
    (iblk0 V c 0 t : Vec Ideal S2048x512 .bf16) (ix2 r l) = entry (N := 2048) (K := 1024) (V c main_arg0) r.val (512 * (t.val % 2) + l.val) := by
  unfold iblk0
  rw [View.read_apply]
  refine eq_entry (N := 2048) (K := 1024) (V c main_arg0) _ _ _ ?_ ?_
  · show win0_0.index t 0 * 2048 + 1 * r.val = _; rw [(indexA0 t).1]; omega
  · show win0_0.index t 1 * 512 + 1 * l.val = _; rw [(indexA0 t).2]; omega

theorem blockA1 (t : Fin cfg0.N) (r : Fin 2048) (l : Fin 1408) :
    (iblk0 V c 1 t : Vec Ideal S2048x1408 .bf16) (ix2 r l) = entry (N := 2048) (K := 2816) (V c main_arg1) r.val (1408 * (t.val / 2) + l.val) := by
  unfold iblk0
  rw [View.read_apply]
  refine eq_entry (N := 2048) (K := 2816) (V c main_arg1) _ _ _ ?_ ?_
  · show win0_1.index t 0 * 2048 + 1 * r.val = _; rw [(indexA1 t).1]; omega
  · show win0_1.index t 1 * 1408 + 1 * l.val = _; rw [(indexA1 t).2]; omega

theorem blockB0 (t : Fin cfg1.N) (r : Fin 2048) (l : Fin 512) :
    (iblk1 V c 0 t : Vec Ideal S2048x512 .bf16) (ix2 r l) = entry (N := 2048) (K := 1024) (V c main_arg0) r.val (512 * (t.val % 2) + l.val) := by
  unfold iblk1
  rw [View.read_apply]
  refine eq_entry (N := 2048) (K := 1024) (V c main_arg0) _ _ _ ?_ ?_
  · show win1_0.index t 0 * 2048 + 1 * r.val = _; rw [(indexB0 t).1]; omega
  · show win1_0.index t 1 * 512 + 1 * l.val = _; rw [(indexB0 t).2]; omega

theorem blockB1 (t : Fin cfg1.N) (r : Fin 2048) (l : Fin 1408) :
    (iblk1 V c 1 t : Vec Ideal S2048x1408 .bf16) (ix2 r l) = entry (N := 2048) (K := 2816) (V c main_arg2) r.val (1408 * (t.val / 2) + l.val) := by
  unfold iblk1
  rw [View.read_apply]
  refine eq_entry (N := 2048) (K := 2816) (V c main_arg2) _ _ _ ?_ ?_
  · show win1_1.index t 0 * 2048 + 1 * r.val = _; rw [(indexB1 t).1]; omega
  · show win1_1.index t 1 * 1408 + 1 * l.val = _; rw [(indexB1 t).2]; omega

theorem hz : (![0, 0] : Fin 2 → Nat) = fun _ => 0 := funext fun a => by match a with | ⟨0, _⟩ => rfl | ⟨1, _⟩ => rfl
theorem hz3 : (![0, 0, 0] : Fin 3 → Nat) = fun _ => 0 :=
  funext fun a => by match a with | ⟨0, _⟩ => rfl | ⟨1, _⟩ => rfl | ⟨2, _⟩ => rfl

/-- What the first call's body stores is the product of its two blocks. -/
theorem outA_eq (x0 : Vec Ideal S2048x512 .bf16) (x1 : Vec Ideal S2048x1408 .bf16) : out0_2 x0 x1 = k0_pay1 x0 x1 := by
  unfold out0_2
  rw [View.canon_unit_zero hz3]
  simp only [View.ld_unit_zero (S := S2048x512) hz, View.ld_unit_zero (S := S2048x1408) hz]

/-- What the second call's body stores is the product of its two blocks. -/
theorem outB_eq (t : Fin cfg1.N) : outsAt1 V c t = k1_pay1 (iblk1 V c 0 t) (iblk1 V c 1 t) := by
  unfold outsAt1 out1_A_2
  rw [View.read_writes_eq_canon _ _ _ (cover1_A_2 c (grid1.coords t) (ms1_0 t) (hs1_0 t) (ms1_1 t) (hs1_1 t) (ms1_2 t) (hs1_2 t)
    (iblk1 V c 0 t) (iblk1 V c 1 t))]
  unfold kernelRun1_A
  dsimp only
  sl_unfold_words
  rw [View.canon_unit_zero hz3]
  simp only [View.readAt_eq_ld, (hs1_0 t).read_unread, (hs1_1 t).read_unread, View.ld_unit_zero (S := S2048x512) hz,
    View.ld_unit_zero (S := S2048x1408) hz]

theorem payA_apply (x0 : Vec Ideal S2048x512 .bf16) (x1 : Vec Ideal S2048x1408 .bf16) (r : Fin 512) (l : Fin 1408) :
    k0_pay1 (F := Ideal) x0 x1 (ix3 0 r l) = (∑ k : Fin 2048, (x0 (ix2 k r) * x1 (ix2 k l) : EReal) : EReal) := by
  pointwise [k0_pay1]
theorem payB_apply (x0 : Vec Ideal S2048x512 .bf16) (x1 : Vec Ideal S2048x1408 .bf16) (r : Fin 512) (l : Fin 1408) :
    k1_pay1 (F := Ideal) x0 x1 (ix3 0 r l) = (∑ k : Fin 2048, (x0 (ix2 k r) * x1 (ix2 k l) : EReal) : EReal) := by
  pointwise [k1_pay1]

/-- The first two matrices of the stacked product. -/
def prodA (h : (⟨2, ![2048, 1024]⟩ : Shape).Idx → EReal) (d : (⟨2, ![2048, 2816]⟩ : Shape).Idx → EReal) : S4x1024x1408.Idx → EReal :=
  fun i => tn 2048 h d (i 1).val (1408 * (i 0).val + (i 2).val)
/-- The last two. -/
def prodB (h : (⟨2, ![2048, 1024]⟩ : Shape).Idx → EReal) (d : (⟨2, ![2048, 2816]⟩ : Shape).Idx → EReal) : S4x1024x1408.Idx → EReal :=
  fun i => tn 2048 h d (i 1).val (1408 * ((i 0).val - 2) + (i 2).val)

theorem ix3_of (y : S1x512x1408.Idx) : y = ix3 (0 : Fin 1) (y 1) (y 2) := by
  have h0 : (y 0).val < 1 := (y 0).isLt
  funext a
  match a with
  | ⟨0, _⟩ => exact Fin.ext (by show (y 0).val = 0; omega)
  | ⟨1, _⟩ => rfl
  | ⟨2, _⟩ => rfl

/-- After the first call the first two matrices are its products. -/
theorem finalA (i : S4x1024x1408.Idx) :
    ((dat0 V c).arrAt 2 cfg0.N : S4x1024x1408.Idx → EReal) i = if (i 0).val / 1 < 2 then prodA (V c main_arg0) (V c main_arg1) i else (dat0 V c).A 2 i := by
  refine (dat0 V c).arrAt_apply_of_coversWhere 2 (prodA (V c main_arg0) (V c main_arg1)) (P := fun i : S4x1024x1408.Idx => (i 0).val / 1 < 2) (fun β => β (0 : Fin 3) < 2) (by decide +kernel)
    (fun t hf y => ?_) (fun j => Iff.rfl) i
  blk_simp
  rw [after0_2, outA_eq]
  refine (congrArg (k0_pay1 _ _) (ix3_of y)).trans ((payA_apply _ _ (y 1) (y 2)).trans ?_)
  refine Eq.trans ?_ (congrArg₂ (tn 2048 (V c main_arg0) (V c main_arg1)) (?_ : 512 * (t.val % 2) + (y 1).val = _) (?_ : 1408 * (t.val / 2) + (y 2).val = _))
  · unfold tn
    exact Finset.sum_congr rfl fun k _ => congrArg₂ (· * ·) (blockA0 c V t _ _) (blockA1 c V t _ _)
  · show _ = win0_2.index t 1 * 512 + 1 * (y 1).val; rw [(indexA2 t).2.1]; omega
  · show _ = 1408 * (win0_2.index t 0 * 1 + 1 * (y 0).val) + (win0_2.index t 2 * 1408 + 1 * (y 2).val)
    have h0 : (y 0).val < 1 := (y 0).isLt
    rw [(indexA2 t).1, (indexA2 t).2.2]; omega

/-- After the second call the last two matrices are its products, the others as it found them. -/
theorem finalB (i : S4x1024x1408.Idx) :
    ((dat1 V c).arrAt 2 cfg1.N : S4x1024x1408.Idx → EReal) i = if 2 ≤ (i 0).val / 1 then prodB (V c main_arg0) (V c main_arg2) i else (dat1 V c).A 2 i := by
  refine (dat1 V c).arrAt_apply_of_coversWhere 2 (prodB (V c main_arg0) (V c main_arg2)) (P := fun i : S4x1024x1408.Idx => 2 ≤ (i 0).val / 1) (fun β => 2 ≤ β (0 : Fin 3)) (by decide +kernel)
    (fun t hf y => ?_) (fun j => Iff.rfl) i
  blk_simp
  rw [after1_2, outB_eq]
  refine (congrArg (k1_pay1 _ _) (ix3_of y)).trans ((payB_apply _ _ (y 1) (y 2)).trans ?_)
  refine Eq.trans ?_ (congrArg₂ (tn 2048 (V c main_arg0) (V c main_arg2)) (?_ : 512 * (t.val % 2) + (y 1).val = _) (?_ : 1408 * (t.val / 2) + (y 2).val = _))
  · unfold tn
    exact Finset.sum_congr rfl fun k _ => congrArg₂ (· * ·) (blockB0 c V t _ _) (blockB1 c V t _ _)
  · show _ = win1_2.index t 1 * 512 + 1 * (y 1).val; rw [(indexB2 t).2.1]; omega
  · show _ = 1408 * ((win1_2.index t 0 * 1 + 1 * (y 0).val) - 2) + (win1_2.index t 2 * 1408 + 1 * (y 2).val)
    have h0 : (y 0).val < 1 := (y 0).isLt
    rw [(indexB2 t).1, (indexB2 t).2.2]; omega

/-- Between the calls the second's result array is a copy of the first's. -/
theorem entryB : (W2 m ρ c (Proc.devRef .tc main_v1) : S4x1024x1408.Idx → EReal) = W1 m ρ c (Proc.devRef .tc main_v0) := by
  show StableHlo.after hostOps1 (W1 m ρ c) (Proc.devRef .tc main_v1) = _
  unfold hostOps1
  after_results
  rfl

/-- The stacked product of the two calls. -/
def prod : S4x1024x1408.Idx → EReal := fun i =>
  if 2 ≤ (i 0).val / 1 then prodB (m ((c : Thread nD τ).loc main_arg0)) (m ((c : Thread nD τ).loc main_arg2)) i
  else prodA (m ((c : Thread nD τ).loc main_arg0)) (m ((c : Thread nD τ).loc main_arg1)) i

theorem final : (W3 m ρ c (Proc.devRef .tc main_v1) : S4x1024x1408.Idx → EReal) = prod m c := by
  funext i
  have e := congrFun (W3_arr m ρ c 2) i
  refine e.trans ((finalB c (V2 m ρ) i).trans ?_)
  have e0 : V2 m ρ c main_arg0 = m ((c : Thread nD τ).loc main_arg0) := W2_args m ρ c _ (by simp)
  have e2 : V2 m ρ c main_arg2 = m ((c : Thread nD τ).loc main_arg2) := W2_args m ρ c _ (by simp)
  rw [e0, e2]
  unfold prod
  by_cases h : 2 ≤ (i 0).val / 1
  · rw [if_pos h, if_pos h]
  · rw [if_neg h, if_neg h, A_eq1]
    refine (congrFun (entryB m ρ c) i).trans ((congrFun (W1_arr m ρ c 2) i).trans ((finalA c (V0 m ρ) i).trans ?_))
    rw [if_pos (by omega)]

section Run

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window BodyObligation cellOf)

set_option backward.isDefEq.respectTransparency.types false in
/-- Every run of the two calls ends with the stacked product in the result array and the arguments as launched: the launch of
    the program's segments, each buffer read at the end of the last. -/
theorem run : θ_run defs (onTc (τ := τ) (main (F := Ideal))) ⟨m, fun _ => 0, ρ⟩ (fun r => ∀ c : Dev nD,
      r.2.mem ((c.tc : Thread nD τ).loc main_v1) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v1 (by decide))).trans (final m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Run

end Cert.Kernel10Ideal.Product

namespace Cert.Reference10Ideal.Product

open Cert.Reference10Ideal Cert.Reference10Ideal.Read Cert.Conv Cert.Product
open Idealize.ShloMosaic

theorem val_sum (x0 : (⟨2, ![2048, 1024]⟩ : Shape).Idx → EReal) (x1 x2 : (⟨2, ![2048, 2816]⟩ : Shape).Idx → EReal)
    (a : Fin 4) (r : Fin 1024) (l : Fin 1408) :
    val_main_v8 (F := Ideal) x0 x1 x2 (ix3 a r l)
      = (∑ k : Fin 2048, ((if h : a.val * 1408 + l.val < 2816 then x1 (ix2 k ⟨a.val * 1408 + l.val, h⟩)
          else x2 (ix2 k ⟨a.val * 1408 + l.val - 2816, by omega⟩)) * x0 (ix2 k r) : EReal) : EReal) := by
  pointwise [val_main_cst, val_main_v0, val_main_v1, val_main_v2, val_main_v3, val_main_v4, val_main_v5, val_main_v6, val_main_v7, val_main_v8]

theorem val_apply (x0 : (⟨2, ![2048, 1024]⟩ : Shape).Idx → EReal) (x1 x2 : (⟨2, ![2048, 2816]⟩ : Shape).Idx → EReal)
    (a : Fin 4) (r : Fin 1024) (l : Fin 1408) :
    val_main_v8 (F := Ideal) x0 x1 x2 (ix3 a r l)
      = if 2 ≤ a.val / 1 then Cert.Kernel10Ideal.Product.prodB x0 x2 (ix3 a r l) else Cert.Kernel10Ideal.Product.prodA x0 x1 (ix3 a r l) := by
  refine (val_sum x0 x1 x2 a r l).trans ?_
  by_cases h : 2 ≤ a.val / 1
  · rw [if_pos h]
    show _ = tn 2048 x0 x2 r.val (1408 * (a.val - 2) + l.val)
    unfold tn
    refine Finset.sum_congr rfl fun k _ => ?_
    rw [dif_neg (by omega), mul_comm]
    refine congrArg₂ (· * ·) (entry_of_lt x0 _ _ (by omega) (by omega)).symm (Eq.trans ?_ (entry_of_lt x2 k.val (1408 * (a.val - 2) + l.val) (by omega) (by omega)).symm)
    exact congrArg x2 (congrArg (ix2 k) (Fin.ext (by show a.val * 1408 + l.val - 2816 = 1408 * (a.val - 2) + l.val; omega)))
  · rw [if_neg h]
    show _ = tn 2048 x0 x1 r.val (1408 * a.val + l.val)
    unfold tn
    refine Finset.sum_congr rfl fun k _ => ?_
    rw [dif_pos (by omega), mul_comm]
    refine congrArg₂ (· * ·) (entry_of_lt x0 _ _ (by omega) (by omega)).symm (Eq.trans ?_ (entry_of_lt x1 k.val (1408 * a.val + l.val) (by omega) (by omega)).symm)
    exact congrArg x1 (congrArg (ix2 k) (Fin.ext (by show a.val * 1408 + l.val = 1408 * a.val + l.val; omega)))

end Cert.Reference10Ideal.Product

namespace Cert.Proof

open Idealize.ShloMosaic Idealize.ShloMosaic.TcCoe Idealize.SL.Sem

/-- The reference runs, leaves its arguments unchanged and, declaring no semaphore, ends with every counter at zero. -/
theorem reference_frame10 : Cert.quiescent_Reference10Ideal := by
  intro m g _
  exact (θ_run Cert.Reference10Ideal.defs _ _).mono
    (fun r h => ⟨fun c => (h c).2, sem_eq_zero_of_no_sems (by decide) r.2⟩) (Cert.Reference10Ideal.Value.run (F := Ideal) m g)

/-- The gradient of the up weights: the kernel and its reference compute the same array over the extended reals. -/
theorem algebraic10 : Cert.algebraic_Kernel10Ideal_Reference10Ideal := by
  intro m g m' g' _ hargs
  refine ⟨fun c => Cert.Kernel10Ideal.Product.prod m c, ?_, ?_⟩
  · exact Cert.Kernel10Ideal.Product.run m g
  · refine (θ_run Cert.Reference10Ideal.defs _ _).mono (fun r h c => ?_) (Cert.Reference10Ideal.Value.run (F := Ideal) m' g')
    obtain ⟨h2, ha⟩ := h c
    obtain ⟨e0, e1, e2⟩ := hargs c
    refine ⟨?_, ha⟩
    rw [h2, Cert.Reference10Ideal.Read.val_main_v8_eq, e0, e1, e2]
    funext i
    obtain ⟨a, r, l, rfl⟩ : ∃ (a : Fin 4) (r : Fin 1024) (l : Fin 1408), i = ix3 a r l := ⟨i 0, i 1, i 2, eq_ix3 i⟩
    exact Cert.Reference10Ideal.Product.val_apply _ _ _ a r l

end Cert.Proof

end
-- ==== Proof.ProductInProj.lean ====
/-
  The input projection: after its 6 grid points the result array of the kernel is the product of the two argument arrays, and so
  is the reference's.
-/
module

public import proofs.«01_k».proof.Defs
public import proofs.«01_k».proof.Proof.ProductSpec
public import proofs.«01_k».proof.Proof.Gen.Kernel11Ideal.Value
public import proofs.«01_k».proof.Proof.Gen.Reference11Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel11Ideal.Product

open Cert.Kernel11Ideal Cert.Kernel11Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The left factor. -/
abbrev aIn : (⟨2, ![2048, 1024]⟩ : Shape).Idx → EReal := m ((c : Thread nD τ).loc main_arg0)
/-- The right factor. -/
abbrev bIn : (⟨2, ![1024, 3840]⟩ : Shape).Idx → EReal := m ((c : Thread nD τ).loc main_arg1)

theorem index0 : ∀ t : Fin cfg0.N, win0_0.index t 0 = t.val % 2 ∧ win0_0.index t 1 = 0 :=
  (by decide +kernel : ∀ t : Fin grid0.N, win0_0.index t 0 = t.val % 2 ∧ win0_0.index t 1 = 0)
theorem index1 : ∀ t : Fin cfg0.N, win0_1.index t 0 = 0 ∧ win0_1.index t 1 = t.val / 2 :=
  (by decide +kernel : ∀ t : Fin grid0.N, win0_1.index t 0 = 0 ∧ win0_1.index t 1 = t.val / 2)
theorem index2 : ∀ t : Fin cfg0.N, win0_2.index t 0 = t.val % 2 ∧ win0_2.index t 1 = t.val / 2 :=
  (by decide +kernel : ∀ t : Fin grid0.N, win0_2.index t 0 = t.val % 2 ∧ win0_2.index t 1 = t.val / 2)

theorem lt_points (t : Fin cfg0.N) : t.val < 6 := lt_of_lt_of_eq t.isLt N_0

theorem block0 (t : Fin cfg0.N) (r : Fin 1024) (l : Fin 1024) :
    (iblk m c 0 t : Vec Ideal S1024x1024 .bf16) (ix2 r l) = entry (aIn m c) (1024 * (t.val % 2) + r.val) l.val := by
  unfold iblk
  rw [View.read_apply]
  refine eq_entry (N := 2048) (K := 1024) (aIn m c) _ _ _ ?_ ?_
  · show win0_0.index t 0 * 1024 + 1 * r.val = _; rw [(index0 t).1]; omega
  · show win0_0.index t 1 * 1024 + 1 * l.val = _; rw [(index0 t).2]; omega

theorem block1 (t : Fin cfg0.N) (r : Fin 1024) (l : Fin 1280) :
    (iblk m c 1 t : Vec Ideal S1024x1280 .bf16) (ix2 r l) = entry (bIn m c) r.val (1280 * (t.val / 2) + l.val) := by
  unfold iblk
  rw [View.read_apply]
  refine eq_entry (N := 1024) (K := 3840) (bIn m c) _ _ _ ?_ ?_
  · show win0_1.index t 0 * 1024 + 1 * r.val = _; rw [(index1 t).1]; omega
  · show win0_1.index t 1 * 1280 + 1 * l.val = _; rw [(index1 t).2]; omega

theorem hz : (![0, 0] : Fin 2 → Nat) = fun _ => 0 := funext fun a => by match a with | ⟨0, _⟩ => rfl | ⟨1, _⟩ => rfl

/-- What the body stores is the product of the two blocks. -/
theorem out_eq (x0 : Vec Ideal S1024x1024 .bf16) (x1 : Vec Ideal S1024x1280 .bf16) : out0_2 x0 x1 = k0_pay1 x0 x1 := by
  unfold out0_2
  rw [View.canon_unit_zero hz]
  simp only [View.ld_unit_zero (S := S1024x1024) hz, View.ld_unit_zero (S := S1024x1280) hz]

theorem pay_apply (x0 : Vec Ideal S1024x1024 .bf16) (x1 : Vec Ideal S1024x1280 .bf16) (r : Fin 1024) (l : Fin 1280) :
    k0_pay1 (F := Ideal) x0 x1 (ix2 r l) = (∑ k : Fin 1024, (x0 (ix2 r k) * x1 (ix2 k l) : EReal) : EReal) := by
  pointwise [k0_pay1]

/-- The product, as the result array's contents. -/
def prod : S2048x3840.Idx → EReal := fun i => nn 1024 (aIn m c) (bIn m c) (i 0).val (i 1).val

theorem final : (dats m 0 c).arrAt 2 cfg0.N = prod m c := by
  refine (dats m 0 c).arrAt_eq_of_cover 2 (prod m c) (fun t _ => ?_) fun i => ?_
  · rw [Value.flushed2, out_eq]
    funext j
    rw [View.read_apply]
    refine (congrArg (k0_pay1 _ _) (?_ : _ = ix2 (j 0) (j 1))).trans ((pay_apply _ _ (j 0) (j 1)).trans ?_)
    · funext a; match a with | ⟨0, _⟩ => rfl | ⟨1, _⟩ => rfl
    · refine Eq.trans ?_ (congrArg₂ (nn 1024 (aIn m c) (bIn m c)) (?_ : 1024 * (t.val % 2) + (j 0).val = _) (?_ : 1280 * (t.val / 2) + (j 1).val = _))
      · unfold nn
        exact Finset.sum_congr rfl fun k _ => congrArg₂ (· * ·) (block0 m c t _ _) (block1 m c t _ _)
      · show _ = win0_2.index t 0 * 1024 + 1 * (j 0).val; rw [(index2 t).1]; omega
      · show _ = win0_2.index t 1 * 1280 + 1 * (j 1).val; rw [(index2 t).2]; omega
  · have h0 : (i 0 : ℕ) < 2048 := (i 0).isLt
    have h1 : (i 1 : ℕ) < 3840 := (i 1).isLt
    refine ⟨⟨2 * ((i 1 : ℕ) / 1280) + (i 0 : ℕ) / 1024, by rw [show cfg0.N = 6 from N_0]; omega⟩, flush0_2 _, ?_⟩
    generalize ht : (⟨2 * ((i 1 : ℕ) / 1280) + (i 0 : ℕ) / 1024, _⟩ : Fin cfg0.N) = t
    have hv : t.val = 2 * ((i 1 : ℕ) / 1280) + (i 0 : ℕ) / 1024 := by rw [← ht]
    show i ∈ ((View.whole main_v0).slice (win0_2.rect t)).set
    rw [View.set_slice_whole, Rect.mem_set_unit]
    intro a
    match a with
    | ⟨0, _⟩ => show win0_2.index t 0 * 1024 ≤ (i 0 : ℕ) ∧ (i 0 : ℕ) < win0_2.index t 0 * 1024 + 1024
                rw [(index2 t).1]; omega
    | ⟨1, _⟩ => show win0_2.index t 1 * 1280 ≤ (i 1 : ℕ) ∧ (i 1 : ℕ) < win0_2.index t 1 * 1280 + 1280
                rw [(index2 t).2]; omega

end Cert.Kernel11Ideal.Product

namespace Cert.Reference11Ideal.Product

open Cert.Reference11Ideal Cert.Reference11Ideal.Read Cert.Conv Cert.Product
open Idealize.ShloMosaic

theorem val_apply (x0 : (⟨2, ![2048, 1024]⟩ : Shape).Idx → EReal) (x1 : (⟨2, ![1024, 3840]⟩ : Shape).Idx → EReal) (r : Fin 2048) (l : Fin 3840) :
    val_main_v2 (F := Ideal) x0 x1 (ix2 r l) = nn 1024 x0 x1 r.val l.val := by
  pointwise [val_main_v0, val_main_v1, val_main_v2]
  unfold nn
  refine Finset.sum_congr rfl fun k _ => ?_
  rw [entry_of_lt x0 _ _ (by omega) (by omega), entry_of_lt x1 _ _ (by omega) (by omega)]

end Cert.Reference11Ideal.Product

namespace Cert.Proof

open Idealize.ShloMosaic Idealize.ShloMosaic.TcCoe Idealize.SL.Sem

/-- The reference runs, leaves its arguments unchanged and, declaring no semaphore, ends with every counter at zero. -/
theorem reference_frame11 : Cert.quiescent_Reference11Ideal := by
  intro m g _
  exact (θ_run Cert.Reference11Ideal.defs _ _).mono
    (fun r h => ⟨fun c => (h c).2, sem_eq_zero_of_no_sems (by decide) r.2⟩) (Cert.Reference11Ideal.Value.run (F := Ideal) m g)

/-- The input projection: the kernel and its reference compute the same array over the extended reals. -/
theorem algebraic11 : Cert.algebraic_Kernel11Ideal_Reference11Ideal := by
  intro m g m' g' _ hargs
  refine ⟨fun c => Cert.Kernel11Ideal.Product.prod m c, ?_, ?_⟩
  · refine (θ_run Cert.Kernel11Ideal.defs _ _).mono (fun r h c => ?_) (Cert.Kernel11Ideal.Value.run_blocks (F := Ideal) m g)
    obtain ⟨h2, ha⟩ := h c
    exact ⟨h2.trans (Cert.Kernel11Ideal.Product.final m c), ha⟩
  · refine (θ_run Cert.Reference11Ideal.defs _ _).mono (fun r h c => ?_) (Cert.Reference11Ideal.Value.run (F := Ideal) m' g')
    obtain ⟨h2, ha⟩ := h c
    obtain ⟨e0, e1⟩ := hargs c
    refine ⟨?_, ha⟩
    rw [h2, Cert.Reference11Ideal.Read.val_main_v2_eq, e0, e1]
    funext i
    obtain ⟨r, l, rfl⟩ : ∃ (r : Fin 2048) (l : Fin 3840), i = ix2 r l := ⟨i 0, i 1, eq_ix2 i⟩
    exact Cert.Reference11Ideal.Product.val_apply _ _ r l

end Cert.Proof

end
-- ==== Proof.ProductOutProj.lean ====
/-
  The output projection: after its two grid points the first result of the kernel is the residual plus the product of the
  mixed rows with the weight, and the second its RMSNorm scaled by the norm weight, and so they are of the reference.
-/
module

public import proofs.«01_k».proof.Defs
public import proofs.«01_k».proof.Proof.ProductSpec
public import proofs.«01_k».proof.Proof.Gen.Kernel12Ideal.Value
public import proofs.«01_k».proof.Proof.Gen.Reference12Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel12Ideal.Product

open Cert.Kernel12Ideal Cert.Kernel12Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The mixed rows. -/
abbrev aIn : (⟨2, ![2048, 1024]⟩ : Shape).Idx → EReal := m ((c : Thread nD τ).loc main_arg0)
/-- The output weight. -/
abbrev bIn : (⟨2, ![1024, 1024]⟩ : Shape).Idx → EReal := m ((c : Thread nD τ).loc main_arg1)
/-- The residual. -/
abbrev xIn : (⟨2, ![2048, 1024]⟩ : Shape).Idx → EReal := m ((c : Thread nD τ).loc main_arg2)
/-- The norm's weight, as one row. -/
abbrev wIn : (⟨2, ![1, 1024]⟩ : Shape).Idx → EReal := m ((c : Thread nD τ).loc main_arg3)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem lt_points (t : Fin cfg0.N) : t.val < 2 := lt_of_lt_of_eq t.isLt N_0

theorem block0 (t : Fin cfg0.N) (r : Fin 1024) (l : Fin 1024) :
    (iblk m c 0 t : Vec Ideal S1024x1024 .f32) (ix2 r l) = entry (aIn m c) (1024 * t.val + r.val) l.val := by
  unfold iblk
  rw [View.read_apply]
  refine eq_entry (N := 2048) (K := 1024) (aIn m c) _ _ _ ?_ ?_
  · show win0_0.index t 0 * 1024 + 1 * r.val = _; rw [(index0 t).1]; omega
  · show win0_0.index t 1 * 1024 + 1 * l.val = _; rw [(index0 t).2]; omega

theorem block1 (t : Fin cfg0.N) (r : Fin 1024) (l : Fin 1024) :
    (iblk m c 1 t : Vec Ideal S1024x1024 .bf16) (ix2 r l) = entry (bIn m c) r.val l.val := by
  unfold iblk
  rw [View.read_apply]
  refine eq_entry (N := 1024) (K := 1024) (bIn m c) _ _ _ ?_ ?_
  · show win0_1.index t 0 * 1024 + 1 * r.val = _; rw [(index1 t).1]; omega
  · show win0_1.index t 1 * 1024 + 1 * l.val = _; rw [(index1 t).2]; omega

theorem block2 (t : Fin cfg0.N) (r : Fin 1024) (l : Fin 1024) :
    (iblk m c 2 t : Vec Ideal S1024x1024 .f32) (ix2 r l) = entry (xIn m c) (1024 * t.val + r.val) l.val := by
  unfold iblk
  rw [View.read_apply]
  refine eq_entry (N := 2048) (K := 1024) (xIn m c) _ _ _ ?_ ?_
  · show win0_2.index t 0 * 1024 + 1 * r.val = _; rw [(index2 t).1]; omega
  · show win0_2.index t 1 * 1024 + 1 * l.val = _; rw [(index2 t).2]; omega

theorem block3 (t : Fin cfg0.N) (r : Fin 1) (l : Fin 1024) :
    (iblk m c 3 t : Vec Ideal S1x1024 .f32) (ix2 r l) = entry (wIn m c) r.val l.val := by
  unfold iblk
  rw [View.read_apply]
  refine eq_entry (N := 1) (K := 1024) (wIn m c) _ _ _ ?_ ?_
  · show win0_3.index t 0 * 1 + 1 * r.val = _; rw [(index3 t).1]; omega
  · show win0_3.index t 1 * 1024 + 1 * l.val = _; rw [(index3 t).2]; omega

theorem hz : (![0, 0] : Fin 2 → Nat) = fun _ => 0 := funext fun a => by match a with | ⟨0, _⟩ => rfl | ⟨1, _⟩ => rfl

/-- What the body stores first: the residual plus the product of the blocks. -/
theorem out4_eq (x0 : Vec Ideal S1024x1024 .f32) (x1 : Vec Ideal S1024x1024 .bf16) (x2 : Vec Ideal S1024x1024 .f32) (x3 : Vec Ideal S1x1024 .f32) :
    out0_4 x0 x1 x2 x3 = k0_pay1 x0 x1 x2 := by
  unfold out0_4
  rw [View.canon_unit_zero hz]
  simp only [View.ld_unit_zero (S := S1024x1024) hz]

/-- What the body stores second: its RMSNorm. -/
theorem out5_eq (x0 : Vec Ideal S1024x1024 .f32) (x1 : Vec Ideal S1024x1024 .bf16) (x2 : Vec Ideal S1024x1024 .f32) (x3 : Vec Ideal S1x1024 .f32) :
    out0_5 x0 x1 x2 x3 = k0_pay2 x0 x1 x2 x3 := by
  unfold out0_5
  rw [View.canon_unit_zero hz]
  simp only [View.ld_unit_zero (S := S1024x1024) hz, View.ld_unit_zero (S := S1x1024) hz]

/-- Entry `(r, l)` of the residual stream after the block: the residual plus the product. -/
def res (a : (⟨2, ![2048, 1024]⟩ : Shape).Idx → EReal) (b : (⟨2, ![1024, 1024]⟩ : Shape).Idx → EReal)
    (x : (⟨2, ![2048, 1024]⟩ : Shape).Idx → EReal) (r l : ℕ) : EReal := nn 1024 a b r l + entry x r l

/-- Entry `(r, l)` of its RMSNorm. -/
def normed (a : (⟨2, ![2048, 1024]⟩ : Shape).Idx → EReal) (b : (⟨2, ![1024, 1024]⟩ : Shape).Idx → EReal)
    (x : (⟨2, ![2048, 1024]⟩ : Shape).Idx → EReal) (w : (⟨2, ![1, 1024]⟩ : Shape).Idx → EReal) (r l : ℕ) : EReal :=
  res a b x r l * Ideal.rsqrt (Ideal.div (∑ k : Fin 1024, (res a b x r k.val * res a b x r k.val : EReal)) (Ideal.ofBits FTy.f32 1149239296#32)
    + Ideal.ofBits FTy.f32 897988541#32) * entry w 0 l

theorem pay1_apply (x0 : Vec Ideal S1024x1024 .f32) (x1 : Vec Ideal S1024x1024 .bf16) (x2 : Vec Ideal S1024x1024 .f32) (r : Fin 1024) (l : Fin 1024) :
    k0_pay1 (F := Ideal) x0 x1 x2 (ix2 r l) = ((∑ k : Fin 1024, (x0 (ix2 r k) * x1 (ix2 k l) : EReal)) + x2 (ix2 r l) : EReal) := by
  pointwise [k0_pay1]

theorem pay2_apply (x0 : Vec Ideal S1024x1024 .f32) (x1 : Vec Ideal S1024x1024 .bf16) (x2 : Vec Ideal S1024x1024 .f32) (x3 : Vec Ideal S1x1024 .f32)
    (r : Fin 1024) (l : Fin 1024) :
    k0_pay2 (F := Ideal) x0 x1 x2 x3 (ix2 r l)
      = (k0_pay1 (F := Ideal) x0 x1 x2 (ix2 r l) : EReal)
        * Ideal.rsqrt (Ideal.div (∑ k : Fin 1024, (k0_pay1 (F := Ideal) x0 x1 x2 (ix2 r k) * k0_pay1 (F := Ideal) x0 x1 x2 (ix2 r k) : EReal)) (Ideal.ofBits FTy.f32 1149239296#32)
          + Ideal.ofBits FTy.f32 897988541#32) * (x3 (ix2 0 l) : EReal) := by
  pointwise [k0_pay2, k0_pay1]

/-- The first stored block, read off the arguments. -/
theorem pay1_block (t : Fin cfg0.N) (r l : Fin 1024) :
    k0_pay1 (F := Ideal) (iblk m c 0 t) (iblk m c 1 t) (iblk m c 2 t) (ix2 r l) = res (aIn m c) (bIn m c) (xIn m c) (1024 * t.val + r.val) l.val := by
  refine (pay1_apply _ _ _ r l).trans ?_
  unfold res nn
  exact congrArg₂ (· + ·) (Finset.sum_congr rfl fun k _ => congrArg₂ (· * ·) (block0 m c t _ _) (block1 m c t _ _)) (block2 m c t _ _)

/-- The second stored block, read off the arguments. -/
theorem pay2_block (t : Fin cfg0.N) (r l : Fin 1024) :
    k0_pay2 (F := Ideal) (iblk m c 0 t) (iblk m c 1 t) (iblk m c 2 t) (iblk m c 3 t) (ix2 r l)
      = normed (aIn m c) (bIn m c) (xIn m c) (wIn m c) (1024 * t.val + r.val) l.val := by
  refine (pay2_apply _ _ _ _ r l).trans ?_
  unfold normed
  refine congrArg₂ (· * ·) (congrArg₂ (· * ·) (pay1_block m c t r l) ?_) (block3 m c t 0 l)
  refine congrArg (fun s => Ideal.rsqrt (Ideal.div s (Ideal.ofBits FTy.f32 1149239296#32) + Ideal.ofBits FTy.f32 897988541#32)) ?_
  exact Finset.sum_congr rfl fun k _ => congrArg₂ (· * ·) (pay1_block m c t r k) (pay1_block m c t r k)

/-- The first result. -/
def out4 : S2048x1024.Idx → EReal := fun i => res (aIn m c) (bIn m c) (xIn m c) (i 0).val (i 1).val
/-- The second result. -/
def out5 : S2048x1024.Idx → EReal := fun i => normed (aIn m c) (bIn m c) (xIn m c) (wIn m c) (i 0).val (i 1).val

theorem final4 : (dats m 0 c).arrAt 4 cfg0.N = out4 m c := by
  refine (dats m 0 c).arrAt_eq_of_cover 4 (out4 m c) (fun t _ => ?_) fun i => ?_
  · rw [Value.flushed4, out4_eq]
    funext j
    rw [View.read_apply]
    refine (congrArg (k0_pay1 _ _ _) (?_ : _ = ix2 (j 0) (j 1))).trans ((pay1_block m c t (j 0) (j 1)).trans ?_)
    · funext a; match a with | ⟨0, _⟩ => rfl | ⟨1, _⟩ => rfl
    · refine congrArg₂ (res (aIn m c) (bIn m c) (xIn m c)) (?_ : 1024 * t.val + (j 0).val = _) (?_ : (j 1).val = _)
      · show _ = win0_4.index t 0 * 1024 + 1 * (j 0).val; rw [(index4 t).1]; omega
      · show _ = win0_4.index t 1 * 1024 + 1 * (j 1).val; rw [(index4 t).2]; omega
  · have h0 : (i 0 : ℕ) < 2048 := (i 0).isLt
    have h1 : (i 1 : ℕ) < 1024 := (i 1).isLt
    refine ⟨⟨(i 0 : ℕ) / 1024, by rw [show cfg0.N = 2 from N_0]; omega⟩, flush0_4 _, ?_⟩
    generalize ht : (⟨(i 0 : ℕ) / 1024, _⟩ : Fin cfg0.N) = t
    have hv : t.val = (i 0 : ℕ) / 1024 := by rw [← ht]
    show i ∈ ((View.whole main_v0_0).slice (win0_4.rect t)).set
    rw [View.set_slice_whole, Rect.mem_set_unit]
    intro a
    match a with
    | ⟨0, _⟩ => show win0_4.index t 0 * 1024 ≤ (i 0 : ℕ) ∧ (i 0 : ℕ) < win0_4.index t 0 * 1024 + 1024
                rw [(index4 t).1]; omega
    | ⟨1, _⟩ => show win0_4.index t 1 * 1024 ≤ (i 1 : ℕ) ∧ (i 1 : ℕ) < win0_4.index t 1 * 1024 + 1024
                rw [(index4 t).2]; omega

theorem final5 : (dats m 0 c).arrAt 5 cfg0.N = out5 m c := by
  refine (dats m 0 c).arrAt_eq_of_cover 5 (out5 m c) (fun t _ => ?_) fun i => ?_
  · rw [Value.flushed5, out5_eq]
    funext j
    rw [View.read_apply]
    refine (congrArg (k0_pay2 _ _ _ _) (?_ : _ = ix2 (j 0) (j 1))).trans ((pay2_block m c t (j 0) (j 1)).trans ?_)
    · funext a; match a with | ⟨0, _⟩ => rfl | ⟨1, _⟩ => rfl
    · refine congrArg₂ (normed (aIn m c) (bIn m c) (xIn m c) (wIn m c)) (?_ : 1024 * t.val + (j 0).val = _) (?_ : (j 1).val = _)
      · show _ = win0_5.index t 0 * 1024 + 1 * (j 0).val; rw [(index5 t).1]; omega
      · show _ = win0_5.index t 1 * 1024 + 1 * (j 1).val; rw [(index5 t).2]; omega
  · have h0 : (i 0 : ℕ) < 2048 := (i 0).isLt
    have h1 : (i 1 : ℕ) < 1024 := (i 1).isLt
    refine ⟨⟨(i 0 : ℕ) / 1024, by rw [show cfg0.N = 2 from N_0]; omega⟩, flush0_5 _, ?_⟩
    generalize ht : (⟨(i 0 : ℕ) / 1024, _⟩ : Fin cfg0.N) = t
    have hv : t.val = (i 0 : ℕ) / 1024 := by rw [← ht]
    show i ∈ ((View.whole main_v0_1).slice (win0_5.rect t)).set
    rw [View.set_slice_whole, Rect.mem_set_unit]
    intro a
    match a with
    | ⟨0, _⟩ => show win0_5.index t 0 * 1024 ≤ (i 0 : ℕ) ∧ (i 0 : ℕ) < win0_5.index t 0 * 1024 + 1024
                rw [(index5 t).1]; omega
    | ⟨1, _⟩ => show win0_5.index t 1 * 1024 ≤ (i 1 : ℕ) ∧ (i 1 : ℕ) < win0_5.index t 1 * 1024 + 1024
                rw [(index5 t).2]; omega

end Cert.Kernel12Ideal.Product

namespace Cert.Reference12Ideal.Product

open Cert.Reference12Ideal Cert.Reference12Ideal.Read Cert.Conv Cert.Product
open Idealize.ShloMosaic

theorem res_apply (x0 : (⟨2, ![2048, 1024]⟩ : Shape).Idx → EReal) (x1 : (⟨2, ![1024, 1024]⟩ : Shape).Idx → EReal) (x2 : (⟨2, ![2048, 1024]⟩ : Shape).Idx → EReal) (r : Fin 2048) (l : Fin 1024) :
    val_main_v2 (F := Ideal) x0 x1 x2 (ix2 r l) = Cert.Kernel12Ideal.Product.res x0 x1 x2 r.val l.val := by
  pointwise [val_main_v0, val_main_v1, val_main_v2]
  unfold Cert.Kernel12Ideal.Product.res nn
  rw [add_comm, entry_of_lt x2 _ _ (by omega) (by omega)]
  refine congrArg (· + _) (Finset.sum_congr rfl fun k _ => ?_)
  rw [entry_of_lt x0 _ _ (by omega) (by omega), entry_of_lt x1 _ _ (by omega) (by omega)]

theorem norm_of_res (x0 : (⟨2, ![2048, 1024]⟩ : Shape).Idx → EReal) (x1 : (⟨2, ![1024, 1024]⟩ : Shape).Idx → EReal) (x2 : (⟨2, ![2048, 1024]⟩ : Shape).Idx → EReal)
    (x3 : (⟨2, ![1, 1024]⟩ : Shape).Idx → EReal) (r : Fin 2048) (l : Fin 1024) :
    val_main_v17 (F := Ideal) x0 x1 x2 x3 (ix2 r l)
      = (val_main_v2 (F := Ideal) x0 x1 x2 (ix2 r l) : EReal)
        * Ideal.rsqrt (Ideal.div (∑ k : Fin 1024, (val_main_v2 (F := Ideal) x0 x1 x2 (ix2 r k) * val_main_v2 (F := Ideal) x0 x1 x2 (ix2 r k) : EReal)) (Ideal.ofBits FTy.f32 1149239296#32)
          + Ideal.ofBits FTy.f32 897988541#32) * (x3 (ix2 0 l) : EReal) := by
  pointwise [val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17]

theorem norm_apply (x0 : (⟨2, ![2048, 1024]⟩ : Shape).Idx → EReal) (x1 : (⟨2, ![1024, 1024]⟩ : Shape).Idx → EReal) (x2 : (⟨2, ![2048, 1024]⟩ : Shape).Idx → EReal)
    (x3 : (⟨2, ![1, 1024]⟩ : Shape).Idx → EReal) (r : Fin 2048) (l : Fin 1024) :
    val_main_v17 (F := Ideal) x0 x1 x2 x3 (ix2 r l) = Cert.Kernel12Ideal.Product.normed x0 x1 x2 x3 r.val l.val := by
  refine (norm_of_res x0 x1 x2 x3 r l).trans ?_
  unfold Cert.Kernel12Ideal.Product.normed
  refine congrArg₂ (· * ·) (congrArg₂ (· * ·) (res_apply x0 x1 x2 r l) ?_) (entry_of_lt x3 _ _ (by omega) (by omega)).symm
  refine congrArg (fun s => Ideal.rsqrt (Ideal.div s (Ideal.ofBits FTy.f32 1149239296#32) + Ideal.ofBits FTy.f32 897988541#32)) ?_
  exact Finset.sum_congr rfl fun k _ => congrArg₂ (· * ·) (res_apply x0 x1 x2 r k) (res_apply x0 x1 x2 r k)

end Cert.Reference12Ideal.Product

namespace Cert.Proof

open Idealize.ShloMosaic Idealize.ShloMosaic.TcCoe Idealize.SL.Sem

/-- The reference runs, leaves its arguments unchanged and, declaring no semaphore, ends with every counter at zero. -/
theorem reference_frame12 : Cert.quiescent_Reference12Ideal := by
  intro m g _
  exact (θ_run Cert.Reference12Ideal.defs _ _).mono
    (fun r h => ⟨fun c => (h c).2.2, sem_eq_zero_of_no_sems (by decide) r.2⟩) (Cert.Reference12Ideal.Value.run (F := Ideal) m g)

/-- The output projection: the kernel and its reference compute the same arrays over the extended reals. -/
theorem algebraic12 : Cert.algebraic_Kernel12Ideal_Reference12Ideal := by
  intro m g m' g' _ hargs
  refine ⟨fun c => Cert.Kernel12Ideal.Product.out4 m c, fun c => Cert.Kernel12Ideal.Product.out5 m c, ?_, ?_⟩
  · refine (θ_run Cert.Kernel12Ideal.defs _ _).mono (fun r h c => ?_) (Cert.Kernel12Ideal.Value.run_blocks (F := Ideal) m g)
    obtain ⟨h4, h5, ha⟩ := h c
    exact ⟨h4.trans (Cert.Kernel12Ideal.Product.final4 m c), h5.trans (Cert.Kernel12Ideal.Product.final5 m c), ha⟩
  · refine (θ_run Cert.Reference12Ideal.defs _ _).mono (fun r h c => ?_) (Cert.Reference12Ideal.Value.run (F := Ideal) m' g')
    obtain ⟨h2, h17, ha⟩ := h c
    obtain ⟨e0, e1, e2, e3⟩ := hargs c
    refine ⟨?_, ?_, ha⟩
    · rw [h2, Cert.Reference12Ideal.Read.val_main_v2_eq, e0, e1, e2]
      funext i
      obtain ⟨r, l, rfl⟩ : ∃ (r : Fin 2048) (l : Fin 1024), i = ix2 r l := ⟨i 0, i 1, eq_ix2 i⟩
      exact Cert.Reference12Ideal.Product.res_apply _ _ _ r l
    · rw [h17, Cert.Reference12Ideal.Read.val_main_v17_eq, e0, e1, e2, e3]
      funext i
      obtain ⟨r, l, rfl⟩ : ∃ (r : Fin 2048) (l : Fin 1024), i = ix2 r l := ⟨i 0, i 1, eq_ix2 i⟩
      exact Cert.Reference12Ideal.Product.norm_apply _ _ _ _ r l

end Cert.Proof

end
-- ==== Proof.ProductUp.lean ====
/-
  The up projection: after its 8 grid points the result array of the kernel is the product of the rows with the four stacked column blocks, and so
  is the reference's.
-/
module

public import proofs.«01_k».proof.Defs
public import proofs.«01_k».proof.Proof.ProductSpec
public import proofs.«01_k».proof.Proof.Gen.Kernel13Ideal.Value
public import proofs.«01_k».proof.Proof.Gen.Reference13Ideal.Read
public import Idealize.ShloMosaic.Lib.Pointwise
public import Idealize.ShloMosaic.Lib.KernelVsHost
public import Idealize.ShloMosaic.Lib.Quiescent

@[expose] public section

set_option maxRecDepth 16384

noncomputable section

namespace Cert.Kernel13Ideal.Product

open Cert.Kernel13Ideal Cert.Kernel13Ideal.Gen Cert.Conv Cert.Product
open Idealize.ShloMosaic Idealize.ShloMosaic.TcCoe Idealize.SL.Sem
open Idealize.ShloMosaic.Pipeline (Dat)

variable (m : (ℓ : Loc nD τ sig) → Buf (Elt Ideal) ℓ) (c : Dev nD)

/-- The left factor. -/
abbrev aIn : (⟨2, ![2048, 1024]⟩ : Shape).Idx → EReal := m ((c : Thread nD τ).loc main_arg0)
/-- The right factor. -/
abbrev bIn : (⟨3, ![4, 1024, 1408]⟩ : Shape).Idx → EReal := m ((c : Thread nD τ).loc main_arg1)

theorem index0 : ∀ t : Fin cfg0.N, win0_0.index t 0 = t.val % 2 ∧ win0_0.index t 1 = 0 :=
  (by decide +kernel : ∀ t : Fin grid0.N, win0_0.index t 0 = t.val % 2 ∧ win0_0.index t 1 = 0)
theorem index1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem index2 : ∀ t : Fin cfg0.N, win0_2.index t 0 = t.val % 2 ∧ win0_2.index t 1 = t.val / 2 :=
  (by decide +kernel : ∀ t : Fin grid0.N, win0_2.index t 0 = t.val % 2 ∧ win0_2.index t 1 = t.val / 2)

theorem lt_points (t : Fin cfg0.N) : t.val < 8 := lt_of_lt_of_eq t.isLt N_0

theorem block0 (t : Fin cfg0.N) (r : Fin 1024) (l : Fin 1024) :
    (iblk m c 0 t : Vec Ideal S1024x1024 .bf16) (ix2 r l) = entry (aIn m c) (1024 * (t.val % 2) + r.val) l.val := by
  unfold iblk
  rw [View.read_apply]
  refine eq_entry (N := 2048) (K := 1024) (aIn m c) _ _ _ ?_ ?_
  · show win0_0.index t 0 * 1024 + 1 * r.val = _; rw [(index0 t).1]; omega
  · show win0_0.index t 1 * 1024 + 1 * l.val = _; rw [(index0 t).2]; omega

theorem block1 (t : Fin cfg0.N) (r : Fin 1024) (l : Fin 1408) :
    (iblk m c 1 t : Vec Ideal S1x1024x1408 .bf16) (ix3 0 r l) = entry3 (bIn m c) (t.val / 2) r.val l.val := by
  unfold iblk
  rw [View.read_apply]
  refine eq_entry3 (A := 4) (N := 1024) (K := 1408) (bIn m c) _ _ _ _ ?_ ?_ ?_
  · show win0_1.index t 0 * 1 + 1 * 0 = _; rw [(index1 t).1]; omega
  · show win0_1.index t 1 * 1024 + 1 * r.val = _; rw [(index1 t).2.1]; omega
  · show win0_1.index t 2 * 1408 + 1 * l.val = _; rw [(index1 t).2.2]; omega

/-- Entry `(r, l)` of the product of the rows of `a` with the four column blocks of `b`, side by side. -/
def stacked (a : (⟨2, ![2048, 1024]⟩ : Shape).Idx → EReal) (b : (⟨3, ![4, 1024, 1408]⟩ : Shape).Idx → EReal) (r l : ℕ) : EReal :=
  ∑ k : Fin 1024, entry a r k.val * entry3 b (l / 1408) k.val (l % 1408)

theorem hz3 : (![0, 0, 0] : Fin 3 → Nat) = fun _ => 0 :=
  funext fun a => by match a with | ⟨0, _⟩ => rfl | ⟨1, _⟩ => rfl | ⟨2, _⟩ => rfl
theorem hz : (![0, 0] : Fin 2 → Nat) = fun _ => 0 := funext fun a => by match a with | ⟨0, _⟩ => rfl | ⟨1, _⟩ => rfl

/-- What the body stores is the product of the two blocks. -/
theorem out_eq (x0 : Vec Ideal S1024x1024 .bf16) (x1 : Vec Ideal S1x1024x1408 .bf16) : out0_2 x0 x1 = k0_pay1 x0 x1 := by
  unfold out0_2
  rw [View.canon_unit_zero hz]
  simp only [View.ld_unit_zero (S := S1024x1024) hz, View.ld_unit_zero (S := S1x1024x1408) hz3]

theorem pay_apply (x0 : Vec Ideal S1024x1024 .bf16) (x1 : Vec Ideal S1x1024x1408 .bf16) (r : Fin 1024) (l : Fin 1408) :
    k0_pay1 (F := Ideal) x0 x1 (ix2 r l) = (∑ k : Fin 1024, (x0 (ix2 r k) * x1 (ix3 0 k l) : EReal) : EReal) := by
  pointwise [k0_pay1]

/-- The product, as the result array's contents. -/
def prod : S2048x5632.Idx → EReal := fun i => stacked (aIn m c) (bIn m c) (i 0).val (i 1).val

theorem final : (dats m 0 c).arrAt 2 cfg0.N = prod m c := by
  refine (dats m 0 c).arrAt_eq_of_cover 2 (prod m c) (fun t _ => ?_) fun i => ?_
  · rw [Value.flushed2, out_eq]
    funext j
    rw [View.read_apply]
    refine (congrArg (k0_pay1 _ _) (?_ : _ = ix2 (j 0) (j 1))).trans ((pay_apply _ _ (j 0) (j 1)).trans ?_)
    · funext a; match a with | ⟨0, _⟩ => rfl | ⟨1, _⟩ => rfl
    · refine Eq.trans ?_ (congrArg₂ (stacked (aIn m c) (bIn m c)) (?_ : 1024 * (t.val % 2) + (j 0).val = _) (?_ : 1408 * (t.val / 2) + (j 1).val = _))
      · unfold stacked
        have h1 : (j 1).val < 1408 := (j 1).isLt
        refine Finset.sum_congr rfl fun k _ => congrArg₂ (· * ·) (block0 m c t _ _) ((block1 m c t _ _).trans ?_)
        exact entry3_congr (bIn m c) (by omega) rfl (by omega)
      · show _ = win0_2.index t 0 * 1024 + 1 * (j 0).val; rw [(index2 t).1]; omega
      · show _ = win0_2.index t 1 * 1408 + 1 * (j 1).val; rw [(index2 t).2]; omega
  · have h0 : (i 0 : ℕ) < 2048 := (i 0).isLt
    have h1 : (i 1 : ℕ) < 5632 := (i 1).isLt
    refine ⟨⟨2 * ((i 1 : ℕ) / 1408) + (i 0 : ℕ) / 1024, by rw [show cfg0.N = 8 from N_0]; omega⟩, flush0_2 _, ?_⟩
    generalize ht : (⟨2 * ((i 1 : ℕ) / 1408) + (i 0 : ℕ) / 1024, _⟩ : Fin cfg0.N) = t
    have hv : t.val = 2 * ((i 1 : ℕ) / 1408) + (i 0 : ℕ) / 1024 := by rw [← ht]
    show i ∈ ((View.whole main_v0).slice (win0_2.rect t)).set
    rw [View.set_slice_whole, Rect.mem_set_unit]
    intro a
    match a with
    | ⟨0, _⟩ => show win0_2.index t 0 * 1024 ≤ (i 0 : ℕ) ∧ (i 0 : ℕ) < win0_2.index t 0 * 1024 + 1024
                rw [(index2 t).1]; omega
    | ⟨1, _⟩ => show win0_2.index t 1 * 1408 ≤ (i 1 : ℕ) ∧ (i 1 : ℕ) < win0_2.index t 1 * 1408 + 1408
                rw [(index2 t).2]; omega

end Cert.Kernel13Ideal.Product

namespace Cert.Reference13Ideal.Product

open Cert.Reference13Ideal Cert.Reference13Ideal.Read Cert.Conv Cert.Product
open Idealize.ShloMosaic

theorem val_apply (x0 : (⟨2, ![2048, 1024]⟩ : Shape).Idx → EReal) (x1 : (⟨3, ![4, 1024, 1408]⟩ : Shape).Idx → EReal) (r : Fin 2048) (l : Fin 5632) :
    val_main_v5 (F := Ideal) x0 x1 (ix2 r l) = Cert.Kernel13Ideal.Product.stacked x0 x1 r.val l.val := by
  pointwise [val_main_v0, val_main_v1, val_main_v2, val_main_v3, val_main_v4, val_main_v5]
  unfold Cert.Kernel13Ideal.Product.stacked
  refine Finset.sum_congr rfl fun k _ => ?_
  rw [entry_of_lt x0 _ _ (by omega) (by omega), entry3_of_lt x1 _ _ _ (by omega) (by omega) (by omega)]

end Cert.Reference13Ideal.Product

namespace Cert.Proof

open Idealize.ShloMosaic Idealize.ShloMosaic.TcCoe Idealize.SL.Sem

/-- The reference runs, leaves its arguments unchanged and, declaring no semaphore, ends with every counter at zero. -/
theorem reference_frame13 : Cert.quiescent_Reference13Ideal := by
  intro m g _
  exact (θ_run Cert.Reference13Ideal.defs _ _).mono
    (fun r h => ⟨fun c => (h c).2, sem_eq_zero_of_no_sems (by decide) r.2⟩) (Cert.Reference13Ideal.Value.run (F := Ideal) m g)

/-- The up projection: the kernel and its reference compute the same array over the extended reals. -/
theorem algebraic13 : Cert.algebraic_Kernel13Ideal_Reference13Ideal := by
  intro m g m' g' _ hargs
  refine ⟨fun c => Cert.Kernel13Ideal.Product.prod m c, ?_, ?_⟩
  · refine (θ_run Cert.Kernel13Ideal.defs _ _).mono (fun r h c => ?_) (Cert.Kernel13Ideal.Value.run_blocks (F := Ideal) m g)
    obtain ⟨h2, ha⟩ := h c
    exact ⟨h2.trans (Cert.Kernel13Ideal.Product.final m c), ha⟩
  · refine (θ_run Cert.Reference13Ideal.defs _ _).mono (fun r h c => ?_) (Cert.Reference13Ideal.Value.run (F := Ideal) m' g')
    obtain ⟨h2, ha⟩ := h c
    obtain ⟨e0, e1⟩ := hargs c
    refine ⟨?_, ha⟩
    rw [h2, Cert.Reference13Ideal.Read.val_main_v5_eq, e0, e1]
    funext i
    obtain ⟨r, l, rfl⟩ : ∃ (r : Fin 2048) (l : Fin 5632), i = ix2 r l := ⟨i 0, i 1, eq_ix2 i⟩
    exact Cert.Reference13Ideal.Product.val_apply _ _ r l

end Cert.Proof

end
-- ==== Proof.ScanPieces.lean ====
/-
  One chunk of the gated delta rule's backward scan as the kernel computes it: from the blocks that it loads for the chunk
  and from the gradient of the state behind the chunk, the blocks that it stores and the gradient of the state before it.
  The kernel writes the same text out for four chunks and, inside each, for four heads; this module states it once.
-/
module

public import proofs.«01_k».proof.Proof.Gen.Kernel14Ideal.Skeleton

@[expose] public section

noncomputable section

namespace Cert.Kernel14Ideal.Scan

open Cert.Kernel14Ideal Cert.Kernel14Ideal.Gen Idealize.ShloMosaic

variable {F : FTy → Type} [FloatOps F]

/-- What the kernel loads for one chunk: the state before it, the four factors, the attention, the decay, and for each head the
    gate's columns and the columns of the gradient of the gated norm's result; the norm's weight. -/
structure Loaded (F : FTy → Type) [FloatOps F] where
  st : Vec F S1x4x128x128 .f32
  uv : Vec F S4x64x128 .f32
  wk : Vec F S4x64x128 .f32
  qd : Vec F S4x64x128 .f32
  ke : Vec F S4x64x128 .f32
  att : Vec F S4x64x64 .f32
  ge : Vec F S1x4x8x128 .f32
  z0 : Vec F S64x128 .f32
  z1 : Vec F S64x128 .f32
  z2 : Vec F S64x128 .f32
  z3 : Vec F S64x128 .f32
  d0 : Vec F S64x128 .f32
  d1 : Vec F S64x128 .f32
  d2 : Vec F S64x128 .f32
  d3 : Vec F S64x128 .f32
  g : Vec F S1x128 .f32

/-- One head's rows. -/
def head0 (o : FVec F S4x64x128 .f32) : FVec F S64x128 .f32 :=
  shapeCast S64x128 (extractStridedSlice S1x64x128 ![0, 0, 0] o slices_S4x64x128_o0_0_0_S1x64x128) shapeCasts_S1x64x128_S64x128
def head1 (o : FVec F S4x64x128 .f32) : FVec F S64x128 .f32 :=
  shapeCast S64x128 (extractStridedSlice S1x64x128 ![1, 0, 0] o slices_S4x64x128_o1_0_0_S1x64x128) shapeCasts_S1x64x128_S64x128
def head2 (o : FVec F S4x64x128 .f32) : FVec F S64x128 .f32 :=
  shapeCast S64x128 (extractStridedSlice S1x64x128 ![2, 0, 0] o slices_S4x64x128_o2_0_0_S1x64x128) shapeCasts_S1x64x128_S64x128
def head3 (o : FVec F S4x64x128 .f32) : FVec F S64x128 .f32 :=
  shapeCast S64x128 (extractStridedSlice S1x64x128 ![3, 0, 0] o slices_S4x64x128_o3_0_0_S1x64x128) shapeCasts_S1x64x128_S64x128

/-- Each row's sum of squares. -/
def squares (o : FVec F S64x128 .f32) : FVec F S64 .f32 :=
  multiReduction .add [1] S64 (mulf o o) 0x00000000#32 reduces_S64x128_S64 (.inl rfl) rfl
/-- The gated norm's gradient in its input, in the gate and in the weight. -/
def normDo (o z : FVec F S64x128 .f32) (g : FVec F S1x128 .f32) (d : FVec F S64x128 .f32) : FVec F S64x128 .f32 := k0_pay17 o z g (squares o) d
def normDz (o z : FVec F S64x128 .f32) (g : FVec F S1x128 .f32) (d : FVec F S64x128 .f32) : FVec F S64x128 .f32 := k0_pay16 o z g (squares o) d
def normDg (o z d : FVec F S64x128 .f32) : FVec F S1x128 .f32 :=
  shapeCast S1x128 (multiReduction .add [0] S128 (mulf (k0_pay13 o (squares o)) (k0_pay15 z d)) 0x00000000#32 reduces_S64x128_S128 (.inl rfl) rfl) shapeCasts_S128_S1x128

/-- Four heads' rows side by side. -/
def heads (a b c d : FVec F S64x128 .f32) : FVec F S4x64x128 .f32 :=
  concatenate S4x64x128 0 [⟨S1x64x128, shapeCast S1x64x128 a shapeCasts_S64x128_S1x64x128⟩, ⟨S1x64x128, shapeCast S1x64x128 b shapeCasts_S64x128_S1x64x128⟩,
    ⟨S1x64x128, shapeCast S1x64x128 c shapeCasts_S64x128_S1x64x128⟩, ⟨S1x64x128, shapeCast S1x64x128 d shapeCasts_S64x128_S1x64x128⟩] concatenates_S1x64x128_S1x64x128_S1x64x128_S1x64x128_S4x64x128_d0

namespace Loaded

variable (X : Loaded F) (S : FVec F S4x128x128 .f32)

/-- The chunk's new values `u` and its output `o`. -/
def u : FVec F S4x64x128 .f32 := k0_pay7 X.st X.wk X.uv
def o : FVec F S4x64x128 .f32 := k0_pay8 X.st X.wk X.qd X.att X.uv
/-- The gradient of `o`. -/
def dO : FVec F S4x64x128 .f32 :=
  heads (normDo (head0 X.o) X.z0 X.g X.d0) (normDo (head1 X.o) X.z1 X.g X.d1) (normDo (head2 X.o) X.z2 X.g X.d2) (normDo (head3 X.o) X.z3 X.g X.d3)
/-- The gate's gradient, head by head. -/
def dz0 : FVec F S64x128 .f32 := normDz (head0 X.o) X.z0 X.g X.d0
def dz1 : FVec F S64x128 .f32 := normDz (head1 X.o) X.z1 X.g X.d1
def dz2 : FVec F S64x128 .f32 := normDz (head2 X.o) X.z2 X.g X.d2
def dz3 : FVec F S64x128 .f32 := normDz (head3 X.o) X.z3 X.g X.d3
/-- The norm's weight gradient after the chunk's four heads, from what it was before them. -/
def dg (acc : FVec F S1x128 .f32) : FVec F S1x128 .f32 :=
  addf (addf (addf (addf acc (normDg (head0 X.o) X.z0 X.d0)) (normDg (head1 X.o) X.z1 X.d1)) (normDg (head2 X.o) X.z2 X.d2)) (normDg (head3 X.o) X.z3 X.d3)
/-- The gradient of `u`, from the gradient `S` of the state behind the chunk. -/
def du : FVec F S4x64x128 .f32 :=
  addf (matmul dot_S4x64x64_S4x64x128_S4x64x128_1_1_2_2_0_0 none (truncf .bf16 X.att bitsLt_bf16_f32) (truncf .bf16 X.dO bitsLt_bf16_f32) (constant S4x64x128 .f32 0x00000000#32))
    (matmul dot_S4x64x128_S4x128x128_S4x64x128_2_1_1_2_0_0 none (truncf .bf16 X.ke bitsLt_bf16_f32) (truncf .bf16 S bitsLt_bf16_f32) (constant S4x64x128 .f32 0x00000000#32))
/-- The gradients of the attention, of the factors and of the decay. -/
def datt : FVec F S4x64x64 .f32 :=
  matmul dot_S4x64x128_S4x64x128_S4x64x64_2_2_1_1_0_0 none (truncf .bf16 X.dO bitsLt_bf16_f32) (truncf .bf16 X.u bitsLt_bf16_f32) (constant S4x64x64 .f32 0x00000000#32)
def dqd : FVec F S4x64x128 .f32 := k0_pay59 (k0_pay6 X.st) X.dO
def dke : FVec F S4x64x128 .f32 := k0_pay60 X.u S
def dwk : FVec F S4x64x128 .f32 := k0_pay61 (k0_pay6 X.st) (X.du S)
def dge : FVec F S1x4x8x128 .f32 := k0_pay62 (k0_pay6 X.st) S
/-- The gradient of the state before the chunk. -/
def back : FVec F S4x128x128 .f32 := k0_pay64 X.wk X.qd X.dO S (X.du S) (k0_pay63 X.ge)

end Loaded

end Cert.Kernel14Ideal.Scan

end
-- ==== Proof.ScanRun.lean ====
/-
  What one grid point of the backward scan's kernel stores: four chunks' blocks, worked from the last chunk to the first, each
  from the gradient of the state behind it; the gradient of the state before the first chunk is handed to the next point.
-/
module

public import proofs.«01_k».proof.Proof.ScanPieces
public import proofs.«01_k».proof.Proof.Gen.Kernel14Ideal.Frame
public import Idealize.ShloMosaic.Lib.Pipeline.ReadBack
public import Idealize.ShloMosaic.Lib.Pipeline.ValueKit.Acc

@[expose] public section

set_option maxRecDepth 16384

noncomputable section

namespace Cert.Kernel14Ideal.Scan

open Cert.Kernel14Ideal Cert.Kernel14Ideal.Gen
open Idealize.ShloMosaic Idealize.ShloMosaic.TcCoe Idealize.SL.Sem

theorem hz : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

variable {F : FTy → Type} [FloatOps F]

theorem nine {A B C D E G H I J : Type} {a a' : A} {b b' : B} {c c' : C} {d d' : D} {e e' : E} {g g' : G} {h h' : H} {i i' : I} {j j' : J}
    (ha : a = a') (hb : b = b') (hc : c = c') (hd : d = d') (he : e = e') (hg : g = g') (hh : h = h') (hi : i = i') (hj : j = j') :
    (a, b, c, d, e, g, h, i, j) = (a', b', c', d', e', g', h', i', j') := by
  subst ha hb hc hd he hg hh hi hj; rfl

/-- The input blocks of one grid point. -/
structure Blocks (F : FTy → Type) [FloatOps F] where
  uv : Vec F S4x256x128 .f32
  wk : Vec F S4x256x128 .f32
  qd : Vec F S4x256x128 .f32
  ke : Vec F S4x256x128 .f32
  att : Vec F S4x256x64 .f32
  ge : Vec F S4x4x8x128 .f32
  z : Vec F S256x512 .f32
  g : Vec F S1x128 .f32
  st : Vec F S4x4x128x128 .f32
  d : Vec F S256x512 .f32

/-- A load of four heads' rows, of the attention's rows, of one chunk's block, of one head's columns. -/
abbrev ldHd (r : Nat) (h : ∀ a, (![0, r, 0] : Fin 3 → Nat) a + S4x64x128.size a ≤ S4x256x128.size a) (x : Vec F S4x256x128 .f32) : Vec F S4x64x128 .f32 := View.ld x (Rect.unit (s := S4x256x128) ![0, r, 0] S4x64x128.size h)
abbrev ldHc (r : Nat) (h : ∀ a, (![0, r, 0] : Fin 3 → Nat) a + S4x64x64.size a ≤ S4x256x64.size a) (x : Vec F S4x256x64 .f32) : Vec F S4x64x64 .f32 := View.ld x (Rect.unit (s := S4x256x64) ![0, r, 0] S4x64x64.size h)
abbrev ldGe (j : Nat) (h : ∀ a, (![j, 0, 0, 0] : Fin 4 → Nat) a + S1x4x8x128.size a ≤ S4x4x8x128.size a) (x : Vec F S4x4x8x128 .f32) : Vec F S1x4x8x128 .f32 := View.ld x (Rect.unit (s := S4x4x8x128) ![j, 0, 0, 0] S1x4x8x128.size h)
abbrev ldSt (j : Nat) (h : ∀ a, (![j, 0, 0, 0] : Fin 4 → Nat) a + S1x4x128x128.size a ≤ S4x4x128x128.size a) (x : Vec F S4x4x128x128 .f32) : Vec F S1x4x128x128 .f32 := View.ld x (Rect.unit (s := S4x4x128x128) ![j, 0, 0, 0] S1x4x128x128.size h)
abbrev ldZ (r l : Nat) (h : ∀ a, (![r, l] : Fin 2 → Nat) a + S64x128.size a ≤ S256x512.size a) (x : Vec F S256x512 .f32) : Vec F S64x128 .f32 := View.ld x (Rect.unit (s := S256x512) ![r, l] S64x128.size h)

/-- Four chunks' blocks in one output block. -/
def rowsHd (p0 p1 p2 p3 : FVec F S4x64x128 .f32) : Vec F S4x256x128 .f32 := View.canon
  [⟨Rect.unit (s := S4x256x128) ![0, 0, 0] S4x64x128.size inb_S4x256x128_S4x64x128_0_0_0, p0⟩,
   ⟨Rect.unit (s := S4x256x128) ![0, 64, 0] S4x64x128.size inb_S4x256x128_S4x64x128_0_64_0, p1⟩,
   ⟨Rect.unit (s := S4x256x128) ![0, 128, 0] S4x64x128.size inb_S4x256x128_S4x64x128_0_128_0, p2⟩,
   ⟨Rect.unit (s := S4x256x128) ![0, 192, 0] S4x64x128.size inb_S4x256x128_S4x64x128_0_192_0, p3⟩]
def rowsHc (p0 p1 p2 p3 : FVec F S4x64x64 .f32) : Vec F S4x256x64 .f32 := View.canon
  [⟨Rect.unit (s := S4x256x64) ![0, 0, 0] S4x64x64.size inb_S4x256x64_S4x64x64_0_0_0, p0⟩,
   ⟨Rect.unit (s := S4x256x64) ![0, 64, 0] S4x64x64.size inb_S4x256x64_S4x64x64_0_64_0, p1⟩,
   ⟨Rect.unit (s := S4x256x64) ![0, 128, 0] S4x64x64.size inb_S4x256x64_S4x64x64_0_128_0, p2⟩,
   ⟨Rect.unit (s := S4x256x64) ![0, 192, 0] S4x64x64.size inb_S4x256x64_S4x64x64_0_192_0, p3⟩]
def rowsGe (p0 p1 p2 p3 : FVec F S1x4x8x128 .f32) : Vec F S4x4x8x128 .f32 := View.canon
  [⟨Rect.unit (s := S4x4x8x128) ![0, 0, 0, 0] S1x4x8x128.size inb_S4x4x8x128_S1x4x8x128_0_0_0_0, p0⟩,
   ⟨Rect.unit (s := S4x4x8x128) ![1, 0, 0, 0] S1x4x8x128.size inb_S4x4x8x128_S1x4x8x128_1_0_0_0, p1⟩,
   ⟨Rect.unit (s := S4x4x8x128) ![2, 0, 0, 0] S1x4x8x128.size inb_S4x4x8x128_S1x4x8x128_2_0_0_0, p2⟩,
   ⟨Rect.unit (s := S4x4x8x128) ![3, 0, 0, 0] S1x4x8x128.size inb_S4x4x8x128_S1x4x8x128_3_0_0_0, p3⟩]
def rowsZ (p0 p1 p2 p3 : Fin 4 → FVec F S64x128 .f32) : Vec F S256x512 .f32 := View.canon
  [⟨Rect.unit (s := S256x512) ![0, 384] S64x128.size inb_S256x512_S64x128_0_384, p0 3⟩,
   ⟨Rect.unit (s := S256x512) ![0, 256] S64x128.size inb_S256x512_S64x128_0_256, p0 2⟩,
   ⟨Rect.unit (s := S256x512) ![0, 128] S64x128.size inb_S256x512_S64x128_0_128, p0 1⟩,
   ⟨Rect.unit (s := S256x512) ![0, 0] S64x128.size inb_S256x512_S64x128_0_0, p0 0⟩,
   ⟨Rect.unit (s := S256x512) ![64, 384] S64x128.size inb_S256x512_S64x128_64_384, p1 3⟩,
   ⟨Rect.unit (s := S256x512) ![64, 256] S64x128.size inb_S256x512_S64x128_64_256, p1 2⟩,
   ⟨Rect.unit (s := S256x512) ![64, 128] S64x128.size inb_S256x512_S64x128_64_128, p1 1⟩,
   ⟨Rect.unit (s := S256x512) ![64, 0] S64x128.size inb_S256x512_S64x128_64_0, p1 0⟩,
   ⟨Rect.unit (s := S256x512) ![128, 384] S64x128.size inb_S256x512_S64x128_128_384, p2 3⟩,
   ⟨Rect.unit (s := S256x512) ![128, 256] S64x128.size inb_S256x512_S64x128_128_256, p2 2⟩,
   ⟨Rect.unit (s := S256x512) ![128, 128] S64x128.size inb_S256x512_S64x128_128_128, p2 1⟩,
   ⟨Rect.unit (s := S256x512) ![128, 0] S64x128.size inb_S256x512_S64x128_128_0, p2 0⟩,
   ⟨Rect.unit (s := S256x512) ![192, 384] S64x128.size inb_S256x512_S64x128_192_384, p3 3⟩,
   ⟨Rect.unit (s := S256x512) ![192, 256] S64x128.size inb_S256x512_S64x128_192_256, p3 2⟩,
   ⟨Rect.unit (s := S256x512) ![192, 128] S64x128.size inb_S256x512_S64x128_192_128, p3 1⟩,
   ⟨Rect.unit (s := S256x512) ![192, 0] S64x128.size inb_S256x512_S64x128_192_0, p3 0⟩]

/-- The gate's gradient of one chunk's heads. -/
def Loaded.dz (X : Loaded F) : Fin 4 → FVec F S64x128 .f32
  | 0 => X.dz0
  | 1 => X.dz1
  | 2 => X.dz2
  | 3 => X.dz3

namespace Blocks

variable (b : Blocks F)

/-- What the kernel loads of the blocks for each of their four chunks. -/
def at0 : Loaded F where
  st := ldSt 0 inb_S4x4x128x128_S1x4x128x128_0_0_0_0 b.st
  uv := ldHd 0 inb_S4x256x128_S4x64x128_0_0_0 b.uv
  wk := ldHd 0 inb_S4x256x128_S4x64x128_0_0_0 b.wk
  qd := ldHd 0 inb_S4x256x128_S4x64x128_0_0_0 b.qd
  ke := ldHd 0 inb_S4x256x128_S4x64x128_0_0_0 b.ke
  att := ldHc 0 inb_S4x256x64_S4x64x64_0_0_0 b.att
  ge := ldGe 0 inb_S4x4x8x128_S1x4x8x128_0_0_0_0 b.ge
  z0 := ldZ 0 0 inb_S256x512_S64x128_0_0 b.z
  z1 := ldZ 0 128 inb_S256x512_S64x128_0_128 b.z
  z2 := ldZ 0 256 inb_S256x512_S64x128_0_256 b.z
  z3 := ldZ 0 384 inb_S256x512_S64x128_0_384 b.z
  d0 := ldZ 0 0 inb_S256x512_S64x128_0_0 b.d
  d1 := ldZ 0 128 inb_S256x512_S64x128_0_128 b.d
  d2 := ldZ 0 256 inb_S256x512_S64x128_0_256 b.d
  d3 := ldZ 0 384 inb_S256x512_S64x128_0_384 b.d
  g := b.g
def at1 : Loaded F where
  st := ldSt 1 inb_S4x4x128x128_S1x4x128x128_1_0_0_0 b.st
  uv := ldHd 64 inb_S4x256x128_S4x64x128_0_64_0 b.uv
  wk := ldHd 64 inb_S4x256x128_S4x64x128_0_64_0 b.wk
  qd := ldHd 64 inb_S4x256x128_S4x64x128_0_64_0 b.qd
  ke := ldHd 64 inb_S4x256x128_S4x64x128_0_64_0 b.ke
  att := ldHc 64 inb_S4x256x64_S4x64x64_0_64_0 b.att
  ge := ldGe 1 inb_S4x4x8x128_S1x4x8x128_1_0_0_0 b.ge
  z0 := ldZ 64 0 inb_S256x512_S64x128_64_0 b.z
  z1 := ldZ 64 128 inb_S256x512_S64x128_64_128 b.z
  z2 := ldZ 64 256 inb_S256x512_S64x128_64_256 b.z
  z3 := ldZ 64 384 inb_S256x512_S64x128_64_384 b.z
  d0 := ldZ 64 0 inb_S256x512_S64x128_64_0 b.d
  d1 := ldZ 64 128 inb_S256x512_S64x128_64_128 b.d
  d2 := ldZ 64 256 inb_S256x512_S64x128_64_256 b.d
  d3 := ldZ 64 384 inb_S256x512_S64x128_64_384 b.d
  g := b.g
def at2 : Loaded F where
  st := ldSt 2 inb_S4x4x128x128_S1x4x128x128_2_0_0_0 b.st
  uv := ldHd 128 inb_S4x256x128_S4x64x128_0_128_0 b.uv
  wk := ldHd 128 inb_S4x256x128_S4x64x128_0_128_0 b.wk
  qd := ldHd 128 inb_S4x256x128_S4x64x128_0_128_0 b.qd
  ke := ldHd 128 inb_S4x256x128_S4x64x128_0_128_0 b.ke
  att := ldHc 128 inb_S4x256x64_S4x64x64_0_128_0 b.att
  ge := ldGe 2 inb_S4x4x8x128_S1x4x8x128_2_0_0_0 b.ge
  z0 := ldZ 128 0 inb_S256x512_S64x128_128_0 b.z
  z1 := ldZ 128 128 inb_S256x512_S64x128_128_128 b.z
  z2 := ldZ 128 256 inb_S256x512_S64x128_128_256 b.z
  z3 := ldZ 128 384 inb_S256x512_S64x128_128_384 b.z
  d0 := ldZ 128 0 inb_S256x512_S64x128_128_0 b.d
  d1 := ldZ 128 128 inb_S256x512_S64x128_128_128 b.d
  d2 := ldZ 128 256 inb_S256x512_S64x128_128_256 b.d
  d3 := ldZ 128 384 inb_S256x512_S64x128_128_384 b.d
  g := b.g
def at3 : Loaded F where
  st := ldSt 3 inb_S4x4x128x128_S1x4x128x128_3_0_0_0 b.st
  uv := ldHd 192 inb_S4x256x128_S4x64x128_0_192_0 b.uv
  wk := ldHd 192 inb_S4x256x128_S4x64x128_0_192_0 b.wk
  qd := ldHd 192 inb_S4x256x128_S4x64x128_0_192_0 b.qd
  ke := ldHd 192 inb_S4x256x128_S4x64x128_0_192_0 b.ke
  att := ldHc 192 inb_S4x256x64_S4x64x64_0_192_0 b.att
  ge := ldGe 3 inb_S4x4x8x128_S1x4x8x128_3_0_0_0 b.ge
  z0 := ldZ 192 0 inb_S256x512_S64x128_192_0 b.z
  z1 := ldZ 192 128 inb_S256x512_S64x128_192_128 b.z
  z2 := ldZ 192 256 inb_S256x512_S64x128_192_256 b.z
  z3 := ldZ 192 384 inb_S256x512_S64x128_192_384 b.z
  d0 := ldZ 192 0 inb_S256x512_S64x128_192_0 b.d
  d1 := ldZ 192 128 inb_S256x512_S64x128_192_128 b.d
  d2 := ldZ 192 256 inb_S256x512_S64x128_192_256 b.d
  d3 := ldZ 192 384 inb_S256x512_S64x128_192_384 b.d
  g := b.g

variable (S : FVec F S4x128x128 .f32) (G : FVec F S1x128 .f32)

/-- The gradient of the state behind each chunk, from the one behind the last. -/
def s2 : FVec F S4x128x128 .f32 := b.at3.back S
def s1 : FVec F S4x128x128 .f32 := b.at2.back (b.s2 S)
def s0 : FVec F S4x128x128 .f32 := b.at1.back (b.s1 S)

/-- The output blocks of the point, and what it hands on: from the gradient `S` of the state behind it, and the norm's weight
    gradient `G` so far. -/
def outs : Vec F S4x256x128 .f32 × Vec F S4x256x128 .f32 × Vec F S4x256x128 .f32 × Vec F S4x256x128 .f32 × Vec F S4x256x64 .f32 ×
    Vec F S4x4x8x128 .f32 × Vec F S256x512 .f32 × Vec F S1x128 .f32 × Vec F S4x128x128 .f32 :=
  (rowsHd (b.at0.du (b.s0 S)) (b.at1.du (b.s1 S)) (b.at2.du (b.s2 S)) (b.at3.du S),
   rowsHd (b.at0.dwk (b.s0 S)) (b.at1.dwk (b.s1 S)) (b.at2.dwk (b.s2 S)) (b.at3.dwk S),
   rowsHd b.at0.dqd b.at1.dqd b.at2.dqd b.at3.dqd,
   rowsHd (b.at0.dke (b.s0 S)) (b.at1.dke (b.s1 S)) (b.at2.dke (b.s2 S)) (b.at3.dke S),
   rowsHc b.at0.datt b.at1.datt b.at2.datt b.at3.datt,
   rowsGe (b.at0.dge (b.s0 S)) (b.at1.dge (b.s1 S)) (b.at2.dge (b.s2 S)) (b.at3.dge S),
   rowsZ b.at0.dz b.at1.dz b.at2.dz b.at3.dz,
   k0_pay2 (b.at0.dg (b.at1.dg (b.at2.dg (b.at3.dg k0_pay5)))) G,
   b.at0.back (b.s0 S))

end Blocks

variable (c : Dev nD) (i : grid0.Coords) (arg1 : Memref sig .tc .vmem S4x256x128 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S4x256x128 .f32) (harg4 : arg4.IsWhole) (arg5 : Memref sig .tc .vmem S4x256x64 .f32) (harg5 : arg5.IsWhole) (arg6 : Memref sig .tc .vmem S4x4x8x128 .f32) (harg6 : arg6.IsWhole) (arg7 : Memref sig .tc .vmem S256x512 .f32) (harg7 : arg7.IsWhole) (arg8 : Memref sig .tc .vmem S1x128 .f32) (harg8 : arg8.IsWhole) (arg9 : Memref sig .tc .vmem S4x4x128x128 .f32) (harg9 : arg9.IsWhole) (arg10 : Memref sig .tc .vmem S256x512 .f32) (harg10 : arg10.IsWhole) (arg11 : Memref sig .tc .vmem S4x256x128 .f32) (harg11 : arg11.IsWhole) (arg12 : Memref sig .tc .vmem S4x256x128 .f32) (harg12 : arg12.IsWhole) (arg13 : Memref sig .tc .vmem S4x256x128 .f32) (harg13 : arg13.IsWhole) (arg14 : Memref sig .tc .vmem S4x256x128 .f32) (harg14 : arg14.IsWhole) (arg15 : Memref sig .tc .vmem S4x256x64 .f32) (harg15 : arg15.IsWhole) (arg16 : Memref sig .tc .vmem S4x4x8x128 .f32) (harg16 : arg16.IsWhole) (arg17 : Memref sig .tc .vmem S256x512 .f32) (harg17 : arg17.IsWhole) (arg18 : Memref sig .tc .vmem S1x128 .f32) (harg18 : arg18.IsWhole) (arg19 : Memref sig .tc .vmem S4x128x128 .f32) (harg19 : arg19.IsWhole)
  (x0 : Vec F S4x256x128 .f32) (x1 : Vec F S4x256x128 .f32) (x2 : Vec F S4x256x128 .f32) (x3 : Vec F S4x256x128 .f32) (x4 : Vec F S4x256x64 .f32) (x5 : Vec F S4x4x8x128 .f32) (x6 : Vec F S256x512 .f32) (x7 : Vec F S1x128 .f32) (x8 : Vec F S4x4x128x128 .f32) (x9 : Vec F S256x512 .f32)

theorem stored_A (hc0 : cond0_0 i) :
    (let L := kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9
     (View.canon L.1, View.canon L.2.1, View.canon L.2.2.1, View.canon L.2.2.2.1, View.canon L.2.2.2.2.1, View.canon L.2.2.2.2.2.1, View.canon L.2.2.2.2.2.2.1, View.canon L.2.2.2.2.2.2.2.1, View.canon L.2.2.2.2.2.2.2.2.1)) =
    (Blocks.mk x0 x1 x2 x3 x4 x5 x6 x7 x8 x9).outs k0_pay3 k0_pay4 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1x128) hz, View.ld_unit_zero (S := S4x128x128) hz3]
  simp (disch := decide) only [View.readCov_cons_unit_lit' (S := S4x128x128), View.readCov_cons_unit_lit' (S := S1x128),
    View.canon_cons_unit_lit' (S := S4x128x128), View.canon_cons_unit_lit' (S := S1x128)]
  rfl

/-- The first point starts from zeros. -/
theorem outs_A (hc0 : cond0_0 i) :
    (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
     sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9) =
    (Blocks.mk x0 x1 x2 x3 x4 x5 x6 x7 x8 x9).outs k0_pay3 k0_pay4 := by
  refine Eq.trans ?_ (stored_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0)
  refine nine ?_ ?_ ?_ ?_ ?_ ?_ ?_ ?_ ?_
  · exact View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)
  · exact View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)

theorem stored_B (hc0 : ¬cond0_0 i) (xo17 : Vec F S1x128 .f32) (xs0 : Vec F S4x128x128 .f32) :
    (let L := kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0
     (View.canon L.1, View.canon L.2.1, View.canon L.2.2.1, View.canon L.2.2.2.1, View.canon L.2.2.2.2.1, View.canon L.2.2.2.2.2.1, View.canon L.2.2.2.2.2.2.1, View.canon L.2.2.2.2.2.2.2.1, View.canon L.2.2.2.2.2.2.2.2.1)) =
    (Blocks.mk x0 x1 x2 x3 x4 x5 x6 x7 x8 x9).outs xs0 xo17 := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg18.read_unread, harg19.read_unread, View.ld_unit_zero (S := S1x128) hz, View.ld_unit_zero (S := S4x128x128) hz3]
  simp (disch := decide) only [View.readCov_cons_unit_lit' (S := S4x128x128), View.readCov_cons_unit_lit' (S := S1x128),
    View.canon_cons_unit_lit' (S := S4x128x128), View.canon_cons_unit_lit' (S := S1x128)]
  rfl

/-- The others go on from what the point before left. -/
theorem outs_B (hc0 : ¬cond0_0 i) (xo17 : Vec F S1x128 .f32) (xs0 : Vec F S4x128x128 .f32) :
    (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0,
     sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0) =
    (Blocks.mk x0 x1 x2 x3 x4 x5 x6 x7 x8 x9).outs xs0 xo17 := by
  refine Eq.trans ?_ (stored_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 xo17 xs0)
  refine nine ?_ ?_ ?_ ?_ ?_ ?_ ?_ ?_ ?_
  · exact View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)
  · exact View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0)

end Cert.Kernel14Ideal.Scan

end
-- ==== Proof.ScanSpec.lean ====
/-
  One chunk of the gated delta rule's backward scan, as formulas: from the chunk's arrays and the gradient of the state behind
  it, the gradients of the arrays and of the state before it.
-/
module

public import Idealize.ShloMosaic.Lib.KernelVsHost
public import Idealize.ShloMosaic.Lib.Pointwise

@[expose] public section

noncomputable section

namespace Cert.Scan

open Idealize.ShloMosaic

/-! ## The gated norm's gradient, one row of 128 values -/

/-- The mean of the squares plus the small constant. -/
def ms (o : Fin 128 → EReal) : EReal :=
  Ideal.div (∑ k : Fin 128, (o k * o k : EReal)) (Ideal.ofBits FTy.f32 1124073472#32) + Ideal.ofBits FTy.f32 897988541#32
/-- One over its root. -/
def rs (o : Fin 128 → EReal) : EReal := Ideal.rsqrt (ms o)
/-- The logistic function. -/
def sg (z : EReal) : EReal := Ideal.div 1 (1 + Ideal.exp (-z))
/-- The gradient that reaches the norm through the gate. -/
def dy (z d : EReal) : EReal := d * (z * sg z)
/-- The derivative of the mean of squares, weighted. -/
def half (o w : Fin 128 → EReal) : EReal :=
  ∑ _x : Fin 1, Ideal.div ((∑ k : Fin 128, (o k * w k : EReal)) * (Ideal.ofBits FTy.f32 3204448256#32 * Ideal.div (rs o) (ms o)))
      (Ideal.ofBits FTy.f32 1124073472#32)
/-- The gradient in the norm's input. -/
def rowDo (o z d g : Fin 128 → EReal) (l : Fin 128) : EReal :=
  dy (z l) (d l) * g l * rs o + o l * half o (fun k => dy (z k) (d k) * g k) + half o (fun k => dy (z k) (d k) * g k) * o l
/-- The gradient in the gate. -/
def rowDz (o z d g : Fin 128 → EReal) (l : Fin 128) : EReal :=
  o l * rs o * g l * d l * sg (z l) + z l * (o l * rs o * g l * d l) * (sg (z l) * (1 - sg (z l)))
/-- One row's part of the gradient in the norm's weight. -/
def rowDg (o z d : Fin 128 → EReal) (l : Fin 128) : EReal := o l * rs o * dy (z l) (d l)

/-! ## One chunk -/

/-- A chunk's arrays: the state before it, the factors, the attention, the decay, the gate, the gradient of the gated norm's
    result, and the norm's weight. -/
@[ext] structure Chunk where
  st : Fin 4 → Fin 128 → Fin 128 → EReal
  uv : Fin 4 → Fin 64 → Fin 128 → EReal
  wk : Fin 4 → Fin 64 → Fin 128 → EReal
  qd : Fin 4 → Fin 64 → Fin 128 → EReal
  ke : Fin 4 → Fin 64 → Fin 128 → EReal
  att : Fin 4 → Fin 64 → Fin 64 → EReal
  ge : Fin 4 → EReal
  z : Fin 4 → Fin 64 → Fin 128 → EReal
  d : Fin 4 → Fin 64 → Fin 128 → EReal
  g : Fin 128 → EReal

namespace Chunk

variable (X : Chunk) (S : Fin 4 → Fin 128 → Fin 128 → EReal)

def u (h : Fin 4) (r : Fin 64) (v : Fin 128) : EReal := X.uv h r v - ∑ k : Fin 128, (X.wk h r k * X.st h k v : EReal)
def o (h : Fin 4) (r : Fin 64) (v : Fin 128) : EReal :=
  (∑ k : Fin 128, (X.qd h r k * X.st h k v : EReal)) + ∑ s : Fin 64, (X.att h r s * X.u h s v : EReal)
def dO (h : Fin 4) (r : Fin 64) (v : Fin 128) : EReal := rowDo (X.o h r) (X.z h r) (X.d h r) X.g v
def dz (h : Fin 4) (r : Fin 64) (v : Fin 128) : EReal := rowDz (X.o h r) (X.z h r) (X.d h r) X.g v
def dg (h : Fin 4) (l : Fin 128) : EReal := ∑ r : Fin 64, rowDg (X.o h r) (X.z h r) (X.d h r) l
def du (h : Fin 4) (r : Fin 64) (v : Fin 128) : EReal :=
  (∑ s : Fin 64, (X.att h s r * X.dO h s v : EReal)) + ∑ k : Fin 128, (X.ke h r k * S h k v : EReal)
def datt (h : Fin 4) (r s : Fin 64) : EReal := ∑ v : Fin 128, (X.dO h r v * X.u h s v : EReal)
def dqd (h : Fin 4) (r : Fin 64) (k : Fin 128) : EReal := ∑ v : Fin 128, (X.dO h r v * X.st h k v : EReal)
def dke (h : Fin 4) (r : Fin 64) (k : Fin 128) : EReal := ∑ v : Fin 128, (X.u h r v * S h k v : EReal)
def dwk (h : Fin 4) (r : Fin 64) (k : Fin 128) : EReal := 0 - ∑ v : Fin 128, (X.du S h r v * X.st h k v : EReal)
def dge (h : Fin 4) : EReal := ∑ k : Fin 128, ∑ v : Fin 128, (X.st h k v * S h k v : EReal)
def back (h : Fin 4) (k v : Fin 128) : EReal :=
  X.ge h * S h k v + (∑ r : Fin 64, (X.qd h r k * X.dO h r v : EReal)) - ∑ r : Fin 64, (X.wk h r k * X.du S h r v : EReal)

end Chunk

end Cert.Scan

end
-- ==== Proof.ScanPayload.lean ====
/-
  The blocks that the backward scan's kernel forms for one chunk, entry by entry: the formulas of one chunk.
-/
module

public import proofs.«01_k».proof.Proof.ScanPieces
public import proofs.«01_k».proof.Proof.ScanSpec

@[expose] public section

noncomputable section

namespace Cert.Kernel14Ideal.Scan

open Cert.Kernel14Ideal Cert.Kernel14Ideal.Gen Cert.Scan Idealize.ShloMosaic

theorem normDo_apply (o z : Vec Ideal S64x128 .f32) (g : Vec Ideal S1x128 .f32) (d : Vec Ideal S64x128 .f32) (r : Fin 64) (l : Fin 128) :
    normDo (F := Ideal) o z g d (ix2 r l) = rowDo (fun k => o (ix2 r k)) (fun k => z (ix2 r k)) (fun k => d (ix2 r k)) (fun k => g (ix2 0 k)) l := by
  pointwise [normDo, squares, k0_pay17, k0_pay12, k0_pay11, k0_pay15, k0_pay14]
  rfl

theorem normDz_apply (o z : Vec Ideal S64x128 .f32) (g : Vec Ideal S1x128 .f32) (d : Vec Ideal S64x128 .f32) (r : Fin 64) (l : Fin 128) :
    normDz (F := Ideal) o z g d (ix2 r l) = rowDz (fun k => o (ix2 r k)) (fun k => z (ix2 r k)) (fun k => d (ix2 r k)) (fun k => g (ix2 0 k)) l := by
  pointwise [normDz, squares, k0_pay16, k0_pay13, k0_pay12, k0_pay11, k0_pay14]
  rfl

theorem normDg_apply (o z : Vec Ideal S64x128 .f32) (d : Vec Ideal S64x128 .f32) (l : Fin 128) :
    normDg (F := Ideal) o z d (ix2 0 l) = ∑ r : Fin 64, rowDg (fun k => o (ix2 r k)) (fun k => z (ix2 r k)) (fun k => d (ix2 r k)) l := by
  pointwise [normDg, squares, k0_pay13, k0_pay12, k0_pay11, k0_pay15, k0_pay14]
  rfl

theorem head0_apply (o : Vec Ideal S4x64x128 .f32) (r : Fin 64) (l : Fin 128) : head0 (F := Ideal) o (ix2 r l) = o (ix3 0 r l) := by
  pointwise [head0]
theorem head1_apply (o : Vec Ideal S4x64x128 .f32) (r : Fin 64) (l : Fin 128) : head1 (F := Ideal) o (ix2 r l) = o (ix3 1 r l) := by
  pointwise [head1]
theorem head2_apply (o : Vec Ideal S4x64x128 .f32) (r : Fin 64) (l : Fin 128) : head2 (F := Ideal) o (ix2 r l) = o (ix3 2 r l) := by
  pointwise [head2]
theorem head3_apply (o : Vec Ideal S4x64x128 .f32) (r : Fin 64) (l : Fin 128) : head3 (F := Ideal) o (ix2 r l) = o (ix3 3 r l) := by
  pointwise [head3]

theorem heads_apply (a b c d : Vec Ideal S64x128 .f32) (h : Fin 4) (r : Fin 64) (l : Fin 128) :
    heads (F := Ideal) a b c d (ix3 h r l) = (match h with | 0 => a (ix2 r l) | 1 => b (ix2 r l) | 2 => c (ix2 r l) | 3 => d (ix2 r l)) := by
  match h with
  | 0 => pointwise [heads]
  | 1 => pointwise [heads]
  | 2 => pointwise [heads]
  | 3 => pointwise [heads]

/-- The chunk's arrays, of what the kernel loads. -/
def Loaded.chunk (X : Loaded Ideal) : Chunk where
  st h k v := X.st (ix4 0 h k v)
  uv h r v := X.uv (ix3 h r v)
  wk h r v := X.wk (ix3 h r v)
  qd h r v := X.qd (ix3 h r v)
  ke h r v := X.ke (ix3 h r v)
  att h r s := X.att (ix3 h r s)
  ge h := X.ge (ix4 0 h 0 0)
  z h r v := match h with | 0 => X.z0 (ix2 r v) | 1 => X.z1 (ix2 r v) | 2 => X.z2 (ix2 r v) | 3 => X.z3 (ix2 r v)
  d h r v := match h with | 0 => X.d0 (ix2 r v) | 1 => X.d1 (ix2 r v) | 2 => X.d2 (ix2 r v) | 3 => X.d3 (ix2 r v)
  g v := X.g (ix2 0 v)

namespace Loaded

variable (X : Loaded Ideal) (S : Vec Ideal S4x128x128 .f32)

theorem u_apply (h : Fin 4) (r : Fin 64) (v : Fin 128) : X.u (ix3 h r v) = X.chunk.u h r v := by
  pointwise [u, k0_pay7, k0_pay6]
  rfl

theorem o_raw (h : Fin 4) (r : Fin 64) (v : Fin 128) :
    X.o (ix3 h r v) = ((∑ k : Fin 128, (X.qd (ix3 h r k) * X.st (ix4 0 h k v) : EReal)) + ∑ s : Fin 64, (X.att (ix3 h r s) * X.u (ix3 h s v) : EReal) : EReal) := by
  show (k0_pay8 X.st X.wk X.qd X.att X.uv) (ix3 h r v) = _
  pointwise [k0_pay8, k0_pay6, u]

theorem dg_raw (acc : Vec Ideal S1x128 .f32) (l : Fin 128) :
    X.dg acc (ix2 0 l) = (acc (ix2 0 l) + normDg (F := Ideal) (head0 X.o) X.z0 X.d0 (ix2 0 l) + normDg (F := Ideal) (head1 X.o) X.z1 X.d1 (ix2 0 l)
      + normDg (F := Ideal) (head2 X.o) X.z2 X.d2 (ix2 0 l) + normDg (F := Ideal) (head3 X.o) X.z3 X.d3 (ix2 0 l) : EReal) := by
  rfl

theorem du_raw (h : Fin 4) (r : Fin 64) (v : Fin 128) :
    X.du S (ix3 h r v) = ((∑ s : Fin 64, (X.att (ix3 h s r) * X.dO (ix3 h s v) : EReal)) + ∑ k : Fin 128, (X.ke (ix3 h r k) * S (ix3 h k v) : EReal) : EReal) := by
  pointwise [du]

theorem datt_raw (h : Fin 4) (r s : Fin 64) :
    X.datt (ix3 h r s) = (∑ v : Fin 128, (X.dO (ix3 h r v) * X.u (ix3 h s v) : EReal) : EReal) := by
  pointwise [datt]

theorem dqd_raw (h : Fin 4) (r : Fin 64) (k : Fin 128) :
    X.dqd (ix3 h r k) = (∑ v : Fin 128, (X.dO (ix3 h r v) * X.st (ix4 0 h k v) : EReal) : EReal) := by
  pointwise [dqd, k0_pay59, k0_pay6]

theorem dke_raw (h : Fin 4) (r : Fin 64) (k : Fin 128) :
    X.dke S (ix3 h r k) = (∑ v : Fin 128, (X.u (ix3 h r v) * S (ix3 h k v) : EReal) : EReal) := by
  pointwise [dke, k0_pay60]

theorem dwk_raw (h : Fin 4) (r : Fin 64) (k : Fin 128) :
    X.dwk S (ix3 h r k) = (0 - ∑ v : Fin 128, (X.du S (ix3 h r v) * X.st (ix4 0 h k v) : EReal) : EReal) := by
  pointwise [dwk, k0_pay61, k0_pay6]

theorem dge_raw (h : Fin 4) (a : Fin 8) (b : Fin 128) :
    X.dge S (ix4 0 h a b) = (∑ k : Fin 128, ∑ v : Fin 128, (X.st (ix4 0 h k v) * S (ix3 h k v) : EReal) : EReal) := by
  pointwise [dge, k0_pay62, k0_pay6]

theorem back_raw (h : Fin 4) (k v : Fin 128) :
    X.back S (ix3 h k v) = (X.ge (ix4 0 h 0 0) * S (ix3 h k v) + (∑ r : Fin 64, (X.qd (ix3 h r k) * X.dO (ix3 h r v) : EReal))
      - ∑ r : Fin 64, (X.wk (ix3 h r k) * X.du S (ix3 h r v) : EReal) : EReal) := by
  pointwise [back, k0_pay64, k0_pay63]

theorem o_apply (h : Fin 4) (r : Fin 64) (v : Fin 128) : X.o (ix3 h r v) = X.chunk.o h r v := by
  rw [o_raw]
  simp only [u_apply]
  rfl

theorem dO_apply (h : Fin 4) (r : Fin 64) (v : Fin 128) : X.dO (ix3 h r v) = X.chunk.dO h r v := by
  unfold dO
  rw [heads_apply]
  match h with
  | 0 => simp only [normDo_apply, head0_apply, o_apply]; rfl
  | 1 => simp only [normDo_apply, head1_apply, o_apply]; rfl
  | 2 => simp only [normDo_apply, head2_apply, o_apply]; rfl
  | 3 => simp only [normDo_apply, head3_apply, o_apply]; rfl

theorem dz0_apply (r : Fin 64) (v : Fin 128) : X.dz0 (ix2 r v) = X.chunk.dz 0 r v := by
  simp only [dz0, normDz_apply, head0_apply, o_apply]; rfl
theorem dz1_apply (r : Fin 64) (v : Fin 128) : X.dz1 (ix2 r v) = X.chunk.dz 1 r v := by
  simp only [dz1, normDz_apply, head1_apply, o_apply]; rfl
theorem dz2_apply (r : Fin 64) (v : Fin 128) : X.dz2 (ix2 r v) = X.chunk.dz 2 r v := by
  simp only [dz2, normDz_apply, head2_apply, o_apply]; rfl
theorem dz3_apply (r : Fin 64) (v : Fin 128) : X.dz3 (ix2 r v) = X.chunk.dz 3 r v := by
  simp only [dz3, normDz_apply, head3_apply, o_apply]; rfl

theorem dg_apply (acc : Vec Ideal S1x128 .f32) (l : Fin 128) :
    X.dg acc (ix2 0 l) = (acc (ix2 0 l) + ∑ h : Fin 4, X.chunk.dg h l : EReal) := by
  rw [dg_raw, Fin.sum_univ_four]
  simp only [normDg_apply, head0_apply, head1_apply, head2_apply, head3_apply, o_apply, add_assoc]
  rfl

variable {S} {T : Fin 4 → Fin 128 → Fin 128 → EReal} (hS : ∀ h k v, S (ix3 h k v) = T h k v)
include hS

theorem du_apply (h : Fin 4) (r : Fin 64) (v : Fin 128) : X.du S (ix3 h r v) = X.chunk.du T h r v := by
  rw [du_raw]; simp only [dO_apply, hS]; rfl
theorem dke_apply (h : Fin 4) (r : Fin 64) (k : Fin 128) : X.dke S (ix3 h r k) = X.chunk.dke T h r k := by
  rw [dke_raw]; simp only [u_apply, hS]; rfl
theorem dwk_apply (h : Fin 4) (r : Fin 64) (k : Fin 128) : X.dwk S (ix3 h r k) = X.chunk.dwk T h r k := by
  rw [dwk_raw]; simp only [X.du_apply hS]; rfl
theorem dge_apply (h : Fin 4) (a : Fin 8) (b : Fin 128) : X.dge S (ix4 0 h a b) = X.chunk.dge T h := by
  rw [dge_raw]; simp only [hS]; rfl
theorem back_apply (h : Fin 4) (k v : Fin 128) : X.back S (ix3 h k v) = X.chunk.back T h k v := by
  rw [back_raw]; simp only [X.du_apply hS, dO_apply, hS]; rfl
omit hS

theorem datt_apply (h : Fin 4) (r s : Fin 64) : X.datt (ix3 h r s) = X.chunk.datt h r s := by
  rw [datt_raw]; simp only [dO_apply, u_apply]; rfl
theorem dqd_apply (h : Fin 4) (r : Fin 64) (k : Fin 128) : X.dqd (ix3 h r k) = X.chunk.dqd h r k := by
  rw [dqd_raw]; simp only [dO_apply]; rfl

end Loaded

end Cert.Kernel14Ideal.Scan

end
-- ==== Proof.ScanChain.lean ====
/-
  The whole backward scan as formulas of the ten argument arrays: the chunks, last first, each handing the gradient of the
  state before it to the one before; and the proof that the order in which a text negates makes no difference where the
  arrays are finite.
-/
module

public import proofs.«01_k».proof.Proof.ScanSpec
public import Idealize.ShloMosaic.Lib.KernelVsHost
public import Idealize.ShloMosaic.Lib.Pointwise

@[expose] public section

noncomputable section

namespace Cert.Scan

open Idealize.ShloMosaic

/-- The arguments. -/
structure Arrays where
  uv : (⟨3, ![4, 2048, 128]⟩ : Shape).Idx → EReal
  wk : (⟨3, ![4, 2048, 128]⟩ : Shape).Idx → EReal
  qd : (⟨3, ![4, 2048, 128]⟩ : Shape).Idx → EReal
  ke : (⟨3, ![4, 2048, 128]⟩ : Shape).Idx → EReal
  att : (⟨3, ![4, 2048, 64]⟩ : Shape).Idx → EReal
  ge : (⟨4, ![32, 4, 8, 128]⟩ : Shape).Idx → EReal
  z : (⟨2, ![2048, 3840]⟩ : Shape).Idx → EReal
  g : (⟨2, ![1, 128]⟩ : Shape).Idx → EReal
  st : (⟨4, ![32, 4, 128, 128]⟩ : Shape).Idx → EReal
  d : (⟨2, ![2048, 1024]⟩ : Shape).Idx → EReal

/-- Row `r` of chunk `n`. -/
def row (n : Fin 32) (r : Fin 64) : Fin 2048 := ⟨64 * n.val + r.val, by omega⟩
/-- The chunk that holds a row, and the row's place in it. -/
def ck (R : Fin 2048) : Fin 32 := ⟨R.val / 64, by omega⟩
def rr (R : Fin 2048) : Fin 64 := ⟨R.val % 64, by omega⟩
/-- The head and lane of a column of all heads. -/
def hd (l : Fin 512) : Fin 4 := ⟨l.val / 128, by omega⟩
def ln (l : Fin 512) : Fin 128 := ⟨l.val % 128, by omega⟩

theorem ck_row (n : Fin 32) (r : Fin 64) : ck (row n r) = n := Fin.ext (by show (64 * n.val + r.val) / 64 = n.val; omega)
theorem rr_row (n : Fin 32) (r : Fin 64) : rr (row n r) = r := Fin.ext (by show (64 * n.val + r.val) % 64 = r.val; omega)

/-- The chunk that is handled in trip `k`. -/
def rev (k : ℕ) : Fin 32 := ⟨(31 - k) % 32, by omega⟩

theorem rev_val {k : ℕ} (h : k < 32) : (rev k).val = 31 - k := by show (31 - k) % 32 = _; omega
theorem rev_rev (n : Fin 32) : rev (31 - n.val) = n := Fin.ext (by rw [rev_val (by omega)]; omega)

namespace Arrays

variable (A : Arrays)

/-- The arrays of chunk `n`. -/
def chunk (n : Fin 32) : Chunk where
  st h k v := A.st (ix4 n h k v)
  uv h r v := A.uv (ix3 h (row n r) v)
  wk h r v := A.wk (ix3 h (row n r) v)
  qd h r v := A.qd (ix3 h (row n r) v)
  ke h r v := A.ke (ix3 h (row n r) v)
  att h r s := A.att (ix3 h (row n r) s)
  ge h := A.ge (ix4 n h 0 0)
  z h r v := A.z (ix2 (row n r) ⟨1536 + (128 * h.val + v.val), by omega⟩)
  d h r v := A.d (ix2 (row n r) ⟨128 * h.val + v.val, by omega⟩)
  g v := A.g (ix2 0 v)

/-- The gradient of the state after `k` trips. -/
def ds : ℕ → Fin 4 → Fin 128 → Fin 128 → EReal
  | 0 => fun _ _ _ => 0
  | k + 1 => (A.chunk (rev k)).back (ds k)

/-- The gradient of the norm's weight after `k` trips. -/
def gsum (k : ℕ) (l : Fin 128) : EReal := ∑ n ∈ Finset.range k, ∑ h : Fin 4, (A.chunk (rev n)).dg h l

/-- The gradient of the state behind chunk `n`. -/
def behind (n : Fin 32) : Fin 4 → Fin 128 → Fin 128 → EReal := A.ds (31 - n.val)

/-! ## The eight results -/

def dUv : (⟨3, ![4, 2048, 128]⟩ : Shape).Idx → EReal := fun i => (A.chunk (ck (i 1))).du (A.behind (ck (i 1))) (i 0) (rr (i 1)) (i 2)
def dWk : (⟨3, ![4, 2048, 128]⟩ : Shape).Idx → EReal := fun i => (A.chunk (ck (i 1))).dwk (A.behind (ck (i 1))) (i 0) (rr (i 1)) (i 2)
def dQd : (⟨3, ![4, 2048, 128]⟩ : Shape).Idx → EReal := fun i => (A.chunk (ck (i 1))).dqd (i 0) (rr (i 1)) (i 2)
def dKe : (⟨3, ![4, 2048, 128]⟩ : Shape).Idx → EReal := fun i => (A.chunk (ck (i 1))).dke (A.behind (ck (i 1))) (i 0) (rr (i 1)) (i 2)
def dAtt : (⟨3, ![4, 2048, 64]⟩ : Shape).Idx → EReal := fun i => (A.chunk (ck (i 1))).datt (i 0) (rr (i 1)) (i 2)
def dGe : (⟨4, ![32, 4, 8, 128]⟩ : Shape).Idx → EReal := fun i => (A.chunk (i 0)).dge (A.behind (i 0)) (i 1)
def dZ : (⟨2, ![2048, 512]⟩ : Shape).Idx → EReal := fun i => (A.chunk (ck (i 0))).dz (hd (i 1)) (rr (i 0)) (ln (i 1))
def dG : (⟨2, ![1, 128]⟩ : Shape).Idx → EReal := fun i => A.gsum 32 (i 1)

end Arrays

/-! ## The same with the factors negated before the products -/

namespace Chunk

variable (X : Chunk) (S : Fin 4 → Fin 128 → Fin 128 → EReal)

def dwkNeg (h : Fin 4) (r : Fin 64) (k : Fin 128) : EReal := ∑ v : Fin 128, (-(X.du S h r v) * X.st h k v : EReal)

def backNeg (h : Fin 4) (k v : Fin 128) : EReal :=
  X.ge h * S h k v + (∑ r : Fin 64, (X.qd h r k * X.dO h r v : EReal)) + ∑ r : Fin 64, (-(X.du S h r v) * X.wk h r k : EReal)

end Chunk

/-- The state's gradient with the factors negated. -/
def Arrays.dsNeg (A : Arrays) : ℕ → Fin 4 → Fin 128 → Fin 128 → EReal
  | 0 => fun _ _ _ => 0
  | k + 1 => (A.chunk (rev k)).backNeg (Arrays.dsNeg A k)

/-! ## Finite extended reals -/

/-- The value is a real number. -/
def IsReal (e : EReal) : Prop := ∃ r : ℝ, e = (r : EReal)

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.zero : IsReal 0 := ⟨0, rfl⟩
theorem IsReal.one : IsReal 1 := ⟨1, rfl⟩

/-- A finite sum of real numbers, as the extended real of the sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ k, IsReal (f k)) : IsReal (∑ k ∈ s, f k) := by
  choose g hg using h
  exact ⟨∑ k ∈ s, g k, by rw [← coe_sum]; exact Finset.sum_congr rfl fun k _ => hg k⟩

/-- The negative of a sum of real numbers. -/
theorem neg_sum_real {ι : Type} (s : Finset ι) (f : ι → EReal) (h : ∀ k, IsReal (f k)) : ∑ k ∈ s, -f k = -∑ k ∈ s, f k := by
  choose g hg using h
  obtain rfl : f = fun k => (g k : EReal) := funext hg
  rw [coe_sum, ← EReal.coe_neg, ← Finset.sum_neg_distrib, ← coe_sum]
  exact Finset.sum_congr rfl fun k _ => (EReal.coe_neg _).symm

theorem c128 : Ideal.ofBits FTy.f32 1124073472#32 = ((128 : ℝ) : EReal) := by
  simp [Ideal.ofBits, Ideal.ieee, -EReal.coe_mul, -EReal.coe_neg]; norm_num
theorem cNegHalf : Ideal.ofBits FTy.f32 3204448256#32 = ((-(1 / 2) : ℝ) : EReal) := by
  simp [Ideal.ofBits, Ideal.ieee, -EReal.coe_mul, -EReal.coe_neg]; norm_num
theorem cEps : ∃ e : ℝ, 0 < e ∧ Ideal.ofBits FTy.f32 897988541#32 = (e : EReal) := by
  refine ⟨8796093 * 2 ^ (-43 : ℤ), by positivity, ?_⟩
  simp [Ideal.ofBits, Ideal.ieee]

/-- A quotient of real numbers. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe (a : ℝ) (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (by linarith), if_neg (by linarith)]

/-! ## The gated norm's gradient of real numbers is real -/

theorem ms_pos {o : Fin 128 → EReal} (ho : ∀ k, IsReal (o k)) : ∃ q : ℝ, 0 < q ∧ ms o = (q : EReal) := by
  choose x hx using ho
  obtain rfl : o = fun k => (x k : EReal) := funext hx
  obtain ⟨e, he, hE⟩ := cEps
  have hsq : 0 ≤ ∑ k : Fin 128, x k * x k := Finset.sum_nonneg fun k _ => mul_self_nonneg _
  refine ⟨(∑ k : Fin 128, x k * x k) / 128 + e, by positivity, ?_⟩
  unfold ms
  rw [c128, hE]
  simp only [← EReal.coe_mul]
  rw [coe_sum, div_coe _ _ (by norm_num), ← EReal.coe_add]

theorem real_rs {o : Fin 128 → EReal} (ho : ∀ k, IsReal (o k)) : IsReal (rs o) := by
  obtain ⟨q, hq, e⟩ := ms_pos ho
  exact ⟨_, by unfold rs; rw [e, rsqrt_coe _ hq]⟩

theorem real_sg {z : EReal} (hz : IsReal z) : IsReal (sg z) := by
  obtain ⟨x, rfl⟩ := hz
  refine ⟨1 / (1 + Real.exp (-x)), ?_⟩
  unfold sg
  rw [← EReal.coe_neg, show Ideal.exp ((-x : ℝ) : EReal) = ((Real.exp (-x) : ℝ) : EReal) from rfl,
    show (1 : EReal) = ((1 : ℝ) : EReal) from rfl, ← EReal.coe_add, div_coe _ _ (by positivity)]

theorem real_half {o w : Fin 128 → EReal} (ho : ∀ k, IsReal (o k)) (hw : ∀ k, IsReal (w k)) : IsReal (half o w) := by
  unfold half
  refine IsReal.sum fun _ => ?_
  obtain ⟨q, hq, e⟩ := ms_pos ho
  obtain ⟨p, hp⟩ := real_rs ho
  have hn : IsReal ((∑ k : Fin 128, (o k * w k : EReal)) * (Ideal.ofBits FTy.f32 3204448256#32 * Ideal.div (rs o) (ms o))) := by
    rw [e, hp, cNegHalf, div_coe _ _ hq.ne']
    exact (IsReal.sum fun k => (ho k).mul (hw k)).mul (IsReal.mul ⟨_, rfl⟩ ⟨_, rfl⟩)
  obtain ⟨x, hx⟩ := hn
  rw [hx, c128, div_coe _ _ (by norm_num)]
  exact ⟨_, rfl⟩

theorem real_dy {z d : EReal} (hz : IsReal z) (hd : IsReal d) : IsReal (dy z d) := hd.mul (hz.mul (real_sg hz))

theorem real_rowDo {o z d g : Fin 128 → EReal} (ho : ∀ k, IsReal (o k)) (hz : ∀ k, IsReal (z k)) (hd : ∀ k, IsReal (d k)) (hg : ∀ k, IsReal (g k))
    (l : Fin 128) : IsReal (rowDo o z d g l) := by
  have hw : ∀ k, IsReal (dy (z k) (d k) * g k) := fun k => (real_dy (hz k) (hd k)).mul (hg k)
  exact (((hw l).mul (real_rs ho)).add ((ho l).mul (real_half ho hw))).add ((real_half ho hw).mul (ho l))

/-! ## One chunk of real numbers -/

/-- A chunk whose arrays are real numbers. -/
structure Chunk.Real (X : Chunk) : Prop where
  st : ∀ h k v, IsReal (X.st h k v)
  uv : ∀ h r v, IsReal (X.uv h r v)
  wk : ∀ h r v, IsReal (X.wk h r v)
  qd : ∀ h r v, IsReal (X.qd h r v)
  ke : ∀ h r v, IsReal (X.ke h r v)
  att : ∀ h r s, IsReal (X.att h r s)
  ge : ∀ h, IsReal (X.ge h)
  z : ∀ h r v, IsReal (X.z h r v)
  d : ∀ h r v, IsReal (X.d h r v)
  g : ∀ v, IsReal (X.g v)

namespace Chunk

variable {X : Chunk} (hX : X.Real) {S : Fin 4 → Fin 128 → Fin 128 → EReal} (hS : ∀ h k v, IsReal (S h k v))
include hX

theorem real_u (h : Fin 4) (r : Fin 64) (v : Fin 128) : IsReal (X.u h r v) :=
  (hX.uv h r v).sub (IsReal.sum fun k => (hX.wk h r k).mul (hX.st h k v))
theorem real_o (h : Fin 4) (r : Fin 64) (v : Fin 128) : IsReal (X.o h r v) :=
  (IsReal.sum fun k => (hX.qd h r k).mul (hX.st h k v)).add (IsReal.sum fun s => (hX.att h r s).mul (real_u hX h s v))
theorem real_dO (h : Fin 4) (r : Fin 64) (v : Fin 128) : IsReal (X.dO h r v) :=
  real_rowDo (real_o hX h r) (hX.z h r) (hX.d h r) hX.g v
include hS
theorem real_du (h : Fin 4) (r : Fin 64) (v : Fin 128) : IsReal (X.du S h r v) :=
  (IsReal.sum fun s => (hX.att h s r).mul (real_dO hX h s v)).add (IsReal.sum fun k => (hX.ke h r k).mul (hS h k v))
theorem real_back (h : Fin 4) (k v : Fin 128) : IsReal (X.back S h k v) :=
  (((hX.ge h).mul (hS h k v)).add (IsReal.sum fun r => (hX.qd h r k).mul (real_dO hX h r v))).sub
    (IsReal.sum fun r => (hX.wk h r k).mul (real_du hX hS h r v))

theorem dwkNeg_eq (h : Fin 4) (r : Fin 64) (k : Fin 128) : X.dwkNeg S h r k = X.dwk S h r k := by
  unfold dwkNeg dwk
  rw [zero_sub, ← neg_sum_real _ _ fun v => (real_du hX hS h r v).mul (hX.st h k v)]
  exact Finset.sum_congr rfl fun v _ => EReal.neg_mul _ _
theorem backNeg_eq (h : Fin 4) (k v : Fin 128) : X.backNeg S h k v = X.back S h k v := by
  unfold backNeg back
  rw [sub_eq_add_neg, ← neg_sum_real _ _ fun r => (hX.wk h r k).mul (real_du hX hS h r v)]
  refine congrArg (fun e : EReal => X.ge h * S h k v + (∑ r : Fin 64, (X.qd h r k * X.dO h r v : EReal)) + e) (Finset.sum_congr rfl fun r _ => ?_)
  rw [EReal.neg_mul, mul_comm]

end Chunk

/-! ## The whole scan of real numbers -/

namespace Arrays

variable {A : Arrays} (hA : ∀ n, (A.chunk n).Real)
include hA

theorem real_ds : ∀ (k : ℕ) (h : Fin 4) (a b : Fin 128), IsReal (A.ds k h a b)
  | 0 => fun _ _ _ => IsReal.zero
  | k + 1 => Chunk.real_back (hA _) (real_ds k)

theorem dsNeg_eq : ∀ k : ℕ, A.dsNeg k = A.ds k
  | 0 => rfl
  | k + 1 => by
    show (A.chunk (rev k)).backNeg (A.dsNeg k) = (A.chunk (rev k)).back (A.ds k)
    rw [dsNeg_eq k]
    funext h a b
    exact Chunk.backNeg_eq (hA _) (real_ds hA k) h a b

end Arrays

end Cert.Scan

end
-- ==== Proof.ScanBlocks.lean ====
/-
  The blocks of one grid point of the backward scan read at an index: which chunk a row of a block belongs to, what the kernel
  loads of a block for one chunk, and what four chunks' stores leave in an output block.
-/
module

public import proofs.«01_k».proof.Proof.ScanRun
public import proofs.«01_k».proof.Proof.ScanPayload
public import proofs.«01_k».proof.Proof.ScanChain
public import Idealize.ShloMosaic.Lib.Pipeline.ValueKit.Tiles

@[expose] public section

set_option maxRecDepth 16384

noncomputable section

namespace Cert.Kernel14Ideal.Scan

open Cert.Kernel14Ideal Cert.Kernel14Ideal.Gen Cert.Scan
open Idealize.ShloMosaic Idealize.ShloMosaic.TcCoe

/-- Row `r` of the `j`-th chunk of a block. -/
def inBlock (j : Fin 4) (r : Fin 64) : Fin 256 := ⟨64 * j.val + r.val, by omega⟩
/-- The chunk of a block's row, and the row's place in it. -/
def qt (R : Fin 256) : Fin 4 := ⟨R.val / 64, by omega⟩
def rt (R : Fin 256) : Fin 64 := ⟨R.val % 64, by omega⟩

theorem congr4 {A B C D : Type} (f : A → B → C → D → EReal) {a a' : A} {b b' : B} {c c' : C} {d d' : D} (ha : a = a') (hb : b = b') (hc : c = c')
    (hd : d = d') : f a b c d = f a' b' c' d' := by
  subst ha hb hc hd; rfl

/-! ## Four chunks' stores -/

theorem tileHd (f : Fin 4 → Fin 4 → Fin 64 → Fin 128 → EReal) (j : Fin 4) (o : ℕ) (ho : o = 64 * j.val) (p : FVec Ideal S4x64x128 .f32)
    (hp : ∀ h r v, p (ix3 h r v) = f j h r v) (y : S4x256x128.Idx) :
    View.TileAt (Val := Elt Ideal) (S := S4x256x128) (e := .f32) y ![0, o, 0] S4x64x128.size p (f (qt (y 1)) (y 0) (rt (y 1)) (y 2)) := by
  intro x hx
  have h0 : (y 0 : ℕ) = 0 + (x 0).val := hx 0
  have h1 : (y 1 : ℕ) = o + (x 1).val := hx 1
  have h2 : (y 2 : ℕ) = 0 + (x 2).val := hx 2
  have b1 : (x 1).val < 64 := (x 1).isLt
  have e := (congrArg p (eq_ix3 (n0 := 4) (n1 := 64) (n2 := 128) x)).trans (hp (x 0) (x 1) (x 2))
  exact e.trans (congr4 f (Fin.ext (by show j.val = (y 1).val / 64; omega)) (Fin.ext (by show (x 0).val = (y 0).val; omega))
    (Fin.ext (by show (x 1).val = (y 1).val % 64; omega)) (Fin.ext (by show (x 2).val = (y 2).val; omega)))

theorem rowsHd_apply (f : Fin 4 → Fin 4 → Fin 64 → Fin 128 → EReal) (p0 p1 p2 p3 : FVec Ideal S4x64x128 .f32)
    (h0 : ∀ h r v, p0 (ix3 h r v) = f 0 h r v) (h1 : ∀ h r v, p1 (ix3 h r v) = f 1 h r v)
    (h2 : ∀ h r v, p2 (ix3 h r v) = f 2 h r v) (h3 : ∀ h r v, p3 (ix3 h r v) = f 3 h r v) (y : S4x256x128.Idx) :
    (rowsHd p0 p1 p2 p3 y : EReal) = f (qt (y 1)) (y 0) (rt (y 1)) (y 2) := by
  unfold rowsHd
  refine View.canon_eq_of_allAt _ y _ (View.cover_of_tiled_head _ _ _ (by rfl) y) ?_
  exact View.allAt_cons_unit _ _ _ _ _ (tileHd f 0 0 rfl p0 h0 y) (View.allAt_cons_unit _ _ _ _ _ (tileHd f 1 64 rfl p1 h1 y)
    (View.allAt_cons_unit _ _ _ _ _ (tileHd f 2 128 rfl p2 h2 y) (View.allAt_cons_unit _ _ _ _ _ (tileHd f 3 192 rfl p3 h3 y) (View.allAt_nil y _))))

theorem tileHc (f : Fin 4 → Fin 4 → Fin 64 → Fin 64 → EReal) (j : Fin 4) (o : ℕ) (ho : o = 64 * j.val) (p : FVec Ideal S4x64x64 .f32)
    (hp : ∀ h r v, p (ix3 h r v) = f j h r v) (y : S4x256x64.Idx) :
    View.TileAt (Val := Elt Ideal) (S := S4x256x64) (e := .f32) y ![0, o, 0] S4x64x64.size p (f (qt (y 1)) (y 0) (rt (y 1)) (y 2)) := by
  intro x hx
  have h0 : (y 0 : ℕ) = 0 + (x 0).val := hx 0
  have h1 : (y 1 : ℕ) = o + (x 1).val := hx 1
  have h2 : (y 2 : ℕ) = 0 + (x 2).val := hx 2
  have b1 : (x 1).val < 64 := (x 1).isLt
  have e := (congrArg p (eq_ix3 (n0 := 4) (n1 := 64) (n2 := 64) x)).trans (hp (x 0) (x 1) (x 2))
  exact e.trans (congr4 f (Fin.ext (by show j.val = (y 1).val / 64; omega)) (Fin.ext (by show (x 0).val = (y 0).val; omega))
    (Fin.ext (by show (x 1).val = (y 1).val % 64; omega)) (Fin.ext (by show (x 2).val = (y 2).val; omega)))

theorem rowsHc_apply (f : Fin 4 → Fin 4 → Fin 64 → Fin 64 → EReal) (p0 p1 p2 p3 : FVec Ideal S4x64x64 .f32)
    (h0 : ∀ h r v, p0 (ix3 h r v) = f 0 h r v) (h1 : ∀ h r v, p1 (ix3 h r v) = f 1 h r v)
    (h2 : ∀ h r v, p2 (ix3 h r v) = f 2 h r v) (h3 : ∀ h r v, p3 (ix3 h r v) = f 3 h r v) (y : S4x256x64.Idx) :
    (rowsHc p0 p1 p2 p3 y : EReal) = f (qt (y 1)) (y 0) (rt (y 1)) (y 2) := by
  unfold rowsHc
  refine View.canon_eq_of_allAt _ y _ (View.cover_of_tiled_head _ _ _ (by rfl) y) ?_
  exact View.allAt_cons_unit _ _ _ _ _ (tileHc f 0 0 rfl p0 h0 y) (View.allAt_cons_unit _ _ _ _ _ (tileHc f 1 64 rfl p1 h1 y)
    (View.allAt_cons_unit _ _ _ _ _ (tileHc f 2 128 rfl p2 h2 y) (View.allAt_cons_unit _ _ _ _ _ (tileHc f 3 192 rfl p3 h3 y) (View.allAt_nil y _))))

theorem tileGe (f : Fin 4 → Fin 4 → EReal) (j : Fin 4) (p : FVec Ideal S1x4x8x128 .f32)
    (hp : ∀ h a b, p (ix4 0 h a b) = f j h) (y : S4x4x8x128.Idx) :
    View.TileAt (Val := Elt Ideal) (S := S4x4x8x128) (e := .f32) y ![j.val, 0, 0, 0] S1x4x8x128.size p (f (y 0) (y 1)) := by
  intro x hx
  have h0 : (y 0 : ℕ) = j.val + (x 0).val := hx 0
  have h1 : (y 1 : ℕ) = 0 + (x 1).val := hx 1
  have b0 : (x 0).val < 1 := (x 0).isLt
  have e0 : x 0 = (0 : Fin 1) := Fin.ext (by show (x 0).val = 0; omega)
  have e := (congrArg p (eq_ix4 (n0 := 1) (n1 := 4) (n2 := 8) (n3 := 128) x)).trans ((congrArg (fun a : Fin 1 => p (ix4 a (x 1) (x 2) (x 3))) e0).trans (hp (x 1) (x 2) (x 3)))
  exact e.trans (congrArg₂ f (Fin.ext (by show j.val = (y 0).val; omega)) (Fin.ext (by show (x 1).val = (y 1).val; omega)))

theorem rowsGe_apply (f : Fin 4 → Fin 4 → EReal) (p0 p1 p2 p3 : FVec Ideal S1x4x8x128 .f32)
    (h0 : ∀ h a b, p0 (ix4 0 h a b) = f 0 h) (h1 : ∀ h a b, p1 (ix4 0 h a b) = f 1 h)
    (h2 : ∀ h a b, p2 (ix4 0 h a b) = f 2 h) (h3 : ∀ h a b, p3 (ix4 0 h a b) = f 3 h) (y : S4x4x8x128.Idx) :
    (rowsGe p0 p1 p2 p3 y : EReal) = f (y 0) (y 1) := by
  unfold rowsGe
  refine View.canon_eq_of_allAt _ y _ (View.cover_of_tiled_head _ _ _ (by rfl) y) ?_
  exact View.allAt_cons_unit _ _ _ _ _ (tileGe f 0 p0 h0 y) (View.allAt_cons_unit _ _ _ _ _ (tileGe f 1 p1 h1 y)
    (View.allAt_cons_unit _ _ _ _ _ (tileGe f 2 p2 h2 y) (View.allAt_cons_unit _ _ _ _ _ (tileGe f 3 p3 h3 y) (View.allAt_nil y _))))

theorem tileZ (f : Fin 4 → Fin 4 → Fin 64 → Fin 128 → EReal) (j h : Fin 4) (o l : ℕ) (ho : o = 64 * j.val) (hl : l = 128 * h.val) (p : FVec Ideal S64x128 .f32)
    (hp : ∀ r v, p (ix2 r v) = f j h r v) (y : S256x512.Idx) :
    View.TileAt (Val := Elt Ideal) (S := S256x512) (e := .f32) y ![o, l] S64x128.size p (f (qt (y 0)) (hd (y 1)) (rt (y 0)) (ln (y 1))) := by
  intro x hx
  have h0 : (y 0 : ℕ) = o + (x 0).val := hx 0
  have h1 : (y 1 : ℕ) = l + (x 1).val := hx 1
  have b0 : (x 0).val < 64 := (x 0).isLt
  have b1 : (x 1).val < 128 := (x 1).isLt
  have e := (congrArg p (eq_ix2 (n0 := 64) (n1 := 128) x)).trans (hp (x 0) (x 1))
  exact e.trans (congr4 f (Fin.ext (by show j.val = (y 0).val / 64; omega)) (Fin.ext (by show h.val = (y 1).val / 128; omega))
    (Fin.ext (by show (x 0).val = (y 0).val % 64; omega)) (Fin.ext (by show (x 1).val = (y 1).val % 128; omega)))

theorem rowsZ_apply (f : Fin 4 → Fin 4 → Fin 64 → Fin 128 → EReal) (p0 p1 p2 p3 : Fin 4 → FVec Ideal S64x128 .f32)
    (h0 : ∀ h r v, p0 h (ix2 r v) = f 0 h r v) (h1 : ∀ h r v, p1 h (ix2 r v) = f 1 h r v)
    (h2 : ∀ h r v, p2 h (ix2 r v) = f 2 h r v) (h3 : ∀ h r v, p3 h (ix2 r v) = f 3 h r v) (y : S256x512.Idx) :
    (rowsZ p0 p1 p2 p3 y : EReal) = f (qt (y 0)) (hd (y 1)) (rt (y 0)) (ln (y 1)) := by
  unfold rowsZ
  refine View.canon_eq_of_allAt _ y _ (View.cover_of_tiled_head _ _ _ (by rfl) y) ?_
  have go : ∀ (j : Fin 4) (p : Fin 4 → FVec Ideal S64x128 .f32), (∀ h r v, p h (ix2 r v) = f j h r v) → ∀ h o l, o = 64 * j.val → l = 128 * h.val →
      View.TileAt (Val := Elt Ideal) (S := S256x512) (e := .f32) y ![o, l] S64x128.size (p h) (f (qt (y 0)) (hd (y 1)) (rt (y 0)) (ln (y 1))) :=
    fun j p hp h o l ho hl => tileZ f j h o l ho hl (p h) (hp h) y
  refine View.allAt_cons_unit _ _ _ _ _ (go 0 p0 h0 3 _ _ rfl rfl) (View.allAt_cons_unit _ _ _ _ _ (go 0 p0 h0 2 _ _ rfl rfl)
    (View.allAt_cons_unit _ _ _ _ _ (go 0 p0 h0 1 _ _ rfl rfl) (View.allAt_cons_unit _ _ _ _ _ (go 0 p0 h0 0 _ _ rfl rfl) ?_)))
  refine View.allAt_cons_unit _ _ _ _ _ (go 1 p1 h1 3 _ _ rfl rfl) (View.allAt_cons_unit _ _ _ _ _ (go 1 p1 h1 2 _ _ rfl rfl)
    (View.allAt_cons_unit _ _ _ _ _ (go 1 p1 h1 1 _ _ rfl rfl) (View.allAt_cons_unit _ _ _ _ _ (go 1 p1 h1 0 _ _ rfl rfl) ?_)))
  refine View.allAt_cons_unit _ _ _ _ _ (go 2 p2 h2 3 _ _ rfl rfl) (View.allAt_cons_unit _ _ _ _ _ (go 2 p2 h2 2 _ _ rfl rfl)
    (View.allAt_cons_unit _ _ _ _ _ (go 2 p2 h2 1 _ _ rfl rfl) (View.allAt_cons_unit _ _ _ _ _ (go 2 p2 h2 0 _ _ rfl rfl) ?_)))
  exact View.allAt_cons_unit _ _ _ _ _ (go 3 p3 h3 3 _ _ rfl rfl) (View.allAt_cons_unit _ _ _ _ _ (go 3 p3 h3 2 _ _ rfl rfl)
    (View.allAt_cons_unit _ _ _ _ _ (go 3 p3 h3 1 _ _ rfl rfl) (View.allAt_cons_unit _ _ _ _ _ (go 3 p3 h3 0 _ _ rfl rfl) (View.allAt_nil y _))))

/-! ## The loads -/

theorem ldHd_apply (j : Fin 4) (o : ℕ) (ho : o = 64 * j.val) (hb) (x : Vec Ideal S4x256x128 .f32) (h : Fin 4) (r : Fin 64) (v : Fin 128) :
    ldHd o hb x (ix3 h r v) = x (ix3 h (inBlock j r) v) :=
  View.ld_unit_apply_of (S := S4x256x128) x _ _ _ _ (ix3 h (inBlock j r) v) fun a => by
    match a with
    | ⟨0, _⟩ => show h.val = 0 + h.val; omega
    | ⟨1, _⟩ => show 64 * j.val + r.val = o + r.val; omega
    | ⟨2, _⟩ => show v.val = 0 + v.val; omega

theorem ldHc_apply (j : Fin 4) (o : ℕ) (ho : o = 64 * j.val) (hb) (x : Vec Ideal S4x256x64 .f32) (h : Fin 4) (r : Fin 64) (v : Fin 64) :
    ldHc o hb x (ix3 h r v) = x (ix3 h (inBlock j r) v) :=
  View.ld_unit_apply_of (S := S4x256x64) x _ _ _ _ (ix3 h (inBlock j r) v) fun a => by
    match a with
    | ⟨0, _⟩ => show h.val = 0 + h.val; omega
    | ⟨1, _⟩ => show 64 * j.val + r.val = o + r.val; omega
    | ⟨2, _⟩ => show v.val = 0 + v.val; omega

theorem ldGe_apply (j : Fin 4) (hb) (x : Vec Ideal S4x4x8x128 .f32) (h : Fin 4) (a : Fin 8) (b : Fin 128) :
    ldGe j.val hb x (ix4 0 h a b) = x (ix4 j h a b) :=
  View.ld_unit_apply_of (S := S4x4x8x128) x _ _ _ _ (ix4 j h a b) fun i => by
    match i with
    | ⟨0, _⟩ => show j.val = j.val + 0; omega
    | ⟨1, _⟩ => show h.val = 0 + h.val; omega
    | ⟨2, _⟩ => show a.val = 0 + a.val; omega
    | ⟨3, _⟩ => show b.val = 0 + b.val; omega

theorem ldSt_apply (j : Fin 4) (hb) (x : Vec Ideal S4x4x128x128 .f32) (h : Fin 4) (k v : Fin 128) :
    ldSt j.val hb x (ix4 0 h k v) = x (ix4 j h k v) :=
  View.ld_unit_apply_of (S := S4x4x128x128) x _ _ _ _ (ix4 j h k v) fun i => by
    match i with
    | ⟨0, _⟩ => show j.val = j.val + 0; omega
    | ⟨1, _⟩ => show h.val = 0 + h.val; omega
    | ⟨2, _⟩ => show k.val = 0 + k.val; omega
    | ⟨3, _⟩ => show v.val = 0 + v.val; omega

theorem ldZ_apply (j h : Fin 4) (o l : ℕ) (ho : o = 64 * j.val) (hl : l = 128 * h.val) (hb) (x : Vec Ideal S256x512 .f32) (r : Fin 64) (v : Fin 128) :
    ldZ o l hb x (ix2 r v) = x (ix2 (inBlock j r) ⟨128 * h.val + v.val, by omega⟩) :=
  View.ld_unit_apply_of (S := S256x512) x _ _ _ _ (ix2 (inBlock j r) ⟨128 * h.val + v.val, by omega⟩) fun i => by
    match i with
    | ⟨0, _⟩ => show 64 * j.val + r.val = o + r.val; omega
    | ⟨1, _⟩ => show 128 * h.val + v.val = l + v.val; omega

/-- The arrays of a block's `j`-th chunk. -/
def Blocks.chunk (b : Blocks Ideal) (j : Fin 4) : Chunk where
  st h k v := b.st (ix4 j h k v)
  uv h r v := b.uv (ix3 h (inBlock j r) v)
  wk h r v := b.wk (ix3 h (inBlock j r) v)
  qd h r v := b.qd (ix3 h (inBlock j r) v)
  ke h r v := b.ke (ix3 h (inBlock j r) v)
  att h r s := b.att (ix3 h (inBlock j r) s)
  ge h := b.ge (ix4 j h 0 0)
  z h r v := b.z (ix2 (inBlock j r) ⟨128 * h.val + v.val, by omega⟩)
  d h r v := b.d (ix2 (inBlock j r) ⟨128 * h.val + v.val, by omega⟩)
  g v := b.g (ix2 0 v)

variable (b : Blocks Ideal)

theorem chunk0 : b.at0.chunk = b.chunk 0 := by
  ext <;> first
    | exact ldSt_apply 0 _ _ _ _ _
    | exact ldHd_apply 0 _ rfl _ _ _ _ _
    | exact ldHc_apply 0 _ rfl _ _ _ _ _
    | exact ldGe_apply 0 _ _ _ _ _
    | rfl
    | (rename_i h r v; match h with
        | 0 => exact ldZ_apply 0 0 _ _ rfl rfl _ _ _ _
        | 1 => exact ldZ_apply 0 1 _ _ rfl rfl _ _ _ _
        | 2 => exact ldZ_apply 0 2 _ _ rfl rfl _ _ _ _
        | 3 => exact ldZ_apply 0 3 _ _ rfl rfl _ _ _ _)

theorem chunk1 : b.at1.chunk = b.chunk 1 := by
  ext <;> first
    | exact ldSt_apply 1 _ _ _ _ _
    | exact ldHd_apply 1 _ rfl _ _ _ _ _
    | exact ldHc_apply 1 _ rfl _ _ _ _ _
    | exact ldGe_apply 1 _ _ _ _ _
    | rfl
    | (rename_i h r v; match h with
        | 0 => exact ldZ_apply 1 0 _ _ rfl rfl _ _ _ _
        | 1 => exact ldZ_apply 1 1 _ _ rfl rfl _ _ _ _
        | 2 => exact ldZ_apply 1 2 _ _ rfl rfl _ _ _ _
        | 3 => exact ldZ_apply 1 3 _ _ rfl rfl _ _ _ _)

theorem chunk2 : b.at2.chunk = b.chunk 2 := by
  ext <;> first
    | exact ldSt_apply 2 _ _ _ _ _
    | exact ldHd_apply 2 _ rfl _ _ _ _ _
    | exact ldHc_apply 2 _ rfl _ _ _ _ _
    | exact ldGe_apply 2 _ _ _ _ _
    | rfl
    | (rename_i h r v; match h with
        | 0 => exact ldZ_apply 2 0 _ _ rfl rfl _ _ _ _
        | 1 => exact ldZ_apply 2 1 _ _ rfl rfl _ _ _ _
        | 2 => exact ldZ_apply 2 2 _ _ rfl rfl _ _ _ _
        | 3 => exact ldZ_apply 2 3 _ _ rfl rfl _ _ _ _)

theorem chunk3 : b.at3.chunk = b.chunk 3 := by
  ext <;> first
    | exact ldSt_apply 3 _ _ _ _ _
    | exact ldHd_apply 3 _ rfl _ _ _ _ _
    | exact ldHc_apply 3 _ rfl _ _ _ _ _
    | exact ldGe_apply 3 _ _ _ _ _
    | rfl
    | (rename_i h r v; match h with
        | 0 => exact ldZ_apply 3 0 _ _ rfl rfl _ _ _ _
        | 1 => exact ldZ_apply 3 1 _ _ rfl rfl _ _ _ _
        | 2 => exact ldZ_apply 3 2 _ _ rfl rfl _ _ _ _
        | 3 => exact ldZ_apply 3 3 _ _ rfl rfl _ _ _ _)

end Cert.Kernel14Ideal.Scan

end
-- ==== Proof.ScanKernel.lean ====
/-
  The backward scan's kernel over its whole grid: point `t` handles the four chunks of block `7 - t`, from the last to the
  first; the eight result arrays after the last point are those of the chain over all thirty-two chunks.
-/
module

public import proofs.«01_k».proof.Defs
public import proofs.«01_k».proof.Proof.ScanBlocks
public import proofs.«01_k».proof.Proof.Gen.Kernel14Ideal.Value
public import Idealize.ShloMosaic.Lib.Pipeline.ReadBack
public import Idealize.ShloMosaic.Lib.Pointwise

@[expose] public section

set_option maxRecDepth 16384

noncomputable section

namespace Cert.Kernel14Ideal.Scan

open Cert.Kernel14Ideal Cert.Kernel14Ideal.Gen Cert.Scan
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
def args : Arrays where
  uv := m ((c : Thread nD τ).loc main_arg0)
  wk := m ((c : Thread nD τ).loc main_arg1)
  qd := m ((c : Thread nD τ).loc main_arg2)
  ke := m ((c : Thread nD τ).loc main_arg3)
  att := m ((c : Thread nD τ).loc main_arg4)
  ge := m ((c : Thread nD τ).loc main_arg5)
  z := m ((c : Thread nD τ).loc main_arg6)
  g := m ((c : Thread nD τ).loc main_arg7)
  st := m ((c : Thread nD τ).loc main_arg8)
  d := m ((c : Thread nD τ).loc main_arg9)

/-- The blocks that point `t` reads. -/
def blocks (t : Fin cfg0.N) : Blocks Ideal where
  uv := iblk m c 0 t
  wk := iblk m c 1 t
  qd := iblk m c 2 t
  ke := iblk m c 3 t
  att := iblk m c 4 t
  ge := iblk m c 5 t
  z := X0_6 m c t
  g := iblk m c 7 t
  st := iblk m c 8 t
  d := iblk m c 9 t

theorem lt_points (n : ℕ) (h : n < cfg0.N) : n < 8 := lt_of_lt_of_eq h N_0

/-- The chunk that is the `j`-th of point `t`'s block. -/
def num (t : ℕ) (j : Fin 4) : Fin 32 := ⟨4 * (7 - t) + j.val, by omega⟩
/-- The array's row that is row `R` of point `t`'s block. -/
def spot (t : ℕ) (R : Fin 256) : Fin 2048 := ⟨256 * (7 - t) + R.val, by omega⟩

theorem ck_spot (t : ℕ) (R : Fin 256) : ck (spot t R) = num t (qt R) :=
  Fin.ext (by show (256 * (7 - t) + R.val) / 64 = 4 * (7 - t) + R.val / 64; omega)
theorem rr_spot (t : ℕ) (R : Fin 256) : rr (spot t R) = rt R :=
  Fin.ext (by show (256 * (7 - t) + R.val) % 64 = R.val % 64; omega)

/-! ## Which blocks the windows hold -/

theorem index0 : ∀ t : Fin cfg0.N, win0_0.index t 0 = 0 ∧ win0_0.index t 1 = 7 - t.val ∧ win0_0.index t 2 = 0 :=
  (by decide +kernel : ∀ t : Fin grid0.N, win0_0.index t 0 = 0 ∧ win0_0.index t 1 = 7 - t.val ∧ win0_0.index t 2 = 0)
theorem index1 : ∀ t : Fin cfg0.N, win0_1.index t 0 = 0 ∧ win0_1.index t 1 = 7 - t.val ∧ win0_1.index t 2 = 0 :=
  (by decide +kernel : ∀ t : Fin grid0.N, win0_1.index t 0 = 0 ∧ win0_1.index t 1 = 7 - t.val ∧ win0_1.index t 2 = 0)
theorem index2 : ∀ t : Fin cfg0.N, win0_2.index t 0 = 0 ∧ win0_2.index t 1 = 7 - t.val ∧ win0_2.index t 2 = 0 :=
  (by decide +kernel : ∀ t : Fin grid0.N, win0_2.index t 0 = 0 ∧ win0_2.index t 1 = 7 - t.val ∧ win0_2.index t 2 = 0)
theorem index3 : ∀ t : Fin cfg0.N, win0_3.index t 0 = 0 ∧ win0_3.index t 1 = 7 - t.val ∧ win0_3.index t 2 = 0 :=
  (by decide +kernel : ∀ t : Fin grid0.N, win0_3.index t 0 = 0 ∧ win0_3.index t 1 = 7 - t.val ∧ win0_3.index t 2 = 0)
theorem index4 : ∀ t : Fin cfg0.N, win0_4.index t 0 = 0 ∧ win0_4.index t 1 = 7 - t.val ∧ win0_4.index t 2 = 0 :=
  (by decide +kernel : ∀ t : Fin grid0.N, win0_4.index t 0 = 0 ∧ win0_4.index t 1 = 7 - t.val ∧ win0_4.index t 2 = 0)
theorem index5 : ∀ t : Fin cfg0.N, win0_5.index t 0 = 7 - t.val ∧ win0_5.index t 1 = 0 ∧ win0_5.index t 2 = 0 ∧ win0_5.index t 3 = 0 :=
  (by decide +kernel : ∀ t : Fin grid0.N, win0_5.index t 0 = 7 - t.val ∧ win0_5.index t 1 = 0 ∧ win0_5.index t 2 = 0 ∧ win0_5.index t 3 = 0)
theorem index6 : ∀ t : Fin cfg0.N, win0_6.index t 0 = 7 - t.val ∧ win0_6.index t 1 = 3 :=
  (by decide +kernel : ∀ t : Fin grid0.N, win0_6.index t 0 = 7 - t.val ∧ win0_6.index t 1 = 3)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 7 - t.val ∧ win0_8.index t 1 = 0 ∧ win0_8.index t 2 = 0 ∧ win0_8.index t 3 = 0 :=
  (by decide +kernel : ∀ t : Fin grid0.N, win0_8.index t 0 = 7 - t.val ∧ win0_8.index t 1 = 0 ∧ win0_8.index t 2 = 0 ∧ win0_8.index t 3 = 0)
theorem index9 : ∀ t : Fin cfg0.N, win0_9.index t 0 = 7 - t.val ∧ win0_9.index t 1 = 0 :=
  (by decide +kernel : ∀ t : Fin grid0.N, win0_9.index t 0 = 7 - t.val ∧ win0_9.index t 1 = 0)
theorem index10 : ∀ t : Fin cfg0.N, win0_10.index t 0 = 0 ∧ win0_10.index t 1 = 7 - t.val ∧ win0_10.index t 2 = 0 :=
  (by decide +kernel : ∀ t : Fin grid0.N, win0_10.index t 0 = 0 ∧ win0_10.index t 1 = 7 - t.val ∧ win0_10.index t 2 = 0)
theorem index11 : ∀ t : Fin cfg0.N, win0_11.index t 0 = 0 ∧ win0_11.index t 1 = 7 - t.val ∧ win0_11.index t 2 = 0 :=
  (by decide +kernel : ∀ t : Fin grid0.N, win0_11.index t 0 = 0 ∧ win0_11.index t 1 = 7 - t.val ∧ win0_11.index t 2 = 0)
theorem index12 : ∀ t : Fin cfg0.N, win0_12.index t 0 = 0 ∧ win0_12.index t 1 = 7 - t.val ∧ win0_12.index t 2 = 0 :=
  (by decide +kernel : ∀ t : Fin grid0.N, win0_12.index t 0 = 0 ∧ win0_12.index t 1 = 7 - t.val ∧ win0_12.index t 2 = 0)
theorem index13 : ∀ t : Fin cfg0.N, win0_13.index t 0 = 0 ∧ win0_13.index t 1 = 7 - t.val ∧ win0_13.index t 2 = 0 :=
  (by decide +kernel : ∀ t : Fin grid0.N, win0_13.index t 0 = 0 ∧ win0_13.index t 1 = 7 - t.val ∧ win0_13.index t 2 = 0)
theorem index14 : ∀ t : Fin cfg0.N, win0_14.index t 0 = 0 ∧ win0_14.index t 1 = 7 - t.val ∧ win0_14.index t 2 = 0 :=
  (by decide +kernel : ∀ t : Fin grid0.N, win0_14.index t 0 = 0 ∧ win0_14.index t 1 = 7 - t.val ∧ win0_14.index t 2 = 0)
theorem index15 : ∀ t : Fin cfg0.N, win0_15.index t 0 = 7 - t.val ∧ win0_15.index t 1 = 0 ∧ win0_15.index t 2 = 0 ∧ win0_15.index t 3 = 0 :=
  (by decide +kernel : ∀ t : Fin grid0.N, win0_15.index t 0 = 7 - t.val ∧ win0_15.index t 1 = 0 ∧ win0_15.index t 2 = 0 ∧ win0_15.index t 3 = 0)
theorem index16 : ∀ t : Fin cfg0.N, win0_16.index t 0 = 7 - t.val ∧ win0_16.index t 1 = 0 :=
  (by decide +kernel : ∀ t : Fin grid0.N, win0_16.index t 0 = 7 - t.val ∧ win0_16.index t 1 = 0)
theorem index17 : ∀ t : Fin cfg0.N, win0_17.index t 0 = 0 ∧ win0_17.index t 1 = 0 :=
  (by decide +kernel : ∀ t : Fin grid0.N, win0_17.index t 0 = 0 ∧ win0_17.index t 1 = 0)

/-! ## The blocks entry by entry -/

theorem block0 (t : Fin cfg0.N) (h : Fin 4) (r : Fin 256) (v : Fin 128) : (iblk m c 0 t : Vec Ideal S4x256x128 .f32) (ix3 h r v) = (args m c).uv (ix3 h (spot t.val r) v) := by
  unfold iblk
  rw [View.read_apply]
  refine congrArg (args m c).uv (funext fun a => ?_)
  match a with
  | ⟨0, _⟩ => exact Fin.ext (by show win0_0.index t 0 * 4 + 1 * h.val = h.val; rw [(index0 t).1]; omega)
  | ⟨1, _⟩ => exact Fin.ext (by show win0_0.index t 1 * 256 + 1 * r.val = 256 * (7 - t.val) + r.val; rw [(index0 t).2.1]; omega)
  | ⟨2, _⟩ => exact Fin.ext (by show win0_0.index t 2 * 128 + 1 * v.val = v.val; rw [(index0 t).2.2]; omega)

theorem block1 (t : Fin cfg0.N) (h : Fin 4) (r : Fin 256) (v : Fin 128) : (iblk m c 1 t : Vec Ideal S4x256x128 .f32) (ix3 h r v) = (args m c).wk (ix3 h (spot t.val r) v) := by
  unfold iblk
  rw [View.read_apply]
  refine congrArg (args m c).wk (funext fun a => ?_)
  match a with
  | ⟨0, _⟩ => exact Fin.ext (by show win0_1.index t 0 * 4 + 1 * h.val = h.val; rw [(index1 t).1]; omega)
  | ⟨1, _⟩ => exact Fin.ext (by show win0_1.index t 1 * 256 + 1 * r.val = 256 * (7 - t.val) + r.val; rw [(index1 t).2.1]; omega)
  | ⟨2, _⟩ => exact Fin.ext (by show win0_1.index t 2 * 128 + 1 * v.val = v.val; rw [(index1 t).2.2]; omega)

theorem block2 (t : Fin cfg0.N) (h : Fin 4) (r : Fin 256) (v : Fin 128) : (iblk m c 2 t : Vec Ideal S4x256x128 .f32) (ix3 h r v) = (args m c).qd (ix3 h (spot t.val r) v) := by
  unfold iblk
  rw [View.read_apply]
  refine congrArg (args m c).qd (funext fun a => ?_)
  match a with
  | ⟨0, _⟩ => exact Fin.ext (by show win0_2.index t 0 * 4 + 1 * h.val = h.val; rw [(index2 t).1]; omega)
  | ⟨1, _⟩ => exact Fin.ext (by show win0_2.index t 1 * 256 + 1 * r.val = 256 * (7 - t.val) + r.val; rw [(index2 t).2.1]; omega)
  | ⟨2, _⟩ => exact Fin.ext (by show win0_2.index t 2 * 128 + 1 * v.val = v.val; rw [(index2 t).2.2]; omega)

theorem block3 (t : Fin cfg0.N) (h : Fin 4) (r : Fin 256) (v : Fin 128) : (iblk m c 3 t : Vec Ideal S4x256x128 .f32) (ix3 h r v) = (args m c).ke (ix3 h (spot t.val r) v) := by
  unfold iblk
  rw [View.read_apply]
  refine congrArg (args m c).ke (funext fun a => ?_)
  match a with
  | ⟨0, _⟩ => exact Fin.ext (by show win0_3.index t 0 * 4 + 1 * h.val = h.val; rw [(index3 t).1]; omega)
  | ⟨1, _⟩ => exact Fin.ext (by show win0_3.index t 1 * 256 + 1 * r.val = 256 * (7 - t.val) + r.val; rw [(index3 t).2.1]; omega)
  | ⟨2, _⟩ => exact Fin.ext (by show win0_3.index t 2 * 128 + 1 * v.val = v.val; rw [(index3 t).2.2]; omega)

theorem block4 (t : Fin cfg0.N) (h : Fin 4) (r : Fin 256) (v : Fin 64) : (iblk m c 4 t : Vec Ideal S4x256x64 .f32) (ix3 h r v) = (args m c).att (ix3 h (spot t.val r) v) := by
  unfold iblk
  rw [View.read_apply]
  refine congrArg (args m c).att (funext fun a => ?_)
  match a with
  | ⟨0, _⟩ => exact Fin.ext (by show win0_4.index t 0 * 4 + 1 * h.val = h.val; rw [(index4 t).1]; omega)
  | ⟨1, _⟩ => exact Fin.ext (by show win0_4.index t 1 * 256 + 1 * r.val = 256 * (7 - t.val) + r.val; rw [(index4 t).2.1]; omega)
  | ⟨2, _⟩ => exact Fin.ext (by show win0_4.index t 2 * 64 + 1 * v.val = v.val; rw [(index4 t).2.2]; omega)

theorem block5 (t : Fin cfg0.N) (j h : Fin 4) (p : Fin 8) (q : Fin 128) : (iblk m c 5 t : Vec Ideal S4x4x8x128 .f32) (ix4 j h p q) = (args m c).ge (ix4 (num t.val j) h p q) := by
  unfold iblk
  rw [View.read_apply]
  refine congrArg (args m c).ge (funext fun a => ?_)
  match a with
  | ⟨0, _⟩ => exact Fin.ext (by show win0_5.index t 0 * 4 + 1 * j.val = 4 * (7 - t.val) + j.val; rw [(index5 t).1]; omega)
  | ⟨1, _⟩ => exact Fin.ext (by show win0_5.index t 1 * 4 + 1 * h.val = h.val; rw [(index5 t).2.1]; omega)
  | ⟨2, _⟩ => exact Fin.ext (by show win0_5.index t 2 * 8 + 1 * p.val = p.val; rw [(index5 t).2.2.1]; omega)
  | ⟨3, _⟩ => exact Fin.ext (by show win0_5.index t 3 * 128 + 1 * q.val = q.val; rw [(index5 t).2.2.2]; omega)

theorem block6 (t : Fin cfg0.N) (r : Fin 256) (l : Fin 512) : (X0_6 m c t : Vec Ideal S256x512 .f32) (ix2 r l) = (args m c).z (ix2 (spot t.val r) ⟨1536 + l.val, by omega⟩) := by
  unfold X0_6 Pipeline.Window.fill
  rw [dif_pos (moved0_6 t _)]
  unfold iblk
  rw [View.read_apply]
  refine congrArg (args m c).z (funext fun a => ?_)
  match a with
  | ⟨0, _⟩ => exact Fin.ext (by show win0_6.index t 0 * 256 + 1 * r.val = 256 * (7 - t.val) + r.val; rw [(index6 t).1]; omega)
  | ⟨1, _⟩ => exact Fin.ext (by show win0_6.index t 1 * 512 + 1 * l.val = 1536 + l.val; rw [(index6 t).2]; omega)

theorem block7 (t : Fin cfg0.N) (u : Fin 1) (l : Fin 128) : (iblk m c 7 t : Vec Ideal S1x128 .f32) (ix2 u l) = (args m c).g (ix2 u l) := by
  unfold iblk
  rw [View.read_apply]
  refine congrArg (args m c).g (funext fun a => ?_)
  match a with
  | ⟨0, _⟩ => exact Fin.ext (by show win0_7.index t 0 * 1 + 1 * u.val = u.val; rw [(index7 t).1]; omega)
  | ⟨1, _⟩ => exact Fin.ext (by show win0_7.index t 1 * 128 + 1 * l.val = l.val; rw [(index7 t).2]; omega)

theorem block8 (t : Fin cfg0.N) (j h : Fin 4) (p q : Fin 128) : (iblk m c 8 t : Vec Ideal S4x4x128x128 .f32) (ix4 j h p q) = (args m c).st (ix4 (num t.val j) h p q) := by
  unfold iblk
  rw [View.read_apply]
  refine congrArg (args m c).st (funext fun a => ?_)
  match a with
  | ⟨0, _⟩ => exact Fin.ext (by show win0_8.index t 0 * 4 + 1 * j.val = 4 * (7 - t.val) + j.val; rw [(index8 t).1]; omega)
  | ⟨1, _⟩ => exact Fin.ext (by show win0_8.index t 1 * 4 + 1 * h.val = h.val; rw [(index8 t).2.1]; omega)
  | ⟨2, _⟩ => exact Fin.ext (by show win0_8.index t 2 * 128 + 1 * p.val = p.val; rw [(index8 t).2.2.1]; omega)
  | ⟨3, _⟩ => exact Fin.ext (by show win0_8.index t 3 * 128 + 1 * q.val = q.val; rw [(index8 t).2.2.2]; omega)

theorem block9 (t : Fin cfg0.N) (r : Fin 256) (l : Fin 512) : (iblk m c 9 t : Vec Ideal S256x512 .f32) (ix2 r l) = (args m c).d (ix2 (spot t.val r) ⟨l.val, by omega⟩) := by
  unfold iblk
  rw [View.read_apply]
  refine congrArg (args m c).d (funext fun a => ?_)
  match a with
  | ⟨0, _⟩ => exact Fin.ext (by show win0_9.index t 0 * 256 + 1 * r.val = 256 * (7 - t.val) + r.val; rw [(index9 t).1]; omega)
  | ⟨1, _⟩ => exact Fin.ext (by show win0_9.index t 1 * 512 + 1 * l.val = l.val; rw [(index9 t).2]; omega)

theorem spot_row (t : ℕ) (j : Fin 4) (r : Fin 64) : spot t (inBlock j r) = row (num t j) r :=
  Fin.ext (by show 256 * (7 - t) + (64 * j.val + r.val) = 64 * (4 * (7 - t) + j.val) + r.val; omega)

/-- The `j`-th chunk of point `t`'s blocks is its chunk of the arrays. -/
theorem chunk_eq (t : Fin cfg0.N) (j : Fin 4) : (blocks m c t).chunk j = (args m c).chunk (num t.val j) := by
  ext
  · exact block8 m c t _ _ _ _
  · exact (block0 m c t _ _ _).trans (congrArg (fun R => (args m c).uv (ix3 _ R _)) (spot_row _ _ _))
  · exact (block1 m c t _ _ _).trans (congrArg (fun R => (args m c).wk (ix3 _ R _)) (spot_row _ _ _))
  · exact (block2 m c t _ _ _).trans (congrArg (fun R => (args m c).qd (ix3 _ R _)) (spot_row _ _ _))
  · exact (block3 m c t _ _ _).trans (congrArg (fun R => (args m c).ke (ix3 _ R _)) (spot_row _ _ _))
  · exact (block4 m c t _ _ _).trans (congrArg (fun R => (args m c).att (ix3 _ R _)) (spot_row _ _ _))
  · exact block5 m c t _ _ _ _
  · exact (block6 m c t _ _).trans (congrArg (fun R => (args m c).z (ix2 R _)) (spot_row _ _ _))
  · exact (block9 m c t _ _).trans (congrArg (fun R => (args m c).d (ix2 R _)) (spot_row _ _ _))
  · exact block7 m c t _ _

/-! ## The chain of states -/

theorem behind_num (t : ℕ) (j : Fin 4) (A : Arrays) (h : t < 8) : A.behind (num t j) = A.ds (4 * t + (3 - j.val)) := by
  unfold Arrays.behind
  exact congrArg A.ds (by show 31 - (4 * (7 - t) + j.val) = _; omega)

theorem rev_num (t : ℕ) (j : Fin 4) (h : t < 8) : rev (4 * t + (3 - j.val)) = num t j :=
  Fin.ext ((rev_val (by omega)).trans (by show _ = 4 * (7 - t) + j.val; omega))

theorem ds_num (t : ℕ) (j : Fin 4) (A : Arrays) (h : t < 8) :
    A.ds (4 * t + (3 - j.val) + 1) = (A.chunk (num t j)).back (A.behind (num t j)) := by
  rw [behind_num t j A h, ← rev_num t j h]; rfl

theorem zeros_apply (h : Fin 4) (k v : Fin 128) : k0_pay3 (F := Ideal) (ix3 h k v) = (0 : EReal) := by
  pointwise [k0_pay3]
theorem zero4_apply (l : Fin 128) : k0_pay4 (F := Ideal) (ix2 0 l) = (0 : EReal) := by
  pointwise [k0_pay4]
theorem zero5_apply (l : Fin 128) : k0_pay5 (F := Ideal) (ix2 0 l) = (0 : EReal) := by
  pointwise [k0_pay5]
theorem add_apply (a b : Vec Ideal S1x128 .f32) (l : Fin 128) : k0_pay2 (F := Ideal) a b (ix2 0 l) = (b (ix2 0 l) + a (ix2 0 l) : EReal) := by
  pointwise [k0_pay2]

/-! ## One point -/

/-- What point `t` has at hand for each of its four chunks: the chunk's arrays, and the gradient of the state behind it. -/
structure Point (A : Arrays) (t : ℕ) (b : Blocks Ideal) (S : Vec Ideal S4x128x128 .f32) : Prop where
  lt : t < 8
  c0 : b.at0.chunk = A.chunk (num t 0)
  c1 : b.at1.chunk = A.chunk (num t 1)
  c2 : b.at2.chunk = A.chunk (num t 2)
  c3 : b.at3.chunk = A.chunk (num t 3)
  s0 : ∀ h k v, b.s0 S (ix3 h k v) = A.behind (num t 0) h k v
  s1 : ∀ h k v, b.s1 S (ix3 h k v) = A.behind (num t 1) h k v
  s2 : ∀ h k v, b.s2 S (ix3 h k v) = A.behind (num t 2) h k v
  s3 : ∀ h k v, S (ix3 h k v) = A.behind (num t 3) h k v

/-- Each chunk's gradient of the state before it is the next one's of the state behind it. -/
theorem back_step (A : Arrays) (t : ℕ) (ht : t < 8) (X : Loaded Ideal) (j : Fin 4) (hX : X.chunk = A.chunk (num t j)) (S : Vec Ideal S4x128x128 .f32)
    (hS : ∀ h k v, S (ix3 h k v) = A.behind (num t j) h k v) (h : Fin 4) (k v : Fin 128) :
    X.back S (ix3 h k v) = A.ds (4 * t + (3 - j.val) + 1) h k v := by
  rw [X.back_apply hS, hX, ds_num t j A ht]

theorem point (t : Fin cfg0.N) (S : Vec Ideal S4x128x128 .f32) (hS : ∀ h k v, S (ix3 h k v) = (args m c).ds (4 * t.val) h k v) :
    Point (args m c) t.val (blocks m c t) S := by
  have ht := lt_points _ t.isLt
  have c0 := (chunk0 (blocks m c t)).trans (chunk_eq m c t 0)
  have c1 := (chunk1 (blocks m c t)).trans (chunk_eq m c t 1)
  have c2 := (chunk2 (blocks m c t)).trans (chunk_eq m c t 2)
  have c3 := (chunk3 (blocks m c t)).trans (chunk_eq m c t 3)
  have s3 : ∀ h k v, S (ix3 h k v) = (args m c).behind (num t.val 3) h k v := fun h k v => by rw [hS, behind_num _ _ _ ht]; rfl
  have s2 : ∀ h k v, (blocks m c t).s2 S (ix3 h k v) = (args m c).behind (num t.val 2) h k v := fun h k v => by
    rw [behind_num _ _ _ ht]; exact back_step _ _ ht _ 3 c3 S s3 h k v
  have s1 : ∀ h k v, (blocks m c t).s1 S (ix3 h k v) = (args m c).behind (num t.val 1) h k v := fun h k v => by
    rw [behind_num _ _ _ ht]; exact back_step _ _ ht _ 2 c2 _ s2 h k v
  have s0 : ∀ h k v, (blocks m c t).s0 S (ix3 h k v) = (args m c).behind (num t.val 0) h k v := fun h k v => by
    rw [behind_num _ _ _ ht]; exact back_step _ _ ht _ 1 c1 _ s1 h k v
  exact ⟨ht, c0, c1, c2, c3, s0, s1, s2, s3⟩

theorem spot_eq (f : Fin 32 → Fin 64 → EReal) (t : ℕ) (R : Fin 256) : f (num t (qt R)) (rt R) = f (ck (spot t R)) (rr (spot t R)) := by
  rw [ck_spot, rr_spot]

theorem dGe_apply (A : Arrays) (n : Fin 32) (h : Fin 4) (p : Fin 8) (q : Fin 128) : A.dGe (ix4 n h p q) = (A.chunk n).dge (A.behind n) h := rfl

theorem ge_outs (b : Blocks Ideal) (S : FVec Ideal S4x128x128 .f32) (G : FVec Ideal S1x128 .f32) :
    (b.outs S G).2.2.2.2.2.1 = rowsGe (b.at0.dge (b.s0 S)) (b.at1.dge (b.s1 S)) (b.at2.dge (b.s2 S)) (b.at3.dge S) := by
  simp only [Blocks.outs]

namespace Point

variable {A : Arrays} {t : ℕ} {b : Blocks Ideal} {S : Vec Ideal S4x128x128 .f32} (P : Point A t b S) (G : Vec Ideal S1x128 .f32)
include P

theorem uv (y : S4x256x128.Idx) : ((b.outs S G).1 y : EReal) = A.dUv (ix3 (y 0) (spot t (y 1)) (y 2)) := by
  refine (rowsHd_apply (fun j => (A.chunk (num t j)).du (A.behind (num t j))) _ _ _ _
    (fun h r v => ?_) (fun h r v => ?_) (fun h r v => ?_) (fun h r v => ?_) y).trans ?_
  · rw [Loaded.du_apply _ P.s0, P.c0]
  · rw [Loaded.du_apply _ P.s1, P.c1]
  · rw [Loaded.du_apply _ P.s2, P.c2]
  · rw [Loaded.du_apply _ P.s3, P.c3]
  · exact spot_eq (fun n r => (A.chunk n).du (A.behind n) (y 0) r (y 2)) t (y 1)

theorem wk (y : S4x256x128.Idx) : ((b.outs S G).2.1 y : EReal) = A.dWk (ix3 (y 0) (spot t (y 1)) (y 2)) := by
  refine (rowsHd_apply (fun j => (A.chunk (num t j)).dwk (A.behind (num t j))) _ _ _ _
    (fun h r v => ?_) (fun h r v => ?_) (fun h r v => ?_) (fun h r v => ?_) y).trans ?_
  · rw [Loaded.dwk_apply _ P.s0, P.c0]
  · rw [Loaded.dwk_apply _ P.s1, P.c1]
  · rw [Loaded.dwk_apply _ P.s2, P.c2]
  · rw [Loaded.dwk_apply _ P.s3, P.c3]
  · exact spot_eq (fun n r => (A.chunk n).dwk (A.behind n) (y 0) r (y 2)) t (y 1)

theorem qd (y : S4x256x128.Idx) : ((b.outs S G).2.2.1 y : EReal) = A.dQd (ix3 (y 0) (spot t (y 1)) (y 2)) := by
  refine (rowsHd_apply (fun j => (A.chunk (num t j)).dqd) _ _ _ _
    (fun h r v => ?_) (fun h r v => ?_) (fun h r v => ?_) (fun h r v => ?_) y).trans ?_
  · rw [Loaded.dqd_apply, P.c0]
  · rw [Loaded.dqd_apply, P.c1]
  · rw [Loaded.dqd_apply, P.c2]
  · rw [Loaded.dqd_apply, P.c3]
  · exact spot_eq (fun n r => (A.chunk n).dqd (y 0) r (y 2)) t (y 1)

theorem ke (y : S4x256x128.Idx) : ((b.outs S G).2.2.2.1 y : EReal) = A.dKe (ix3 (y 0) (spot t (y 1)) (y 2)) := by
  refine (rowsHd_apply (fun j => (A.chunk (num t j)).dke (A.behind (num t j))) _ _ _ _
    (fun h r v => ?_) (fun h r v => ?_) (fun h r v => ?_) (fun h r v => ?_) y).trans ?_
  · rw [Loaded.dke_apply _ P.s0, P.c0]
  · rw [Loaded.dke_apply _ P.s1, P.c1]
  · rw [Loaded.dke_apply _ P.s2, P.c2]
  · rw [Loaded.dke_apply _ P.s3, P.c3]
  · exact spot_eq (fun n r => (A.chunk n).dke (A.behind n) (y 0) r (y 2)) t (y 1)

theorem att (y : S4x256x64.Idx) : ((b.outs S G).2.2.2.2.1 y : EReal) = A.dAtt (ix3 (y 0) (spot t (y 1)) (y 2)) := by
  refine (rowsHc_apply (fun j => (A.chunk (num t j)).datt) _ _ _ _
    (fun h r v => ?_) (fun h r v => ?_) (fun h r v => ?_) (fun h r v => ?_) y).trans ?_
  · rw [Loaded.datt_apply, P.c0]
  · rw [Loaded.datt_apply, P.c1]
  · rw [Loaded.datt_apply, P.c2]
  · rw [Loaded.datt_apply, P.c3]
  · exact spot_eq (fun n r => (A.chunk n).datt (y 0) r (y 2)) t (y 1)

omit P in
theorem dge_eq {X : Loaded Ideal} {n : Fin 32} (hX : X.chunk = A.chunk n) {T : Vec Ideal S4x128x128 .f32}
    (hT : ∀ h k v, T (ix3 h k v) = A.behind n h k v) (h : Fin 4) (p : Fin 8) (q : Fin 128) :
    X.dge T (ix4 0 h p q) = (A.chunk n).dge (A.behind n) h := by
  rw [Loaded.dge_apply _ hT, hX]

theorem ge_rows (y : S4x4x8x128.Idx) : (rowsGe (b.at0.dge (b.s0 S)) (b.at1.dge (b.s1 S)) (b.at2.dge (b.s2 S)) (b.at3.dge S) y : EReal)
    = (A.chunk (num t (y 0))).dge (A.behind (num t (y 0))) (y 1) :=
  rowsGe_apply (fun j => (A.chunk (num t j)).dge (A.behind (num t j))) _ _ _ _ (dge_eq P.c0 P.s0) (dge_eq P.c1 P.s1) (dge_eq P.c2 P.s2) (dge_eq P.c3 P.s3) y

theorem ge (y : S4x4x8x128.Idx) : ((b.outs S G).2.2.2.2.2.1 y : EReal) = A.dGe (ix4 (num t (y 0)) (y 1) (y 2) (y 3)) := by
  exact (congrFun (ge_outs b S G) y).trans ((P.ge_rows y).trans (dGe_apply A (num t (y 0)) (y 1) (y 2) (y 3)).symm)

omit P in
theorem dz_all (X : Loaded Ideal) (h : Fin 4) (r : Fin 64) (v : Fin 128) : X.dz h (ix2 r v) = X.chunk.dz h r v := by
  match h with
  | 0 => exact X.dz0_apply r v
  | 1 => exact X.dz1_apply r v
  | 2 => exact X.dz2_apply r v
  | 3 => exact X.dz3_apply r v

theorem z (y : S256x512.Idx) : ((b.outs S G).2.2.2.2.2.2.1 y : EReal) = A.dZ (ix2 (spot t (y 0)) (y 1)) := by
  refine (rowsZ_apply (fun j => (A.chunk (num t j)).dz) _ _ _ _
    (fun h r v => ?_) (fun h r v => ?_) (fun h r v => ?_) (fun h r v => ?_) y).trans ?_
  · rw [dz_all, P.c0]
  · rw [dz_all, P.c1]
  · rw [dz_all, P.c2]
  · rw [dz_all, P.c3]
  · exact spot_eq (fun n r => (A.chunk n).dz (hd (y 1)) r (ln (y 1))) t (y 0)

theorem g (hG : ∀ l, G (ix2 0 l) = A.gsum (4 * t) l) (l : Fin 128) : ((b.outs S G).2.2.2.2.2.2.2.1 (ix2 0 l) : EReal) = A.gsum (4 * t + 4) l := by
  refine (add_apply _ _ l).trans ?_
  rw [hG, Loaded.dg_apply, Loaded.dg_apply, Loaded.dg_apply, Loaded.dg_apply, zero5_apply, P.c0, P.c1, P.c2, P.c3]
  unfold Arrays.gsum
  rw [Finset.sum_range_succ, Finset.sum_range_succ, Finset.sum_range_succ, Finset.sum_range_succ,
    show rev (4 * t) = num t 3 from rev_num t 3 P.lt, show rev (4 * t + 1) = num t 2 from rev_num t 2 P.lt,
    show rev (4 * t + 2) = num t 1 from rev_num t 1 P.lt, show rev (4 * t + 3) = num t 0 from rev_num t 0 P.lt, zero_add]
  simp only [add_assoc]

theorem st (h : Fin 4) (k v : Fin 128) : ((b.outs S G).2.2.2.2.2.2.2.2 (ix3 h k v) : EReal) = A.ds (4 * t + 4) h k v :=
  back_step A t P.lt _ 0 P.c0 _ P.s0 h k v

end Point

/-! ## All points -/

theorem first (t : Fin cfg0.N) (h0 : t.val % 8 = 0) : outsAt0 m c t.val t.isLt = (blocks m c t).outs k0_pay3 k0_pay4 :=
  (outsAt0_A m c t h0).trans (outs_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (X0_6 m c t) (iblk m c 7 t) (iblk m c 8 t) (iblk m c 9 t) ((hcond0_0 t).mpr h0))
theorem later (t : Fin cfg0.N) (h0 : ¬t.val % 8 = 0) : outsAt0 m c t.val t.isLt = (blocks m c t).outs
    (outsAt0 m c (t.val - 1) (Nat.lt_of_le_of_lt (Nat.sub_le _ _) t.isLt)).2.2.2.2.2.2.2.2
    (outsAt0 m c (t.val - 1) (Nat.lt_of_le_of_lt (Nat.sub_le _ _) t.isLt)).2.2.2.2.2.2.2.1 :=
  (outsAt0_B m c t h0).trans (outs_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (X0_6 m c t) (iblk m c 7 t) (iblk m c 8 t) (iblk m c 9 t) (fun h => h0 ((hcond0_0 t).mp h)) _ _)

/-- What each point starts from and leaves. -/
theorem outs_at : ∀ (n : ℕ) (h : n < cfg0.N), ∃ S G, outsAt0 m c n h = (blocks m c ⟨n, h⟩).outs S G
    ∧ Point (args m c) n (blocks m c ⟨n, h⟩) S ∧ ∀ l, G (ix2 0 l) = (args m c).gsum (4 * n) l := by
  intro n
  induction n with
  | zero =>
    intro h
    refine ⟨_, _, first m c ⟨0, h⟩ rfl, point m c ⟨0, h⟩ _ (fun a k v => (zeros_apply a k v).trans rfl), fun l => (zero4_apply l).trans ?_⟩
    exact (Finset.sum_range_zero _).symm
  | succ n ih =>
    intro h
    have h8 := lt_points _ h
    obtain ⟨S, G, e, P, hG⟩ := ih (Nat.lt_of_succ_lt h)
    refine ⟨_, _, later m c ⟨n + 1, h⟩ (by dsimp only; omega), point m c ⟨n + 1, h⟩ _ (fun a k v => ?_), fun l => ?_⟩
    · exact (congrArg (fun p => (p.2.2.2.2.2.2.2.2 (ix3 a k v) : EReal)) e).trans (P.st G a k v)
    · exact (congrArg (fun p => (p.2.2.2.2.2.2.2.1 (ix2 0 l) : EReal)) e).trans (P.g G hG l)

/-! ## The arrays after the run -/

theorem final_uv : (dats m 0 c).arrAt 10 cfg0.N = (args m c).dUv := by
  refine (dats m 0 c).arrAt_eq_of_cover 10 (args m c).dUv (fun t _ => ?_) fun i => ?_
  · rw [Value.flushed10]
    obtain ⟨S, G, e, P, _⟩ := outs_at m c t.val t.isLt
    funext j
    rw [View.read_apply]
    refine (congrFun (congrArg (fun p => p.1) e) _).trans ((P.uv G _).trans (congrArg (args m c).dUv ?_))
    funext a
    match a with
    | ⟨0, _⟩ => exact Fin.ext (by show (j 0).val = win0_10.index t 0 * 4 + 1 * (j 0).val; rw [(index10 t).1]; omega)
    | ⟨1, _⟩ => exact Fin.ext (by show (256 * (7 - t.val) + (j 1).val) = win0_10.index t 1 * 256 + 1 * (j 1).val; rw [(index10 t).2.1]; omega)
    | ⟨2, _⟩ => exact Fin.ext (by show (j 2).val = win0_10.index t 2 * 128 + 1 * (j 2).val; rw [(index10 t).2.2]; omega)
  · have h0 : (i 0 : ℕ) < 4 := (i 0).isLt
    have h1 : (i 1 : ℕ) < 2048 := (i 1).isLt
    have h2 : (i 2 : ℕ) < 128 := (i 2).isLt
    refine ⟨⟨7 - (i 1 : ℕ) / 256, by rw [show cfg0.N = 8 from N_0]; omega⟩, flush0_10 _, ?_⟩
    generalize ht : (⟨7 - (i 1 : ℕ) / 256, _⟩ : Fin cfg0.N) = t
    have hv : t.val = 7 - (i 1 : ℕ) / 256 := by rw [← ht]
    show i ∈ ((View.whole main_v0_0).slice (win0_10.rect t)).set
    rw [View.set_slice_whole, Rect.mem_set_unit]
    intro a
    match a with
    | ⟨0, _⟩ => show win0_10.index t 0 * 4 ≤ (i 0 : ℕ) ∧ (i 0 : ℕ) < win0_10.index t 0 * 4 + 4
                rw [(index10 t).1]; omega
    | ⟨1, _⟩ => show win0_10.index t 1 * 256 ≤ (i 1 : ℕ) ∧ (i 1 : ℕ) < win0_10.index t 1 * 256 + 256
                rw [(index10 t).2.1]; omega
    | ⟨2, _⟩ => show win0_10.index t 2 * 128 ≤ (i 2 : ℕ) ∧ (i 2 : ℕ) < win0_10.index t 2 * 128 + 128
                rw [(index10 t).2.2]; omega

theorem final_wk : (dats m 0 c).arrAt 11 cfg0.N = (args m c).dWk := by
  refine (dats m 0 c).arrAt_eq_of_cover 11 (args m c).dWk (fun t _ => ?_) fun i => ?_
  · rw [Value.flushed11]
    obtain ⟨S, G, e, P, _⟩ := outs_at m c t.val t.isLt
    funext j
    rw [View.read_apply]
    refine (congrFun (congrArg (fun p => p.2.1) e) _).trans ((P.wk G _).trans (congrArg (args m c).dWk ?_))
    funext a
    match a with
    | ⟨0, _⟩ => exact Fin.ext (by show (j 0).val = win0_11.index t 0 * 4 + 1 * (j 0).val; rw [(index11 t).1]; omega)
    | ⟨1, _⟩ => exact Fin.ext (by show (256 * (7 - t.val) + (j 1).val) = win0_11.index t 1 * 256 + 1 * (j 1).val; rw [(index11 t).2.1]; omega)
    | ⟨2, _⟩ => exact Fin.ext (by show (j 2).val = win0_11.index t 2 * 128 + 1 * (j 2).val; rw [(index11 t).2.2]; omega)
  · have h0 : (i 0 : ℕ) < 4 := (i 0).isLt
    have h1 : (i 1 : ℕ) < 2048 := (i 1).isLt
    have h2 : (i 2 : ℕ) < 128 := (i 2).isLt
    refine ⟨⟨7 - (i 1 : ℕ) / 256, by rw [show cfg0.N = 8 from N_0]; omega⟩, flush0_11 _, ?_⟩
    generalize ht : (⟨7 - (i 1 : ℕ) / 256, _⟩ : Fin cfg0.N) = t
    have hv : t.val = 7 - (i 1 : ℕ) / 256 := by rw [← ht]
    show i ∈ ((View.whole main_v0_1).slice (win0_11.rect t)).set
    rw [View.set_slice_whole, Rect.mem_set_unit]
    intro a
    match a with
    | ⟨0, _⟩ => show win0_11.index t 0 * 4 ≤ (i 0 : ℕ) ∧ (i 0 : ℕ) < win0_11.index t 0 * 4 + 4
                rw [(index11 t).1]; omega
    | ⟨1, _⟩ => show win0_11.index t 1 * 256 ≤ (i 1 : ℕ) ∧ (i 1 : ℕ) < win0_11.index t 1 * 256 + 256
                rw [(index11 t).2.1]; omega
    | ⟨2, _⟩ => show win0_11.index t 2 * 128 ≤ (i 2 : ℕ) ∧ (i 2 : ℕ) < win0_11.index t 2 * 128 + 128
                rw [(index11 t).2.2]; omega

theorem final_qd : (dats m 0 c).arrAt 12 cfg0.N = (args m c).dQd := by
  refine (dats m 0 c).arrAt_eq_of_cover 12 (args m c).dQd (fun t _ => ?_) fun i => ?_
  · rw [Value.flushed12]
    obtain ⟨S, G, e, P, _⟩ := outs_at m c t.val t.isLt
    funext j
    rw [View.read_apply]
    refine (congrFun (congrArg (fun p => p.2.2.1) e) _).trans ((P.qd G _).trans (congrArg (args m c).dQd ?_))
    funext a
    match a with
    | ⟨0, _⟩ => exact Fin.ext (by show (j 0).val = win0_12.index t 0 * 4 + 1 * (j 0).val; rw [(index12 t).1]; omega)
    | ⟨1, _⟩ => exact Fin.ext (by show (256 * (7 - t.val) + (j 1).val) = win0_12.index t 1 * 256 + 1 * (j 1).val; rw [(index12 t).2.1]; omega)
    | ⟨2, _⟩ => exact Fin.ext (by show (j 2).val = win0_12.index t 2 * 128 + 1 * (j 2).val; rw [(index12 t).2.2]; omega)
  · have h0 : (i 0 : ℕ) < 4 := (i 0).isLt
    have h1 : (i 1 : ℕ) < 2048 := (i 1).isLt
    have h2 : (i 2 : ℕ) < 128 := (i 2).isLt
    refine ⟨⟨7 - (i 1 : ℕ) / 256, by rw [show cfg0.N = 8 from N_0]; omega⟩, flush0_12 _, ?_⟩
    generalize ht : (⟨7 - (i 1 : ℕ) / 256, _⟩ : Fin cfg0.N) = t
    have hv : t.val = 7 - (i 1 : ℕ) / 256 := by rw [← ht]
    show i ∈ ((View.whole main_v0_2).slice (win0_12.rect t)).set
    rw [View.set_slice_whole, Rect.mem_set_unit]
    intro a
    match a with
    | ⟨0, _⟩ => show win0_12.index t 0 * 4 ≤ (i 0 : ℕ) ∧ (i 0 : ℕ) < win0_12.index t 0 * 4 + 4
                rw [(index12 t).1]; omega
    | ⟨1, _⟩ => show win0_12.index t 1 * 256 ≤ (i 1 : ℕ) ∧ (i 1 : ℕ) < win0_12.index t 1 * 256 + 256
                rw [(index12 t).2.1]; omega
    | ⟨2, _⟩ => show win0_12.index t 2 * 128 ≤ (i 2 : ℕ) ∧ (i 2 : ℕ) < win0_12.index t 2 * 128 + 128
                rw [(index12 t).2.2]; omega

theorem final_ke : (dats m 0 c).arrAt 13 cfg0.N = (args m c).dKe := by
  refine (dats m 0 c).arrAt_eq_of_cover 13 (args m c).dKe (fun t _ => ?_) fun i => ?_
  · rw [Value.flushed13]
    obtain ⟨S, G, e, P, _⟩ := outs_at m c t.val t.isLt
    funext j
    rw [View.read_apply]
    refine (congrFun (congrArg (fun p => p.2.2.2.1) e) _).trans ((P.ke G _).trans (congrArg (args m c).dKe ?_))
    funext a
    match a with
    | ⟨0, _⟩ => exact Fin.ext (by show (j 0).val = win0_13.index t 0 * 4 + 1 * (j 0).val; rw [(index13 t).1]; omega)
    | ⟨1, _⟩ => exact Fin.ext (by show (256 * (7 - t.val) + (j 1).val) = win0_13.index t 1 * 256 + 1 * (j 1).val; rw [(index13 t).2.1]; omega)
    | ⟨2, _⟩ => exact Fin.ext (by show (j 2).val = win0_13.index t 2 * 128 + 1 * (j 2).val; rw [(index13 t).2.2]; omega)
  · have h0 : (i 0 : ℕ) < 4 := (i 0).isLt
    have h1 : (i 1 : ℕ) < 2048 := (i 1).isLt
    have h2 : (i 2 : ℕ) < 128 := (i 2).isLt
    refine ⟨⟨7 - (i 1 : ℕ) / 256, by rw [show cfg0.N = 8 from N_0]; omega⟩, flush0_13 _, ?_⟩
    generalize ht : (⟨7 - (i 1 : ℕ) / 256, _⟩ : Fin cfg0.N) = t
    have hv : t.val = 7 - (i 1 : ℕ) / 256 := by rw [← ht]
    show i ∈ ((View.whole main_v0_3).slice (win0_13.rect t)).set
    rw [View.set_slice_whole, Rect.mem_set_unit]
    intro a
    match a with
    | ⟨0, _⟩ => show win0_13.index t 0 * 4 ≤ (i 0 : ℕ) ∧ (i 0 : ℕ) < win0_13.index t 0 * 4 + 4
                rw [(index13 t).1]; omega
    | ⟨1, _⟩ => show win0_13.index t 1 * 256 ≤ (i 1 : ℕ) ∧ (i 1 : ℕ) < win0_13.index t 1 * 256 + 256
                rw [(index13 t).2.1]; omega
    | ⟨2, _⟩ => show win0_13.index t 2 * 128 ≤ (i 2 : ℕ) ∧ (i 2 : ℕ) < win0_13.index t 2 * 128 + 128
                rw [(index13 t).2.2]; omega

theorem final_att : (dats m 0 c).arrAt 14 cfg0.N = (args m c).dAtt := by
  refine (dats m 0 c).arrAt_eq_of_cover 14 (args m c).dAtt (fun t _ => ?_) fun i => ?_
  · rw [Value.flushed14]
    obtain ⟨S, G, e, P, _⟩ := outs_at m c t.val t.isLt
    funext j
    rw [View.read_apply]
    refine (congrFun (congrArg (fun p => p.2.2.2.2.1) e) _).trans ((P.att G _).trans (congrArg (args m c).dAtt ?_))
    funext a
    match a with
    | ⟨0, _⟩ => exact Fin.ext (by show (j 0).val = win0_14.index t 0 * 4 + 1 * (j 0).val; rw [(index14 t).1]; omega)
    | ⟨1, _⟩ => exact Fin.ext (by show (256 * (7 - t.val) + (j 1).val) = win0_14.index t 1 * 256 + 1 * (j 1).val; rw [(index14 t).2.1]; omega)
    | ⟨2, _⟩ => exact Fin.ext (by show (j 2).val = win0_14.index t 2 * 64 + 1 * (j 2).val; rw [(index14 t).2.2]; omega)
  · have h0 : (i 0 : ℕ) < 4 := (i 0).isLt
    have h1 : (i 1 : ℕ) < 2048 := (i 1).isLt
    have h2 : (i 2 : ℕ) < 64 := (i 2).isLt
    refine ⟨⟨7 - (i 1 : ℕ) / 256, by rw [show cfg0.N = 8 from N_0]; omega⟩, flush0_14 _, ?_⟩
    generalize ht : (⟨7 - (i 1 : ℕ) / 256, _⟩ : Fin cfg0.N) = t
    have hv : t.val = 7 - (i 1 : ℕ) / 256 := by rw [← ht]
    show i ∈ ((View.whole main_v0_4).slice (win0_14.rect t)).set
    rw [View.set_slice_whole, Rect.mem_set_unit]
    intro a
    match a with
    | ⟨0, _⟩ => show win0_14.index t 0 * 4 ≤ (i 0 : ℕ) ∧ (i 0 : ℕ) < win0_14.index t 0 * 4 + 4
                rw [(index14 t).1]; omega
    | ⟨1, _⟩ => show win0_14.index t 1 * 256 ≤ (i 1 : ℕ) ∧ (i 1 : ℕ) < win0_14.index t 1 * 256 + 256
                rw [(index14 t).2.1]; omega
    | ⟨2, _⟩ => show win0_14.index t 2 * 64 ≤ (i 2 : ℕ) ∧ (i 2 : ℕ) < win0_14.index t 2 * 64 + 64
                rw [(index14 t).2.2]; omega

theorem final_ge : (dats m 0 c).arrAt 15 cfg0.N = (args m c).dGe := by
  refine (dats m 0 c).arrAt_eq_of_cover 15 (args m c).dGe (fun t _ => ?_) fun i => ?_
  · rw [Value.flushed15]
    obtain ⟨S, G, e, P, _⟩ := outs_at m c t.val t.isLt
    funext j
    rw [View.read_apply]
    refine (congrFun (congrArg (fun p => p.2.2.2.2.2.1) e) _).trans ((P.ge G _).trans (congrArg (args m c).dGe ?_))
    funext a
    match a with
    | ⟨0, _⟩ => exact Fin.ext (by show (4 * (7 - t.val) + (j 0).val) = win0_15.index t 0 * 4 + 1 * (j 0).val; rw [(index15 t).1]; omega)
    | ⟨1, _⟩ => exact Fin.ext (by show (j 1).val = win0_15.index t 1 * 4 + 1 * (j 1).val; rw [(index15 t).2.1]; omega)
    | ⟨2, _⟩ => exact Fin.ext (by show (j 2).val = win0_15.index t 2 * 8 + 1 * (j 2).val; rw [(index15 t).2.2.1]; omega)
    | ⟨3, _⟩ => exact Fin.ext (by show (j 3).val = win0_15.index t 3 * 128 + 1 * (j 3).val; rw [(index15 t).2.2.2]; omega)
  · have h0 : (i 0 : ℕ) < 32 := (i 0).isLt
    have h1 : (i 1 : ℕ) < 4 := (i 1).isLt
    have h2 : (i 2 : ℕ) < 8 := (i 2).isLt
    have h3 : (i 3 : ℕ) < 128 := (i 3).isLt
    refine ⟨⟨7 - (i 0 : ℕ) / 4, by rw [show cfg0.N = 8 from N_0]; omega⟩, flush0_15 _, ?_⟩
    generalize ht : (⟨7 - (i 0 : ℕ) / 4, _⟩ : Fin cfg0.N) = t
    have hv : t.val = 7 - (i 0 : ℕ) / 4 := by rw [← ht]
    show i ∈ ((View.whole main_v0_5).slice (win0_15.rect t)).set
    rw [View.set_slice_whole, Rect.mem_set_unit]
    intro a
    match a with
    | ⟨0, _⟩ => show win0_15.index t 0 * 4 ≤ (i 0 : ℕ) ∧ (i 0 : ℕ) < win0_15.index t 0 * 4 + 4
                rw [(index15 t).1]; omega
    | ⟨1, _⟩ => show win0_15.index t 1 * 4 ≤ (i 1 : ℕ) ∧ (i 1 : ℕ) < win0_15.index t 1 * 4 + 4
                rw [(index15 t).2.1]; omega
    | ⟨2, _⟩ => show win0_15.index t 2 * 8 ≤ (i 2 : ℕ) ∧ (i 2 : ℕ) < win0_15.index t 2 * 8 + 8
                rw [(index15 t).2.2.1]; omega
    | ⟨3, _⟩ => show win0_15.index t 3 * 128 ≤ (i 3 : ℕ) ∧ (i 3 : ℕ) < win0_15.index t 3 * 128 + 128
                rw [(index15 t).2.2.2]; omega

theorem final_z : (dats m 0 c).arrAt 16 cfg0.N = (args m c).dZ := by
  refine (dats m 0 c).arrAt_eq_of_cover 16 (args m c).dZ (fun t _ => ?_) fun i => ?_
  · rw [Value.flushed16]
    obtain ⟨S, G, e, P, _⟩ := outs_at m c t.val t.isLt
    funext j
    rw [View.read_apply]
    refine (congrFun (congrArg (fun p => p.2.2.2.2.2.2.1) e) _).trans ((P.z G _).trans (congrArg (args m c).dZ ?_))
    funext a
    match a with
    | ⟨0, _⟩ => exact Fin.ext (by show (256 * (7 - t.val) + (j 0).val) = win0_16.index t 0 * 256 + 1 * (j 0).val; rw [(index16 t).1]; omega)
    | ⟨1, _⟩ => exact Fin.ext (by show (j 1).val = win0_16.index t 1 * 512 + 1 * (j 1).val; rw [(index16 t).2]; omega)
  · have h0 : (i 0 : ℕ) < 2048 := (i 0).isLt
    have h1 : (i 1 : ℕ) < 512 := (i 1).isLt
    refine ⟨⟨7 - (i 0 : ℕ) / 256, by rw [show cfg0.N = 8 from N_0]; omega⟩, flush0_16 _, ?_⟩
    generalize ht : (⟨7 - (i 0 : ℕ) / 256, _⟩ : Fin cfg0.N) = t
    have hv : t.val = 7 - (i 0 : ℕ) / 256 := by rw [← ht]
    show i ∈ ((View.whole main_v0_6).slice (win0_16.rect t)).set
    rw [View.set_slice_whole, Rect.mem_set_unit]
    intro a
    match a with
    | ⟨0, _⟩ => show win0_16.index t 0 * 256 ≤ (i 0 : ℕ) ∧ (i 0 : ℕ) < win0_16.index t 0 * 256 + 256
                rw [(index16 t).1]; omega
    | ⟨1, _⟩ => show win0_16.index t 1 * 512 ≤ (i 1 : ℕ) ∧ (i 1 : ℕ) < win0_16.index t 1 * 512 + 512
                rw [(index16 t).2]; omega

theorem final_g : (dats m 0 c).arrAt 17 cfg0.N = (args m c).dG := by
  refine (dats m 0 c).arrAt_eq_of_cover 17 (args m c).dG (fun t hf => ?_) fun i => ?_
  · have h7 := (flush0_17 t).mp hf
    have h8 := lt_points _ t.isLt
    have h7' : t.val = 7 := by omega
    rw [Value.flushed17]
    obtain ⟨S, G, e, P, hG⟩ := outs_at m c t.val t.isLt
    funext j
    rw [View.read_apply]
    refine (congrFun (congrArg (fun p => p.2.2.2.2.2.2.2.1) e) _).trans ?_
    refine (congrArg ((blocks m c t).outs S G).2.2.2.2.2.2.2.1 (?_ : _ = ix2 0 (j 1))).trans ((P.g G hG (j 1)).trans ?_)
    · funext a; match a with | ⟨0, _⟩ => exact Subsingleton.elim (α := Fin 1) _ _ | ⟨1, _⟩ => rfl
    · rw [h7']
      refine congrArg ((args m c).gsum 32) (Fin.ext ?_)
      show (j 1).val = win0_17.index t 1 * 128 + 1 * (j 1).val; rw [(index17 t).2]; omega
  · have h0 : (i 0 : ℕ) < 1 := (i 0).isLt
    have h1 : (i 1 : ℕ) < 128 := (i 1).isLt
    refine ⟨⟨7, by rw [show cfg0.N = 8 from N_0]; omega⟩, (flush0_17 _).mpr (by dsimp only), ?_⟩
    generalize ht : (⟨7, _⟩ : Fin cfg0.N) = t
    show i ∈ ((View.whole main_v0_7).slice (win0_17.rect t)).set
    rw [View.set_slice_whole, Rect.mem_set_unit]
    intro a
    match a with
    | ⟨0, _⟩ => show win0_17.index t 0 * 1 ≤ (i 0 : ℕ) ∧ (i 0 : ℕ) < win0_17.index t 0 * 1 + 1
                rw [(index17 t).1]; omega
    | ⟨1, _⟩ => show win0_17.index t 1 * 128 ≤ (i 1 : ℕ) ∧ (i 1 : ℕ) < win0_17.index t 1 * 128 + 128
                rw [(index17 t).2]; omega

end Cert.Kernel14Ideal.Scan

end
-- ==== Proof.ScanLoop.lean ====
/-
  One trip of the reference's loop over the chunks, entry by entry: the formulas of one chunk, with the factors negated before
  the products.
-/
module

public import proofs.«01_k».proof.Proof.ScanChain
public import proofs.«01_k».proof.Proof.Gen.Reference14Ideal.Run
public import Idealize.ShloMosaic.Lib.DynamicIndex
public import Idealize.ShloMosaic.Lib.WordCmp

@[expose] public section

set_option maxRecDepth 8192

noncomputable section

namespace Cert.Reference14Ideal.Scan

open Idealize.ShloMosaic Idealize.ShloMosaic.TcCoe Idealize.SL.Sem Idealize.ShloMosaic.StableHlo
open Cert.Reference14Ideal Cert.Reference14Ideal.Gen Cert.Reference14Ideal.Value Cert.Scan

/-! ## Reading and writing one chunk of a stacked array -/

/-- The start of a slice of chunk `n`. -/
theorem start4 {w : (⟨S_, .i32⟩ : BufTy).Contents (Elt Ideal)} {n : Fin 32} (hw : w = constantI S_ 32 (BitVec.ofNat 32 n.val)) (a : Fin 4) :
    ((![w, constantI S_ 32 0#32, constantI S_ 32 0#32, constantI S_ 32 0#32] : Fin 4 → (⟨S_, .i32⟩ : BufTy).Contents (Elt Ideal)) a
      (Shape.Idx.first h_S_)).toInt = ((![n.val, 0, 0, 0] : Fin 4 → ℕ) a : ℤ) := by
  subst hw
  match a with
  | ⟨0, _⟩ => exact toInt_ofNat_of_lt (by omega)
  | ⟨1, _⟩ => rfl
  | ⟨2, _⟩ => rfl
  | ⟨3, _⟩ => rfl

theorem start2 {w : (⟨S_, .i32⟩ : BufTy).Contents (Elt Ideal)} {n : Fin 32} (hw : w = constantI S_ 32 (BitVec.ofNat 32 n.val)) (a : Fin 2) :
    ((![w, constantI S_ 32 0#32] : Fin 2 → (⟨S_, .i32⟩ : BufTy).Contents (Elt Ideal)) a (Shape.Idx.first h_S_)).toInt
      = ((![n.val, 0] : Fin 2 → ℕ) a : ℤ) := by
  subst hw
  match a with
  | ⟨0, _⟩ => exact toInt_ofNat_of_lt (by omega)
  | ⟨1, _⟩ => rfl

section Slices

variable {B C : ℕ} (n : Fin 32)

theorem fits4 : (⟨4, ![32, 4, B, C]⟩ : Shape).Slices (![n.val, 0, 0, 0] : Fin 4 → ℕ) ⟨4, ![1, 4, B, C]⟩ :=
  ⟨rfl, fun a => by
    match a with
    | ⟨0, _⟩ => show n.val + 1 ≤ 32; omega
    | ⟨1, _⟩ => exact Nat.le_refl _
    | ⟨2, _⟩ => show 0 + B ≤ B; omega
    | ⟨3, _⟩ => show 0 + C ≤ C; omega⟩

theorem fits2 : (⟨2, ![32, 4]⟩ : Shape).Slices (![n.val, 0] : Fin 2 → ℕ) ⟨2, ![1, 4]⟩ :=
  ⟨rfl, fun a => by
    match a with
    | ⟨0, _⟩ => show n.val + 1 ≤ 32; omega
    | ⟨1, _⟩ => exact Nat.le_refl _⟩

theorem slice4 (x : (⟨4, ![32, 4, B, C]⟩ : Shape).Idx → EReal) (start : Fin 4 → Int) (h) (he : ∀ a, start a = ((![n.val, 0, 0, 0] : Fin 4 → ℕ) a : ℤ))
    (a : Fin 4) (b : Fin B) (c : Fin C) :
    Host.dynamicSlice (s := ⟨4, ![32, 4, B, C]⟩) ⟨4, ![1, 4, B, C]⟩ x start h (ix4 0 a b c) = x (ix4 n a b c) := by
  have e := Host.dynamicSlice_eq_extractStridedSlice (s := ⟨4, ![32, 4, B, C]⟩) ⟨4, ![1, 4, B, C]⟩ x start _ h (fits4 n) he
  rw [e]
  refine congrArg x (funext fun k => ?_)
  match k with
  | ⟨0, _⟩ => exact Fin.ext (Nat.add_zero _)
  | ⟨1, _⟩ => exact Fin.ext (Nat.zero_add _)
  | ⟨2, _⟩ => exact Fin.ext (Nat.zero_add _)
  | ⟨3, _⟩ => exact Fin.ext (Nat.zero_add _)

theorem slice2 (x : (⟨2, ![32, 4]⟩ : Shape).Idx → EReal) (start : Fin 2 → Int) (h) (he : ∀ a, start a = ((![n.val, 0] : Fin 2 → ℕ) a : ℤ)) (a : Fin 4) :
    Host.dynamicSlice (s := ⟨2, ![32, 4]⟩) ⟨2, ![1, 4]⟩ x start h (ix2 0 a) = x (ix2 n a) := by
  have e := Host.dynamicSlice_eq_extractStridedSlice (s := ⟨2, ![32, 4]⟩) ⟨2, ![1, 4]⟩ x start _ h (fits2 n) he
  rw [e]
  refine congrArg x (funext fun k => ?_)
  match k with
  | ⟨0, _⟩ => exact Fin.ext (Nat.add_zero _)
  | ⟨1, _⟩ => exact Fin.ext (Nat.zero_add _)

/-- The stacked array after the update: chunk `n` is the update, the others are as they were. -/
theorem update4 (x : (⟨4, ![32, 4, B, C]⟩ : Shape).Idx → EReal) (y : (⟨4, ![1, 4, B, C]⟩ : Shape).Idx → EReal) (start : Fin 4 → Int) (h)
    (he : ∀ a, start a = ((![n.val, 0, 0, 0] : Fin 4 → ℕ) a : ℤ)) (p : Fin 32) (a : Fin 4) (b : Fin B) (c : Fin C) :
    Host.dynamicUpdateSlice (s := ⟨4, ![32, 4, B, C]⟩) (u := ⟨4, ![1, 4, B, C]⟩) x y start h (ix4 p a b c)
      = if p = n then y (ix4 0 a b c) else x (ix4 p a b c) := by
  rw [WordCmp.dynamicUpdateSlice_eq_update (s := ⟨4, ![32, 4, B, C]⟩) (u := ⟨4, ![1, 4, B, C]⟩) x y start h _ (fits4 n) he]
  unfold updateSlice
  by_cases hp : p = n
  · subst hp
    rw [if_pos rfl, dif_pos]
    · refine congrArg y (funext fun k => ?_)
      match k with
      | ⟨0, _⟩ => exact Subsingleton.elim (α := Fin 1) _ _
      | ⟨1, _⟩ => exact Fin.ext (Nat.sub_zero _)
      | ⟨2, _⟩ => exact Fin.ext (Nat.sub_zero _)
      | ⟨3, _⟩ => exact Fin.ext (Nat.sub_zero _)
    · intro k
      match k with
      | ⟨0, _⟩ => exact ⟨Nat.le_refl _, Nat.lt_succ_self _⟩
      | ⟨1, _⟩ => exact ⟨Nat.zero_le _, by show a.val < 0 + 4; omega⟩
      | ⟨2, _⟩ => exact ⟨Nat.zero_le _, by show b.val < 0 + B; omega⟩
      | ⟨3, _⟩ => exact ⟨Nat.zero_le _, by show c.val < 0 + C; omega⟩
  · rw [if_neg hp, dif_neg]
    intro hk
    have h0 := hk ⟨0, by show 0 < 4; omega⟩
    have h1 : n.val ≤ p.val ∧ p.val < n.val + 1 := h0
    exact hp (Fin.ext (by omega))

theorem update2 (x : (⟨2, ![32, 4]⟩ : Shape).Idx → EReal) (y : (⟨2, ![1, 4]⟩ : Shape).Idx → EReal) (start : Fin 2 → Int) (h)
    (he : ∀ a, start a = ((![n.val, 0] : Fin 2 → ℕ) a : ℤ)) (p : Fin 32) (a : Fin 4) :
    Host.dynamicUpdateSlice (s := ⟨2, ![32, 4]⟩) (u := ⟨2, ![1, 4]⟩) x y start h (ix2 p a) = if p = n then y (ix2 0 a) else x (ix2 p a) := by
  rw [WordCmp.dynamicUpdateSlice_eq_update (s := ⟨2, ![32, 4]⟩) (u := ⟨2, ![1, 4]⟩) x y start h _ (fits2 n) he]
  unfold updateSlice
  by_cases hp : p = n
  · subst hp
    rw [if_pos rfl, dif_pos]
    · refine congrArg y (funext fun k => ?_)
      match k with
      | ⟨0, _⟩ => exact Subsingleton.elim (α := Fin 1) _ _
      | ⟨1, _⟩ => exact Fin.ext (Nat.sub_zero _)
    · intro k
      match k with
      | ⟨0, _⟩ => exact ⟨Nat.le_refl _, Nat.lt_succ_self _⟩
      | ⟨1, _⟩ => exact ⟨Nat.zero_le _, by show a.val < 0 + 4; omega⟩
  · rw [if_neg hp, dif_neg]
    intro hk
    have h0 := hk ⟨0, by show 0 < 2; omega⟩
    have h1 : n.val ≤ p.val ∧ p.val < n.val + 1 := h0
    exact hp (Fin.ext (by omega))

theorem dropSt (y : FVec Ideal S1x4x128x128 .f32) (h : Fin 4) (a b : Fin 128) : shapeCast S4x128x128 y shapeCasts_S1x4x128x128_S4x128x128 (ix3 h a b) = y (ix4 0 h a b) := by
  pointwise []
theorem dropHd (y : FVec Ideal S1x4x64x128 .f32) (h : Fin 4) (a : Fin 64) (b : Fin 128) : shapeCast S4x64x128 y shapeCasts_S1x4x64x128_S4x64x128 (ix3 h a b) = y (ix4 0 h a b) := by
  pointwise []
theorem dropHc (y : FVec Ideal S1x4x64x64 .f32) (h : Fin 4) (a b : Fin 64) : shapeCast S4x64x64 y shapeCasts_S1x4x64x64_S4x64x64 (ix3 h a b) = y (ix4 0 h a b) := by
  pointwise []

end Slices

/-- A sum over the two leading axes. -/
theorem leading_apply {a b c : ℕ} (x : FVec Ideal ⟨3, ![a, b, c]⟩ .f32) (h : (⟨3, ![a, b, c]⟩ : Shape).ReducesTo [0, 1] ⟨1, ![c]⟩) (hu : 0 < S_.numel)
    (l : Fin c) : Host.reduceAdd x (constant S_ .f32 0x00000000#32) h hu (ix1 l) = ∑ i : Fin a, ∑ k : Fin b, (x (ix3 i k l) : EReal) := by
  have hp : ∀ i : (⟨3, ![a, b, c]⟩ : Shape).Idx, h.drop i = ix1 l ↔ ∃ k : Fin a × Fin b, ix3 k.1 k.2 l = i := by
    intro i
    constructor
    · intro e
      refine ⟨(i 0, i 1), funext fun d => Fin.ext ?_⟩
      match d with
      | ⟨0, _⟩ => rfl
      | ⟨1, _⟩ => rfl
      | ⟨2, _⟩ => exact (congrArg Fin.val (congrFun e ⟨0, by show 0 < 1; omega⟩)).symm
    · rintro ⟨k, rfl⟩
      funext d
      apply Fin.ext
      match d with
      | ⟨0, _⟩ => rfl
  have e : (∑ i ∈ Finset.univ.filter (fun i => h.drop i = ix1 l), (x i : EReal)) = ∑ k : Fin a × Fin b, (x (ix3 k.1 k.2 l) : EReal) :=
    Finset.sum_filter_eq_sum_of_fiber _ (fun k : Fin a × Fin b => ix3 k.1 k.2 l) (fun _ _ e => Prod.ext (congrFun e 0) (congrFun e 1)) hp _
  show (Ideal.ofBits .f32 0x00000000#32 : EReal) + (∑ i ∈ Finset.univ.filter (fun i => h.drop i = ix1 l), (x i : EReal)) = _
  rw [e, Ideal.ofBits_zero_f32, zero_add, Fintype.sum_prod_type]

/-! ## One trip -/

variable (V : Valuation τ sig (Elt Ideal))

/-- The chunk's arrays, of what the loop carries. -/
def at_ (n : Fin 32) : Chunk where
  st h k v := (V (Proc.devRef .tc main_v27_0) : S32x4x128x128.Idx → EReal) (ix4 n h k v)
  uv h r v := (V (Proc.devRef .tc main_v27_1) : S32x4x64x128.Idx → EReal) (ix4 n h r v)
  wk h r v := (V (Proc.devRef .tc main_v27_2) : S32x4x64x128.Idx → EReal) (ix4 n h r v)
  qd h r v := (V (Proc.devRef .tc main_v27_3) : S32x4x64x128.Idx → EReal) (ix4 n h r v)
  ke h r v := (V (Proc.devRef .tc main_v27_4) : S32x4x64x128.Idx → EReal) (ix4 n h r v)
  att h r s := (V (Proc.devRef .tc main_v27_5) : S32x4x64x64.Idx → EReal) (ix4 n h r s)
  ge h := (V (Proc.devRef .tc main_v27_6) : S32x4.Idx → EReal) (ix2 n h)
  z h r v := (V (Proc.devRef .tc main_v27_7) : S32x4x64x128.Idx → EReal) (ix4 n h r v)
  d h r v := (V (Proc.devRef .tc main_v27_8) : S32x4x64x128.Idx → EReal) (ix4 n h r v)
  g v := (V (Proc.devRef .tc main_v27_9) : S1x128.Idx → EReal) (ix2 0 v)

/-- The gradient of the norm's weight that the loop carries. -/
def prev (l : Fin 128) : EReal := (V (Proc.devRef .tc main_v27_12) : S128.Idx → EReal) (ix1 l)

section Trip

variable {n : Fin 32} (hn : res_main_while0b_v44 V = constantI S_ 32 (BitVec.ofNat 32 n.val))
include hn

theorem v45 (h : Fin 4) (k v : Fin 128) : (res_main_while0b_v45 V : S4x128x128.Idx → EReal) (ix3 h k v) = (at_ V n).st h k v :=
  (dropSt _ h k v).trans (slice4 n _ _ _ (start4 hn) h k v)
theorem v47 (h : Fin 4) (r : Fin 64) (v : Fin 128) : (res_main_while0b_v47 V : S4x64x128.Idx → EReal) (ix3 h r v) = (at_ V n).wk h r v :=
  (dropHd _ h r v).trans (slice4 n _ _ _ (start4 hn) h r v)
theorem v48 (h : Fin 4) (r : Fin 64) (v : Fin 128) : (res_main_while0b_v48 V : S4x64x128.Idx → EReal) (ix3 h r v) = (at_ V n).qd h r v :=
  (dropHd _ h r v).trans (slice4 n _ _ _ (start4 hn) h r v)
theorem v49 (h : Fin 4) (r : Fin 64) (v : Fin 128) : (res_main_while0b_v49 V : S4x64x128.Idx → EReal) (ix3 h r v) = (at_ V n).ke h r v :=
  (dropHd _ h r v).trans (slice4 n _ _ _ (start4 hn) h r v)
theorem v50 (h : Fin 4) (r s : Fin 64) : (res_main_while0b_v50 V : S4x64x64.Idx → EReal) (ix3 h r s) = (at_ V n).att h r s :=
  (dropHc _ h r s).trans (slice4 n _ _ _ (start4 hn) h r s)
theorem v52 (h : Fin 4) (r : Fin 64) (v : Fin 128) : (res_main_while0b_v52 V : S4x64x128.Idx → EReal) (ix3 h r v) = (at_ V n).z h r v :=
  (dropHd _ h r v).trans (slice4 n _ _ _ (start4 hn) h r v)
theorem v53 (h : Fin 4) (r : Fin 64) (v : Fin 128) : (res_main_while0b_v53 V : S4x64x128.Idx → EReal) (ix3 h r v) = (at_ V n).d h r v :=
  (dropHd _ h r v).trans (slice4 n _ _ _ (start4 hn) h r v)

omit hn in
theorem fU_apply (a w : FVec Ideal S4x64x128 .f32) (s : FVec Ideal S4x128x128 .f32) (h : Fin 4) (r : Fin 64) (v : Fin 128) :
    subf a (Host.dotGeneral dot_S4x64x128_S4x128x128_S4x64x128_2_1_1_2_0_0 none w s) (ix3 h r v)
      = (a (ix3 h r v) - ∑ k : Fin 128, (w (ix3 h r k) * s (ix3 h k v) : EReal) : EReal) := by
  pointwise []

theorem v56 (h : Fin 4) (r : Fin 64) (v : Fin 128) : (res_main_while0b_v56 V : S4x64x128.Idx → EReal) (ix3 h r v) = (at_ V n).u h r v := by
  refine (fU_apply _ _ _ h r v).trans ?_
  simp only [v45 V hn, v47 V hn]
  exact congrArg (fun e : EReal => e - _) ((dropHd _ h r v).trans (slice4 n _ _ _ (start4 hn) h r v))

omit hn in
theorem fO_apply (q u : FVec Ideal S4x64x128 .f32) (s : FVec Ideal S4x128x128 .f32) (t : FVec Ideal S4x64x64 .f32) (h : Fin 4) (r : Fin 64) (v : Fin 128) :
    addf (Host.dotGeneral dot_S4x64x128_S4x128x128_S4x64x128_2_1_1_2_0_0 none q s) (Host.dotGeneral dot_S4x64x64_S4x64x128_S4x64x128_2_1_1_2_0_0 none t u) (ix3 h r v)
      = ((∑ k : Fin 128, (q (ix3 h r k) * s (ix3 h k v) : EReal)) + ∑ k : Fin 64, (t (ix3 h r k) * u (ix3 h k v) : EReal) : EReal) := by
  pointwise []

theorem v59 (h : Fin 4) (r : Fin 64) (v : Fin 128) : (res_main_while0b_v59 V : S4x64x128.Idx → EReal) (ix3 h r v) = (at_ V n).o h r v := by
  refine (fO_apply _ _ _ _ h r v).trans ?_
  simp only [v45 V hn, v48 V hn, v50 V hn, v56 V hn]
  rfl

omit hn in
theorem fMs_apply (o : FVec Ideal S4x64x128 .f32) (h : Fin 4) (r : Fin 64) :
    addf (Host.divf (broadcastInDim S4x64x1 ![0, 1] bcast_S4x64_S4x64x1_0_1 (Host.reduceAdd (mulf o o) (constant S_ .f32 0x00000000#32) reducesTo_S4x64x128_S4x64_d2 h_S_)) (broadcastInDim S4x64x1 ![] bcast_S_S4x64x1 (constant S_ .f32 0x43000000#32))) (broadcastInDim S4x64x1 ![] bcast_S_S4x64x1 (constant S_ .f32 0x358637BD#32)) (ix3 h r 0)
      = ms (fun k => o (ix3 h r k)) := by
  pointwise []
  rfl

theorem v71 (h : Fin 4) (r : Fin 64) : (res_main_while0b_v71 V : S4x64x1.Idx → EReal) (ix3 h r 0) = ms ((at_ V n).o h r) :=
  (fMs_apply _ h r).trans (congrArg ms (funext fun k => v59 V hn h r k))
theorem v72 (h : Fin 4) (r : Fin 64) : (res_main_while0b_v72 V : S4x64x1.Idx → EReal) (ix3 h r 0) = rs ((at_ V n).o h r) :=
  congrArg Ideal.rsqrt (v71 V hn h r)

omit hn in
theorem spread_apply (x : FVec Ideal S4x64x1 .f32) (h : Fin 4) (r : Fin 64) (v : Fin 128) :
    broadcastInDim S4x64x128 ![0, 1, 2] bcast_S4x64x1_S4x64x128_0_1_2 x (ix3 h r v) = x (ix3 h r 0) := by
  pointwise []

theorem v77 (h : Fin 4) (r : Fin 64) (v : Fin 128) :
    (res_main_while0b_v77 V : S4x64x128.Idx → EReal) (ix3 h r v) = (at_ V n).o h r v * rs ((at_ V n).o h r) :=
  congrArg₂ (fun a b : EReal => a * b) (v59 V hn h r v) ((spread_apply _ h r v).trans (v72 V hn h r))

omit hn in
theorem weight_apply (g : FVec Ideal S1x128 .f32) (h : Fin 4) (r : Fin 64) (v : Fin 128) :
    broadcastInDim S4x64x128 ![0, 1, 2] bcast_S1x1x128_S4x64x128_0_1_2 (broadcastInDim S1x1x128 ![2] bcast_S128_S1x1x128_2 (shapeCast S128 g shapeCasts_S1x128_S128)) (ix3 h r v)
      = g (ix2 0 v) := by
  pointwise []

theorem v80 (h : Fin 4) (r : Fin 64) (v : Fin 128) :
    (res_main_while0b_v80 V : S4x64x128.Idx → EReal) (ix3 h r v) = (at_ V n).o h r v * rs ((at_ V n).o h r) * (at_ V n).g v :=
  congrArg₂ (fun a b : EReal => a * b) (v77 V hn h r v) (weight_apply _ h r v)

omit hn in
theorem fSg_apply (z : FVec Ideal S4x64x128 .f32) (h : Fin 4) (r : Fin 64) (v : Fin 128) :
    Host.divf (broadcastInDim S4x64x128 ![] bcast_S_S4x64x128 (constant S_ .f32 0x3F800000#32)) (addf (broadcastInDim S4x64x128 ![] bcast_S_S4x64x128 (constant S_ .f32 0x3F800000#32)) (Host.exp (Host.negf z))) (ix3 h r v)
      = sg (z (ix3 h r v)) := by
  pointwise []
  rfl

theorem v81 (h : Fin 4) (r : Fin 64) (v : Fin 128) : (res_main_while0b_v81_2 V : S4x64x128.Idx → EReal) (ix3 h r v) = sg ((at_ V n).z h r v) :=
  (fSg_apply _ h r v).trans (congrArg sg (v52 V hn h r v))
theorem v83 (h : Fin 4) (r : Fin 64) (v : Fin 128) : (res_main_while0b_v83 V : S4x64x128.Idx → EReal) (ix3 h r v)
      = (at_ V n).o h r v * rs ((at_ V n).o h r) * (at_ V n).g v * (at_ V n).d h r v :=
  congrArg₂ (fun a b : EReal => a * b) (v80 V hn h r v) (v53 V hn h r v)
theorem v84 (h : Fin 4) (r : Fin 64) (v : Fin 128) : (res_main_while0b_v84 V : S4x64x128.Idx → EReal) (ix3 h r v) = dy ((at_ V n).z h r v) ((at_ V n).d h r v) :=
  congrArg₂ (fun a b : EReal => a * b) (v53 V hn h r v) (congrArg₂ (fun a b : EReal => a * b) (v52 V hn h r v) (v81 V hn h r v))
theorem v90 (h : Fin 4) (r : Fin 64) (v : Fin 128) : (res_main_while0b_v90 V : S4x64x128.Idx → EReal) (ix3 h r v)
      = dy ((at_ V n).z h r v) ((at_ V n).d h r v) * (at_ V n).g v :=
  congrArg₂ (fun a b : EReal => a * b) (v84 V hn h r v) (weight_apply _ h r v)

omit hn in
theorem fHalf_apply (o w : FVec Ideal S4x64x128 .f32) (p q : FVec Ideal S4x64x1 .f32) (h : Fin 4) (r : Fin 64) (v : Fin 128) :
    broadcastInDim S4x64x128 ![0, 1] bcast_S4x64_S4x64x128_0_1 (Host.reduceAdd (Host.divf (mulf (shapeCast S4x64x1 (Host.reduceAdd (mulf o w) (constant S_ .f32 0x00000000#32) reducesTo_S4x64x128_S4x64_d2 h_S_) shapeCasts_S4x64_S4x64x1) (mulf (broadcastInDim S4x64x1 ![] bcast_S_S4x64x1 (constant S_ .f32 0xBF000000#32)) (Host.divf p q))) (broadcastInDim S4x64x1 ![] bcast_S_S4x64x1 (constant S_ .f32 0x43000000#32))) (constant S_ .f32 0x00000000#32) reducesTo_S4x64x1_S4x64_d2 h_S_) (ix3 h r v)
      = ∑ x : Fin 1, Ideal.div ((∑ k : Fin 128, (o (ix3 h r k) * w (ix3 h r k) : EReal)) * (Ideal.ofBits FTy.f32 3204448256#32 * Ideal.div (p (ix3 h r x)) (q (ix3 h r x))))
          (Ideal.ofBits FTy.f32 1124073472#32) := by
  pointwise []

theorem v101 (h : Fin 4) (r : Fin 64) (v : Fin 128) : (res_main_while0b_v101 V : S4x64x128.Idx → EReal) (ix3 h r v)
      = half ((at_ V n).o h r) (fun k => dy ((at_ V n).z h r k) ((at_ V n).d h r k) * (at_ V n).g k) := by
  refine (fHalf_apply _ _ _ _ h r v).trans (Finset.sum_congr rfl fun x _ => ?_)
  obtain rfl : x = 0 := Subsingleton.elim _ _
  rw [v72 V hn, v71 V hn]
  simp only [v59 V hn, v90 V hn]

theorem v105 (h : Fin 4) (r : Fin 64) (v : Fin 128) : (res_main_while0b_v105 V : S4x64x128.Idx → EReal) (ix3 h r v) = (at_ V n).dO h r v := by
  have e90 := v90 V hn h r v
  have e72 := (spread_apply _ h r v).trans (v72 V hn h r)
  have e59 := v59 V hn h r v
  have e101 := v101 V hn h r v
  exact congrArg₂ (fun a b : EReal => a + b) (congrArg₂ (fun a b : EReal => a + b) (congrArg₂ (fun a b : EReal => a * b) e90 e72)
    (congrArg₂ (fun a b : EReal => a * b) e59 e101)) (congrArg₂ (fun a b : EReal => a * b) e101 e59)

/-! ### What the trip writes -/

variable {S : Fin 4 → Fin 128 → Fin 128 → EReal} (hS : ∀ h k v, (V (Proc.devRef .tc main_v27_11) : S4x128x128.Idx → EReal) (ix3 h k v) = S h k v)

omit hn in
theorem fDu_apply (s : FVec Ideal S4x128x128 .f32) (e d : FVec Ideal S4x64x128 .f32) (t : FVec Ideal S4x64x64 .f32) (h : Fin 4) (r : Fin 64) (v : Fin 128) :
    addf (transpose S4x64x128 [0, 2, 1] (Host.dotGeneral dot_S4x128x128_S4x64x128_S4x128x64_1_2_2_1_0_0 none s e) transposes_S4x128x64_S4x64x128_0_2_1)
        (transpose S4x64x128 [0, 2, 1] (Host.dotGeneral dot_S4x64x128_S4x64x64_S4x128x64_1_1_2_2_0_0 none d t) transposes_S4x128x64_S4x64x128_0_2_1) (ix3 h r v)
      = ((∑ k : Fin 128, (s (ix3 h k v) * e (ix3 h r k) : EReal)) + ∑ k : Fin 64, (d (ix3 h k v) * t (ix3 h k r) : EReal) : EReal) := by
  pointwise []

include hS in
theorem v118 (h : Fin 4) (r : Fin 64) (v : Fin 128) : (res_main_while0b_v118 V : S4x64x128.Idx → EReal) (ix3 h r v) = (at_ V n).du S h r v := by
  refine (fDu_apply _ _ _ _ h r v).trans ?_
  simp only [v49 V hn, v50 V hn, v105 V hn, hS]
  rw [add_comm]
  exact congrArg₂ (fun a b : EReal => a + b) (Finset.sum_congr rfl fun _ _ => mul_comm _ _) (Finset.sum_congr rfl fun _ _ => mul_comm _ _)

include hS in
theorem v124 (h : Fin 4) (r : Fin 64) (v : Fin 128) : (res_main_while0b_v124 V : S4x64x128.Idx → EReal) (ix3 h r v) = -(at_ V n).du S h r v :=
  congrArg (fun e : EReal => -e) (v118 V hn hS h r v)

omit hn in
theorem fNt_apply (a : FVec Ideal S4x64x128 .f32) (s : FVec Ideal S4x128x128 .f32) (h : Fin 4) (r : Fin 64) (k : Fin 128) :
    Host.dotGeneral dot_S4x64x128_S4x128x128_S4x64x128_2_2_1_1_0_0 none a s (ix3 h r k) = (∑ v : Fin 128, (a (ix3 h r v) * s (ix3 h k v) : EReal) : EReal) := by
  pointwise []
omit hn in
theorem fAt_apply (a u : FVec Ideal S4x64x128 .f32) (h : Fin 4) (r s : Fin 64) :
    Host.dotGeneral dot_S4x64x128_S4x64x128_S4x64x64_2_2_1_1_0_0 none a u (ix3 h r s) = (∑ v : Fin 128, (a (ix3 h r v) * u (ix3 h s v) : EReal) : EReal) := by
  pointwise []
omit hn in
theorem fKe_apply (s : FVec Ideal S4x128x128 .f32) (u : FVec Ideal S4x64x128 .f32) (h : Fin 4) (r : Fin 64) (k : Fin 128) :
    transpose S4x64x128 [0, 2, 1] (Host.dotGeneral dot_S4x128x128_S4x64x128_S4x128x64_2_2_1_1_0_0 none s u) transposes_S4x128x64_S4x64x128_0_2_1 (ix3 h r k)
      = (∑ v : Fin 128, (s (ix3 h k v) * u (ix3 h r v) : EReal) : EReal) := by
  pointwise []
omit hn in
theorem fGe_apply (a b : FVec Ideal S4x128x128 .f32) (h : Fin 4) :
    Host.reduceAdd (shapeCast S4x1x1 (Host.reduceAdd (mulf a b) (constant S_ .f32 0x00000000#32) reducesTo_S4x128x128_S4_d1_2 h_S_) shapeCasts_S4_S4x1x1) (constant S_ .f32 0x00000000#32) reducesTo_S4x1x1_S4_d1_2 h_S_ (ix1 h)
      = (∑ _x : Fin 1, ∑ _y : Fin 1, ∑ k : Fin 128, ∑ v : Fin 128, (a (ix3 h k v) * b (ix3 h k v) : EReal) : EReal) := by
  pointwise []
omit hn in
theorem fG_apply (a b : FVec Ideal S4x64x128 .f32) (l : Fin 128) :
    Host.reduceAdd (shapeCast S1x1x128 (Host.reduceAdd (mulf a b) (constant S_ .f32 0x00000000#32) reducesTo_S4x64x128_S128_d0_1 h_S_) shapeCasts_S128_S1x1x128) (constant S_ .f32 0x00000000#32) reducesTo_S1x1x128_S128_d0_1 h_S_ (ix1 l)
      = (∑ h : Fin 4, ∑ r : Fin 64, (a (ix3 h r l) * b (ix3 h r l) : EReal) : EReal) := by
  have e : ∀ y : FVec Ideal S128 .f32, shapeCast S1x1x128 y shapeCasts_S128_S1x1x128 (ix3 0 0 l) = y (ix1 l) := by
    intro y
    pointwise []
  refine (leading_apply _ _ _ l).trans ?_
  rw [Finset.univ_unique, Finset.sum_singleton, Finset.sum_singleton]
  exact (e _).trans (leading_apply _ _ _ l)
omit hn in
theorem fBack_apply (ge : FVec Ideal S4x1x1 .f32) (s : FVec Ideal S4x128x128 .f32) (d q u w : FVec Ideal S4x64x128 .f32) (h : Fin 4) (k v : Fin 128) :
    addf (addf (mulf (broadcastInDim S4x128x128 ![0, 1, 2] bcast_S4x1x1_S4x128x128_0_1_2 ge) s) (transpose S4x128x128 [0, 2, 1] (Host.dotGeneral dot_S4x64x128_S4x64x128_S4x128x128_1_1_2_2_0_0 none d q) transposes_S4x128x128_S4x128x128_0_2_1)) (transpose S4x128x128 [0, 2, 1] (Host.dotGeneral dot_S4x64x128_S4x64x128_S4x128x128_1_1_2_2_0_0 none u w) transposes_S4x128x128_S4x128x128_0_2_1) (ix3 h k v)
      = (ge (ix3 h 0 0) * s (ix3 h k v) + (∑ r : Fin 64, (d (ix3 h r v) * q (ix3 h r k) : EReal)) + ∑ r : Fin 64, (u (ix3 h r v) * w (ix3 h r k) : EReal) : EReal) := by
  pointwise []
omit hn in
theorem fDz_apply (y z s : FVec Ideal S4x64x128 .f32) (h : Fin 4) (r : Fin 64) (v : Fin 128) :
    addf (mulf y s) (mulf (mulf z y) (mulf s (subf (broadcastInDim S4x64x128 ![] bcast_S_S4x64x128 (constant S_ .f32 0x3F800000#32)) s))) (ix3 h r v)
      = (y (ix3 h r v) * s (ix3 h r v) + z (ix3 h r v) * y (ix3 h r v) * (s (ix3 h r v) * (1 - s (ix3 h r v))) : EReal) := by
  pointwise []

theorem dz_at (h : Fin 4) (r : Fin 64) (v : Fin 128) :
    addf (mulf (res_main_while0b_v83 V) (res_main_while0b_v81_2 V)) (mulf (mulf (res_main_while0b_v52 V) (res_main_while0b_v83 V)) (mulf (res_main_while0b_v81_2 V) (subf (broadcastInDim S4x64x128 ![] bcast_S_S4x64x128 (constant S_ .f32 0x3F800000#32)) (res_main_while0b_v81_2 V)))) (ix3 h r v)
      = (at_ V n).dz h r v := by
  refine (fDz_apply _ _ _ h r v).trans ?_
  rw [v83 V hn, v81 V hn, v52 V hn]
  rfl

theorem v60 (h : Fin 4) : (res_main_while0b_v60 V : S4x1x1.Idx → EReal) (ix3 h 0 0) = (at_ V n).ge h := by
  have e : ∀ y : FVec Ideal S1x4 .f32, broadcastInDim S4x1x1 ![0] bcast_S4_S4x1x1_0 (shapeCast S4 y shapeCasts_S1x4_S4) (ix3 h 0 0) = y (ix2 0 h) := by
    intro y
    pointwise []
  exact (e _).trans (slice2 n _ _ _ (start2 hn) h)

include hS in
theorem back_at (h : Fin 4) (k v : Fin 128) : (step_main_v27_11 V : S4x128x128.Idx → EReal) (ix3 h k v) = (at_ V n).backNeg S h k v := by
  refine (fBack_apply _ _ _ _ _ _ h k v).trans ?_
  rw [v60 V hn]
  simp only [v105 V hn, v48 V hn, v124 V hn hS, v47 V hn, hS]
  unfold Chunk.backNeg
  simp only [mul_comm ((at_ V n).qd _ _ _)]

theorem dg_at (l : Fin 128) : (step_main_v27_12 V : S128.Idx → EReal) (ix1 l)
      = prev V l + ∑ h : Fin 4, (at_ V n).dg h l := by
  refine congrArg (fun e : EReal => prev V l + e) ((fG_apply _ _ l).trans ?_)
  simp only [v77 V hn, v84 V hn]
  rfl

end Trip

end Cert.Reference14Ideal.Scan

end
-- ==== Proof.ScanTrips.lean ====
/-
  The reference's loop over the chunks: what it holds after each trip, from what it holds before the first, and the results
  after the last.
-/
module

public import proofs.«01_k».proof.Proof.ScanLoop

@[expose] public section

set_option maxRecDepth 8192

noncomputable section

namespace Cert.Reference14Ideal.Scan

open Idealize.ShloMosaic Idealize.ShloMosaic.TcCoe Idealize.SL.Sem Idealize.ShloMosaic.StableHlo
open Cert.Reference14Ideal Cert.Reference14Ideal.Gen Cert.Reference14Ideal.Value Cert.Scan

/-! ## The arrays stacked by chunk, and back -/

theorem stackHd (x : FVec Ideal S4x2048x128 .f32) (n : Fin 32) (h : Fin 4) (r : Fin 64) (v : Fin 128) :
    transpose S32x4x64x128 [1, 0, 2, 3] (shapeCast S4x32x64x128 x shapeCasts_S4x2048x128_S4x32x64x128) transposes_S4x32x64x128_S32x4x64x128_1_0_2_3 (ix4 n h r v)
      = x (ix3 h (row n r) v) := by
  pointwise []
  refine congrArg x (funext fun a => ?_)
  match a with
  | ⟨0, _⟩ => apply Fin.ext; simp [row]; try omega
  | ⟨1, _⟩ => apply Fin.ext; simp [row]; try omega
  | ⟨2, _⟩ => apply Fin.ext; simp [row]; try omega

theorem stackHc (x : FVec Ideal S4x2048x64 .f32) (n : Fin 32) (h : Fin 4) (r s : Fin 64) :
    transpose S32x4x64x64 [1, 0, 2, 3] (shapeCast S4x32x64x64 x shapeCasts_S4x2048x64_S4x32x64x64) transposes_S4x32x64x64_S32x4x64x64_1_0_2_3 (ix4 n h r s)
      = x (ix3 h (row n r) s) := by
  pointwise []
  refine congrArg x (funext fun a => ?_)
  match a with
  | ⟨0, _⟩ => apply Fin.ext; simp [row]; try omega
  | ⟨1, _⟩ => apply Fin.ext; simp [row]; try omega
  | ⟨2, _⟩ => apply Fin.ext; simp [row]; try omega

theorem stackGe (x : FVec Ideal S32x4x8x128 .f32) (n : Fin 32) (h : Fin 4) :
    shapeCast S32x4 (extractStridedSlice S32x4x1x1 ![0, 0, 0, 0] x slices_S32x4x8x128_S32x4x1x1_0_0_0_0) shapeCasts_S32x4x1x1_S32x4 (ix2 n h) = x (ix4 n h 0 0) := by
  pointwise []

theorem stackZ (x : FVec Ideal S2048x512 .f32) (n : Fin 32) (h : Fin 4) (r : Fin 64) (v : Fin 128) :
    transpose S32x4x64x128 [0, 2, 1, 3] (shapeCast S32x64x4x128 x shapeCasts_S2048x512_S32x64x4x128) transposes_S32x64x4x128_S32x4x64x128_0_2_1_3 (ix4 n h r v)
      = x (ix2 (row n r) ⟨128 * h.val + v.val, by omega⟩) := by
  pointwise []
  refine congrArg x (funext fun a => ?_)
  match a with
  | ⟨0, _⟩ => apply Fin.ext; simp [row]; try omega
  | ⟨1, _⟩ => apply Fin.ext; simp [row]; try omega

theorem unstackHd (x : FVec Ideal S32x4x64x128 .f32) (h : Fin 4) (R : Fin 2048) (v : Fin 128) :
    shapeCast S4x2048x128 (transpose S4x32x64x128 [1, 0, 2, 3] x transposes_S32x4x64x128_S4x32x64x128_1_0_2_3) shapeCasts_S4x32x64x128_S4x2048x128 (ix3 h R v)
      = x (ix4 (ck R) h (rr R) v) := by
  pointwise []
  refine congrArg x (funext fun a => ?_)
  match a with
  | ⟨0, _⟩ => apply Fin.ext; simp [ck, rr, hd, ln]; try omega
  | ⟨1, _⟩ => apply Fin.ext; simp [ck, rr, hd, ln]; try omega
  | ⟨2, _⟩ => apply Fin.ext; simp [ck, rr, hd, ln]; try omega
  | ⟨3, _⟩ => apply Fin.ext; simp [ck, rr, hd, ln]; try omega
theorem unstackHc (x : FVec Ideal S32x4x64x64 .f32) (h : Fin 4) (R : Fin 2048) (s : Fin 64) :
    shapeCast S4x2048x64 (transpose S4x32x64x64 [1, 0, 2, 3] x transposes_S32x4x64x64_S4x32x64x64_1_0_2_3) shapeCasts_S4x32x64x64_S4x2048x64 (ix3 h R s)
      = x (ix4 (ck R) h (rr R) s) := by
  pointwise []
  refine congrArg x (funext fun a => ?_)
  match a with
  | ⟨0, _⟩ => apply Fin.ext; simp [ck, rr, hd, ln]; try omega
  | ⟨1, _⟩ => apply Fin.ext; simp [ck, rr, hd, ln]; try omega
  | ⟨2, _⟩ => apply Fin.ext; simp [ck, rr, hd, ln]; try omega
  | ⟨3, _⟩ => apply Fin.ext; simp [ck, rr, hd, ln]; try omega
theorem unstackZ (x : FVec Ideal S32x4x64x128 .f32) (R : Fin 2048) (l : Fin 512) :
    shapeCast S2048x512 (transpose S32x64x4x128 [0, 2, 1, 3] x transposes_S32x4x64x128_S32x64x4x128_0_2_1_3) shapeCasts_S32x64x4x128_S2048x512 (ix2 R l)
      = x (ix4 (ck R) (hd l) (rr R) (ln l)) := by
  pointwise []
  refine congrArg x (funext fun a => ?_)
  match a with
  | ⟨0, _⟩ => apply Fin.ext; simp [ck, rr, hd, ln]; try omega
  | ⟨1, _⟩ => apply Fin.ext; simp [ck, rr, hd, ln]; try omega
  | ⟨2, _⟩ => apply Fin.ext; simp [ck, rr, hd, ln]; try omega
  | ⟨3, _⟩ => apply Fin.ext; simp [ck, rr, hd, ln]; try omega
theorem unstackGe (x : FVec Ideal S32x4 .f32) (n : Fin 32) (h : Fin 4) (a : Fin 8) (b : Fin 128) :
    broadcastInDim S32x4x8x128 ![0, 1, 2, 3] bcast_S32x4x1x1_S32x4x8x128_0_1_2_3 (broadcastInDim S32x4x1x1 ![0, 1] bcast_S32x4_S32x4x1x1_0_1 x) (ix4 n h a b) = x (ix2 n h) := by
  pointwise []
theorem unstackG (x : FVec Ideal S128 .f32) (l : Fin 128) : broadcastInDim S1x128 ![1] bcast_S128_S1x128_1 x (ix2 0 l) = x (ix1 l) := by
  pointwise []
theorem liftHd (x : FVec Ideal S4x64x128 .f32) (h : Fin 4) (r : Fin 64) (v : Fin 128) :
    broadcastInDim S1x4x64x128 ![1, 2, 3] bcast_S4x64x128_S1x4x64x128_1_2_3 x (ix4 0 h r v) = x (ix3 h r v) := by
  pointwise []
theorem liftHc (x : FVec Ideal S4x64x64 .f32) (h : Fin 4) (r s : Fin 64) :
    broadcastInDim S1x4x64x64 ![1, 2, 3] bcast_S4x64x64_S1x4x64x64_1_2_3 x (ix4 0 h r s) = x (ix3 h r s) := by
  pointwise []
theorem liftGe (x : FVec Ideal S4 .f32) (h : Fin 4) : broadcastInDim S1x4 ![1] bcast_S4_S1x4_1 x (ix2 0 h) = x (ix1 h) := by
  pointwise []

/-! ## Before the first trip -/

variable (m : (ℓ : Loc nD τ sig) → Buf (Elt Ideal) ℓ) (c : Dev nD)

/-- The arguments. -/
def args : Arrays where
  uv := m ((c : Thread nD τ).loc main_arg0)
  wk := m ((c : Thread nD τ).loc main_arg1)
  qd := m ((c : Thread nD τ).loc main_arg2)
  ke := m ((c : Thread nD τ).loc main_arg3)
  att := m ((c : Thread nD τ).loc main_arg4)
  ge := m ((c : Thread nD τ).loc main_arg5)
  z := m ((c : Thread nD τ).loc main_arg6)
  g := m ((c : Thread nD τ).loc main_arg7)
  st := m ((c : Thread nD τ).loc main_arg8)
  d := m ((c : Thread nD τ).loc main_arg9)

/-- What the loop starts from. -/
abbrev start : Valuation τ sig (Elt Ideal) := entryContents preI m c

set_option maxRecDepth 65536 in
set_option maxHeartbeats 1600000 in
theorem start_reads :
    start m c (Proc.devRef .tc main_v27_0) = m ((c : Thread nD τ).loc main_arg8)
    ∧ start m c (Proc.devRef .tc main_v27_1) = transpose S32x4x64x128 [1, 0, 2, 3] (shapeCast S4x32x64x128 (m ((c : Thread nD τ).loc main_arg0)) shapeCasts_S4x2048x128_S4x32x64x128) transposes_S4x32x64x128_S32x4x64x128_1_0_2_3
    ∧ start m c (Proc.devRef .tc main_v27_2) = transpose S32x4x64x128 [1, 0, 2, 3] (shapeCast S4x32x64x128 (m ((c : Thread nD τ).loc main_arg1)) shapeCasts_S4x2048x128_S4x32x64x128) transposes_S4x32x64x128_S32x4x64x128_1_0_2_3
    ∧ start m c (Proc.devRef .tc main_v27_3) = transpose S32x4x64x128 [1, 0, 2, 3] (shapeCast S4x32x64x128 (m ((c : Thread nD τ).loc main_arg2)) shapeCasts_S4x2048x128_S4x32x64x128) transposes_S4x32x64x128_S32x4x64x128_1_0_2_3
    ∧ start m c (Proc.devRef .tc main_v27_4) = transpose S32x4x64x128 [1, 0, 2, 3] (shapeCast S4x32x64x128 (m ((c : Thread nD τ).loc main_arg3)) shapeCasts_S4x2048x128_S4x32x64x128) transposes_S4x32x64x128_S32x4x64x128_1_0_2_3
    ∧ start m c (Proc.devRef .tc main_v27_5) = transpose S32x4x64x64 [1, 0, 2, 3] (shapeCast S4x32x64x64 (m ((c : Thread nD τ).loc main_arg4)) shapeCasts_S4x2048x64_S4x32x64x64) transposes_S4x32x64x64_S32x4x64x64_1_0_2_3
    ∧ start m c (Proc.devRef .tc main_v27_6) = shapeCast S32x4 (extractStridedSlice S32x4x1x1 ![0, 0, 0, 0] (m ((c : Thread nD τ).loc main_arg5)) slices_S32x4x8x128_S32x4x1x1_0_0_0_0) shapeCasts_S32x4x1x1_S32x4
    ∧ start m c (Proc.devRef .tc main_v27_7) = transpose S32x4x64x128 [0, 2, 1, 3] (shapeCast S32x64x4x128 (extractStridedSlice S2048x512 ![0, 1536] (m ((c : Thread nD τ).loc main_arg6)) slices_S2048x3840_S2048x512_0_1536) shapeCasts_S2048x512_S32x64x4x128) transposes_S32x64x4x128_S32x4x64x128_0_2_1_3
    ∧ start m c (Proc.devRef .tc main_v27_8) = transpose S32x4x64x128 [0, 2, 1, 3] (shapeCast S32x64x4x128 (extractStridedSlice S2048x512 ![0, 0] (m ((c : Thread nD τ).loc main_arg9)) slices_S2048x1024_S2048x512_0_0) shapeCasts_S2048x512_S32x64x4x128) transposes_S32x64x4x128_S32x4x64x128_0_2_1_3
    ∧ start m c (Proc.devRef .tc main_v27_9) = m ((c : Thread nD τ).loc main_arg7)
    ∧ start m c (Proc.devRef .tc main_v27_10) = constantI S_ 32 (BitVec.ofNat 32 0)
    ∧ start m c (Proc.devRef .tc main_v27_11) = broadcastInDim S4x128x128 ![] bcast_S_S4x128x128 (constant (F := Ideal) S_ .f32 0x00000000#32)
    ∧ start m c (Proc.devRef .tc main_v27_12) = broadcastInDim S128 ![] bcast_S_S128 (constant (F := Ideal) S_ .f32 0x00000000#32) := by
  refine ⟨?_, ?_, ?_, ?_, ?_, ?_, ?_, ?_, ?_, ?_, ?_, ?_, ?_⟩ <;> (simp only [start, entryContents, afterL_cons, afterL_nil]; after_reads_simp) <;> rfl

theorem gate_apply (x : FVec Ideal S2048x3840 .f32) (R : Fin 2048) (l : Fin 512) :
    extractStridedSlice S2048x512 ![0, 1536] x slices_S2048x3840_S2048x512_0_1536 (ix2 R l) = x (ix2 R ⟨1536 + l.val, by omega⟩) := by
  pointwise []
theorem half_apply (x : FVec Ideal S2048x1024 .f32) (R : Fin 2048) (l : Fin 512) :
    extractStridedSlice S2048x512 ![0, 0] x slices_S2048x1024_S2048x512_0_0 (ix2 R l) = x (ix2 R ⟨l.val, by omega⟩) := by
  pointwise []

theorem start_at (n : Fin 32) : at_ (start m c) n = (args m c).chunk n := by
  obtain ⟨e0, e1, e2, e3, e4, e5, e6, e7, e8, e9, -⟩ := start_reads m c
  refine Chunk.ext ?_ ?_ ?_ ?_ ?_ ?_ ?_ ?_ ?_ ?_
  · funext h k v; exact congrFun e0 _
  · funext h r v; exact (congrFun e1 _).trans (stackHd _ n h r v)
  · funext h r v; exact (congrFun e2 _).trans (stackHd _ n h r v)
  · funext h r v; exact (congrFun e3 _).trans (stackHd _ n h r v)
  · funext h r v; exact (congrFun e4 _).trans (stackHd _ n h r v)
  · funext h r s; exact (congrFun e5 _).trans (stackHc _ n h r s)
  · funext h; exact (congrFun e6 _).trans (stackGe _ n h)
  · funext h r v; exact ((congrFun e7 _).trans (stackZ _ n h r v)).trans (gate_apply _ _ _)
  · funext h r v; exact ((congrFun e8 _).trans (stackZ _ n h r v)).trans (half_apply _ _ _)
  · funext v; exact congrFun e9 _

/-! ## One trip after another -/

/-- What the loop holds after `k` trips: the arrays it reads, the gradient of the state, the norm's weight's, and in the stacked
    results the chunks handled so far. -/
structure Holds (A : Arrays) (V : Valuation τ sig (Elt Ideal)) (k : ℕ) : Prop where
  trip : V (Proc.devRef .tc main_v27_10) = constantI S_ 32 (BitVec.ofNat 32 k)
  arrays : ∀ n, at_ V n = A.chunk n
  ds : ∀ h a b, (V (Proc.devRef .tc main_v27_11) : S4x128x128.Idx → EReal) (ix3 h a b) = A.dsNeg k h a b
  dg : ∀ l, prev V l = A.gsum k l
  uv : ∀ p a b l, 32 ≤ p.val + k → (V (Proc.devRef .tc main_v27_13) : S32x4x64x128.Idx → EReal) (ix4 p a b l) = (A.chunk p).du (A.dsNeg (31 - p.val)) a b l
  wk : ∀ p a b l, 32 ≤ p.val + k → (V (Proc.devRef .tc main_v27_14) : S32x4x64x128.Idx → EReal) (ix4 p a b l) = (A.chunk p).dwkNeg (A.dsNeg (31 - p.val)) a b l
  qd : ∀ p a b l, 32 ≤ p.val + k → (V (Proc.devRef .tc main_v27_15) : S32x4x64x128.Idx → EReal) (ix4 p a b l) = (A.chunk p).dqd a b l
  ke : ∀ p a b l, 32 ≤ p.val + k → (V (Proc.devRef .tc main_v27_16) : S32x4x64x128.Idx → EReal) (ix4 p a b l) = (A.chunk p).dke (A.dsNeg (31 - p.val)) a b l
  att : ∀ p a b l, 32 ≤ p.val + k → (V (Proc.devRef .tc main_v27_17) : S32x4x64x64.Idx → EReal) (ix4 p a b l) = (A.chunk p).datt a b l
  ge : ∀ p a, 32 ≤ p.val + k → (V (Proc.devRef .tc main_v27_18) : S32x4.Idx → EReal) (ix2 p a) = (A.chunk p).dge (A.dsNeg (31 - p.val)) a
  z : ∀ p a b l, 32 ≤ p.val + k → (V (Proc.devRef .tc main_v27_19) : S32x4x64x128.Idx → EReal) (ix4 p a b l) = (A.chunk p).dz a b l

theorem holds_start : Holds (args m c) (start m c) 0 := by
  obtain ⟨-, -, -, -, -, -, -, -, -, -, e10, e11, e12⟩ := start_reads m c
  refine ⟨e10, start_at m c, fun h a b => ?_, fun l => ?_, fun p a b l hp => absurd p.isLt (by omega), fun p a b l hp => absurd p.isLt (by omega),
    fun p a b l hp => absurd p.isLt (by omega), fun p a b l hp => absurd p.isLt (by omega), fun p a b l hp => absurd p.isLt (by omega),
    fun p a hp => absurd p.isLt (by omega), fun p a b l hp => absurd p.isLt (by omega)⟩
  · exact (congrFun e11 _).trans (show (Ideal.ofBits .f32 0x00000000#32 : EReal) = 0 from Ideal.ofBits_zero_f32)
  · exact (congrFun e12 _).trans (show (Ideal.ofBits .f32 0x00000000#32 : EReal) = 0 from Ideal.ofBits_zero_f32)

theorem chunk_step {B C : ℕ} {k : ℕ} (hk : k < 32) {f : Fin 32 → Fin 4 → Fin B → Fin C → EReal} {x : (⟨4, ![32, 4, B, C]⟩ : Shape).Idx → EReal}
    {y : (⟨4, ![1, 4, B, C]⟩ : Shape).Idx → EReal} {start : Fin 4 → Int} (h) (he : ∀ a, start a = ((![(rev k).val, 0, 0, 0] : Fin 4 → ℕ) a : ℤ))
    (hx : ∀ p a b c, 32 ≤ p.val + k → x (ix4 p a b c) = f p a b c) (hy : ∀ a b c, y (ix4 0 a b c) = f (rev k) a b c) (p : Fin 32) (a : Fin 4) (b : Fin B)
    (c : Fin C) (hp : 32 ≤ p.val + (k + 1)) :
    Host.dynamicUpdateSlice (s := ⟨4, ![32, 4, B, C]⟩) (u := ⟨4, ![1, 4, B, C]⟩) x y start h (ix4 p a b c) = f p a b c := by
  rw [update4 (rev k) x y start h he]
  have hr := rev_val hk
  by_cases e : p = rev k
  · rw [if_pos e, e]; exact hy a b c
  · rw [if_neg e]
    exact hx p a b c (by
      have : p.val ≠ (rev k).val := fun h => e (Fin.ext h)
      omega)

theorem head_step {k : ℕ} (hk : k < 32) {f : Fin 32 → Fin 4 → EReal} {x : (⟨2, ![32, 4]⟩ : Shape).Idx → EReal}
    {y : (⟨2, ![1, 4]⟩ : Shape).Idx → EReal} {start : Fin 2 → Int} (h) (he : ∀ a, start a = ((![(rev k).val, 0] : Fin 2 → ℕ) a : ℤ))
    (hx : ∀ p a, 32 ≤ p.val + k → x (ix2 p a) = f p a) (hy : ∀ a, y (ix2 0 a) = f (rev k) a) (p : Fin 32) (a : Fin 4) (hp : 32 ≤ p.val + (k + 1)) :
    Host.dynamicUpdateSlice (s := ⟨2, ![32, 4]⟩) (u := ⟨2, ![1, 4]⟩) x y start h (ix2 p a) = f p a := by
  rw [update2 (rev k) x y start h he]
  have hr := rev_val hk
  by_cases e : p = rev k
  · rw [if_pos e, e]; exact hy a
  · rw [if_neg e]
    exact hx p a (by
      have : p.val ≠ (rev k).val := fun h => e (Fin.ext h)
      omega)

theorem trip_word : ∀ k : Fin 32, 32#32 - BitVec.ofNat 32 k.val - 1#32 = BitVec.ofNat 32 (rev k.val).val := by decide

theorem keeps_at (V : Valuation τ sig (Elt Ideal)) (n : Fin 32) : at_ (STEP V) n = at_ V n := by
  unfold at_
  rw [STEP_main_v27_0, STEP_main_v27_1, STEP_main_v27_2, STEP_main_v27_3, STEP_main_v27_4, STEP_main_v27_5, STEP_main_v27_6, STEP_main_v27_7, STEP_main_v27_8,
    STEP_main_v27_9]

theorem holds_step {A : Arrays} {V : Valuation τ sig (Elt Ideal)} {k : ℕ} (hk : k < 32) (H : Holds A V k) : Holds A (STEP V) (k + 1) := by
  have hn : res_main_while0b_v44 V = constantI S_ 32 (BitVec.ofNat 32 (rev k).val) := by
    unfold res_main_while0b_v44
    rw [H.trip]
    funext i
    exact trip_word ⟨k, hk⟩
  have hX : at_ V (rev k) = A.chunk (rev k) := H.arrays _
  have hS := H.ds
  have h31 : A.dsNeg (31 - (rev k).val) = A.dsNeg k := congrArg A.dsNeg (by rw [rev_val hk]; omega)
  refine ⟨?_, fun n => (keeps_at V n).trans (H.arrays n), fun h a b => ?_, fun l => ?_, fun p a b l hp => ?_, fun p a b l hp => ?_,
    fun p a b l hp => ?_, fun p a b l hp => ?_, fun p a b l hp => ?_, fun p a hp => ?_, fun p a b l hp => ?_⟩
  · rw [STEP_main_v27_10]
    unfold step_main_v27_10
    rw [H.trip]
    funext i
    show BitVec.ofNat 32 k + 1#32 = BitVec.ofNat 32 (k + 1)
    simp only [BitVec.ofNat_add]
  · refine (congrFun (STEP_main_v27_11 V) _).trans ((back_at V hn hS h a b).trans ?_)
    rw [hX]; rfl
  · refine (congrFun (STEP_main_v27_12 V) _).trans ((dg_at V hn l).trans ?_)
    rw [hX, H.dg]
    exact (Finset.sum_range_succ (fun n => ∑ h : Fin 4, (A.chunk (rev n)).dg h l) k).symm
  · refine (congrFun (STEP_main_v27_13 V) _).trans (chunk_step hk (f := fun p => (A.chunk p).du (A.dsNeg (31 - p.val))) updateFits_S32x4x64x128_S1x4x64x128 (start4 hn) H.uv (fun a b l => ?_) p a b l hp)
    refine (liftHd _ a b l).trans ((v118 V hn hS a b l).trans ?_)
    rw [hX, h31]
  · refine (congrFun (STEP_main_v27_14 V) _).trans (chunk_step hk (f := fun p => (A.chunk p).dwkNeg (A.dsNeg (31 - p.val))) updateFits_S32x4x64x128_S1x4x64x128 (start4 hn) H.wk (fun a b l => ?_) p a b l hp)
    refine (liftHd _ a b l).trans ((fNt_apply _ _ a b l).trans ?_)
    simp only [v124 V hn hS, v45 V hn]
    rw [hX, h31]; rfl
  · refine (congrFun (STEP_main_v27_15 V) _).trans (chunk_step hk (f := fun p => (A.chunk p).dqd) updateFits_S32x4x64x128_S1x4x64x128 (start4 hn) H.qd (fun a b l => ?_) p a b l hp)
    refine (liftHd _ a b l).trans ((fNt_apply _ _ a b l).trans ?_)
    simp only [v105 V hn, v45 V hn]
    rw [hX]; rfl
  · refine (congrFun (STEP_main_v27_16 V) _).trans (chunk_step hk (f := fun p => (A.chunk p).dke (A.dsNeg (31 - p.val))) updateFits_S32x4x64x128_S1x4x64x128 (start4 hn) H.ke (fun a b l => ?_) p a b l hp)
    refine (liftHd _ a b l).trans ((fKe_apply _ _ a b l).trans ?_)
    simp only [v56 V hn, hS]
    rw [hX, h31]
    exact Finset.sum_congr rfl fun _ _ => mul_comm _ _
  · refine (congrFun (STEP_main_v27_17 V) _).trans (chunk_step hk (f := fun p => (A.chunk p).datt) updateFits_S32x4x64x64_S1x4x64x64 (start4 hn) H.att (fun a b l => ?_) p a b l hp)
    refine (liftHc _ a b l).trans ((fAt_apply _ _ a b l).trans ?_)
    simp only [v105 V hn, v56 V hn]
    rw [hX]; rfl
  · refine (congrFun (STEP_main_v27_18 V) _).trans (head_step hk (f := fun p => (A.chunk p).dge (A.dsNeg (31 - p.val))) updateFits_S32x4_S1x4 (start2 hn) H.ge (fun a => ?_) p a hp)
    refine (liftGe _ a).trans ((fGe_apply _ _ a).trans ?_)
    simp only [v45 V hn, hS, Finset.univ_unique, Finset.sum_singleton]
    rw [hX, h31]
    exact Finset.sum_congr rfl fun _ _ => Finset.sum_congr rfl fun _ _ => mul_comm _ _
  · refine (congrFun (STEP_main_v27_19 V) _).trans (chunk_step hk (f := fun p => (A.chunk p).dz) updateFits_S32x4x64x128_S1x4x64x128 (start4 hn) H.z (fun a b l => ?_) p a b l hp)
    refine (liftHd _ a b l).trans ((dz_at V hn a b l).trans ?_)
    rw [hX]

theorem holds_after : ∀ k : ℕ, k ≤ 32 → Holds (args m c) (STEP^[k] (start m c)) k
  | 0 => fun _ => holds_start m c
  | k + 1 => fun h => by
    rw [Function.iterate_succ_apply']
    exact holds_step (by omega) (holds_after k (by omega))

/-! ## The results, where the arguments are finite -/

theorem results (hA : ∀ n, ((args m c).chunk n).Real) :
    out_main_v29 (STEP^[32] (start m c)) = (args m c).dUv ∧ out_main_v31 (STEP^[32] (start m c)) = (args m c).dWk
    ∧ out_main_v33 (STEP^[32] (start m c)) = (args m c).dQd ∧ out_main_v35 (STEP^[32] (start m c)) = (args m c).dKe
    ∧ out_main_v37 (STEP^[32] (start m c)) = (args m c).dAtt ∧ out_main_v39 (STEP^[32] (start m c)) = (args m c).dGe
    ∧ out_main_v41 (STEP^[32] (start m c)) = (args m c).dZ ∧ out_main_v42 (STEP^[32] (start m c)) = (args m c).dG := by
  have H := holds_after m c 32 (le_refl _)
  have hN : ∀ k, (args m c).dsNeg k = (args m c).ds k := Arrays.dsNeg_eq hA
  refine ⟨?_, ?_, ?_, ?_, ?_, ?_, ?_, ?_⟩
  · funext i
    obtain ⟨h, R, l, rfl⟩ : ∃ (h : Fin 4) (R : Fin 2048) (l : Fin 128), i = ix3 h R l := ⟨i 0, i 1, i 2, eq_ix3 i⟩
    refine (unstackHd _ h R l).trans ((H.uv _ _ _ _ (by omega)).trans ?_)
    rw [hN]; rfl
  · funext i
    obtain ⟨h, R, l, rfl⟩ : ∃ (h : Fin 4) (R : Fin 2048) (l : Fin 128), i = ix3 h R l := ⟨i 0, i 1, i 2, eq_ix3 i⟩
    refine (unstackHd _ h R l).trans ((H.wk _ _ _ _ (by omega)).trans ?_)
    rw [hN]
    exact Chunk.dwkNeg_eq (hA _) (Arrays.real_ds hA _) _ _ _
  · funext i
    obtain ⟨h, R, l, rfl⟩ : ∃ (h : Fin 4) (R : Fin 2048) (l : Fin 128), i = ix3 h R l := ⟨i 0, i 1, i 2, eq_ix3 i⟩
    exact (unstackHd _ h R l).trans (H.qd _ _ _ _ (by omega))
  · funext i
    obtain ⟨h, R, l, rfl⟩ : ∃ (h : Fin 4) (R : Fin 2048) (l : Fin 128), i = ix3 h R l := ⟨i 0, i 1, i 2, eq_ix3 i⟩
    refine (unstackHd _ h R l).trans ((H.ke _ _ _ _ (by omega)).trans ?_)
    rw [hN]; rfl
  · funext i
    obtain ⟨h, R, l, rfl⟩ : ∃ (h : Fin 4) (R : Fin 2048) (l : Fin 64), i = ix3 h R l := ⟨i 0, i 1, i 2, eq_ix3 i⟩
    exact (unstackHc _ h R l).trans (H.att _ _ _ _ (by omega))
  · funext i
    obtain ⟨n, h, a, b, rfl⟩ : ∃ (n : Fin 32) (h : Fin 4) (a : Fin 8) (b : Fin 128), i = ix4 n h a b := ⟨i 0, i 1, i 2, i 3, eq_ix4 i⟩
    refine (unstackGe _ n h a b).trans ((H.ge _ _ (by omega)).trans ?_)
    rw [hN]; rfl
  · funext i
    obtain ⟨R, l, rfl⟩ : ∃ (R : Fin 2048) (l : Fin 512), i = ix2 R l := ⟨i 0, i 1, eq_ix2 i⟩
    exact (unstackZ _ R l).trans (H.z _ _ _ _ (by omega))
  · funext i
    obtain ⟨u, l, rfl⟩ : ∃ (u : Fin 1) (l : Fin 128), i = ix2 u l := ⟨i 0, i 1, eq_ix2 i⟩
    obtain rfl : u = 0 := Subsingleton.elim _ _
    exact (unstackG _ l).trans (H.dg l)

end Cert.Reference14Ideal.Scan

end
-- ==== Proof.ScanFinite.lean ====
/-
  What the backward scan's precondition says: every entry of every argument is a real number.
-/
module

public import proofs.«01_k».proof.Pre_finite14
public import proofs.«01_k».proof.Proof.ScanChain
public import Idealize.ShloMosaic.Lib.ReduceAll

@[expose] public section

noncomputable section

namespace Cert.Scan

open Idealize.ShloMosaic

/-- "All absolute values are below infinity" makes every entry a real number. -/
theorem real_of_all {s u t : Shape} {axes : List (Fin s.rank)} [Subsingleton t.Idx] (x : FVec Ideal s .f32) (bound : FVec Ideal s .f32)
    (hb : ∀ i, bound i = (⊤ : EReal)) (init : u.Idx → BitVec 1) (h : s.ReducesTo axes t) (hu : 0 < u.numel) (j : t.Idx)
    (e : Host.reduce IntOp.andi (cmpf .olt (Host.absf x) bound) init h hu j = 1#1) (i : s.Idx) : IsReal (x i) := by
  have e1 := Host.reduce_andi_all _ _ h hu j e i
  have e2 : Ideal.cmp .olt (max (x i : EReal) (-(x i : EReal))) (bound i) = 1#1 := e1
  rw [hb i] at e2
  have hlt : max (x i : EReal) (-(x i : EReal)) < ⊤ := by
    by_contra hn
    unfold Ideal.cmp at e2
    simp [hn] at e2
  rw [max_lt_iff] at hlt
  have h1 : (x i : EReal) ≠ ⊤ := hlt.1.ne
  have h2 : (x i : EReal) ≠ ⊥ := by
    intro hh
    rw [hh] at hlt
    simp at hlt
  exact ⟨EReal.toReal (x i), (EReal.coe_toReal h1 h2).symm⟩

/-- The float word of infinity is infinity. -/
theorem infinity : Ideal.ofBits .f32 0x7F800000#32 = ⊤ := by simp [Ideal.ofBits, Ideal.ieee]

/-- A conjunction of two bits that is one. -/
theorem and_one {a b : BitVec 1} (h : IntOp.andi a b = 1#1) : a = 1#1 ∧ b = 1#1 := by
  revert h; revert a b; decide

open Cert.Pre_finite14 in
/-- The precondition, argument by argument. -/
theorem reals_of_finite [Cert.Pre_finite14.Facts] (x0 x1 x2 x3 : FVec Ideal S4x2048x128 .f32) (x4 : FVec Ideal S4x2048x64 .f32)
    (x5 : FVec Ideal S32x4x8x128 .f32) (x6 : FVec Ideal S2048x3840 .f32) (x7 : FVec Ideal S1x128 .f32) (x8 : FVec Ideal S32x4x128x128 .f32)
    (x9 : FVec Ideal S2048x1024 .f32) (h : Cert.Pre_finite14.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) := by
  haveI : Subsingleton S_.Idx := ⟨fun a b => funext fun i => i.elim0⟩
  have e := congrFun h (fun a => a.elim0)
  unfold fn fn_part1 fn_part2 at e
  dsimp only at e
  obtain ⟨e, r9⟩ := and_one e
  obtain ⟨e, r8⟩ := and_one e
  obtain ⟨e, r7⟩ := and_one e
  obtain ⟨e, r6⟩ := and_one e
  obtain ⟨e, r5⟩ := and_one e
  obtain ⟨e, r4⟩ := and_one e
  obtain ⟨e, r3⟩ := and_one e
  obtain ⟨e, r2⟩ := and_one e
  obtain ⟨r0, r1⟩ := and_one e
  exact ⟨real_of_all x0 _ (fun _ => infinity) _ _ _ _ r0, real_of_all x1 _ (fun _ => infinity) _ _ _ _ r1,
    real_of_all x2 _ (fun _ => infinity) _ _ _ _ r2, real_of_all x3 _ (fun _ => infinity) _ _ _ _ r3,
    real_of_all x4 _ (fun _ => infinity) _ _ _ _ r4, real_of_all x5 _ (fun _ => infinity) _ _ _ _ r5,
    real_of_all x6 _ (fun _ => infinity) _ _ _ _ r6, real_of_all x7 _ (fun _ => infinity) _ _ _ _ r7,
    real_of_all x8 _ (fun _ => infinity) _ _ _ _ r8, real_of_all x9 _ (fun _ => infinity) _ _ _ _ r9⟩

/-- The chunks of arrays of real numbers. -/
theorem Arrays.real (A : Arrays) (huv : ∀ i, IsReal (A.uv i)) (hwk : ∀ i, IsReal (A.wk i)) (hqd : ∀ i, IsReal (A.qd i)) (hke : ∀ i, IsReal (A.ke i))
    (hatt : ∀ i, IsReal (A.att i)) (hge : ∀ i, IsReal (A.ge i)) (hz : ∀ i, IsReal (A.z i)) (hg : ∀ i, IsReal (A.g i)) (hst : ∀ i, IsReal (A.st i))
    (hd : ∀ i, IsReal (A.d i)) (n : Fin 32) : (A.chunk n).Real :=
  ⟨fun _ _ _ => hst _, fun _ _ _ => huv _, fun _ _ _ => hwk _, fun _ _ _ => hqd _, fun _ _ _ => hke _, fun _ _ _ => hatt _, fun _ => hge _,
    fun _ _ _ => hz _, fun _ _ _ => hd _, fun _ => hg _⟩

end Cert.Scan

end
-- ==== Proof.ScanBack.lean ====
/-
  The backward scan: the kernel's grid and the reference's loop run the same chain over the thirty-two chunks, where every entry
  of the arguments is a real number (the two subtract the same products, one before and one after the sum, which differ at
  infinities).
-/
module

public import proofs.«01_k».proof.Defs
public import proofs.«01_k».proof.Proof.ScanKernel
public import proofs.«01_k».proof.Proof.ScanTrips
public import proofs.«01_k».proof.Proof.ScanFinite
public import Idealize.ShloMosaic.Lib.KernelVsHost
public import Idealize.ShloMosaic.Lib.Quiescent

@[expose] public section

set_option maxRecDepth 16384

noncomputable section

namespace Cert.Proof

open Idealize.ShloMosaic Idealize.ShloMosaic.TcCoe Idealize.SL.Sem Cert.Scan

theorem reference_frame14 : Cert.quiescent_Reference14Ideal := by
  intro m g _
  exact (θ_run Cert.Reference14Ideal.defs _ _).mono
    (fun r h => ⟨fun c => (h c).2.2.2.2.2.2.2.2, sem_eq_zero_of_no_sems (by decide) r.2⟩) (Cert.Reference14Ideal.Value.run (F := Ideal) m g)

theorem reference_frame14_pre [Cert.Pre_finite14.Facts] : Cert.quiescent_Reference14Ideal_pre_finite14 :=
  fun m g _ => reference_frame14 m g trivial

/-- Equal arguments make equal arrays. -/
theorem args_eq (m' : (ℓ : Loc Cert.Reference14Ideal.nD Cert.Reference14Ideal.τ Cert.Reference14Ideal.sig) → Buf (Elt Ideal) ℓ)
    (c : Dev Cert.Kernel14Ideal.nD) {a0 a1 a2 a3 a4 a5 a6 a7 a8 a9}
    (e0 : (Cert.Reference14Ideal.Scan.args m' c).uv = a0) (e1 : (Cert.Reference14Ideal.Scan.args m' c).wk = a1)
    (e2 : (Cert.Reference14Ideal.Scan.args m' c).qd = a2) (e3 : (Cert.Reference14Ideal.Scan.args m' c).ke = a3)
    (e4 : (Cert.Reference14Ideal.Scan.args m' c).att = a4) (e5 : (Cert.Reference14Ideal.Scan.args m' c).ge = a5)
    (e6 : (Cert.Reference14Ideal.Scan.args m' c).z = a6) (e7 : (Cert.Reference14Ideal.Scan.args m' c).g = a7)
    (e8 : (Cert.Reference14Ideal.Scan.args m' c).st = a8) (e9 : (Cert.Reference14Ideal.Scan.args m' c).d = a9) :
    Cert.Reference14Ideal.Scan.args m' c = ⟨a0, a1, a2, a3, a4, a5, a6, a7, a8, a9⟩ := by
  rw [← e0, ← e1, ← e2, ← e3, ← e4, ← e5, ← e6, ← e7, ← e8, ← e9]

/-- The backward scan: the kernel and its reference compute the same eight arrays. -/
theorem algebraic14 [Cert.Pre_finite14.Facts] : Cert.algebraic_Kernel14Ideal_Reference14Ideal_pre_finite14 := by
  intro m g m' g' hpre hargs
  have hA : ∀ c n, ((Cert.Kernel14Ideal.Scan.args m c).chunk n).Real := fun c n => by
    obtain ⟨r0, r1, r2, r3, r4, r5, r6, r7, r8, r9⟩ := reals_of_finite _ _ _ _ _ _ _ _ _ _ (hpre c)
    exact Arrays.real _ r0 r1 r2 r3 r4 r5 r6 r7 r8 r9 n
  refine ⟨fun c => (Cert.Kernel14Ideal.Scan.args m c).dUv, fun c => (Cert.Kernel14Ideal.Scan.args m c).dWk, fun c => (Cert.Kernel14Ideal.Scan.args m c).dQd,
    fun c => (Cert.Kernel14Ideal.Scan.args m c).dKe, fun c => (Cert.Kernel14Ideal.Scan.args m c).dAtt, fun c => (Cert.Kernel14Ideal.Scan.args m c).dGe,
    fun c => (Cert.Kernel14Ideal.Scan.args m c).dZ, fun c => (Cert.Kernel14Ideal.Scan.args m c).dG, ?_, ?_⟩
  · refine (θ_run Cert.Kernel14Ideal.defs _ _).mono (fun r h c => ?_) (Cert.Kernel14Ideal.Value.run_blocks (F := Ideal) m g)
    obtain ⟨h0, h1, h2, h3, h4, h5, h6, h7, ha⟩ := h c
    exact ⟨h0.trans (Cert.Kernel14Ideal.Scan.final_uv m c), h1.trans (Cert.Kernel14Ideal.Scan.final_wk m c), h2.trans (Cert.Kernel14Ideal.Scan.final_qd m c),
      h3.trans (Cert.Kernel14Ideal.Scan.final_ke m c), h4.trans (Cert.Kernel14Ideal.Scan.final_att m c), h5.trans (Cert.Kernel14Ideal.Scan.final_ge m c),
      h6.trans (Cert.Kernel14Ideal.Scan.final_z m c), h7.trans (Cert.Kernel14Ideal.Scan.final_g m c), ha⟩
  · refine (θ_run Cert.Reference14Ideal.defs _ _).mono (fun r h c => ?_) (Cert.Reference14Ideal.Value.run (F := Ideal) m' g')
    obtain ⟨h0, h1, h2, h3, h4, h5, h6, h7, ha⟩ := h c
    obtain ⟨e0, e1, e2, e3, e4, e5, e6, e7, e8, e9⟩ := hargs c
    have e : Cert.Reference14Ideal.Scan.args m' c = Cert.Kernel14Ideal.Scan.args m c := args_eq m' c e0 e1 e2 e3 e4 e5 e6 e7 e8 e9
    have R := Cert.Reference14Ideal.Scan.results m' c (fun n => by rw [e]; exact hA c n)
    rw [e] at R
    obtain ⟨q0, q1, q2, q3, q4, q5, q6, q7⟩ := R
    exact ⟨h0.trans q0, h1.trans q1, h2.trans q2, h3.trans q3, h4.trans q4, h5.trans q5, h6.trans q6, h7.trans q7, ha⟩

end Cert.Proof

end
-- ==== Proof.ScanForeRun.lean ====
/-
  What one grid point of the forward scan's kernel stores: four chunks' output rows and the state before each of them, worked
  from the first chunk to the last; the state after the last is handed to the next point.
-/
module

public import proofs.«01_k».proof.Proof.Gen.Kernel15Ideal.Frame
public import Idealize.ShloMosaic.Lib.Pipeline.ReadBack
public import Idealize.ShloMosaic.Lib.Pipeline.ValueKit.Acc

@[expose] public section

set_option maxRecDepth 16384

noncomputable section

namespace Cert.Kernel15Ideal.Scan

open Cert.Kernel15Ideal Cert.Kernel15Ideal.Gen
open Idealize.ShloMosaic Idealize.ShloMosaic.TcCoe Idealize.SL.Sem

theorem hz : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

variable {F : FTy → Type} [FloatOps F]

theorem three {A B C : Type} {a a' : A} {b b' : B} {c c' : C} (ha : a = a') (hb : b = b') (hc : c = c') : (a, b, c) = (a', b', c') := by
  subst ha hb hc; rfl

/-- What the kernel loads for one chunk. -/
structure Loaded (F : FTy → Type) [FloatOps F] where
  uv : Vec F S4x64x128 .f32
  wk : Vec F S4x64x128 .f32
  qd : Vec F S4x64x128 .f32
  ke : Vec F S4x64x128 .f32
  att : Vec F S4x64x64 .f32
  ge : Vec F S1x4x8x128 .f32
  z0 : Vec F S64x128 .f32
  z1 : Vec F S64x128 .f32
  z2 : Vec F S64x128 .f32
  z3 : Vec F S64x128 .f32
  g : Vec F S1x128 .f32

namespace Loaded

variable (X : Loaded F) (S : FVec F S4x128x128 .f32)

/-- The chunk's corrected values, its output rows before the norm, and the state after it. -/
def u : FVec F S4x64x128 .f32 := k0_pay5 S X.uv X.wk
def o : FVec F S4x64x128 .f32 := k0_pay6 S X.uv X.wk X.qd X.att
def next : FVec F S4x128x128 .f32 := k0_pay8 (X.u S) (k0_pay7 S X.ge) X.ke

/-- One head's output rows, normed and gated. -/
def y : Fin 4 → FVec F S64x128 .f32
  | 0 => k0_pay9 (X.o S) X.z0 X.g
  | 1 => k0_pay51 (X.o S) X.z1 X.g
  | 2 => k0_pay13 (X.o S) X.z2 X.g
  | 3 => k0_pay2 (X.o S) X.z3 X.g

end Loaded

/-- The input blocks of one grid point. -/
structure Blocks (F : FTy → Type) [FloatOps F] where
  uv : Vec F S4x256x128 .f32
  wk : Vec F S4x256x128 .f32
  qd : Vec F S4x256x128 .f32
  ke : Vec F S4x256x128 .f32
  att : Vec F S4x256x64 .f32
  ge : Vec F S4x4x8x128 .f32
  z : Vec F S256x512 .f32
  g : Vec F S1x128 .f32

/-- A load of four heads' rows, of the attention's rows, of one chunk's decay, of one head's columns. -/
abbrev ldHd (r : Nat) (h : ∀ a, (![0, r, 0] : Fin 3 → Nat) a + S4x64x128.size a ≤ S4x256x128.size a) (x : Vec F S4x256x128 .f32) : Vec F S4x64x128 .f32 := View.ld x (Rect.unit (s := S4x256x128) ![0, r, 0] S4x64x128.size h)
abbrev ldHc (r : Nat) (h : ∀ a, (![0, r, 0] : Fin 3 → Nat) a + S4x64x64.size a ≤ S4x256x64.size a) (x : Vec F S4x256x64 .f32) : Vec F S4x64x64 .f32 := View.ld x (Rect.unit (s := S4x256x64) ![0, r, 0] S4x64x64.size h)
abbrev ldGe (j : Nat) (h : ∀ a, (![j, 0, 0, 0] : Fin 4 → Nat) a + S1x4x8x128.size a ≤ S4x4x8x128.size a) (x : Vec F S4x4x8x128 .f32) : Vec F S1x4x8x128 .f32 := View.ld x (Rect.unit (s := S4x4x8x128) ![j, 0, 0, 0] S1x4x8x128.size h)
abbrev ldZ (r l : Nat) (h : ∀ a, (![r, l] : Fin 2 → Nat) a + S64x128.size a ≤ S256x512.size a) (x : Vec F S256x512 .f32) : Vec F S64x128 .f32 := View.ld x (Rect.unit (s := S256x512) ![r, l] S64x128.size h)

/-- Four chunks' stores in one output block. -/
def rowsSt (p0 p1 p2 p3 : FVec F S1x4x128x128 .f32) : Vec F S4x4x128x128 .f32 := View.canon
  [⟨Rect.unit (s := S4x4x128x128) ![3, 0, 0, 0] S1x4x128x128.size inb_S4x4x128x128_S1x4x128x128_3_0_0_0, p3⟩,
   ⟨Rect.unit (s := S4x4x128x128) ![2, 0, 0, 0] S1x4x128x128.size inb_S4x4x128x128_S1x4x128x128_2_0_0_0, p2⟩,
   ⟨Rect.unit (s := S4x4x128x128) ![1, 0, 0, 0] S1x4x128x128.size inb_S4x4x128x128_S1x4x128x128_1_0_0_0, p1⟩,
   ⟨Rect.unit (s := S4x4x128x128) ![0, 0, 0, 0] S1x4x128x128.size inb_S4x4x128x128_S1x4x128x128_0_0_0_0, p0⟩]
def rowsZ (p0 p1 p2 p3 : Fin 4 → FVec F S64x128 .f32) : Vec F S256x512 .f32 := View.canon
  [⟨Rect.unit (s := S256x512) ![192, 384] S64x128.size inb_S256x512_S64x128_192_384, p3 3⟩,
   ⟨Rect.unit (s := S256x512) ![192, 256] S64x128.size inb_S256x512_S64x128_192_256, p3 2⟩,
   ⟨Rect.unit (s := S256x512) ![192, 128] S64x128.size inb_S256x512_S64x128_192_128, p3 1⟩,
   ⟨Rect.unit (s := S256x512) ![192, 0] S64x128.size inb_S256x512_S64x128_192_0, p3 0⟩,
   ⟨Rect.unit (s := S256x512) ![128, 384] S64x128.size inb_S256x512_S64x128_128_384, p2 3⟩,
   ⟨Rect.unit (s := S256x512) ![128, 256] S64x128.size inb_S256x512_S64x128_128_256, p2 2⟩,
   ⟨Rect.unit (s := S256x512) ![128, 128] S64x128.size inb_S256x512_S64x128_128_128, p2 1⟩,
   ⟨Rect.unit (s := S256x512) ![128, 0] S64x128.size inb_S256x512_S64x128_128_0, p2 0⟩,
   ⟨Rect.unit (s := S256x512) ![64, 384] S64x128.size inb_S256x512_S64x128_64_384, p1 3⟩,
   ⟨Rect.unit (s := S256x512) ![64, 256] S64x128.size inb_S256x512_S64x128_64_256, p1 2⟩,
   ⟨Rect.unit (s := S256x512) ![64, 128] S64x128.size inb_S256x512_S64x128_64_128, p1 1⟩,
   ⟨Rect.unit (s := S256x512) ![64, 0] S64x128.size inb_S256x512_S64x128_64_0, p1 0⟩,
   ⟨Rect.unit (s := S256x512) ![0, 384] S64x128.size inb_S256x512_S64x128_0_384, p0 3⟩,
   ⟨Rect.unit (s := S256x512) ![0, 256] S64x128.size inb_S256x512_S64x128_0_256, p0 2⟩,
   ⟨Rect.unit (s := S256x512) ![0, 128] S64x128.size inb_S256x512_S64x128_0_128, p0 1⟩,
   ⟨Rect.unit (s := S256x512) ![0, 0] S64x128.size inb_S256x512_S64x128_0_0, p0 0⟩]

namespace Blocks

variable (b : Blocks F)

/-- What the kernel loads of the blocks for each of their four chunks. -/
def at0 : Loaded F where
  uv := ldHd 0 inb_S4x256x128_S4x64x128_0_0_0 b.uv
  wk := ldHd 0 inb_S4x256x128_S4x64x128_0_0_0 b.wk
  qd := ldHd 0 inb_S4x256x128_S4x64x128_0_0_0 b.qd
  ke := ldHd 0 inb_S4x256x128_S4x64x128_0_0_0 b.ke
  att := ldHc 0 inb_S4x256x64_S4x64x64_0_0_0 b.att
  ge := ldGe 0 inb_S4x4x8x128_S1x4x8x128_0_0_0_0 b.ge
  z0 := ldZ 0 0 inb_S256x512_S64x128_0_0 b.z
  z1 := ldZ 0 128 inb_S256x512_S64x128_0_128 b.z
  z2 := ldZ 0 256 inb_S256x512_S64x128_0_256 b.z
  z3 := ldZ 0 384 inb_S256x512_S64x128_0_384 b.z
  g := b.g
def at1 : Loaded F where
  uv := ldHd 64 inb_S4x256x128_S4x64x128_0_64_0 b.uv
  wk := ldHd 64 inb_S4x256x128_S4x64x128_0_64_0 b.wk
  qd := ldHd 64 inb_S4x256x128_S4x64x128_0_64_0 b.qd
  ke := ldHd 64 inb_S4x256x128_S4x64x128_0_64_0 b.ke
  att := ldHc 64 inb_S4x256x64_S4x64x64_0_64_0 b.att
  ge := ldGe 1 inb_S4x4x8x128_S1x4x8x128_1_0_0_0 b.ge
  z0 := ldZ 64 0 inb_S256x512_S64x128_64_0 b.z
  z1 := ldZ 64 128 inb_S256x512_S64x128_64_128 b.z
  z2 := ldZ 64 256 inb_S256x512_S64x128_64_256 b.z
  z3 := ldZ 64 384 inb_S256x512_S64x128_64_384 b.z
  g := b.g
def at2 : Loaded F where
  uv := ldHd 128 inb_S4x256x128_S4x64x128_0_128_0 b.uv
  wk := ldHd 128 inb_S4x256x128_S4x64x128_0_128_0 b.wk
  qd := ldHd 128 inb_S4x256x128_S4x64x128_0_128_0 b.qd
  ke := ldHd 128 inb_S4x256x128_S4x64x128_0_128_0 b.ke
  att := ldHc 128 inb_S4x256x64_S4x64x64_0_128_0 b.att
  ge := ldGe 2 inb_S4x4x8x128_S1x4x8x128_2_0_0_0 b.ge
  z0 := ldZ 128 0 inb_S256x512_S64x128_128_0 b.z
  z1 := ldZ 128 128 inb_S256x512_S64x128_128_128 b.z
  z2 := ldZ 128 256 inb_S256x512_S64x128_128_256 b.z
  z3 := ldZ 128 384 inb_S256x512_S64x128_128_384 b.z
  g := b.g
def at3 : Loaded F where
  uv := ldHd 192 inb_S4x256x128_S4x64x128_0_192_0 b.uv
  wk := ldHd 192 inb_S4x256x128_S4x64x128_0_192_0 b.wk
  qd := ldHd 192 inb_S4x256x128_S4x64x128_0_192_0 b.qd
  ke := ldHd 192 inb_S4x256x128_S4x64x128_0_192_0 b.ke
  att := ldHc 192 inb_S4x256x64_S4x64x64_0_192_0 b.att
  ge := ldGe 3 inb_S4x4x8x128_S1x4x8x128_3_0_0_0 b.ge
  z0 := ldZ 192 0 inb_S256x512_S64x128_192_0 b.z
  z1 := ldZ 192 128 inb_S256x512_S64x128_192_128 b.z
  z2 := ldZ 192 256 inb_S256x512_S64x128_192_256 b.z
  z3 := ldZ 192 384 inb_S256x512_S64x128_192_384 b.z
  g := b.g

variable (S : FVec F S4x128x128 .f32)

/-- The state before each chunk, from the one before the first. -/
def s1 : FVec F S4x128x128 .f32 := b.at0.next S
def s2 : FVec F S4x128x128 .f32 := b.at1.next (b.s1 S)
def s3 : FVec F S4x128x128 .f32 := b.at2.next (b.s2 S)

/-- The output blocks of the point, and the state it hands on. -/
def outs : Vec F S256x512 .f32 × Vec F S4x4x128x128 .f32 × Vec F S4x128x128 .f32 :=
  (rowsZ (b.at0.y S) (b.at1.y (b.s1 S)) (b.at2.y (b.s2 S)) (b.at3.y (b.s3 S)),
   rowsSt (k0_pay4 S) (k0_pay4 (b.s1 S)) (k0_pay4 (b.s2 S)) (k0_pay4 (b.s3 S)),
   b.at3.next (b.s3 S))

end Blocks

variable (c : Dev nD) (i : grid0.Coords) (arg1 : Memref sig .tc .vmem S4x256x128 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S4x256x128 .f32) (harg4 : arg4.IsWhole) (arg5 : Memref sig .tc .vmem S4x256x64 .f32) (harg5 : arg5.IsWhole) (arg6 : Memref sig .tc .vmem S4x4x8x128 .f32) (harg6 : arg6.IsWhole) (arg7 : Memref sig .tc .vmem S256x512 .f32) (harg7 : arg7.IsWhole) (arg8 : Memref sig .tc .vmem S1x128 .f32) (harg8 : arg8.IsWhole) (arg10 : Memref sig .tc .vmem S256x512 .f32) (harg10 : arg10.IsWhole) (arg11 : Memref sig .tc .vmem S4x4x128x128 .f32) (harg11 : arg11.IsWhole) (arg12 : Memref sig .tc .vmem S4x128x128 .f32) (harg12 : arg12.IsWhole)
  (x0 : Vec F S4x256x128 .f32) (x1 : Vec F S4x256x128 .f32) (x2 : Vec F S4x256x128 .f32) (x3 : Vec F S4x256x128 .f32) (x4 : Vec F S4x256x64 .f32) (x5 : Vec F S4x4x8x128 .f32) (x6 : Vec F S256x512 .f32) (x7 : Vec F S1x128 .f32)

theorem stored_A (hc0 : cond0_0 i) :
    (let L := kernelRun0_A c i arg1 harg1 arg2 harg2 arg3 harg3 arg4 harg4 arg5 harg5 arg6 harg6 arg7 harg7 arg8 harg8 arg10 harg10 arg11 harg11 arg12 harg12 hc0 x0 x1 x2 x3 x4 x5 x6 x7
     (View.canon L.1, View.canon L.2.1, View.canon L.2.2.1)) =
    (Blocks.mk x0 x1 x2 x3 x4 x5 x6 x7).outs k0_pay3 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1x128) hz, View.ld_unit_zero (S := S4x128x128) hz3]
  simp (disch := decide) only [View.readCov_cons_unit_lit' (S := S4x128x128), View.canon_cons_unit_lit' (S := S4x128x128)]
  rfl

/-- The first point starts from zeros. -/
theorem outs_A (hc0 : cond0_0 i) :
    (out0_A_8 c i arg1 harg1 arg2 harg2 arg3 harg3 arg4 harg4 arg5 harg5 arg6 harg6 arg7 harg7 arg8 harg8 arg10 harg10 arg11 harg11 arg12 harg12 hc0 x0 x1 x2 x3 x4 x5 x6 x7,
     out0_A_9 c i arg1 harg1 arg2 harg2 arg3 harg3 arg4 harg4 arg5 harg5 arg6 harg6 arg7 harg7 arg8 harg8 arg10 harg10 arg11 harg11 arg12 harg12 hc0 x0 x1 x2 x3 x4 x5 x6 x7,
     sout0_A_0 c i arg1 harg1 arg2 harg2 arg3 harg3 arg4 harg4 arg5 harg5 arg6 harg6 arg7 harg7 arg8 harg8 arg10 harg10 arg11 harg11 arg12 harg12 hc0 x0 x1 x2 x3 x4 x5 x6 x7) =
    (Blocks.mk x0 x1 x2 x3 x4 x5 x6 x7).outs k0_pay3 := by
  refine Eq.trans ?_ (stored_A c i arg1 harg1 arg2 harg2 arg3 harg3 arg4 harg4 arg5 harg5 arg6 harg6 arg7 harg7 arg8 harg8 arg10 harg10 arg11 harg11 arg12 harg12 x0 x1 x2 x3 x4 x5 x6 x7 hc0)
  refine three ?_ ?_ ?_
  · exact View.read_writes_eq_canon _ _ _ (cover0_A_8 c i arg1 harg1 arg2 harg2 arg3 harg3 arg4 harg4 arg5 harg5 arg6 harg6 arg7 harg7 arg8 harg8 arg10 harg10 arg11 harg11 arg12 harg12 hc0 x0 x1 x2 x3 x4 x5 x6 x7)
  · exact View.read_writes_eq_canon _ _ _ (cover0_A_9 c i arg1 harg1 arg2 harg2 arg3 harg3 arg4 harg4 arg5 harg5 arg6 harg6 arg7 harg7 arg8 harg8 arg10 harg10 arg11 harg11 arg12 harg12 hc0 x0 x1 x2 x3 x4 x5 x6 x7)
  · exact View.read_writes_eq_canon _ _ _ (scover0_A_0 c i arg1 harg1 arg2 harg2 arg3 harg3 arg4 harg4 arg5 harg5 arg6 harg6 arg7 harg7 arg8 harg8 arg10 harg10 arg11 harg11 arg12 harg12 hc0 x0 x1 x2 x3 x4 x5 x6 x7)

theorem stored_B (hc0 : ¬cond0_0 i) (xs0 : Vec F S4x128x128 .f32) :
    (let L := kernelRun0_B c i arg1 harg1 arg2 harg2 arg3 harg3 arg4 harg4 arg5 harg5 arg6 harg6 arg7 harg7 arg8 harg8 arg10 harg10 arg11 harg11 arg12 harg12 hc0 x0 x1 x2 x3 x4 x5 x6 x7 xs0
     (View.canon L.1, View.canon L.2.1, View.canon L.2.2.1)) =
    (Blocks.mk x0 x1 x2 x3 x4 x5 x6 x7).outs xs0 := by
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1x128) hz, View.ld_unit_zero (S := S4x128x128) hz3]
  simp (disch := decide) only [View.readCov_cons_unit_lit' (S := S4x128x128), View.canon_cons_unit_lit' (S := S4x128x128)]
  rfl

/-- The others go on from the state that the point before left. -/
theorem outs_B (hc0 : ¬cond0_0 i) (xs0 : Vec F S4x128x128 .f32) :
    (out0_B_8 c i arg1 harg1 arg2 harg2 arg3 harg3 arg4 harg4 arg5 harg5 arg6 harg6 arg7 harg7 arg8 harg8 arg10 harg10 arg11 harg11 arg12 harg12 hc0 x0 x1 x2 x3 x4 x5 x6 x7 xs0,
     out0_B_9 c i arg1 harg1 arg2 harg2 arg3 harg3 arg4 harg4 arg5 harg5 arg6 harg6 arg7 harg7 arg8 harg8 arg10 harg10 arg11 harg11 arg12 harg12 hc0 x0 x1 x2 x3 x4 x5 x6 x7 xs0,
     sout0_B_0 c i arg1 harg1 arg2 harg2 arg3 harg3 arg4 harg4 arg5 harg5 arg6 harg6 arg7 harg7 arg8 harg8 arg10 harg10 arg11 harg11 arg12 harg12 hc0 x0 x1 x2 x3 x4 x5 x6 x7 xs0) =
    (Blocks.mk x0 x1 x2 x3 x4 x5 x6 x7).outs xs0 := by
  refine Eq.trans ?_ (stored_B c i arg1 harg1 arg2 harg2 arg3 harg3 arg4 harg4 arg5 harg5 arg6 harg6 arg7 harg7 arg8 harg8 arg10 harg10 arg11 harg11 arg12 harg12 x0 x1 x2 x3 x4 x5 x6 x7 hc0 xs0)
  refine three ?_ ?_ ?_
  · exact View.read_writes_eq_canon _ _ _ (cover0_B_8 c i arg1 harg1 arg2 harg2 arg3 harg3 arg4 harg4 arg5 harg5 arg6 harg6 arg7 harg7 arg8 harg8 arg10 harg10 arg11 harg11 arg12 harg12 hc0 x0 x1 x2 x3 x4 x5 x6 x7 xs0)
  · exact View.read_writes_eq_canon _ _ _ (cover0_B_9 c i arg1 harg1 arg2 harg2 arg3 harg3 arg4 harg4 arg5 harg5 arg6 harg6 arg7 harg7 arg8 harg8 arg10 harg10 arg11 harg11 arg12 harg12 hc0 x0 x1 x2 x3 x4 x5 x6 x7 xs0)
  · exact View.read_writes_eq_canon _ _ _ (scover0_B_0 c i arg1 harg1 arg2 harg2 arg3 harg3 arg4 harg4 arg5 harg5 arg6 harg6 arg7 harg7 arg8 harg8 arg10 harg10 arg11 harg11 arg12 harg12 hc0 x0 x1 x2 x3 x4 x5 x6 x7 xs0)

end Cert.Kernel15Ideal.Scan

end
-- ==== Proof.ScanForeSpec.lean ====
/-
  The forward scan as formulas of its nine argument arrays: the chunks, first to last, each from the state the one before it
  hands on; a chunk gives its gated, normed output rows and the next state.
-/
module

public import proofs.«01_k».proof.Proof.ScanChain

@[expose] public section

noncomputable section

namespace Cert.Scan

open Idealize.ShloMosaic

namespace Chunk

variable (X : Chunk)

/-- The chunk's arrays with the state `S` before it (and no gradient). -/
def begin (S : Fin 4 → Fin 128 → Fin 128 → EReal) : Chunk := { X with st := S, d := fun _ _ _ => 0 }

/-- The state after the chunk. -/
def next (h : Fin 4) (k v : Fin 128) : EReal := X.ge h * X.st h k v + ∑ r : Fin 64, (X.ke h r k * X.u h r v : EReal)

/-- One row of the gated norm. -/
def gated (o z g : Fin 128 → EReal) (l : Fin 128) : EReal := o l * rs o * g l * (z l * sg (z l))

/-- The chunk's output rows, normed and gated. -/
def y (h : Fin 4) (r : Fin 64) (v : Fin 128) : EReal := gated (X.o h r) (X.z h r) X.g v

end Chunk

/-- Chunk number `k`. -/
def nth (k : ℕ) : Fin 32 := ⟨k % 32, by omega⟩

theorem nth_val (n : Fin 32) : nth n.val = n := Fin.ext (Nat.mod_eq_of_lt n.isLt)

namespace Arrays

variable (A : Arrays)

/-- The state after `k` chunks. -/
def fwd : ℕ → Fin 4 → Fin 128 → Fin 128 → EReal
  | 0 => fun _ _ _ => 0
  | k + 1 => ((A.chunk (nth k)).begin (fwd k)).next

/-- Chunk `n` with the state that reaches it. -/
def run (n : Fin 32) : Chunk := (A.chunk n).begin (A.fwd n.val)

/-- The output columns of all heads. -/
def cols (R : Fin 2048) (l : Fin 512) : EReal := (A.run (ck R)).y (hd l) (rr R) (ln l)

/-- The first result: the heads' columns, and behind them the other columns as they were. -/
def mixed : (⟨2, ![2048, 1024]⟩ : Shape).Idx → EReal := fun i =>
  if h : (i 1).val < 512 then A.cols (i 0) ⟨(i 1).val, h⟩ else A.d i

/-- The second result: the state before each chunk. -/
def states : (⟨4, ![32, 4, 128, 128]⟩ : Shape).Idx → EReal := fun i => A.fwd (i 0).val (i 1) (i 2) (i 3)

end Arrays

end Cert.Scan

end
-- ==== Proof.ScanForeBlocks.lean ====
/-
  The blocks that the forward scan's kernel forms for one chunk, entry by entry: the formulas of one chunk; and the blocks of one
  grid point read at an index: which chunk a row of a block belongs to, what the kernel loads of a block for one chunk, and what four
  chunks' stores leave in an output block.
-/
module

public import proofs.«01_k».proof.Proof.ScanForeRun
public import proofs.«01_k».proof.Proof.ScanForeSpec
public import Idealize.ShloMosaic.Lib.KernelVsHost
public import Idealize.ShloMosaic.Lib.Pointwise
public import Idealize.ShloMosaic.Lib.Pipeline.ValueKit.Tiles

@[expose] public section

set_option maxRecDepth 16384

noncomputable section

namespace Cert.Kernel15Ideal.Scan

open Cert.Kernel15Ideal Cert.Kernel15Ideal.Gen Cert.Scan
open Idealize.ShloMosaic Idealize.ShloMosaic.TcCoe

/-! ## One chunk -/

/-- The chunk's arrays, of what the kernel loads, with the state `T` before it. -/
def Loaded.chunk (X : Loaded Ideal) (T : Fin 4 → Fin 128 → Fin 128 → EReal) : Chunk where
  st := T
  uv h r v := X.uv (ix3 h r v)
  wk h r v := X.wk (ix3 h r v)
  qd h r v := X.qd (ix3 h r v)
  ke h r v := X.ke (ix3 h r v)
  att h r s := X.att (ix3 h r s)
  ge h := X.ge (ix4 0 h 0 0)
  z h r v := match h with | 0 => X.z0 (ix2 r v) | 1 => X.z1 (ix2 r v) | 2 => X.z2 (ix2 r v) | 3 => X.z3 (ix2 r v)
  d _ _ _ := 0
  g v := X.g (ix2 0 v)

theorem norm0_apply (o : Vec Ideal S4x64x128 .f32) (z : Vec Ideal S64x128 .f32) (g : Vec Ideal S1x128 .f32) (r : Fin 64) (l : Fin 128) :
    k0_pay9 (F := Ideal) o z g (ix2 r l) = Chunk.gated (fun k => o (ix3 0 r k)) (fun k => z (ix2 r k)) (fun k => g (ix2 0 k)) l := by
  pointwise [k0_pay9]
  rfl
theorem norm1_apply (o : Vec Ideal S4x64x128 .f32) (z : Vec Ideal S64x128 .f32) (g : Vec Ideal S1x128 .f32) (r : Fin 64) (l : Fin 128) :
    k0_pay51 (F := Ideal) o z g (ix2 r l) = Chunk.gated (fun k => o (ix3 1 r k)) (fun k => z (ix2 r k)) (fun k => g (ix2 0 k)) l := by
  pointwise [k0_pay51]
  rfl
theorem norm2_apply (o : Vec Ideal S4x64x128 .f32) (z : Vec Ideal S64x128 .f32) (g : Vec Ideal S1x128 .f32) (r : Fin 64) (l : Fin 128) :
    k0_pay13 (F := Ideal) o z g (ix2 r l) = Chunk.gated (fun k => o (ix3 2 r k)) (fun k => z (ix2 r k)) (fun k => g (ix2 0 k)) l := by
  pointwise [k0_pay13]
  rfl
theorem norm3_apply (o : Vec Ideal S4x64x128 .f32) (z : Vec Ideal S64x128 .f32) (g : Vec Ideal S1x128 .f32) (r : Fin 64) (l : Fin 128) :
    k0_pay2 (F := Ideal) o z g (ix2 r l) = Chunk.gated (fun k => o (ix3 3 r k)) (fun k => z (ix2 r k)) (fun k => g (ix2 0 k)) l := by
  pointwise [k0_pay2]
  rfl

theorem kept_apply (S : Vec Ideal S4x128x128 .f32) (h : Fin 4) (k v : Fin 128) : k0_pay4 (F := Ideal) S (ix4 0 h k v) = S (ix3 h k v) := by
  pointwise [k0_pay4]
theorem zeros_apply (h : Fin 4) (k v : Fin 128) : k0_pay3 (F := Ideal) (ix3 h k v) = (0 : EReal) := by
  pointwise [k0_pay3]

namespace Loaded

variable (X : Loaded Ideal) {S : Vec Ideal S4x128x128 .f32}

theorem u_raw (h : Fin 4) (r : Fin 64) (v : Fin 128) :
    X.u S (ix3 h r v) = (X.uv (ix3 h r v) - ∑ k : Fin 128, (X.wk (ix3 h r k) * S (ix3 h k v) : EReal) : EReal) := by
  pointwise [u, k0_pay5]
theorem o_raw (h : Fin 4) (r : Fin 64) (v : Fin 128) :
    X.o S (ix3 h r v) = ((∑ k : Fin 128, (X.qd (ix3 h r k) * S (ix3 h k v) : EReal)) + ∑ s : Fin 64, (X.att (ix3 h r s) * X.u S (ix3 h s v) : EReal) : EReal) := by
  show (k0_pay6 S X.uv X.wk X.qd X.att) (ix3 h r v) = _
  pointwise [k0_pay6, u]
theorem next_raw (h : Fin 4) (k v : Fin 128) :
    X.next S (ix3 h k v) = (X.ge (ix4 0 h 0 0) * S (ix3 h k v) + ∑ r : Fin 64, (X.ke (ix3 h r k) * X.u S (ix3 h r v) : EReal) : EReal) := by
  pointwise [next, k0_pay8, k0_pay7]

variable {T : Fin 4 → Fin 128 → Fin 128 → EReal} (hS : ∀ h k v, S (ix3 h k v) = T h k v)
include hS

theorem u_apply (h : Fin 4) (r : Fin 64) (v : Fin 128) : X.u S (ix3 h r v) = (X.chunk T).u h r v := by
  rw [u_raw]; simp only [hS]; rfl
theorem o_apply (h : Fin 4) (r : Fin 64) (v : Fin 128) : X.o S (ix3 h r v) = (X.chunk T).o h r v := by
  rw [o_raw]; simp only [X.u_apply hS, hS]; rfl
theorem next_apply (h : Fin 4) (k v : Fin 128) : X.next S (ix3 h k v) = (X.chunk T).next h k v := by
  rw [next_raw]; simp only [X.u_apply hS, hS]; rfl
theorem y_apply (h : Fin 4) (r : Fin 64) (v : Fin 128) : X.y S h (ix2 r v) = (X.chunk T).y h r v := by
  match h with
  | 0 => exact (norm0_apply _ _ _ r v).trans (by simp only [X.o_apply hS]; rfl)
  | 1 => exact (norm1_apply _ _ _ r v).trans (by simp only [X.o_apply hS]; rfl)
  | 2 => exact (norm2_apply _ _ _ r v).trans (by simp only [X.o_apply hS]; rfl)
  | 3 => exact (norm3_apply _ _ _ r v).trans (by simp only [X.o_apply hS]; rfl)

end Loaded

/-! ## Rows of a block -/

/-- Row `r` of the `j`-th chunk of a block. -/
def inBlock (j : Fin 4) (r : Fin 64) : Fin 256 := ⟨64 * j.val + r.val, by omega⟩
/-- The chunk of a block's row, and the row's place in it. -/
def qt (R : Fin 256) : Fin 4 := ⟨R.val / 64, by omega⟩
def rt (R : Fin 256) : Fin 64 := ⟨R.val % 64, by omega⟩

theorem congr4 {A B C D : Type} (f : A → B → C → D → EReal) {a a' : A} {b b' : B} {c c' : C} {d d' : D} (ha : a = a') (hb : b = b') (hc : c = c')
    (hd : d = d') : f a b c d = f a' b' c' d' := by
  subst ha hb hc hd; rfl

/-! ## Four chunks' stores -/

theorem tileSt (f : Fin 4 → Fin 4 → Fin 128 → Fin 128 → EReal) (j : Fin 4) (p : FVec Ideal S1x4x128x128 .f32)
    (hp : ∀ h a b, p (ix4 0 h a b) = f j h a b) (y : S4x4x128x128.Idx) :
    View.TileAt (Val := Elt Ideal) (S := S4x4x128x128) (e := .f32) y ![j.val, 0, 0, 0] S1x4x128x128.size p (f (y 0) (y 1) (y 2) (y 3)) := by
  intro x hx
  have h0 : (y 0 : ℕ) = j.val + (x 0).val := hx 0
  have h1 : (y 1 : ℕ) = 0 + (x 1).val := hx 1
  have h2 : (y 2 : ℕ) = 0 + (x 2).val := hx 2
  have h3 : (y 3 : ℕ) = 0 + (x 3).val := hx 3
  have b0 : (x 0).val < 1 := (x 0).isLt
  have e0 : x 0 = (0 : Fin 1) := Fin.ext (by show (x 0).val = 0; omega)
  have e := (congrArg p (eq_ix4 (n0 := 1) (n1 := 4) (n2 := 128) (n3 := 128) x)).trans ((congrArg (fun a : Fin 1 => p (ix4 a (x 1) (x 2) (x 3))) e0).trans (hp (x 1) (x 2) (x 3)))
  exact e.trans (congr4 f (Fin.ext (by show j.val = (y 0).val; omega)) (Fin.ext (by show (x 1).val = (y 1).val; omega))
    (Fin.ext (by show (x 2).val = (y 2).val; omega)) (Fin.ext (by show (x 3).val = (y 3).val; omega)))

theorem rowsSt_apply (f : Fin 4 → Fin 4 → Fin 128 → Fin 128 → EReal) (p0 p1 p2 p3 : FVec Ideal S1x4x128x128 .f32)
    (h0 : ∀ h a b, p0 (ix4 0 h a b) = f 0 h a b) (h1 : ∀ h a b, p1 (ix4 0 h a b) = f 1 h a b)
    (h2 : ∀ h a b, p2 (ix4 0 h a b) = f 2 h a b) (h3 : ∀ h a b, p3 (ix4 0 h a b) = f 3 h a b) (y : S4x4x128x128.Idx) :
    (rowsSt p0 p1 p2 p3 y : EReal) = f (y 0) (y 1) (y 2) (y 3) := by
  unfold rowsSt
  refine View.canon_eq_of_allAt _ y _ (View.cover_of_tiled_head _ _ _ (by rfl) y) ?_
  exact View.allAt_cons_unit _ _ _ _ _ (tileSt f 3 p3 h3 y) (View.allAt_cons_unit _ _ _ _ _ (tileSt f 2 p2 h2 y)
    (View.allAt_cons_unit _ _ _ _ _ (tileSt f 1 p1 h1 y) (View.allAt_cons_unit _ _ _ _ _ (tileSt f 0 p0 h0 y) (View.allAt_nil y _))))

theorem tileZ (f : Fin 4 → Fin 4 → Fin 64 → Fin 128 → EReal) (j h : Fin 4) (o l : ℕ) (ho : o = 64 * j.val) (hl : l = 128 * h.val) (p : FVec Ideal S64x128 .f32)
    (hp : ∀ r v, p (ix2 r v) = f j h r v) (y : S256x512.Idx) :
    View.TileAt (Val := Elt Ideal) (S := S256x512) (e := .f32) y ![o, l] S64x128.size p (f (qt (y 0)) (hd (y 1)) (rt (y 0)) (ln (y 1))) := by
  intro x hx
  have h0 : (y 0 : ℕ) = o + (x 0).val := hx 0
  have h1 : (y 1 : ℕ) = l + (x 1).val := hx 1
  have b0 : (x 0).val < 64 := (x 0).isLt
  have b1 : (x 1).val < 128 := (x 1).isLt
  have e := (congrArg p (eq_ix2 (n0 := 64) (n1 := 128) x)).trans (hp (x 0) (x 1))
  exact e.trans (congr4 f (Fin.ext (by show j.val = (y 0).val / 64; omega)) (Fin.ext (by show h.val = (y 1).val / 128; omega))
    (Fin.ext (by show (x 0).val = (y 0).val % 64; omega)) (Fin.ext (by show (x 1).val = (y 1).val % 128; omega)))

theorem rowsZ_apply (f : Fin 4 → Fin 4 → Fin 64 → Fin 128 → EReal) (p0 p1 p2 p3 : Fin 4 → FVec Ideal S64x128 .f32)
    (h0 : ∀ h r v, p0 h (ix2 r v) = f 0 h r v) (h1 : ∀ h r v, p1 h (ix2 r v) = f 1 h r v)
    (h2 : ∀ h r v, p2 h (ix2 r v) = f 2 h r v) (h3 : ∀ h r v, p3 h (ix2 r v) = f 3 h r v) (y : S256x512.Idx) :
    (rowsZ p0 p1 p2 p3 y : EReal) = f (qt (y 0)) (hd (y 1)) (rt (y 0)) (ln (y 1)) := by
  unfold rowsZ
  refine View.canon_eq_of_allAt _ y _ (View.cover_of_tiled_head _ _ _ (by rfl) y) ?_
  have go : ∀ (j : Fin 4) (p : Fin 4 → FVec Ideal S64x128 .f32), (∀ h r v, p h (ix2 r v) = f j h r v) → ∀ h o l, o = 64 * j.val → l = 128 * h.val →
      View.TileAt (Val := Elt Ideal) (S := S256x512) (e := .f32) y ![o, l] S64x128.size (p h) (f (qt (y 0)) (hd (y 1)) (rt (y 0)) (ln (y 1))) :=
    fun j p hp h o l ho hl => tileZ f j h o l ho hl (p h) (hp h) y
  refine View.allAt_cons_unit _ _ _ _ _ (go 3 p3 h3 3 _ _ rfl rfl) (View.allAt_cons_unit _ _ _ _ _ (go 3 p3 h3 2 _ _ rfl rfl)
    (View.allAt_cons_unit _ _ _ _ _ (go 3 p3 h3 1 _ _ rfl rfl) (View.allAt_cons_unit _ _ _ _ _ (go 3 p3 h3 0 _ _ rfl rfl) ?_)))
  refine View.allAt_cons_unit _ _ _ _ _ (go 2 p2 h2 3 _ _ rfl rfl) (View.allAt_cons_unit _ _ _ _ _ (go 2 p2 h2 2 _ _ rfl rfl)
    (View.allAt_cons_unit _ _ _ _ _ (go 2 p2 h2 1 _ _ rfl rfl) (View.allAt_cons_unit _ _ _ _ _ (go 2 p2 h2 0 _ _ rfl rfl) ?_)))
  refine View.allAt_cons_unit _ _ _ _ _ (go 1 p1 h1 3 _ _ rfl rfl) (View.allAt_cons_unit _ _ _ _ _ (go 1 p1 h1 2 _ _ rfl rfl)
    (View.allAt_cons_unit _ _ _ _ _ (go 1 p1 h1 1 _ _ rfl rfl) (View.allAt_cons_unit _ _ _ _ _ (go 1 p1 h1 0 _ _ rfl rfl) ?_)))
  exact View.allAt_cons_unit _ _ _ _ _ (go 0 p0 h0 3 _ _ rfl rfl) (View.allAt_cons_unit _ _ _ _ _ (go 0 p0 h0 2 _ _ rfl rfl)
    (View.allAt_cons_unit _ _ _ _ _ (go 0 p0 h0 1 _ _ rfl rfl) (View.allAt_cons_unit _ _ _ _ _ (go 0 p0 h0 0 _ _ rfl rfl) (View.allAt_nil y _))))

/-! ## The loads -/

theorem ldHd_apply (j : Fin 4) (o : ℕ) (ho : o = 64 * j.val) (hb) (x : Vec Ideal S4x256x128 .f32) (h : Fin 4) (r : Fin 64) (v : Fin 128) :
    ldHd o hb x (ix3 h r v) = x (ix3 h (inBlock j r) v) :=
  View.ld_unit_apply_of (S := S4x256x128) x _ _ _ _ (ix3 h (inBlock j r) v) fun a => by
    match a with
    | ⟨0, _⟩ => show h.val = 0 + h.val; omega
    | ⟨1, _⟩ => show 64 * j.val + r.val = o + r.val; omega
    | ⟨2, _⟩ => show v.val = 0 + v.val; omega

theorem ldHc_apply (j : Fin 4) (o : ℕ) (ho : o = 64 * j.val) (hb) (x : Vec Ideal S4x256x64 .f32) (h : Fin 4) (r : Fin 64) (v : Fin 64) :
    ldHc o hb x (ix3 h r v) = x (ix3 h (inBlock j r) v) :=
  View.ld_unit_apply_of (S := S4x256x64) x _ _ _ _ (ix3 h (inBlock j r) v) fun a => by
    match a with
    | ⟨0, _⟩ => show h.val = 0 + h.val; omega
    | ⟨1, _⟩ => show 64 * j.val + r.val = o + r.val; omega
    | ⟨2, _⟩ => show v.val = 0 + v.val; omega

theorem ldGe_apply (j : Fin 4) (hb) (x : Vec Ideal S4x4x8x128 .f32) (h : Fin 4) (a : Fin 8) (b : Fin 128) :
    ldGe j.val hb x (ix4 0 h a b) = x (ix4 j h a b) :=
  View.ld_unit_apply_of (S := S4x4x8x128) x _ _ _ _ (ix4 j h a b) fun i => by
    match i with
    | ⟨0, _⟩ => show j.val = j.val + 0; omega
    | ⟨1, _⟩ => show h.val = 0 + h.val; omega
    | ⟨2, _⟩ => show a.val = 0 + a.val; omega
    | ⟨3, _⟩ => show b.val = 0 + b.val; omega

theorem ldZ_apply (j h : Fin 4) (o l : ℕ) (ho : o = 64 * j.val) (hl : l = 128 * h.val) (hb) (x : Vec Ideal S256x512 .f32) (r : Fin 64) (v : Fin 128) :
    ldZ o l hb x (ix2 r v) = x (ix2 (inBlock j r) ⟨128 * h.val + v.val, by omega⟩) :=
  View.ld_unit_apply_of (S := S256x512) x _ _ _ _ (ix2 (inBlock j r) ⟨128 * h.val + v.val, by omega⟩) fun i => by
    match i with
    | ⟨0, _⟩ => show 64 * j.val + r.val = o + r.val; omega
    | ⟨1, _⟩ => show 128 * h.val + v.val = l + v.val; omega

/-- The arrays of a block's `j`-th chunk, with the state `T` before it. -/
def Blocks.chunk (b : Blocks Ideal) (j : Fin 4) (T : Fin 4 → Fin 128 → Fin 128 → EReal) : Chunk where
  st := T
  uv h r v := b.uv (ix3 h (inBlock j r) v)
  wk h r v := b.wk (ix3 h (inBlock j r) v)
  qd h r v := b.qd (ix3 h (inBlock j r) v)
  ke h r v := b.ke (ix3 h (inBlock j r) v)
  att h r s := b.att (ix3 h (inBlock j r) s)
  ge h := b.ge (ix4 j h 0 0)
  z h r v := b.z (ix2 (inBlock j r) ⟨128 * h.val + v.val, by omega⟩)
  d _ _ _ := 0
  g v := b.g (ix2 0 v)

variable (b : Blocks Ideal) (T : Fin 4 → Fin 128 → Fin 128 → EReal)

theorem chunk0 : b.at0.chunk T = b.chunk 0 T := by
  ext <;> first
    | exact ldHd_apply 0 _ rfl _ _ _ _ _
    | exact ldHc_apply 0 _ rfl _ _ _ _ _
    | exact ldGe_apply 0 _ _ _ _ _
    | rfl
    | (rename_i h r v; match h with
        | 0 => exact ldZ_apply 0 0 _ _ rfl rfl _ _ _ _
        | 1 => exact ldZ_apply 0 1 _ _ rfl rfl _ _ _ _
        | 2 => exact ldZ_apply 0 2 _ _ rfl rfl _ _ _ _
        | 3 => exact ldZ_apply 0 3 _ _ rfl rfl _ _ _ _)

theorem chunk1 : b.at1.chunk T = b.chunk 1 T := by
  ext <;> first
    | exact ldHd_apply 1 _ rfl _ _ _ _ _
    | exact ldHc_apply 1 _ rfl _ _ _ _ _
    | exact ldGe_apply 1 _ _ _ _ _
    | rfl
    | (rename_i h r v; match h with
        | 0 => exact ldZ_apply 1 0 _ _ rfl rfl _ _ _ _
        | 1 => exact ldZ_apply 1 1 _ _ rfl rfl _ _ _ _
        | 2 => exact ldZ_apply 1 2 _ _ rfl rfl _ _ _ _
        | 3 => exact ldZ_apply 1 3 _ _ rfl rfl _ _ _ _)

theorem chunk2 : b.at2.chunk T = b.chunk 2 T := by
  ext <;> first
    | exact ldHd_apply 2 _ rfl _ _ _ _ _
    | exact ldHc_apply 2 _ rfl _ _ _ _ _
    | exact ldGe_apply 2 _ _ _ _ _
    | rfl
    | (rename_i h r v; match h with
        | 0 => exact ldZ_apply 2 0 _ _ rfl rfl _ _ _ _
        | 1 => exact ldZ_apply 2 1 _ _ rfl rfl _ _ _ _
        | 2 => exact ldZ_apply 2 2 _ _ rfl rfl _ _ _ _
        | 3 => exact ldZ_apply 2 3 _ _ rfl rfl _ _ _ _)

theorem chunk3 : b.at3.chunk T = b.chunk 3 T := by
  ext <;> first
    | exact ldHd_apply 3 _ rfl _ _ _ _ _
    | exact ldHc_apply 3 _ rfl _ _ _ _ _
    | exact ldGe_apply 3 _ _ _ _ _
    | rfl
    | (rename_i h r v; match h with
        | 0 => exact ldZ_apply 3 0 _ _ rfl rfl _ _ _ _
        | 1 => exact ldZ_apply 3 1 _ _ rfl rfl _ _ _ _
        | 2 => exact ldZ_apply 3 2 _ _ rfl rfl _ _ _ _
        | 3 => exact ldZ_apply 3 3 _ _ rfl rfl _ _ _ _)

end Cert.Kernel15Ideal.Scan

end
-- ==== Proof.ScanForeKernel.lean ====
/-
  The forward scan's kernel over all its grid points: the blocks each point reads, the state it starts from, and what the two result
  arrays hold after the run.
-/
module

public import proofs.«01_k».proof.Proof.ScanForeBlocks
public import proofs.«01_k».proof.Proof.Gen.Kernel15Ideal.Value
public import Idealize.ShloMosaic.Lib.Pipeline.ValueKit.Partial

@[expose] public section

set_option maxRecDepth 16384

noncomputable section

namespace Cert.Kernel15Ideal.Scan

open Cert.Kernel15Ideal Cert.Kernel15Ideal.Gen Cert.Scan
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments; the field `d` is the array whose first columns the call replaces. -/
def args : Arrays where
  uv := m ((c : Thread nD τ).loc main_arg0)
  wk := m ((c : Thread nD τ).loc main_arg1)
  qd := m ((c : Thread nD τ).loc main_arg2)
  ke := m ((c : Thread nD τ).loc main_arg3)
  att := m ((c : Thread nD τ).loc main_arg4)
  ge := m ((c : Thread nD τ).loc main_arg5)
  z := m ((c : Thread nD τ).loc main_arg6)
  g := m ((c : Thread nD τ).loc main_arg7)
  st := fun _ => 0
  d := m ((c : Thread nD τ).loc main_arg8)

/-- The blocks that point `t` reads. -/
def blocks (t : Fin cfg0.N) : Blocks Ideal where
  uv := iblk m c 0 t
  wk := iblk m c 1 t
  qd := iblk m c 2 t
  ke := iblk m c 3 t
  att := iblk m c 4 t
  ge := iblk m c 5 t
  z := X0_6 m c t
  g := iblk m c 7 t

theorem lt_points (n : ℕ) (h : n < cfg0.N) : n < 8 := lt_of_lt_of_eq h N_0

/-- The chunk that is the `j`-th of point `t`'s block. -/
def num (t : ℕ) (j : Fin 4) : Fin 32 := nth (4 * t + j.val)
/-- The array's row that is row `R` of point `t`'s block. -/
def spot (t : ℕ) (R : Fin 256) : Fin 2048 := ⟨(256 * t + R.val) % 2048, by omega⟩

theorem ck_spot (t : ℕ) (R : Fin 256) : ck (spot t R) = num t (qt R) :=
  Fin.ext (by show (256 * t + R.val) % 2048 / 64 = (4 * t + R.val / 64) % 32; omega)
theorem rr_spot (t : ℕ) (R : Fin 256) : rr (spot t R) = rt R :=
  Fin.ext (by show (256 * t + R.val) % 2048 % 64 = R.val % 64; omega)

/-! ## Which blocks the windows hold -/

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem index2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)
theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem index4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem index5 : ∀ t : Fin cfg0.N, win0_5.index t 0 = t.val ∧ win0_5.index t 1 = 0 ∧ win0_5.index t 2 = 0 ∧ win0_5.index t 3 = 0 :=
  (by decide +kernel : ∀ t : Fin grid0.N, win0_5.index t 0 = t.val ∧ win0_5.index t 1 = 0 ∧ win0_5.index t 2 = 0 ∧ win0_5.index t 3 = 0)
theorem index6 : ∀ t : Fin cfg0.N, win0_6.index t 0 = t.val ∧ win0_6.index t 1 = 3 :=
  (by decide +kernel : ∀ t : Fin grid0.N, win0_6.index t 0 = t.val ∧ win0_6.index t 1 = 3)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = t.val ∧ win0_8.index t 1 = 0 :=
  (by decide +kernel : ∀ t : Fin grid0.N, win0_8.index t 0 = t.val ∧ win0_8.index t 1 = 0)
theorem index9 : ∀ t : Fin cfg0.N, win0_9.index t 0 = t.val ∧ win0_9.index t 1 = 0 ∧ win0_9.index t 2 = 0 ∧ win0_9.index t 3 = 0 :=
  (by decide +kernel : ∀ t : Fin grid0.N, win0_9.index t 0 = t.val ∧ win0_9.index t 1 = 0 ∧ win0_9.index t 2 = 0 ∧ win0_9.index t 3 = 0)

/-! ## The blocks entry by entry -/

theorem block0 (t : Fin cfg0.N) (h : Fin 4) (r : Fin 256) (v : Fin 128) : (iblk m c 0 t : Vec Ideal S4x256x128 .f32) (ix3 h r v) = (args m c).uv (ix3 h (spot t.val r) v) := by
  have ht := lt_points _ t.isLt
  unfold iblk
  rw [View.read_apply]
  refine congrArg (args m c).uv (funext fun a => ?_)
  match a with
  | ⟨0, _⟩ => exact Fin.ext (by show win0_0.index t 0 * 4 + 1 * h.val = h.val; rw [(index0 t).1]; omega)
  | ⟨1, _⟩ => exact Fin.ext (by show win0_0.index t 1 * 256 + 1 * r.val = (256 * t.val + r.val) % 2048; rw [(index0 t).2.1]; omega)
  | ⟨2, _⟩ => exact Fin.ext (by show win0_0.index t 2 * 128 + 1 * v.val = v.val; rw [(index0 t).2.2]; omega)

theorem block1 (t : Fin cfg0.N) (h : Fin 4) (r : Fin 256) (v : Fin 128) : (iblk m c 1 t : Vec Ideal S4x256x128 .f32) (ix3 h r v) = (args m c).wk (ix3 h (spot t.val r) v) := by
  have ht := lt_points _ t.isLt
  unfold iblk
  rw [View.read_apply]
  refine congrArg (args m c).wk (funext fun a => ?_)
  match a with
  | ⟨0, _⟩ => exact Fin.ext (by show win0_1.index t 0 * 4 + 1 * h.val = h.val; rw [(index1 t).1]; omega)
  | ⟨1, _⟩ => exact Fin.ext (by show win0_1.index t 1 * 256 + 1 * r.val = (256 * t.val + r.val) % 2048; rw [(index1 t).2.1]; omega)
  | ⟨2, _⟩ => exact Fin.ext (by show win0_1.index t 2 * 128 + 1 * v.val = v.val; rw [(index1 t).2.2]; omega)

theorem block2 (t : Fin cfg0.N) (h : Fin 4) (r : Fin 256) (v : Fin 128) : (iblk m c 2 t : Vec Ideal S4x256x128 .f32) (ix3 h r v) = (args m c).qd (ix3 h (spot t.val r) v) := by
  have ht := lt_points _ t.isLt
  unfold iblk
  rw [View.read_apply]
  refine congrArg (args m c).qd (funext fun a => ?_)
  match a with
  | ⟨0, _⟩ => exact Fin.ext (by show win0_2.index t 0 * 4 + 1 * h.val = h.val; rw [(index2 t).1]; omega)
  | ⟨1, _⟩ => exact Fin.ext (by show win0_2.index t 1 * 256 + 1 * r.val = (256 * t.val + r.val) % 2048; rw [(index2 t).2.1]; omega)
  | ⟨2, _⟩ => exact Fin.ext (by show win0_2.index t 2 * 128 + 1 * v.val = v.val; rw [(index2 t).2.2]; omega)

theorem block3 (t : Fin cfg0.N) (h : Fin 4) (r : Fin 256) (v : Fin 128) : (iblk m c 3 t : Vec Ideal S4x256x128 .f32) (ix3 h r v) = (args m c).ke (ix3 h (spot t.val r) v) := by
  have ht := lt_points _ t.isLt
  unfold iblk
  rw [View.read_apply]
  refine congrArg (args m c).ke (funext fun a => ?_)
  match a with
  | ⟨0, _⟩ => exact Fin.ext (by show win0_3.index t 0 * 4 + 1 * h.val = h.val; rw [(index3 t).1]; omega)
  | ⟨1, _⟩ => exact Fin.ext (by show win0_3.index t 1 * 256 + 1 * r.val = (256 * t.val + r.val) % 2048; rw [(index3 t).2.1]; omega)
  | ⟨2, _⟩ => exact Fin.ext (by show win0_3.index t 2 * 128 + 1 * v.val = v.val; rw [(index3 t).2.2]; omega)

theorem block4 (t : Fin cfg0.N) (h : Fin 4) (r : Fin 256) (v : Fin 64) : (iblk m c 4 t : Vec Ideal S4x256x64 .f32) (ix3 h r v) = (args m c).att (ix3 h (spot t.val r) v) := by
  have ht := lt_points _ t.isLt
  unfold iblk
  rw [View.read_apply]
  refine congrArg (args m c).att (funext fun a => ?_)
  match a with
  | ⟨0, _⟩ => exact Fin.ext (by show win0_4.index t 0 * 4 + 1 * h.val = h.val; rw [(index4 t).1]; omega)
  | ⟨1, _⟩ => exact Fin.ext (by show win0_4.index t 1 * 256 + 1 * r.val = (256 * t.val + r.val) % 2048; rw [(index4 t).2.1]; omega)
  | ⟨2, _⟩ => exact Fin.ext (by show win0_4.index t 2 * 64 + 1 * v.val = v.val; rw [(index4 t).2.2]; omega)

theorem block5 (t : Fin cfg0.N) (j h : Fin 4) (p : Fin 8) (q : Fin 128) : (iblk m c 5 t : Vec Ideal S4x4x8x128 .f32) (ix4 j h p q) = (args m c).ge (ix4 (num t.val j) h p q) := by
  have ht := lt_points _ t.isLt
  unfold iblk
  rw [View.read_apply]
  refine congrArg (args m c).ge (funext fun a => ?_)
  match a with
  | ⟨0, _⟩ => exact Fin.ext (by show win0_5.index t 0 * 4 + 1 * j.val = (4 * t.val + j.val) % 32; rw [(index5 t).1]; omega)
  | ⟨1, _⟩ => exact Fin.ext (by show win0_5.index t 1 * 4 + 1 * h.val = h.val; rw [(index5 t).2.1]; omega)
  | ⟨2, _⟩ => exact Fin.ext (by show win0_5.index t 2 * 8 + 1 * p.val = p.val; rw [(index5 t).2.2.1]; omega)
  | ⟨3, _⟩ => exact Fin.ext (by show win0_5.index t 3 * 128 + 1 * q.val = q.val; rw [(index5 t).2.2.2]; omega)

theorem block6 (t : Fin cfg0.N) (r : Fin 256) (l : Fin 512) : (X0_6 m c t : Vec Ideal S256x512 .f32) (ix2 r l) = (args m c).z (ix2 (spot t.val r) ⟨1536 + l.val, by omega⟩) := by
  have ht := lt_points _ t.isLt
  unfold X0_6 Pipeline.Window.fill
  rw [dif_pos (moved0_6 t _)]
  unfold iblk
  rw [View.read_apply]
  refine congrArg (args m c).z (funext fun a => ?_)
  match a with
  | ⟨0, _⟩ => exact Fin.ext (by show win0_6.index t 0 * 256 + 1 * r.val = (256 * t.val + r.val) % 2048; rw [(index6 t).1]; omega)
  | ⟨1, _⟩ => exact Fin.ext (by show win0_6.index t 1 * 512 + 1 * l.val = 1536 + l.val; rw [(index6 t).2]; omega)

theorem block7 (t : Fin cfg0.N) (u : Fin 1) (l : Fin 128) : (iblk m c 7 t : Vec Ideal S1x128 .f32) (ix2 u l) = (args m c).g (ix2 u l) := by
  unfold iblk
  rw [View.read_apply]
  refine congrArg (args m c).g (funext fun a => ?_)
  match a with
  | ⟨0, _⟩ => exact Fin.ext (by show win0_7.index t 0 * 1 + 1 * u.val = u.val; rw [(index7 t).1]; omega)
  | ⟨1, _⟩ => exact Fin.ext (by show win0_7.index t 1 * 128 + 1 * l.val = l.val; rw [(index7 t).2]; omega)

theorem spot_row (t : ℕ) (j : Fin 4) (r : Fin 64) : spot t (inBlock j r) = row (num t j) r :=
  Fin.ext (by show (256 * t + (64 * j.val + r.val)) % 2048 = 64 * ((4 * t + j.val) % 32) + r.val; omega)

/-- The `j`-th chunk of point `t`'s blocks is its chunk of the arrays. -/
theorem chunk_eq (t : Fin cfg0.N) (j : Fin 4) (T : Fin 4 → Fin 128 → Fin 128 → EReal) :
    (blocks m c t).chunk j T = ((args m c).chunk (num t.val j)).begin T := by
  refine Chunk.ext rfl ?_ ?_ ?_ ?_ ?_ ?_ ?_ rfl ?_
  · funext h r v; exact (block0 m c t _ _ _).trans (congrArg (fun R => (args m c).uv (ix3 _ R _)) (spot_row _ _ _))
  · funext h r v; exact (block1 m c t _ _ _).trans (congrArg (fun R => (args m c).wk (ix3 _ R _)) (spot_row _ _ _))
  · funext h r v; exact (block2 m c t _ _ _).trans (congrArg (fun R => (args m c).qd (ix3 _ R _)) (spot_row _ _ _))
  · funext h r v; exact (block3 m c t _ _ _).trans (congrArg (fun R => (args m c).ke (ix3 _ R _)) (spot_row _ _ _))
  · funext h r v; exact (block4 m c t _ _ _).trans (congrArg (fun R => (args m c).att (ix3 _ R _)) (spot_row _ _ _))
  · funext h; exact block5 m c t _ _ _ _
  · funext h r v; exact (block6 m c t _ _).trans (congrArg (fun R => (args m c).z (ix2 R _)) (spot_row _ _ _))
  · funext v; exact block7 m c t _ _

/-! ## One point -/

/-- What point `t` has at hand for each of its four chunks: the chunk's arrays, and the state before it. -/
structure Point (A : Arrays) (t : ℕ) (b : Blocks Ideal) (S : Vec Ideal S4x128x128 .f32) : Prop where
  lt : t < 8
  c0 : ∀ T, b.at0.chunk T = (A.chunk (num t 0)).begin T
  c1 : ∀ T, b.at1.chunk T = (A.chunk (num t 1)).begin T
  c2 : ∀ T, b.at2.chunk T = (A.chunk (num t 2)).begin T
  c3 : ∀ T, b.at3.chunk T = (A.chunk (num t 3)).begin T
  s0 : ∀ h k v, S (ix3 h k v) = A.fwd (4 * t) h k v
  s1 : ∀ h k v, b.s1 S (ix3 h k v) = A.fwd (4 * t + 1) h k v
  s2 : ∀ h k v, b.s2 S (ix3 h k v) = A.fwd (4 * t + 2) h k v
  s3 : ∀ h k v, b.s3 S (ix3 h k v) = A.fwd (4 * t + 3) h k v

/-- Each chunk hands the next state to the one behind it. -/
theorem next_step (A : Arrays) (k : ℕ) (X : Loaded Ideal) (hX : ∀ T, X.chunk T = (A.chunk (nth k)).begin T) (S : Vec Ideal S4x128x128 .f32)
    (hS : ∀ h a v, S (ix3 h a v) = A.fwd k h a v) (h : Fin 4) (a v : Fin 128) : X.next S (ix3 h a v) = A.fwd (k + 1) h a v := by
  rw [X.next_apply hS, hX]; rfl

theorem point (t : Fin cfg0.N) (S : Vec Ideal S4x128x128 .f32) (hS : ∀ h k v, S (ix3 h k v) = (args m c).fwd (4 * t.val) h k v) :
    Point (args m c) t.val (blocks m c t) S := by
  have c0 := fun T => (chunk0 (blocks m c t) T).trans (chunk_eq m c t 0 T)
  have c1 := fun T => (chunk1 (blocks m c t) T).trans (chunk_eq m c t 1 T)
  have c2 := fun T => (chunk2 (blocks m c t) T).trans (chunk_eq m c t 2 T)
  have c3 := fun T => (chunk3 (blocks m c t) T).trans (chunk_eq m c t 3 T)
  have s1 : ∀ h k v, (blocks m c t).s1 S (ix3 h k v) = (args m c).fwd (4 * t.val + 1) h k v := next_step _ _ _ c0 _ hS
  have s2 : ∀ h k v, (blocks m c t).s2 S (ix3 h k v) = (args m c).fwd (4 * t.val + 2) h k v := next_step _ _ _ c1 _ s1
  have s3 : ∀ h k v, (blocks m c t).s3 S (ix3 h k v) = (args m c).fwd (4 * t.val + 3) h k v := next_step _ _ _ c2 _ s2
  exact ⟨lt_points _ t.isLt, c0, c1, c2, c3, hS, s1, s2, s3⟩

theorem spot_eq (f : Fin 32 → Fin 64 → EReal) (t : ℕ) (R : Fin 256) : f (num t (qt R)) (rt R) = f (ck (spot t R)) (rr (spot t R)) := by
  rw [ck_spot, rr_spot]

theorem num_val (t : ℕ) (ht : t < 8) (j : Fin 4) : (num t j).val = 4 * t + j.val := by
  show (4 * t + j.val) % 32 = _; omega

theorem run_num (A : Arrays) (t : ℕ) (ht : t < 8) (j : Fin 4) : A.run (num t j) = (A.chunk (num t j)).begin (A.fwd (4 * t + j.val)) := by
  unfold Arrays.run
  rw [num_val t ht j]

theorem mixed_left (A : Arrays) (i : S2048x1024.Idx) (h : (i 1).val < 512) : A.mixed i = A.cols (i 0) ⟨(i 1).val, h⟩ := by
  unfold Arrays.mixed
  exact dif_pos h
theorem mixed_right (A : Arrays) (i : S2048x1024.Idx) (h : ¬(i 1).val < 512) : A.mixed i = A.d i := by
  unfold Arrays.mixed
  exact dif_neg h

theorem states_outs (b : Blocks Ideal) (S : FVec Ideal S4x128x128 .f32) :
    (b.outs S).2.1 = rowsSt (k0_pay4 S) (k0_pay4 (b.s1 S)) (k0_pay4 (b.s2 S)) (k0_pay4 (b.s3 S)) := by
  simp only [Blocks.outs]

theorem kept_eq {S : Vec Ideal S4x128x128 .f32} {T : Fin 4 → Fin 128 → Fin 128 → EReal} (hS : ∀ h k v, S (ix3 h k v) = T h k v) (h : Fin 4) (k v : Fin 128) :
    k0_pay4 (F := Ideal) S (ix4 0 h k v) = T h k v := (kept_apply S h k v).trans (hS h k v)

namespace Point

variable {A : Arrays} {t : ℕ} {b : Blocks Ideal} {S : Vec Ideal S4x128x128 .f32} (P : Point A t b S)
include P

theorem cols (y : S256x512.Idx) : ((b.outs S).1 y : EReal) = A.cols (spot t (y 0)) (y 1) := by
  refine (rowsZ_apply (fun j => (A.run (num t j)).y) _ _ _ _
    (fun h r v => ?_) (fun h r v => ?_) (fun h r v => ?_) (fun h r v => ?_) y).trans ?_
  · rw [Loaded.y_apply _ P.s0, P.c0, run_num A t P.lt]; rfl
  · rw [Loaded.y_apply _ P.s1, P.c1, run_num A t P.lt]; rfl
  · rw [Loaded.y_apply _ P.s2, P.c2, run_num A t P.lt]; rfl
  · rw [Loaded.y_apply _ P.s3, P.c3, run_num A t P.lt]; rfl
  · exact spot_eq (fun n r => (A.run n).y (hd (y 1)) r (ln (y 1))) t (y 0)

theorem rows (y : S4x4x128x128.Idx) : (rowsSt (k0_pay4 S) (k0_pay4 (b.s1 S)) (k0_pay4 (b.s2 S)) (k0_pay4 (b.s3 S)) y : EReal)
    = A.fwd (4 * t + (y 0).val) (y 1) (y 2) (y 3) :=
  rowsSt_apply (fun j => A.fwd (4 * t + j.val)) _ _ _ _ (kept_eq P.s0) (kept_eq P.s1) (kept_eq P.s2) (kept_eq P.s3) y

theorem states (y : S4x4x128x128.Idx) : ((b.outs S).2.1 y : EReal) = A.fwd (4 * t + (y 0).val) (y 1) (y 2) (y 3) :=
  (congrFun (states_outs b S) y).trans (P.rows y)

theorem st (h : Fin 4) (k v : Fin 128) : ((b.outs S).2.2 (ix3 h k v) : EReal) = A.fwd (4 * t + 4) h k v :=
  next_step A (4 * t + 3) _ P.c3 _ P.s3 h k v

end Point

/-! ## All points -/

theorem first (t : Fin cfg0.N) (h0 : t.val % 8 = 0) : outsAt0 m c t.val t.isLt = (blocks m c t).outs k0_pay3 :=
  (outsAt0_A m c t h0).trans (outs_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (X0_6 m c t) (iblk m c 7 t) ((hcond0_0 t).mpr h0))
theorem later (t : Fin cfg0.N) (h0 : ¬t.val % 8 = 0) : outsAt0 m c t.val t.isLt = (blocks m c t).outs
    (outsAt0 m c (t.val - 1) (Nat.lt_of_le_of_lt (Nat.sub_le _ _) t.isLt)).2.2 :=
  (outsAt0_B m c t h0).trans (outs_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (X0_6 m c t) (iblk m c 7 t) (fun h => h0 ((hcond0_0 t).mp h)) _)

/-- What each point starts from and leaves. -/
theorem outs_at : ∀ (n : ℕ) (h : n < cfg0.N), ∃ S, outsAt0 m c n h = (blocks m c ⟨n, h⟩).outs S ∧ Point (args m c) n (blocks m c ⟨n, h⟩) S := by
  intro n
  induction n with
  | zero =>
    intro h
    exact ⟨_, first m c ⟨0, h⟩ rfl, point m c ⟨0, h⟩ _ (fun a k v => (zeros_apply a k v).trans rfl)⟩
  | succ n ih =>
    intro h
    have h8 := lt_points _ h
    obtain ⟨S, e, P⟩ := ih (Nat.lt_of_succ_lt h)
    refine ⟨_, later m c ⟨n + 1, h⟩ (by dsimp only; omega), point m c ⟨n + 1, h⟩ _ (fun a k v => ?_)⟩
    exact (congrArg (fun p => (p.2.2 (ix3 a k v) : EReal)) e).trans (P.st a k v)

/-! ## The arrays after the run -/

/-- The second result holds the state before each chunk. -/
theorem final_states : (dats m 0 c).arrAt 9 cfg0.N = (args m c).states := by
  refine (dats m 0 c).arrAt_eq_of_cover 9 (args m c).states (fun t _ => ?_) fun i => ?_
  · rw [Value.flushed9]
    obtain ⟨S, e, P⟩ := outs_at m c t.val t.isLt
    funext j
    rw [View.read_apply]
    refine (congrFun (congrArg (fun p => p.2.1) e) _).trans ((P.states _).trans ?_)
    show (args m c).fwd (4 * t.val + (j 0).val) (j 1) (j 2) (j 3) = (args m c).fwd (win0_9.index t 0 * 4 + 1 * (j 0).val) _ _ _
    refine congr4 (args m c).fwd ?_ ?_ ?_ ?_
    · rw [(index9 t).1]; omega
    · exact Fin.ext (by show (j 1).val = win0_9.index t 1 * 4 + 1 * (j 1).val; rw [(index9 t).2.1]; omega)
    · exact Fin.ext (by show (j 2).val = win0_9.index t 2 * 128 + 1 * (j 2).val; rw [(index9 t).2.2.1]; omega)
    · exact Fin.ext (by show (j 3).val = win0_9.index t 3 * 128 + 1 * (j 3).val; rw [(index9 t).2.2.2]; omega)
  · have h0 : (i 0 : ℕ) < 32 := (i 0).isLt
    have h1 : (i 1 : ℕ) < 4 := (i 1).isLt
    have h2 : (i 2 : ℕ) < 128 := (i 2).isLt
    have h3 : (i 3 : ℕ) < 128 := (i 3).isLt
    refine ⟨⟨(i 0 : ℕ) / 4, by rw [show cfg0.N = 8 from N_0]; omega⟩, flush0_9 _, ?_⟩
    generalize ht : (⟨(i 0 : ℕ) / 4, _⟩ : Fin cfg0.N) = t
    have hv : t.val = (i 0 : ℕ) / 4 := by rw [← ht]
    show i ∈ ((View.whole main_v0_1).slice (win0_9.rect t)).set
    rw [View.set_slice_whole, Rect.mem_set_unit]
    intro a
    match a with
    | ⟨0, _⟩ => show win0_9.index t 0 * 4 ≤ (i 0 : ℕ) ∧ (i 0 : ℕ) < win0_9.index t 0 * 4 + 4
                rw [(index9 t).1]; omega
    | ⟨1, _⟩ => show win0_9.index t 1 * 4 ≤ (i 1 : ℕ) ∧ (i 1 : ℕ) < win0_9.index t 1 * 4 + 4
                rw [(index9 t).2.1]; omega
    | ⟨2, _⟩ => show win0_9.index t 2 * 128 ≤ (i 2 : ℕ) ∧ (i 2 : ℕ) < win0_9.index t 2 * 128 + 128
                rw [(index9 t).2.2.1]; omega
    | ⟨3, _⟩ => show win0_9.index t 3 * 128 ≤ (i 3 : ℕ) ∧ (i 3 : ℕ) < win0_9.index t 3 * 128 + 128
                rw [(index9 t).2.2.2]; omega

/-- Before the call the first result is a copy of the argument. -/
theorem entry : (V m c (Pipeline.arrRef spec0 8) : S2048x1024.Idx → EReal) = m ((c : Thread nD τ).loc main_arg8) := by
  show StableHlo.after hostOps0 _ (Proc.devRef .tc main_v0_0) = _
  unfold hostOps0
  after_results
  rfl

theorem written (i : S2048x1024.Idx) :
    ((dats m 0 c).arrAt 8 cfg0.N : S2048x1024.Idx → EReal) i = if (i 1).val / 512 < 1 then (args m c).mixed i else (dats m 0 c).A 8 i := by
  refine (dats m 0 c).arrAt_apply_of_coversWhere 8 (args m c).mixed (P := fun i : S2048x1024.Idx => (i 1).val / 512 < 1) (fun β => β (1 : Fin 2) < 1) (by decide +kernel)
    (fun t hf y => ?_) (fun j => Iff.rfl) i
  obtain ⟨S, e, P⟩ := outs_at m c t.val t.isLt
  blk_simp
  rw [after0_8]
  refine (congrFun (congrArg (fun p => p.1) e) _).trans ((P.cols _).trans ?_)
  have h8 := lt_points _ t.isLt
  have h0 : (y 0).val < 256 := (y 0).isLt
  have h1 : (y 1).val < 512 := (y 1).isLt
  refine Eq.trans ?_ (mixed_left (args m c) _ (show win0_8.index t 1 * 512 + 1 * (y 1).val < 512 by rw [(index8 t).2]; omega)).symm
  refine congrArg₂ (args m c).cols (Fin.ext ?_) (Fin.ext ?_)
  · show (256 * t.val + (y 0).val) % 2048 = win0_8.index t 0 * 256 + 1 * (y 0).val; rw [(index8 t).1]; omega
  · show (y 1).val = win0_8.index t 1 * 512 + 1 * (y 1).val; rw [(index8 t).2]; omega

/-- The first result: the heads' columns written, the others as the argument has them. -/
theorem final_mixed : (dats m 0 c).arrAt 8 cfg0.N = (args m c).mixed := by
  funext i
  refine (written m c i).trans ?_
  by_cases h : (i 1).val / 512 < 1
  · rw [if_pos h]
  · rw [if_neg h, A_eq]
    refine (congrFun (entry m c) i).trans ?_
    exact (mixed_right (args m c) i (by omega)).symm

end Cert.Kernel15Ideal.Scan

end
-- ==== Proof.ScanForeLoop.lean ====
/-
  The reference's loop over the chunks, first to last: one trip entry by entry, what the loop holds after each trip, and the results
  after the last.
-/
module

public import proofs.«01_k».proof.Proof.ScanForeSpec
public import proofs.«01_k».proof.Proof.Gen.Reference15Ideal.Run
public import Idealize.ShloMosaic.Lib.KernelVsHost
public import Idealize.ShloMosaic.Lib.Pointwise
public import Idealize.ShloMosaic.Lib.DynamicIndex
public import Idealize.ShloMosaic.Lib.WordCmp

@[expose] public section

set_option maxRecDepth 8192

noncomputable section

namespace Cert.Reference15Ideal.Scan

open Idealize.ShloMosaic Idealize.ShloMosaic.TcCoe Idealize.SL.Sem Idealize.ShloMosaic.StableHlo
open Cert.Reference15Ideal Cert.Reference15Ideal.Gen Cert.Reference15Ideal.Value Cert.Scan

/-! ## Reading and writing one chunk of a stacked array -/

/-- The start of a slice of chunk `n`. -/
theorem start4 {w : (⟨S_, .i32⟩ : BufTy).Contents (Elt Ideal)} {n : Fin 32} (hw : w = constantI S_ 32 (BitVec.ofNat 32 n.val)) (a : Fin 4) :
    ((![w, constantI S_ 32 0#32, constantI S_ 32 0#32, constantI S_ 32 0#32] : Fin 4 → (⟨S_, .i32⟩ : BufTy).Contents (Elt Ideal)) a
      (Shape.Idx.first h_S_)).toInt = ((![n.val, 0, 0, 0] : Fin 4 → ℕ) a : ℤ) := by
  subst hw
  match a with
  | ⟨0, _⟩ => exact toInt_ofNat_of_lt (by omega)
  | ⟨1, _⟩ => rfl
  | ⟨2, _⟩ => rfl
  | ⟨3, _⟩ => rfl

theorem start2 {w : (⟨S_, .i32⟩ : BufTy).Contents (Elt Ideal)} {n : Fin 32} (hw : w = constantI S_ 32 (BitVec.ofNat 32 n.val)) (a : Fin 2) :
    ((![w, constantI S_ 32 0#32] : Fin 2 → (⟨S_, .i32⟩ : BufTy).Contents (Elt Ideal)) a (Shape.Idx.first h_S_)).toInt
      = ((![n.val, 0] : Fin 2 → ℕ) a : ℤ) := by
  subst hw
  match a with
  | ⟨0, _⟩ => exact toInt_ofNat_of_lt (by omega)
  | ⟨1, _⟩ => rfl

section Slices

variable {B C : ℕ} (n : Fin 32)

theorem fits4 : (⟨4, ![32, 4, B, C]⟩ : Shape).Slices (![n.val, 0, 0, 0] : Fin 4 → ℕ) ⟨4, ![1, 4, B, C]⟩ :=
  ⟨rfl, fun a => by
    match a with
    | ⟨0, _⟩ => show n.val + 1 ≤ 32; omega
    | ⟨1, _⟩ => exact Nat.le_refl _
    | ⟨2, _⟩ => show 0 + B ≤ B; omega
    | ⟨3, _⟩ => show 0 + C ≤ C; omega⟩

theorem fits2 : (⟨2, ![32, 4]⟩ : Shape).Slices (![n.val, 0] : Fin 2 → ℕ) ⟨2, ![1, 4]⟩ :=
  ⟨rfl, fun a => by
    match a with
    | ⟨0, _⟩ => show n.val + 1 ≤ 32; omega
    | ⟨1, _⟩ => exact Nat.le_refl _⟩

theorem slice4 (x : (⟨4, ![32, 4, B, C]⟩ : Shape).Idx → EReal) (start : Fin 4 → Int) (h) (he : ∀ a, start a = ((![n.val, 0, 0, 0] : Fin 4 → ℕ) a : ℤ))
    (a : Fin 4) (b : Fin B) (c : Fin C) :
    Host.dynamicSlice (s := ⟨4, ![32, 4, B, C]⟩) ⟨4, ![1, 4, B, C]⟩ x start h (ix4 0 a b c) = x (ix4 n a b c) := by
  have e := Host.dynamicSlice_eq_extractStridedSlice (s := ⟨4, ![32, 4, B, C]⟩) ⟨4, ![1, 4, B, C]⟩ x start _ h (fits4 n) he
  rw [e]
  refine congrArg x (funext fun k => ?_)
  match k with
  | ⟨0, _⟩ => exact Fin.ext (Nat.add_zero _)
  | ⟨1, _⟩ => exact Fin.ext (Nat.zero_add _)
  | ⟨2, _⟩ => exact Fin.ext (Nat.zero_add _)
  | ⟨3, _⟩ => exact Fin.ext (Nat.zero_add _)

theorem slice2 (x : (⟨2, ![32, 4]⟩ : Shape).Idx → EReal) (start : Fin 2 → Int) (h) (he : ∀ a, start a = ((![n.val, 0] : Fin 2 → ℕ) a : ℤ)) (a : Fin 4) :
    Host.dynamicSlice (s := ⟨2, ![32, 4]⟩) ⟨2, ![1, 4]⟩ x start h (ix2 0 a) = x (ix2 n a) := by
  have e := Host.dynamicSlice_eq_extractStridedSlice (s := ⟨2, ![32, 4]⟩) ⟨2, ![1, 4]⟩ x start _ h (fits2 n) he
  rw [e]
  refine congrArg x (funext fun k => ?_)
  match k with
  | ⟨0, _⟩ => exact Fin.ext (Nat.add_zero _)
  | ⟨1, _⟩ => exact Fin.ext (Nat.zero_add _)

/-- The stacked array after the update: chunk `n` is the update, the others are as they were. -/
theorem update4 (x : (⟨4, ![32, 4, B, C]⟩ : Shape).Idx → EReal) (y : (⟨4, ![1, 4, B, C]⟩ : Shape).Idx → EReal) (start : Fin 4 → Int) (h)
    (he : ∀ a, start a = ((![n.val, 0, 0, 0] : Fin 4 → ℕ) a : ℤ)) (p : Fin 32) (a : Fin 4) (b : Fin B) (c : Fin C) :
    Host.dynamicUpdateSlice (s := ⟨4, ![32, 4, B, C]⟩) (u := ⟨4, ![1, 4, B, C]⟩) x y start h (ix4 p a b c)
      = if p = n then y (ix4 0 a b c) else x (ix4 p a b c) := by
  rw [WordCmp.dynamicUpdateSlice_eq_update (s := ⟨4, ![32, 4, B, C]⟩) (u := ⟨4, ![1, 4, B, C]⟩) x y start h _ (fits4 n) he]
  unfold updateSlice
  by_cases hp : p = n
  · subst hp
    rw [if_pos rfl, dif_pos]
    · refine congrArg y (funext fun k => ?_)
      match k with
      | ⟨0, _⟩ => exact Subsingleton.elim (α := Fin 1) _ _
      | ⟨1, _⟩ => exact Fin.ext (Nat.sub_zero _)
      | ⟨2, _⟩ => exact Fin.ext (Nat.sub_zero _)
      | ⟨3, _⟩ => exact Fin.ext (Nat.sub_zero _)
    · intro k
      match k with
      | ⟨0, _⟩ => exact ⟨Nat.le_refl _, Nat.lt_succ_self _⟩
      | ⟨1, _⟩ => exact ⟨Nat.zero_le _, by show a.val < 0 + 4; omega⟩
      | ⟨2, _⟩ => exact ⟨Nat.zero_le _, by show b.val < 0 + B; omega⟩
      | ⟨3, _⟩ => exact ⟨Nat.zero_le _, by show c.val < 0 + C; omega⟩
  · rw [if_neg hp, dif_neg]
    intro hk
    have h0 := hk ⟨0, by show 0 < 4; omega⟩
    have h1 : n.val ≤ p.val ∧ p.val < n.val + 1 := h0
    exact hp (Fin.ext (by omega))

theorem dropHd (y : FVec Ideal S1x4x64x128 .f32) (h : Fin 4) (a : Fin 64) (b : Fin 128) : shapeCast S4x64x128 y shapeCasts_S1x4x64x128_S4x64x128 (ix3 h a b) = y (ix4 0 h a b) := by
  pointwise []
theorem dropHc (y : FVec Ideal S1x4x64x64 .f32) (h : Fin 4) (a b : Fin 64) : shapeCast S4x64x64 y shapeCasts_S1x4x64x64_S4x64x64 (ix3 h a b) = y (ix4 0 h a b) := by
  pointwise []
theorem liftHd (x : FVec Ideal S4x64x128 .f32) (h : Fin 4) (r : Fin 64) (v : Fin 128) :
    broadcastInDim S1x4x64x128 ![1, 2, 3] bcast_S4x64x128_S1x4x64x128_1_2_3 x (ix4 0 h r v) = x (ix3 h r v) := by
  pointwise []
theorem liftSt (x : FVec Ideal S4x128x128 .f32) (h : Fin 4) (k v : Fin 128) :
    broadcastInDim S1x4x128x128 ![1, 2, 3] bcast_S4x128x128_S1x4x128x128_1_2_3 x (ix4 0 h k v) = x (ix3 h k v) := by
  pointwise []

end Slices

/-! ## One trip -/

variable (V : Valuation τ sig (Elt Ideal))

/-- The chunk's arrays, of what the loop carries, with the state `T` before it. -/
def at_ (n : Fin 32) (T : Fin 4 → Fin 128 → Fin 128 → EReal) : Chunk where
  st := T
  uv h r v := (V (Proc.devRef .tc main_v18_0) : S32x4x64x128.Idx → EReal) (ix4 n h r v)
  wk h r v := (V (Proc.devRef .tc main_v18_1) : S32x4x64x128.Idx → EReal) (ix4 n h r v)
  qd h r v := (V (Proc.devRef .tc main_v18_2) : S32x4x64x128.Idx → EReal) (ix4 n h r v)
  ke h r v := (V (Proc.devRef .tc main_v18_3) : S32x4x64x128.Idx → EReal) (ix4 n h r v)
  att h r s := (V (Proc.devRef .tc main_v18_4) : S32x4x64x64.Idx → EReal) (ix4 n h r s)
  ge h := (V (Proc.devRef .tc main_v18_5) : S32x4.Idx → EReal) (ix2 n h)
  z h r v := (V (Proc.devRef .tc main_v18_6) : S32x4x64x128.Idx → EReal) (ix4 n h r v)
  d _ _ _ := 0
  g v := (V (Proc.devRef .tc main_v18_7) : S1x128.Idx → EReal) (ix2 0 v)

theorem fU_apply (a w : FVec Ideal S4x64x128 .f32) (s : FVec Ideal S4x128x128 .f32) (h : Fin 4) (r : Fin 64) (v : Fin 128) :
    subf a (Host.dotGeneral dot_S4x64x128_S4x128x128_S4x64x128_2_1_1_2_0_0 none w s) (ix3 h r v)
      = (a (ix3 h r v) - ∑ k : Fin 128, (w (ix3 h r k) * s (ix3 h k v) : EReal) : EReal) := by
  pointwise []

theorem fO_apply (q u : FVec Ideal S4x64x128 .f32) (s : FVec Ideal S4x128x128 .f32) (t : FVec Ideal S4x64x64 .f32) (h : Fin 4) (r : Fin 64) (v : Fin 128) :
    addf (Host.dotGeneral dot_S4x64x128_S4x128x128_S4x64x128_2_1_1_2_0_0 none q s) (Host.dotGeneral dot_S4x64x64_S4x64x128_S4x64x128_2_1_1_2_0_0 none t u) (ix3 h r v)
      = ((∑ k : Fin 128, (q (ix3 h r k) * s (ix3 h k v) : EReal)) + ∑ k : Fin 64, (t (ix3 h r k) * u (ix3 h k v) : EReal) : EReal) := by
  pointwise []

theorem fNext_apply (ge : FVec Ideal S1x4 .f32) (s : FVec Ideal S4x128x128 .f32) (e u : FVec Ideal S4x64x128 .f32) (h : Fin 4) (k v : Fin 128) :
    addf (mulf (broadcastInDim S4x128x128 ![0, 1, 2] bcast_S4x1x1_S4x128x128_0_1_2 (broadcastInDim S4x1x1 ![0] bcast_S4_S4x1x1_0 (shapeCast S4 ge shapeCasts_S1x4_S4))) s)
        (Host.dotGeneral dot_S4x64x128_S4x64x128_S4x128x128_1_1_2_2_0_0 none e u) (ix3 h k v)
      = (ge (ix2 0 h) * s (ix3 h k v) + ∑ r : Fin 64, (e (ix3 h r k) * u (ix3 h r v) : EReal) : EReal) := by
  pointwise []

theorem fY_apply (o z : FVec Ideal S4x64x128 .f32) (g : FVec Ideal S1x128 .f32) (h : Fin 4) (r : Fin 64) (v : Fin 128) :
    mulf (mulf (mulf o (broadcastInDim S4x64x128 ![0, 1, 2] bcast_S4x64x1_S4x64x128_0_1_2 (Host.rsqrt (addf (Host.divf (broadcastInDim S4x64x1 ![0, 1] bcast_S4x64_S4x64x1_0_1 (Host.reduceAdd (mulf o o) (constant S_ .f32 0x00000000#32) reducesTo_S4x64x128_S4x64_d2 h_S_)) (broadcastInDim S4x64x1 ![] bcast_S_S4x64x1 (constant S_ .f32 0x43000000#32))) (broadcastInDim S4x64x1 ![] bcast_S_S4x64x1 (constant S_ .f32 0x358637BD#32))))))
        (broadcastInDim S4x64x128 ![0, 1, 2] bcast_S1x1x128_S4x64x128_0_1_2 (broadcastInDim S1x1x128 ![2] bcast_S128_S1x1x128_2 (shapeCast S128 g shapeCasts_S1x128_S128))))
        (mulf z (Host.divf (broadcastInDim S4x64x128 ![] bcast_S_S4x64x128 (constant S_ .f32 0x3F800000#32)) (addf (broadcastInDim S4x64x128 ![] bcast_S_S4x64x128 (constant S_ .f32 0x3F800000#32)) (Host.exp (Host.negf z))))) (ix3 h r v)
      = Chunk.gated (fun k => o (ix3 h r k)) (fun k => z (ix3 h r k)) (fun k => g (ix2 0 k)) v := by
  pointwise []
  rfl

section Trip

variable {n : Fin 32} (hn : V (Proc.devRef .tc main_v18_8) = constantI S_ 32 (BitVec.ofNat 32 n.val))
  {T : Fin 4 → Fin 128 → Fin 128 → EReal} (hS : ∀ h k v, (V (Proc.devRef .tc main_v18_9) : S4x128x128.Idx → EReal) (ix3 h k v) = T h k v)
include hn

theorem sliceHd (x : S32x4x64x128.Idx → EReal) (h : Fin 4) (r : Fin 64) (v : Fin 128) :
    shapeCast S4x64x128 (Host.dynamicSlice S1x4x64x128 x (fun k => (((![V (Proc.devRef .tc main_v18_8), constantI S_ 32 0#32, constantI S_ 32 0#32, constantI S_ 32 0#32] : Fin 4 → (⟨S_, .i32⟩ : BufTy).Contents (Elt Ideal))) k (Shape.Idx.first h_S_)).toInt) sliceFits_S32x4x64x128_S1x4x64x128) shapeCasts_S1x4x64x128_S4x64x128 (ix3 h r v)
      = x (ix4 n h r v) :=
  (dropHd _ h r v).trans (slice4 n _ _ _ (start4 hn) h r v)
theorem sliceHc (x : S32x4x64x64.Idx → EReal) (h : Fin 4) (r s : Fin 64) :
    shapeCast S4x64x64 (Host.dynamicSlice S1x4x64x64 x (fun k => (((![V (Proc.devRef .tc main_v18_8), constantI S_ 32 0#32, constantI S_ 32 0#32, constantI S_ 32 0#32] : Fin 4 → (⟨S_, .i32⟩ : BufTy).Contents (Elt Ideal))) k (Shape.Idx.first h_S_)).toInt) sliceFits_S32x4x64x64_S1x4x64x64) shapeCasts_S1x4x64x64_S4x64x64 (ix3 h r s)
      = x (ix4 n h r s) :=
  (dropHc _ h r s).trans (slice4 n _ _ _ (start4 hn) h r s)

theorem v29 (h : Fin 4) (r : Fin 64) (v : Fin 128) : (res_main_while0b_v29 V : S4x64x128.Idx → EReal) (ix3 h r v) = (at_ V n T).z h r v :=
  sliceHd V hn _ h r v

include hS

theorem v32 (h : Fin 4) (r : Fin 64) (v : Fin 128) : (res_main_while0b_v32 V : S4x64x128.Idx → EReal) (ix3 h r v) = (at_ V n T).u h r v :=
  (fU_apply _ _ _ h r v).trans (congrArg₂ (fun a b : EReal => a - b) (sliceHd V hn _ h r v)
    (Finset.sum_congr rfl fun k _ => congrArg₂ (fun a b : EReal => a * b) (sliceHd V hn _ h r k) (hS h k v)))

theorem v35 (h : Fin 4) (r : Fin 64) (v : Fin 128) : (res_main_while0b_v35 V : S4x64x128.Idx → EReal) (ix3 h r v) = (at_ V n T).o h r v :=
  (fO_apply _ _ _ _ h r v).trans (congrArg₂ (fun a b : EReal => a + b)
    (Finset.sum_congr rfl fun k _ => congrArg₂ (fun a b : EReal => a * b) (sliceHd V hn _ h r k) (hS h k v))
    (Finset.sum_congr rfl fun k _ => congrArg₂ (fun a b : EReal => a * b) (sliceHc V hn _ h r k) (v32 V hn hS h k v)))

theorem next_at (h : Fin 4) (k v : Fin 128) : (step_main_v18_9 V : S4x128x128.Idx → EReal) (ix3 h k v) = (at_ V n T).next h k v :=
  (fNext_apply _ _ _ _ h k v).trans (congrArg₂ (fun a b : EReal => a + b)
    (congrArg₂ (fun a b : EReal => a * b) (slice2 n (V (Proc.devRef .tc main_v18_5)) _ sliceFits_S32x4_S1x4 (start2 hn) h) (hS h k v))
    (Finset.sum_congr rfl fun r _ => congrArg₂ (fun a b : EReal => a * b) (sliceHd V hn _ h r k) (v32 V hn hS h r v)))

theorem y_at (h : Fin 4) (r : Fin 64) (v : Fin 128) :
    Chunk.gated (fun k => (res_main_while0b_v35 V : S4x64x128.Idx → EReal) (ix3 h r k)) (fun k => (res_main_while0b_v29 V : S4x64x128.Idx → EReal) (ix3 h r k))
        (fun k => (V (Proc.devRef .tc main_v18_7) : S1x128.Idx → EReal) (ix2 0 k)) v
      = (at_ V n T).y h r v := by
  simp only [v35 V hn hS, v29 V hn (T := T)]
  rfl

end Trip

/-! ## The arrays stacked by chunk, and back -/

theorem stackHd (x : FVec Ideal S4x2048x128 .f32) (n : Fin 32) (h : Fin 4) (r : Fin 64) (v : Fin 128) :
    transpose S32x4x64x128 [1, 0, 2, 3] (shapeCast S4x32x64x128 x shapeCasts_S4x2048x128_S4x32x64x128) transposes_S4x32x64x128_S32x4x64x128_1_0_2_3 (ix4 n h r v)
      = x (ix3 h (row n r) v) := by
  pointwise []
  refine congrArg x (funext fun a => ?_)
  match a with
  | ⟨0, _⟩ => apply Fin.ext; simp [row]; try omega
  | ⟨1, _⟩ => apply Fin.ext; simp [row]; try omega
  | ⟨2, _⟩ => apply Fin.ext; simp [row]; try omega

theorem stackHc (x : FVec Ideal S4x2048x64 .f32) (n : Fin 32) (h : Fin 4) (r s : Fin 64) :
    transpose S32x4x64x64 [1, 0, 2, 3] (shapeCast S4x32x64x64 x shapeCasts_S4x2048x64_S4x32x64x64) transposes_S4x32x64x64_S32x4x64x64_1_0_2_3 (ix4 n h r s)
      = x (ix3 h (row n r) s) := by
  pointwise []
  refine congrArg x (funext fun a => ?_)
  match a with
  | ⟨0, _⟩ => apply Fin.ext; simp [row]; try omega
  | ⟨1, _⟩ => apply Fin.ext; simp [row]; try omega
  | ⟨2, _⟩ => apply Fin.ext; simp [row]; try omega

theorem stackGe (x : FVec Ideal S32x4x8x128 .f32) (n : Fin 32) (h : Fin 4) :
    shapeCast S32x4 (extractStridedSlice S32x4x1x1 ![0, 0, 0, 0] x slices_S32x4x8x128_S32x4x1x1_0_0_0_0) shapeCasts_S32x4x1x1_S32x4 (ix2 n h) = x (ix4 n h 0 0) := by
  pointwise []

theorem stackZ (x : FVec Ideal S2048x512 .f32) (n : Fin 32) (h : Fin 4) (r : Fin 64) (v : Fin 128) :
    transpose S32x4x64x128 [0, 2, 1, 3] (shapeCast S32x64x4x128 x shapeCasts_S2048x512_S32x64x4x128) transposes_S32x64x4x128_S32x4x64x128_0_2_1_3 (ix4 n h r v)
      = x (ix2 (row n r) ⟨128 * h.val + v.val, by omega⟩) := by
  pointwise []
  refine congrArg x (funext fun a => ?_)
  match a with
  | ⟨0, _⟩ => apply Fin.ext; simp [row]; try omega
  | ⟨1, _⟩ => apply Fin.ext; simp [row]; try omega

theorem unstackZ (x : FVec Ideal S32x4x64x128 .f32) (R : Fin 2048) (l : Fin 512) :
    shapeCast S2048x512 (transpose S32x64x4x128 [0, 2, 1, 3] x transposes_S32x4x64x128_S32x64x4x128_0_2_1_3) shapeCasts_S32x64x4x128_S2048x512 (ix2 R l)
      = x (ix4 (ck R) (hd l) (rr R) (ln l)) := by
  pointwise []
  refine congrArg x (funext fun a => ?_)
  match a with
  | ⟨0, _⟩ => apply Fin.ext; simp [ck, rr, hd, ln]; try omega
  | ⟨1, _⟩ => apply Fin.ext; simp [ck, rr, hd, ln]; try omega
  | ⟨2, _⟩ => apply Fin.ext; simp [ck, rr, hd, ln]; try omega
  | ⟨3, _⟩ => apply Fin.ext; simp [ck, rr, hd, ln]; try omega
/-! ## Before the first trip -/

variable (m : (ℓ : Loc nD τ sig) → Buf (Elt Ideal) ℓ) (c : Dev nD)

/-- The arguments; the field `d` is the array whose other columns the reference keeps. -/
def args : Arrays where
  uv := m ((c : Thread nD τ).loc main_arg0)
  wk := m ((c : Thread nD τ).loc main_arg1)
  qd := m ((c : Thread nD τ).loc main_arg2)
  ke := m ((c : Thread nD τ).loc main_arg3)
  att := m ((c : Thread nD τ).loc main_arg4)
  ge := m ((c : Thread nD τ).loc main_arg5)
  z := m ((c : Thread nD τ).loc main_arg6)
  g := m ((c : Thread nD τ).loc main_arg7)
  st := fun _ => 0
  d := m ((c : Thread nD τ).loc main_arg8)

/-- What the loop starts from. -/
abbrev start : Valuation τ sig (Elt Ideal) := entryContents preI m c

set_option maxRecDepth 65536 in
set_option maxHeartbeats 1600000 in
theorem start_reads :
    start m c (Proc.devRef .tc main_v18_0) = transpose S32x4x64x128 [1, 0, 2, 3] (shapeCast S4x32x64x128 (m ((c : Thread nD τ).loc main_arg0)) shapeCasts_S4x2048x128_S4x32x64x128) transposes_S4x32x64x128_S32x4x64x128_1_0_2_3
    ∧ start m c (Proc.devRef .tc main_v18_1) = transpose S32x4x64x128 [1, 0, 2, 3] (shapeCast S4x32x64x128 (m ((c : Thread nD τ).loc main_arg1)) shapeCasts_S4x2048x128_S4x32x64x128) transposes_S4x32x64x128_S32x4x64x128_1_0_2_3
    ∧ start m c (Proc.devRef .tc main_v18_2) = transpose S32x4x64x128 [1, 0, 2, 3] (shapeCast S4x32x64x128 (m ((c : Thread nD τ).loc main_arg2)) shapeCasts_S4x2048x128_S4x32x64x128) transposes_S4x32x64x128_S32x4x64x128_1_0_2_3
    ∧ start m c (Proc.devRef .tc main_v18_3) = transpose S32x4x64x128 [1, 0, 2, 3] (shapeCast S4x32x64x128 (m ((c : Thread nD τ).loc main_arg3)) shapeCasts_S4x2048x128_S4x32x64x128) transposes_S4x32x64x128_S32x4x64x128_1_0_2_3
    ∧ start m c (Proc.devRef .tc main_v18_4) = transpose S32x4x64x64 [1, 0, 2, 3] (shapeCast S4x32x64x64 (m ((c : Thread nD τ).loc main_arg4)) shapeCasts_S4x2048x64_S4x32x64x64) transposes_S4x32x64x64_S32x4x64x64_1_0_2_3
    ∧ start m c (Proc.devRef .tc main_v18_5) = shapeCast S32x4 (extractStridedSlice S32x4x1x1 ![0, 0, 0, 0] (m ((c : Thread nD τ).loc main_arg5)) slices_S32x4x8x128_S32x4x1x1_0_0_0_0) shapeCasts_S32x4x1x1_S32x4
    ∧ start m c (Proc.devRef .tc main_v18_6) = transpose S32x4x64x128 [0, 2, 1, 3] (shapeCast S32x64x4x128 (extractStridedSlice S2048x512 ![0, 1536] (m ((c : Thread nD τ).loc main_arg6)) slices_S2048x3840_S2048x512_0_1536) shapeCasts_S2048x512_S32x64x4x128) transposes_S32x64x4x128_S32x4x64x128_0_2_1_3
    ∧ start m c (Proc.devRef .tc main_v18_7) = m ((c : Thread nD τ).loc main_arg7)
    ∧ start m c (Proc.devRef .tc main_v18_8) = constantI S_ 32 (BitVec.ofNat 32 0)
    ∧ start m c (Proc.devRef .tc main_v18_9) = broadcastInDim S4x128x128 ![] bcast_S_S4x128x128 (constant (F := Ideal) S_ .f32 0x00000000#32) := by
  refine ⟨?_, ?_, ?_, ?_, ?_, ?_, ?_, ?_, ?_, ?_⟩ <;> (simp only [start, entryContents, afterL_cons, afterL_nil]; after_reads_simp) <;> rfl

theorem gate_apply (x : FVec Ideal S2048x3840 .f32) (R : Fin 2048) (l : Fin 512) :
    extractStridedSlice S2048x512 ![0, 1536] x slices_S2048x3840_S2048x512_0_1536 (ix2 R l) = x (ix2 R ⟨1536 + l.val, by omega⟩) := by
  pointwise []

theorem start_at (n : Fin 32) (T : Fin 4 → Fin 128 → Fin 128 → EReal) : at_ (start m c) n T = ((args m c).chunk n).begin T := by
  obtain ⟨e0, e1, e2, e3, e4, e5, e6, e7, -⟩ := start_reads m c
  refine Chunk.ext rfl ?_ ?_ ?_ ?_ ?_ ?_ ?_ rfl ?_
  · funext h r v; exact (congrFun e0 _).trans (stackHd _ n h r v)
  · funext h r v; exact (congrFun e1 _).trans (stackHd _ n h r v)
  · funext h r v; exact (congrFun e2 _).trans (stackHd _ n h r v)
  · funext h r v; exact (congrFun e3 _).trans (stackHd _ n h r v)
  · funext h r s; exact (congrFun e4 _).trans (stackHc _ n h r s)
  · funext h; exact (congrFun e5 _).trans (stackGe _ n h)
  · funext h r v; exact ((congrFun e6 _).trans (stackZ _ n h r v)).trans (gate_apply _ _ _)
  · funext v; exact congrFun e7 _

/-! ## One trip after another -/

/-- What the loop holds after `k` trips: the arrays it reads, the state, and in the stacked results the chunks handled so far. -/
structure Holds (A : Arrays) (V : Valuation τ sig (Elt Ideal)) (k : ℕ) : Prop where
  trip : V (Proc.devRef .tc main_v18_8) = constantI S_ 32 (BitVec.ofNat 32 k)
  arrays : ∀ n T, at_ V n T = (A.chunk n).begin T
  state : ∀ h a b, (V (Proc.devRef .tc main_v18_9) : S4x128x128.Idx → EReal) (ix3 h a b) = A.fwd k h a b
  rows : ∀ p a b l, p.val < k → (V (Proc.devRef .tc main_v18_10) : S32x4x64x128.Idx → EReal) (ix4 p a b l) = (A.run p).y a b l
  kept : ∀ p a b l, p.val < k → (V (Proc.devRef .tc main_v18_11) : S32x4x128x128.Idx → EReal) (ix4 p a b l) = A.fwd p.val a b l

theorem holds_start : Holds (args m c) (start m c) 0 := by
  obtain ⟨-, -, -, -, -, -, -, -, e8, e9⟩ := start_reads m c
  refine ⟨e8, start_at m c, fun h a b => ?_, fun p a b l hp => absurd hp (Nat.not_lt_zero _), fun p a b l hp => absurd hp (Nat.not_lt_zero _)⟩
  exact (congrFun e9 _).trans (show (Ideal.ofBits .f32 0x00000000#32 : EReal) = 0 from Ideal.ofBits_zero_f32)

theorem chunk_step {B C : ℕ} (n : Fin 32) {f : Fin 32 → Fin 4 → Fin B → Fin C → EReal} {x : (⟨4, ![32, 4, B, C]⟩ : Shape).Idx → EReal}
    {y : (⟨4, ![1, 4, B, C]⟩ : Shape).Idx → EReal} {start : Fin 4 → Int} (h) (he : ∀ a, start a = ((![n.val, 0, 0, 0] : Fin 4 → ℕ) a : ℤ))
    (hx : ∀ p a b c, p.val < n.val → x (ix4 p a b c) = f p a b c) (hy : ∀ a b c, y (ix4 0 a b c) = f n a b c) (p : Fin 32) (a : Fin 4) (b : Fin B)
    (c : Fin C) (hp : p.val < n.val + 1) :
    Host.dynamicUpdateSlice (s := ⟨4, ![32, 4, B, C]⟩) (u := ⟨4, ![1, 4, B, C]⟩) x y start h (ix4 p a b c) = f p a b c := by
  rw [update4 n x y start h he]
  by_cases e : p = n
  · rw [if_pos e, e]; exact hy a b c
  · rw [if_neg e]
    exact hx p a b c (by
      have : p.val ≠ n.val := fun h => e (Fin.ext h)
      omega)

theorem keeps_at (V : Valuation τ sig (Elt Ideal)) (n : Fin 32) (T : Fin 4 → Fin 128 → Fin 128 → EReal) : at_ (STEP V) n T = at_ V n T := by
  unfold at_
  rw [STEP_main_v18_0, STEP_main_v18_1, STEP_main_v18_2, STEP_main_v18_3, STEP_main_v18_4, STEP_main_v18_5, STEP_main_v18_6, STEP_main_v18_7]

theorem holds_step {A : Arrays} {V : Valuation τ sig (Elt Ideal)} (n : Fin 32) (H : Holds A V n.val) : Holds A (STEP V) (n.val + 1) := by
  have hn := H.trip
  have hX : at_ V n (A.fwd n.val) = A.run n := H.arrays _ _
  have hS := H.state
  refine ⟨?_, fun p T => (keeps_at V p T).trans (H.arrays p T), fun h a b => ?_, fun p a b l hp => ?_, fun p a b l hp => ?_⟩
  · rw [STEP_main_v18_8]
    unfold step_main_v18_8
    rw [H.trip]
    funext i
    show BitVec.ofNat 32 n.val + 1#32 = BitVec.ofNat 32 (n.val + 1)
    simp only [BitVec.ofNat_add]
  · refine (congrFun (STEP_main_v18_9 V) _).trans ((next_at V hn hS h a b).trans ?_)
    rw [hX]
    show (A.run n).next h a b = ((A.chunk (nth n.val)).begin (A.fwd n.val)).next h a b
    rw [nth_val]; rfl
  · refine (congrFun (STEP_main_v18_10 V) _).trans (chunk_step n (f := fun p => (A.run p).y) updateFits_S32x4x64x128_S1x4x64x128 (start4 hn) H.rows (fun a b l => ?_) p a b l hp)
    refine (liftHd _ a b l).trans ((fY_apply _ _ _ a b l).trans ((y_at V hn hS a b l).trans ?_))
    rw [hX]
  · refine (congrFun (STEP_main_v18_11 V) _).trans (chunk_step n (f := fun p => A.fwd p.val) updateFits_S32x4x128x128_S1x4x128x128 (start4 hn) H.kept (fun a b l => ?_) p a b l hp)
    exact (liftSt _ a b l).trans (hS a b l)

theorem holds_after : ∀ k : ℕ, k ≤ 32 → Holds (args m c) (STEP^[k] (start m c)) k
  | 0 => fun _ => holds_start m c
  | k + 1 => fun h => by
    rw [Function.iterate_succ_apply']
    exact holds_step ⟨k, by omega⟩ (holds_after k (by omega))

/-! ## The results -/

theorem left_apply (a b : FVec Ideal S2048x512 .f32) (i : S2048x1024.Idx) (h : (i 1).val < 512) :
    concatenate S2048x1024 1 [⟨S2048x512, a⟩, ⟨S2048x512, b⟩] concatenates_S2048x512_S2048x512_S2048x1024_d1 i = a (ix2 (i 0) ⟨(i 1).val, h⟩) := by
  obtain ⟨R, l, rfl⟩ : ∃ (R : Fin 2048) (l : Fin 1024), i = ix2 R l := ⟨i 0, i 1, eq_ix2 i⟩
  have h' : l.val < 512 := h
  pointwise []
  rw [dif_pos h']

theorem right_apply (a : FVec Ideal S2048x512 .f32) (x : FVec Ideal S2048x1024 .f32) (i : S2048x1024.Idx) (h : ¬(i 1).val < 512) :
    concatenate S2048x1024 1 [⟨S2048x512, a⟩, ⟨S2048x512, extractStridedSlice S2048x512 ![0, 512] x slices_S2048x1024_S2048x512_0_512⟩] concatenates_S2048x512_S2048x512_S2048x1024_d1 i = x i := by
  obtain ⟨R, l, rfl⟩ : ∃ (R : Fin 2048) (l : Fin 1024), i = ix2 R l := ⟨i 0, i 1, eq_ix2 i⟩
  have h' : ¬l.val < 512 := h
  pointwise []
  rw [dif_neg h']
  exact congrArg x (congrArg (ix2 R) (Fin.ext (by show 512 + (l.val - 512) = l.val; omega)))

theorem results : out_main_v22 (STEP^[32] (start m c)) = (args m c).mixed
    ∧ (STEP^[32] (start m c) (Proc.devRef .tc main_v18_11) : S32x4x128x128.Idx → EReal) = (args m c).states := by
  have H := holds_after m c 32 (le_refl _)
  refine ⟨?_, ?_⟩
  · funext i
    unfold out_main_v22 Arrays.mixed
    by_cases h : (i 1).val < 512
    · rw [dif_pos h]
      exact (left_apply _ _ i h).trans ((unstackZ _ (i 0) ⟨(i 1).val, h⟩).trans (H.rows _ _ _ _ (ck (i 0)).isLt))
    · rw [dif_neg h]
      exact (right_apply _ _ i h).trans (congrFun (iter_main_arg8 m c 32) i)
  · funext i
    obtain ⟨n, h, a, b, rfl⟩ : ∃ (n : Fin 32) (h : Fin 4) (a b : Fin 128), i = ix4 n h a b := ⟨i 0, i 1, i 2, i 3, eq_ix4 i⟩
    exact H.kept n h a b n.isLt

end Cert.Reference15Ideal.Scan

end
-- ==== Proof.ScanForward.lean ====
/-
  The forward scan: the kernel and its reference write the same output columns and the same states.
-/
module

public import proofs.«01_k».proof.Proof.ScanForeKernel
public import proofs.«01_k».proof.Proof.ScanForeLoop
public import Idealize.ShloMosaic.Lib.KernelVsHost
public import Idealize.ShloMosaic.Lib.Quiescent
public import proofs.«01_k».proof.Defs

@[expose] public section

set_option maxRecDepth 16384

noncomputable section

namespace Cert.Proof

open Idealize.ShloMosaic Idealize.ShloMosaic.TcCoe Idealize.SL.Sem Cert.Scan

theorem reference_frame15 : Cert.quiescent_Reference15Ideal := by
  intro m g _
  exact (θ_run Cert.Reference15Ideal.defs _ _).mono
    (fun r h => ⟨fun c => (h c).2.2, sem_eq_zero_of_no_sems (by decide) r.2⟩) (Cert.Reference15Ideal.Value.run (F := Ideal) m g)

/-- Equal arguments make equal arrays. -/
theorem fore_args (m' : (ℓ : Loc Cert.Reference15Ideal.nD Cert.Reference15Ideal.τ Cert.Reference15Ideal.sig) → Buf (Elt Ideal) ℓ)
    (c : Dev Cert.Kernel15Ideal.nD) {a0 a1 a2 a3 a4 a5 a6 a7 a8}
    (e0 : (Cert.Reference15Ideal.Scan.args m' c).uv = a0)
    (e1 : (Cert.Reference15Ideal.Scan.args m' c).wk = a1)
    (e2 : (Cert.Reference15Ideal.Scan.args m' c).qd = a2)
    (e3 : (Cert.Reference15Ideal.Scan.args m' c).ke = a3)
    (e4 : (Cert.Reference15Ideal.Scan.args m' c).att = a4)
    (e5 : (Cert.Reference15Ideal.Scan.args m' c).ge = a5)
    (e6 : (Cert.Reference15Ideal.Scan.args m' c).z = a6)
    (e7 : (Cert.Reference15Ideal.Scan.args m' c).g = a7)
    (e8 : (Cert.Reference15Ideal.Scan.args m' c).d = a8) :
    Cert.Reference15Ideal.Scan.args m' c = ⟨a0, a1, a2, a3, a4, a5, a6, a7, fun _ => 0, a8⟩ := by
  rw [← e0, ← e1, ← e2, ← e3, ← e4, ← e5, ← e6, ← e7, ← e8]
  rfl

/-- The forward scan: the kernel and its reference compute the same two arrays. -/
theorem algebraic15 : Cert.algebraic_Kernel15Ideal_Reference15Ideal := by
  intro m g m' g' _ hargs
  refine ⟨fun c => (Cert.Kernel15Ideal.Scan.args m c).mixed, fun c => (Cert.Kernel15Ideal.Scan.args m c).states, ?_, ?_⟩
  · refine (θ_run Cert.Kernel15Ideal.defs _ _).mono (fun r h c => ?_) (Cert.Kernel15Ideal.Value.run_blocks (F := Ideal) m g)
    obtain ⟨h0, h1, ha⟩ := h c
    exact ⟨h0.trans (Cert.Kernel15Ideal.Scan.final_mixed m c), h1.trans (Cert.Kernel15Ideal.Scan.final_states m c), ha⟩
  · refine (θ_run Cert.Reference15Ideal.defs _ _).mono (fun r h c => ?_) (Cert.Reference15Ideal.Value.run (F := Ideal) m' g')
    obtain ⟨h0, h1, ha⟩ := h c
    obtain ⟨e0, e1, e2, e3, e4, e5, e6, e7, e8⟩ := hargs c
    have e : Cert.Reference15Ideal.Scan.args m' c = Cert.Kernel15Ideal.Scan.args m c := fore_args m' c e0 e1 e2 e3 e4 e5 e6 e7 e8
    have R := Cert.Reference15Ideal.Scan.results m' c
    rw [e] at R
    exact ⟨h0.trans R.1, h1.trans R.2, ha⟩

end Cert.Proof

end
-- ==== Proof.FfnPieces.lean ====
/-
  What one grid point of the gated MLP's convolution kernel leaves in its output block: eleven strips of 128 columns,
  each the payload of one trip of the kernel's loop.
-/
module

public import proofs.«01_k».proof.Proof.Gen.Kernel16Ideal.Value
public import Idealize.ShloMosaic.Lib.Pipeline.Value
public import Idealize.ShloMosaic.Lib.Pipeline.ReadBack
public import Idealize.ShloMosaic.Lib.Pipeline.ValueKit
public import Idealize.ShloMosaic.Lib.Pointwise
public import Idealize.ShloMosaic.Lib.Tactic

@[expose] public section

set_option maxRecDepth 16384

noncomputable section

namespace Cert.Kernel16Ideal.Ffn

open Cert.Kernel16Ideal Cert.Kernel16Ideal.Gen Idealize.ShloMosaic Idealize.ShloMosaic.TcCoe Idealize.SL.Sem
open Idealize.ShloMosaic.Pipeline (Dat)

variable {F : FTy → Type} [FloatOps F]

/-- The strip of columns of a block of 256 rows that trip `k` reads. -/
abbrev wide (x : Vec F S256x1408 .bf16) (k : Fin k0_t1_loop.trips) : Vec F S256x128 .bf16 :=
  View.ld x (Rect.unit (s := S256x1408) (k0_off2 k) S256x128.size (k0_off2_inb k))
/-- The last eight of the sixteen rows above the block, in the columns of trip `k`. -/
abbrev over (x : Vec F S16x1408 .bf16) (k : Fin k0_t1_loop.trips) : Vec F S8x128 .bf16 :=
  View.ld x (Rect.unit (s := S16x1408) (k0_off1 k) S8x128.size (k0_off1_inb k))
/-- The three taps in the columns of trip `k`. -/
abbrev taps (x : Vec F S3x1408 .f32) (k : Fin k0_t1_loop.trips) : Vec F S3x128 .f32 :=
  View.ld x (Rect.unit (s := S3x1408) (k0_off3 k) S3x128.size (k0_off3_inb k))

/-- What trip `k` stores. -/
def strip (i : grid0.Coords) (x0 : Vec F S256x1408 .bf16) (x1 : Vec F S16x1408 .bf16) (x2 : Vec F S256x1408 .bf16)
    (x3 : Vec F S16x1408 .bf16) (x4 x5 : Vec F S3x1408 .f32) (k : Fin k0_t1_loop.trips) : Vec F S256x128 .bf16 :=
  k0_pay2 (k0_pay3 (k0_pay1 i) (over x1 k) (wide x0 k) (taps x4 k)) (taps x5 k)
    (k0_pay5 (k0_pay1 i) (over x3 k) (wide x2 k)) (k0_pay6 (k0_pay1 i) (over x3 k) (wide x2 k))
    (k0_pay7 (k0_pay1 i) (over x3 k) (wide x2 k) (taps x5 k))

section Case

variable (c : Dev nD) (i : grid0.Coords) (arg2 : Memref sig .tc .vmem S256x1408 .bf16) (harg2 : arg2.IsWhole) (arg3 : Memref sig .tc .vmem S16x1408 .bf16) (harg3 : arg3.IsWhole) (arg4 : Memref sig .tc .vmem S256x1408 .bf16) (harg4 : arg4.IsWhole) (arg5 : Memref sig .tc .vmem S16x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S256x1408 .bf16) (harg8 : arg8.IsWhole)
  (x0 : Vec F S256x1408 .bf16) (x1 : Vec F S16x1408 .bf16) (x2 : Vec F S256x1408 .bf16) (x3 : Vec F S16x1408 .bf16) (x4 x5 : Vec F S3x1408 .f32)

/-- One trip's store. -/
theorem trip_eq (k : Fin k0_t1_loop.trips) :
    tripL_k0_t1 (F := F) Variants.none c none i arg2 harg2 arg3 harg3 arg4 harg4 arg5 harg5 arg6 harg6 arg7 harg7 arg8 harg8
      (harg2.unread x0) (harg3.unread x1) (harg4.unread x2) (harg5.unread x3) (harg6.unread x4) (harg7.unread x5) k
      = [⟨Rect.unit (s := S256x1408) (k0_off2 k) S256x128.size (k0_off2_inb k), strip i x0 x1 x2 x3 x4 x5 k⟩] := by
  unfold tripL_k0_t1 trip_k0_t1
  dsimp only
  sl_unfold_words
  simp only [View.readAt_eq_ld, harg2.read_unread, harg3.read_unread, harg4.read_unread, harg5.read_unread, harg6.read_unread, harg7.read_unread]
  rfl

/-- The trips before the `n`-th, at an entry of the strip of trip `q`, one of them. -/
theorem pieces_apply (q : Fin k0_t1_loop.trips) (r : Fin 256) (l : Fin 128) (hl : 128 * q.val + l.val < 1408) :
    ∀ n : ℕ, n ≤ k0_t1_loop.trips → q.val < n →
    (View.canon (pb_k0_t1 (F := F) Variants.none c none i arg2 harg2 arg3 harg3 arg4 harg4 arg5 harg5 arg6 harg6 arg7 harg7 arg8 harg8
      (harg2.unread x0) (harg3.unread x1) (harg4.unread x2) (harg5.unread x3) (harg6.unread x4) (harg7.unread x5) n)
      (ix2 r (⟨128 * q.val + l.val, hl⟩ : Fin 1408)) : Elt F .bf16) = strip i x0 x1 x2 x3 x4 x5 q (ix2 r l) := by
  intro n
  induction n with
  | zero => intro _ h; omega
  | succ n ih =>
    intro hn hq
    have hs := pb_k0_t1_succ (F := F) Variants.none c none i arg2 harg2 arg3 harg3 arg4 harg4 arg5 harg5 arg6 harg6 arg7 harg7 arg8 harg8
      (harg2.unread x0) (harg3.unread x1) (harg4.unread x2) (harg5.unread x3) (harg6.unread x4) (harg7.unread x5) ⟨n, hn⟩
    rw [trip_eq] at hs
    refine (congrFun (congrArg View.canon hs) _).trans ?_
    by_cases e : q.val = n
    · obtain rfl : q = ⟨n, hn⟩ := Fin.ext e
      refine Eq.trans (congrArg _ ?_) (View.canon_cons_emb (Val := Elt F) (e := .bf16) (Rect.unit (s := S256x1408) (k0_off2 ⟨n, hn⟩) S256x128.size (k0_off2_inb ⟨n, hn⟩)) _ _ (ix2 r l))
      funext a
      refine Fin.ext ?_
      rw [Rect.emb_apply]
      match a with
      | ⟨0, _⟩ => show r.val = k0_off2 ⟨n, hn⟩ 0 + 1 * r.val
                  rw [k0_off2_eq]; show r.val = 0 + 1 * r.val; omega
      | ⟨1, _⟩ => show 128 * n + l.val = k0_off2 ⟨n, hn⟩ 1 + 1 * l.val
                  rw [k0_off2_eq]; show 128 * n + l.val = 128 * n + 1 * l.val; omega
    · refine (View.canon_cons_of_not_mem _ _ ?_).trans (ih (by omega) (by omega))
      rw [Rect.mem_set_unit]
      intro hm
      have h1 := hm 1
      have h1 : k0_off2 ⟨n, hn⟩ 1 ≤ 128 * q.val + l.val := h1.1
      have : k0_off2 ⟨n, hn⟩ 1 = 128 * n := by rw [k0_off2_eq]; rfl
      have := l.isLt
      omega

/-- The output block after the point. -/
theorem out_apply (q : Fin k0_t1_loop.trips) (r : Fin 256) (l : Fin 128) (hl : 128 * q.val + l.val < 1408) :
    out0_A_6 c i arg2 harg2 arg3 harg3 arg4 harg4 arg5 harg5 arg6 harg6 arg7 harg7 arg8 harg8 x0 x1 x2 x3 x4 x5
      (ix2 r (⟨128 * q.val + l.val, hl⟩ : Fin 1408)) = strip i x0 x1 x2 x3 x4 x5 q (ix2 r l) := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  sl_unfold_words
  exact pieces_apply c i arg2 harg2 arg3 harg3 arg4 harg4 arg5 harg5 arg6 harg6 arg7 harg7 arg8 harg8 x0 x1 x2 x3 x4 x5 q r l hl _ le_rfl q.isLt

end Case

end Cert.Kernel16Ideal.Ffn

end
-- ==== Proof.FfnSpec.lean ====
/-
  The gated MLP's causal depthwise convolution with three taps and its gate, as plain expressions over the extended
  reals.
-/
module

public import proofs.«01_k».proof.Proof.ConvSpec
public import proofs.«01_k».proof.Proof.ScanSpec

@[expose] public section

noncomputable section

namespace Cert.Ffn

open Idealize.ShloMosaic Cert.Conv Cert.Scan

/-- The matrix delayed by `d` rows: zero in the first `d` rows. -/
def back {N K : ℕ} (x : (⟨2, ![N, K]⟩ : Shape).Idx → EReal) (d n k : ℕ) : EReal := if d ≤ n then entry x (n - d) k else 0

/-- The convolution: row `n` reads the rows `n - 2`, `n - 1` and `n`. -/
def conv {N K L : ℕ} (x : (⟨2, ![N, K]⟩ : Shape).Idx → EReal) (w : (⟨2, ![3, L]⟩ : Shape).Idx → EReal) (n k : ℕ) : EReal :=
  back x 2 n k * entry w 0 k + back x 1 n k * entry w 1 k + entry x n k * entry w 2 k

/-- The gate: the silu of a convolved column times the convolved column 2816 further on. -/
def act {N K L : ℕ} (x : (⟨2, ![N, K]⟩ : Shape).Idx → EReal) (w : (⟨2, ![3, L]⟩ : Shape).Idx → EReal) (n k : ℕ) : EReal :=
  conv x w n k * sg (conv x w n k) * conv x w n (k + 2816)

end Cert.Ffn

end
-- ==== Proof.FfnPayload.lean ====
/-
  The gated MLP's convolution kernel at the ideal values: one strip, entry by entry.
-/
module

public import proofs.«01_k».proof.Proof.FfnPieces
public import proofs.«01_k».proof.Proof.FfnSpec
public import proofs.«01_k».proof.Proof.ConvPayload
public import Idealize.ShloMosaic.Lib.KernelVsHost

@[expose] public section

set_option maxRecDepth 16384

noncomputable section

namespace Cert.Kernel16Ideal.Ffn

open Cert.Kernel16Ideal Cert.Kernel16Ideal.Gen Cert.Ffn Cert.Scan
open Idealize.ShloMosaic Idealize.ShloMosaic.TcCoe Idealize.SL.Sem

/-- Row `n` of the 8 rows of `y`, each times `e`, followed by a block of 256 rows. -/
def above (x : Vec Ideal S256x128 .bf16) (e : EReal) (y : Vec Ideal S8x128 .bf16) (n : ℕ) (l : Fin 128) : EReal :=
  if h : n < 8 then (y (ix2 ⟨n, h⟩ l) : EReal) * e else if h' : n - 8 < 256 then x (ix2 ⟨n - 8, h'⟩ l) else 0

/-- The factor of the rows above: zero at the first block of rows. -/
theorem pay1_eq (i : grid0.Coords) : (k0_pay1 (F := Ideal) i : EReal) = if (i 1).val = 0 then 0 else 1 := by
  have hi : (i 1).val < 8 := (i 1).isLt
  have h := Cert.KernelIdeal.Conv.select_coord (i 1).val (by omega) 0 (by omega) (0 : EReal) 1
  refine Eq.trans ?_ h
  pointwise [k0_pay1]

/-- A row of the rotated rows. -/
theorem row_eq (e : EReal) (y : Vec Ideal S8x128 .bf16) (x : Vec Ideal S256x128 .bf16) (n n' : ℕ) (l : Fin 128) (h8 : n < 264) (h : n = n') :
    (if h : n < 8 then (y (ix2 ⟨n, h⟩ l) : EReal) * e else x (ix2 ⟨n - 8, by omega⟩ l)) = above x e y n' l := by
  subst h
  unfold above
  by_cases h : n < 8
  · rw [dif_pos h, dif_pos h]
  · rw [dif_neg h, dif_neg h, dif_pos (by omega)]

/-- A row of the block itself. -/
theorem own_eq (e : EReal) (y : Vec Ideal S8x128 .bf16) (x : Vec Ideal S256x128 .bf16) (r : Fin 256) (l : Fin 128) :
    (x (ix2 r l) : EReal) = above x e y (r.val + 8) l := by
  have hr := r.isLt
  unfold above
  rw [dif_neg (by omega), dif_pos (by omega)]
  exact congrArg x (congrArg (ix2 · l) (Fin.ext (by show r.val = r.val + 8 - 8; omega)))

/-- The gate half's convolution. -/
theorem pay3_apply (e : EReal) (y : Vec Ideal S8x128 .bf16) (x : Vec Ideal S256x128 .bf16) (w : Vec Ideal S3x128 .f32) (r : Fin 256) (l : Fin 128) :
    k0_pay3 (F := Ideal) e y x w (ix2 r l)
      = (above x e y (r.val + 6) l * w (ix2 0 l) + above x e y (r.val + 7) l * w (ix2 1 l) + above x e y (r.val + 8) l * w (ix2 2 l) : EReal) := by
  have hr := r.isLt
  pointwise [k0_pay3]
  exact congrArg₂ (· + ·) (congrArg₂ (· + ·) (congrArg (· * _) (row_eq e y x _ _ l (by omega) (by omega)))
    (congrArg (· * _) (row_eq e y x _ _ l (by omega) (by omega)))) (congrArg (· * _) (own_eq e y x r l))

/-- The value half's rows one row late. -/
theorem pay5_apply (e : EReal) (y : Vec Ideal S8x128 .bf16) (x : Vec Ideal S256x128 .bf16) (r : Fin 256) (l : Fin 128) :
    k0_pay5 (F := Ideal) e y x (ix2 r l) = (above x e y (r.val + 7) l : EReal) := by
  have hr := r.isLt
  pointwise [k0_pay5, k0_pay4]
  exact row_eq e y x _ _ l (by omega) (by omega)

/-- The value half's rows. -/
theorem pay6_apply (e : EReal) (y : Vec Ideal S8x128 .bf16) (x : Vec Ideal S256x128 .bf16) (r : Fin 256) (l : Fin 128) :
    k0_pay6 (F := Ideal) e y x (ix2 r l) = (above x e y (r.val + 8) l : EReal) := by
  have hr := r.isLt
  pointwise [k0_pay6, k0_pay4]
  exact own_eq e y x r l

/-- The value half's rows two rows late, times the first tap. -/
theorem pay7_apply (e : EReal) (y : Vec Ideal S8x128 .bf16) (x : Vec Ideal S256x128 .bf16) (w : Vec Ideal S3x128 .f32) (r : Fin 256) (l : Fin 128) :
    k0_pay7 (F := Ideal) e y x w (ix2 r l) = (above x e y (r.val + 6) l * w (ix2 0 l) : EReal) := by
  have hr := r.isLt
  pointwise [k0_pay7, k0_pay4]
  exact congrArg (· * _) (row_eq e y x _ _ l (by omega) (by omega))

/-- The gate. -/
theorem pay2_apply (v31 : FVec Ideal S256x128 .f32) (v42 : Vec Ideal S3x128 .f32) (v46 v47 v50 : FVec Ideal S256x128 .f32) (r : Fin 256) (l : Fin 128) :
    k0_pay2 (F := Ideal) v31 v42 v46 v47 v50 (ix2 r l)
      = (v31 (ix2 r l) * sg (v31 (ix2 r l)) * (v50 (ix2 r l) + v46 (ix2 r l) * v42 (ix2 1 l) + v47 (ix2 r l) * v42 (ix2 2 l)) : EReal) := by
  pointwise [k0_pay2]
  rfl

/-- One strip's convolution of one half. -/
def stripConv (x : Vec Ideal S256x128 .bf16) (e : EReal) (y : Vec Ideal S8x128 .bf16) (w : Vec Ideal S3x128 .f32) (r : ℕ) (l : Fin 128) : EReal :=
  above x e y (r + 6) l * w (ix2 0 l) + above x e y (r + 7) l * w (ix2 1 l) + above x e y (r + 8) l * w (ix2 2 l)

/-- One strip, entry by entry. -/
theorem strip_apply (i : grid0.Coords) (x0 : Vec Ideal S256x1408 .bf16) (x1 : Vec Ideal S16x1408 .bf16) (x2 : Vec Ideal S256x1408 .bf16)
    (x3 : Vec Ideal S16x1408 .bf16) (x4 x5 : Vec Ideal S3x1408 .f32) (k : Fin k0_t1_loop.trips) (r : Fin 256) (l : Fin 128) :
    strip (F := Ideal) i x0 x1 x2 x3 x4 x5 k (ix2 r l)
      = (stripConv (wide x0 k) (k0_pay1 (F := Ideal) i) (over x1 k) (taps x4 k) r.val l
          * sg (stripConv (wide x0 k) (k0_pay1 (F := Ideal) i) (over x1 k) (taps x4 k) r.val l)
          * stripConv (wide x2 k) (k0_pay1 (F := Ideal) i) (over x3 k) (taps x5 k) r.val l : EReal) := by
  unfold strip
  rw [pay2_apply, pay3_apply, pay5_apply, pay6_apply, pay7_apply]
  rfl

end Cert.Kernel16Ideal.Ffn

end
-- ==== Proof.FfnKernel.lean ====
/-
  The gated MLP's convolution kernel at the ideal values: after its 16 grid points the result array holds the gate of
  the argument arrays.
-/
module

public import proofs.«01_k».proof.Proof.FfnPayload

@[expose] public section

set_option maxRecDepth 16384

noncomputable section

namespace Cert.Kernel16Ideal.Ffn

open Cert.Kernel16Ideal Cert.Kernel16Ideal.Gen Cert.Conv Cert.Ffn Cert.Scan
open Idealize.ShloMosaic Idealize.ShloMosaic.TcCoe Idealize.SL.Sem
open Idealize.ShloMosaic.Pipeline (Dat)

variable (m : (ℓ : Loc nD τ sig) → Buf (Elt Ideal) ℓ) (c : Dev nD)

/-- The projection. -/
abbrev xIn : (⟨2, ![2048, 5632]⟩ : Shape).Idx → EReal := m ((c : Thread nD τ).loc main_arg0)
/-- The taps. -/
abbrev wIn : (⟨2, ![3, 5632]⟩ : Shape).Idx → EReal := m ((c : Thread nD τ).loc main_arg1)

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = 16 * (t.val % 8) - 1 ∧ win0_1.index t 1 = t.val / 8 :=
  (by decide +kernel : ∀ t : Fin grid0.N, win0_1.index t 0 = 16 * (t.val % 8) - 1 ∧ win0_1.index t 1 = t.val / 8)
theorem index2 : ∀ t : Fin cfg0.N, win0_2.index t 0 = t.val % 8 ∧ win0_2.index t 1 = t.val / 8 + 2 :=
  (by decide +kernel : ∀ t : Fin grid0.N, win0_2.index t 0 = t.val % 8 ∧ win0_2.index t 1 = t.val / 8 + 2)
theorem index3 : ∀ t : Fin cfg0.N, win0_3.index t 0 = 16 * (t.val % 8) - 1 ∧ win0_3.index t 1 = t.val / 8 + 2 :=
  (by decide +kernel : ∀ t : Fin grid0.N, win0_3.index t 0 = 16 * (t.val % 8) - 1 ∧ win0_3.index t 1 = t.val / 8 + 2)
theorem index4 : ∀ t : Fin cfg0.N, win0_4.index t 0 = 0 ∧ win0_4.index t 1 = t.val / 8 :=
  (by decide +kernel : ∀ t : Fin grid0.N, win0_4.index t 0 = 0 ∧ win0_4.index t 1 = t.val / 8)
theorem index5 : ∀ t : Fin cfg0.N, win0_5.index t 0 = 0 ∧ win0_5.index t 1 = t.val / 8 + 2 :=
  (by decide +kernel : ∀ t : Fin grid0.N, win0_5.index t 0 = 0 ∧ win0_5.index t 1 = t.val / 8 + 2)
theorem index6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)
theorem coord1 : ∀ t : Fin cfg0.N, (grid0.coords t 1).val = t.val % 8 :=
  (by decide +kernel : ∀ t : Fin grid0.N, (grid0.coords t 1).val = t.val % 8)

/-- A matrix read at an index whose coordinates are `n` and `k`. -/
theorem eq_entry {N K : ℕ} (x : (⟨2, ![N, K]⟩ : Shape).Idx → EReal) (i : (⟨2, ![N, K]⟩ : Shape).Idx) (n k : ℕ)
    (h0 : (i 0).val = n) (h1 : (i 1).val = k) : x i = entry x n k := by
  subst h0 h1
  rw [entry_of_lt x _ _ (i 0).isLt (i 1).isLt]
  exact congrArg x (funext fun a => by match a with | ⟨0, _⟩ => rfl | ⟨1, _⟩ => rfl)

/-- A block of rows of a half `h` of the array, in the columns of a trip. -/
theorem wide0 (t : Fin cfg0.N) (q : Fin k0_t1_loop.trips) (r : Fin 256) (l : Fin 128) :
    (wide (iblk m c 0 t : Vec Ideal S256x1408 .bf16) q) (ix2 r l)
      = entry (xIn m c) (256 * (t.val % 8) + r.val) (1408 * (t.val / 8) + (128 * q.val + l.val)) := by
  unfold iblk
  refine (View.read_apply _ _).trans ?_
  refine eq_entry (N := 2048) (K := 5632) (xIn m c) _ _ _ ?_ ?_
  · show win0_0.index t 0 * 256 + 1 * (k0_off2 q 0 + 1 * r.val) = _
    rw [(index0 t).1, k0_off2_eq]; show t.val % 8 * 256 + 1 * (0 + 1 * r.val) = _; omega
  · show win0_0.index t 1 * 1408 + 1 * (k0_off2 q 1 + 1 * l.val) = _
    rw [(index0 t).2, k0_off2_eq]; show t.val / 8 * 1408 + 1 * (128 * q.val + 1 * l.val) = _; omega

theorem wide2 (t : Fin cfg0.N) (q : Fin k0_t1_loop.trips) (r : Fin 256) (l : Fin 128) :
    (wide (iblk m c 2 t : Vec Ideal S256x1408 .bf16) q) (ix2 r l)
      = entry (xIn m c) (256 * (t.val % 8) + r.val) (1408 * (t.val / 8) + (128 * q.val + l.val) + 2816) := by
  unfold iblk
  refine (View.read_apply _ _).trans ?_
  refine eq_entry (N := 2048) (K := 5632) (xIn m c) _ _ _ ?_ ?_
  · show win0_2.index t 0 * 256 + 1 * (k0_off2 q 0 + 1 * r.val) = _
    rw [(index2 t).1, k0_off2_eq]; show t.val % 8 * 256 + 1 * (0 + 1 * r.val) = _; omega
  · show win0_2.index t 1 * 1408 + 1 * (k0_off2 q 1 + 1 * l.val) = _
    rw [(index2 t).2, k0_off2_eq]; show (t.val / 8 + 2) * 1408 + 1 * (128 * q.val + 1 * l.val) = _; omega

/-- The rows above a block. -/
theorem over1 (t : Fin cfg0.N) (h : t.val % 8 ≠ 0) (q : Fin k0_t1_loop.trips) (r : Fin 8) (l : Fin 128) :
    (over (iblk m c 1 t : Vec Ideal S16x1408 .bf16) q) (ix2 r l)
      = entry (xIn m c) (256 * (t.val % 8) + r.val - 8) (1408 * (t.val / 8) + (128 * q.val + l.val)) := by
  unfold iblk
  refine (View.read_apply _ _).trans ?_
  refine eq_entry (N := 2048) (K := 5632) (xIn m c) _ _ _ ?_ ?_
  · show win0_1.index t 0 * 16 + 1 * (k0_off1 q 0 + 1 * r.val) = _
    rw [(index1 t).1, k0_off1_eq]; show (16 * (t.val % 8) - 1) * 16 + 1 * (8 + 1 * r.val) = _; omega
  · show win0_1.index t 1 * 1408 + 1 * (k0_off1 q 1 + 1 * l.val) = _
    rw [(index1 t).2, k0_off1_eq]; show t.val / 8 * 1408 + 1 * (128 * q.val + 1 * l.val) = _; omega

theorem over3 (t : Fin cfg0.N) (h : t.val % 8 ≠ 0) (q : Fin k0_t1_loop.trips) (r : Fin 8) (l : Fin 128) :
    (over (iblk m c 3 t : Vec Ideal S16x1408 .bf16) q) (ix2 r l)
      = entry (xIn m c) (256 * (t.val % 8) + r.val - 8) (1408 * (t.val / 8) + (128 * q.val + l.val) + 2816) := by
  unfold iblk
  refine (View.read_apply _ _).trans ?_
  refine eq_entry (N := 2048) (K := 5632) (xIn m c) _ _ _ ?_ ?_
  · show win0_3.index t 0 * 16 + 1 * (k0_off1 q 0 + 1 * r.val) = _
    rw [(index3 t).1, k0_off1_eq]; show (16 * (t.val % 8) - 1) * 16 + 1 * (8 + 1 * r.val) = _; omega
  · show win0_3.index t 1 * 1408 + 1 * (k0_off1 q 1 + 1 * l.val) = _
    rw [(index3 t).2, k0_off1_eq]; show (t.val / 8 + 2) * 1408 + 1 * (128 * q.val + 1 * l.val) = _; omega

/-- The taps. -/
theorem taps4 (t : Fin cfg0.N) (q : Fin k0_t1_loop.trips) (a : Fin 3) (l : Fin 128) :
    (taps (iblk m c 4 t : Vec Ideal S3x1408 .f32) q) (ix2 a l)
      = entry (wIn m c) a.val (1408 * (t.val / 8) + (128 * q.val + l.val)) := by
  unfold iblk
  refine (View.read_apply _ _).trans ?_
  refine eq_entry (N := 3) (K := 5632) (wIn m c) _ _ _ ?_ ?_
  · show win0_4.index t 0 * 3 + 1 * (k0_off3 q 0 + 1 * a.val) = _
    rw [(index4 t).1, k0_off3_eq]; show 0 * 3 + 1 * (0 + 1 * a.val) = _; omega
  · show win0_4.index t 1 * 1408 + 1 * (k0_off3 q 1 + 1 * l.val) = _
    rw [(index4 t).2, k0_off3_eq]; show t.val / 8 * 1408 + 1 * (128 * q.val + 1 * l.val) = _; omega

theorem taps5 (t : Fin cfg0.N) (q : Fin k0_t1_loop.trips) (a : Fin 3) (l : Fin 128) :
    (taps (iblk m c 5 t : Vec Ideal S3x1408 .f32) q) (ix2 a l)
      = entry (wIn m c) a.val (1408 * (t.val / 8) + (128 * q.val + l.val) + 2816) := by
  unfold iblk
  refine (View.read_apply _ _).trans ?_
  refine eq_entry (N := 3) (K := 5632) (wIn m c) _ _ _ ?_ ?_
  · show win0_5.index t 0 * 3 + 1 * (k0_off3 q 0 + 1 * a.val) = _
    rw [(index5 t).1, k0_off3_eq]; show 0 * 3 + 1 * (0 + 1 * a.val) = _; omega
  · show win0_5.index t 1 * 1408 + 1 * (k0_off3 q 1 + 1 * l.val) = _
    rw [(index5 t).2, k0_off3_eq]; show (t.val / 8 + 2) * 1408 + 1 * (128 * q.val + 1 * l.val) = _; omega

/-- The rows of a block with the rows above it are the array's, delayed. -/
theorem above_eq (t : Fin cfg0.N) (x : Vec Ideal S256x128 .bf16) (y : Vec Ideal S8x128 .bf16) (l : Fin 128) (C : ℕ)
    (hx : ∀ r : Fin 256, x (ix2 r l) = entry (xIn m c) (256 * (t.val % 8) + r.val) C)
    (hy : t.val % 8 ≠ 0 → ∀ r : Fin 8, y (ix2 r l) = entry (xIn m c) (256 * (t.val % 8) + r.val - 8) C)
    (n d : ℕ) (hn : n < 264) (hd : n + d = 8 + (n + d - 8)) :
    above x (k0_pay1 (F := Ideal) (grid0.coords t)) y n l = back (xIn m c) d (256 * (t.val % 8) + (n + d - 8)) C := by
  unfold above back
  by_cases h : n < 8
  · rw [dif_pos h, pay1_eq, coord1]
    by_cases h0 : t.val % 8 = 0
    · rw [if_pos h0, mul_zero, if_neg (by omega)]
    · rw [if_neg h0, mul_one, if_pos (by omega)]
      exact (hy h0 ⟨n, h⟩).trans (entry_congr _ (by show 256 * (t.val % 8) + n - 8 = _; omega) rfl)
  · rw [dif_neg h, dif_pos (by omega), if_pos (by omega)]
    exact (hx ⟨n - 8, by omega⟩).trans (entry_congr _ (by show 256 * (t.val % 8) + (n - 8) = _; omega) rfl)

/-- No delay. -/
theorem back_zero {N K : ℕ} (x : (⟨2, ![N, K]⟩ : Shape).Idx → EReal) (n k : ℕ) : back x 0 n k = entry x n k := by
  unfold back
  rw [if_pos (Nat.zero_le n), Nat.sub_zero]

/-- A strip's convolution is the array's. -/
theorem stripConv_eq (t : Fin cfg0.N) (x : Vec Ideal S256x128 .bf16) (y : Vec Ideal S8x128 .bf16) (w : Vec Ideal S3x128 .f32) (l : Fin 128) (C : ℕ)
    (hx : ∀ r : Fin 256, x (ix2 r l) = entry (xIn m c) (256 * (t.val % 8) + r.val) C)
    (hy : t.val % 8 ≠ 0 → ∀ r : Fin 8, y (ix2 r l) = entry (xIn m c) (256 * (t.val % 8) + r.val - 8) C)
    (hw : ∀ a : Fin 3, w (ix2 a l) = entry (wIn m c) a.val C) (r : Fin 256) :
    stripConv x (k0_pay1 (F := Ideal) (grid0.coords t)) y w r.val l = conv (xIn m c) (wIn m c) (256 * (t.val % 8) + r.val) C := by
  have hr := r.isLt
  unfold stripConv conv
  rw [← back_zero (xIn m c)]
  refine congrArg₂ (· + ·) (congrArg₂ (· + ·) (congrArg₂ (· * ·) ?_ (hw 0)) (congrArg₂ (· * ·) ?_ (hw 1))) (congrArg₂ (· * ·) ?_ (hw 2))
  · exact (above_eq m c t x y l C hx hy (r.val + 6) 2 (by omega) (by omega)).trans (by rw [show r.val + 6 + 2 - 8 = r.val by omega])
  · exact (above_eq m c t x y l C hx hy (r.val + 7) 1 (by omega) (by omega)).trans (by rw [show r.val + 7 + 1 - 8 = r.val by omega])
  · exact (above_eq m c t x y l C hx hy (r.val + 8) 0 (by omega) (by omega)).trans (by rw [show r.val + 8 + 0 - 8 = r.val by omega])

/-- The number of trips. -/
theorem trips_eq : k0_t1_loop.trips = 11 := by decide +kernel

/-- The output block after point `t`. -/
theorem out_after (t : Fin cfg0.N) (r : Fin 256) (l : Fin 1408) :
    (outsAt0 m c t (ix2 r l) : EReal) = act (xIn m c) (wIn m c) (256 * (t.val % 8) + r.val) (1408 * (t.val / 8) + l.val) := by
  have hl := l.isLt
  obtain ⟨q, k, hq, e⟩ : ∃ (q : Fin k0_t1_loop.trips) (k : Fin 128) (h : 128 * q.val + k.val < 1408), l = ⟨128 * q.val + k.val, h⟩ :=
    ⟨⟨l.val / 128, by rw [trips_eq]; omega⟩, ⟨l.val % 128, by omega⟩, by show 128 * (l.val / 128) + l.val % 128 < 1408; omega,
      Fin.ext (by show l.val = 128 * (l.val / 128) + l.val % 128; omega)⟩
  subst e
  unfold outsAt0
  rw [out_apply, strip_apply,
    stripConv_eq m c t _ _ _ k (1408 * (t.val / 8) + (128 * q.val + k.val)) (fun r => wide0 m c t q r k) (fun h r => over1 m c t h q r k) (fun a => taps4 m c t q a k) r,
    stripConv_eq m c t _ _ _ k (1408 * (t.val / 8) + (128 * q.val + k.val) + 2816) (fun r => wide2 m c t q r k) (fun h r => over3 m c t h q r k) (fun a => taps5 m c t q a k) r]
  rfl

/-- The result array's contents. -/
def actOut : S2048x2816.Idx → EReal := fun i => act (xIn m c) (wIn m c) (i 0).val (i 1).val

theorem final_act : (dats m 0 c).arrAt 6 cfg0.N = actOut m c := by
  refine (dats m 0 c).arrAt_eq_of_cover 6 (actOut m c) (fun t _ => ?_) fun i => ?_
  · rw [Value.flushed6]
    funext j
    rw [View.read_apply]
    have e := out_after m c t (j 0) (j 1)
    refine (congrArg (outsAt0 m c t) (?_ : _ = ix2 (j 0) (j 1))).trans (e.trans ?_)
    · funext a; match a with | ⟨0, _⟩ => rfl | ⟨1, _⟩ => rfl
    · refine congrArg₂ (act (xIn m c) (wIn m c)) ?_ ?_
      · show _ = win0_6.index t 0 * 256 + 1 * (j 0).val; rw [(index6 t).1]; omega
      · show _ = win0_6.index t 1 * 1408 + 1 * (j 1).val; rw [(index6 t).2]; omega
  · have h0 : (i 0 : ℕ) < 2048 := (i 0).isLt
    have h1 : (i 1 : ℕ) < 2816 := (i 1).isLt
    refine ⟨⟨8 * ((i 1 : ℕ) / 1408) + (i 0 : ℕ) / 256, by rw [show cfg0.N = 16 from N_0]; omega⟩, flush0_6 _, ?_⟩
    generalize ht : (⟨8 * ((i 1 : ℕ) / 1408) + (i 0 : ℕ) / 256, _⟩ : Fin cfg0.N) = t
    have hv : t.val = 8 * ((i 1 : ℕ) / 1408) + (i 0 : ℕ) / 256 := by rw [← ht]
    show i ∈ ((View.whole main_v0).slice (win0_6.rect t)).set
    rw [View.set_slice_whole, Rect.mem_set_unit]
    intro a
    match a with
    | ⟨0, _⟩ => show win0_6.index t 0 * 256 ≤ (i 0 : ℕ) ∧ (i 0 : ℕ) < win0_6.index t 0 * 256 + 256
                rw [(index6 t).1]; omega
    | ⟨1, _⟩ => show win0_6.index t 1 * 1408 ≤ (i 1 : ℕ) ∧ (i 1 : ℕ) < win0_6.index t 1 * 1408 + 1408
                rw [(index6 t).2]; omega

end Cert.Kernel16Ideal.Ffn

end
-- ==== Proof.FfnReference.lean ====
/-
  The reference of the gated MLP's convolution and gate, entry by entry.
-/
module

public import proofs.«01_k».proof.Proof.Gen.Reference16Ideal.Read
public import proofs.«01_k».proof.Proof.FfnSpec
public import Idealize.ShloMosaic.Lib.Pointwise
public import Idealize.ShloMosaic.Lib.KernelVsHost

@[expose] public section

set_option maxRecDepth 16384

noncomputable section

namespace Cert.Reference16Ideal.Ffn

open Cert.Reference16Ideal Cert.Reference16Ideal.Gen Cert.Reference16Ideal.Read Cert.Conv Cert.Ffn Cert.Scan
open Idealize.ShloMosaic Idealize.ShloMosaic.TcCoe Idealize.SL.Sem

variable (x0 : (⟨S2048x5632, .bf16⟩ : BufTy).Contents (Elt Ideal)) (x1 : (⟨S3x5632, .f32⟩ : BufTy).Contents (Elt Ideal))

/-- The reference's convolution. -/
theorem conv_apply (r : Fin 2048) (l : Fin 5632) :
    val_main_v22 (F := Ideal) x0 x1 (ix2 r l) = (conv (N := 2048) (K := 5632) (L := 5632) x0 x1 r.val l.val : EReal) := by
  have hl := l.isLt
  have hr := r.isLt
  pointwise [val_main_v0, val_main_cst, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22]
  have hx : ∀ (n : ℕ) (h : n < 2048), x0 (ix2 ⟨n, h⟩ l) = entry (N := 2048) (K := 5632) x0 n l.val := fun n h =>
    (entry_of_lt (N := 2048) (K := 5632) x0 n l.val h hl).symm
  have hw : ∀ a : Fin 3, x1 (ix2 a l) = entry (N := 3) (K := 5632) x1 a.val l.val := fun a =>
    (entry_of_lt (N := 3) (K := 5632) x1 a.val l.val a.isLt hl).symm
  unfold conv
  refine congrArg₂ (· + ·) (congrArg₂ (· + ·) (congrArg₂ (· * ·) ?_ (hw 0)) (congrArg₂ (· * ·) ?_ (hw 1)))
    (congrArg₂ (· * ·) (hx r.val hr) (hw 2))
  · unfold back
    by_cases h : r.val < 2
    · rw [dif_pos h, if_neg (by omega)]
    · rw [dif_neg h]
      exact (hx _ _).trans (if_pos (by omega)).symm
  · unfold back
    by_cases h : 1 + r.val < 2
    · rw [dif_pos h, if_neg (by omega)]
    · rw [dif_neg h]
      exact ((hx _ _).trans (entry_congr _ (by omega) rfl)).trans (if_pos (by omega)).symm

/-- The reference's result. -/
theorem act_apply (r : Fin 2048) (l : Fin 2816) :
    val_main_v27 (F := Ideal) x0 x1 (ix2 r l) = (act (N := 2048) (K := 5632) (L := 5632) x0 x1 r.val l.val : EReal) := by
  have hl := l.isLt
  have hr := r.isLt
  pointwise [val_main_v23, val_main_v24, val_main_call0_v0, val_main_call0_v1, val_main_call0_cst, val_main_call0_v2, val_main_call0_v3, val_main_call0_cst_0, val_main_call0_v4, val_main_call0_v5, val_main_v25, val_main_v26, val_main_v27]
  rw [conv_apply, conv_apply]
  unfold act sg
  exact congrArg (_ * ·) (congrArg (conv (N := 2048) (K := 5632) (L := 5632) x0 x1 r.val) (by show 2816 + l.val = l.val + 2816; omega))

end Cert.Reference16Ideal.Ffn

end
-- ==== Proof.FfnAct.lean ====
/-
  The gated MLP's convolution and gate: the kernel and its reference write the same array.
-/
module

public import proofs.«01_k».proof.Proof.FfnKernel
public import proofs.«01_k».proof.Proof.FfnReference
public import Idealize.ShloMosaic.Lib.Quiescent
public import proofs.«01_k».proof.Defs

@[expose] public section

noncomputable section

namespace Cert.Proof

open Idealize.ShloMosaic Idealize.ShloMosaic.TcCoe Idealize.SL.Sem

theorem reference_frame16 : Cert.quiescent_Reference16Ideal := by
  intro m g _
  exact (θ_run Cert.Reference16Ideal.defs _ _).mono
    (fun r h => ⟨fun c => (h c).2, sem_eq_zero_of_no_sems (by decide) r.2⟩) (Cert.Reference16Ideal.Value.run (F := Ideal) m g)

/-- The reference's result is the closed form of the same projection and taps. -/
theorem ffn_act (m : (ℓ : Loc Cert.Kernel16Ideal.nD Cert.Kernel16Ideal.τ Cert.Kernel16Ideal.sig) → Buf (Elt Ideal) ℓ) (c : Dev Cert.Kernel16Ideal.nD) :
    Cert.Reference16Ideal.Read.val_main_v27 (F := Ideal) (m ((c.tc : Thread Cert.Kernel16Ideal.nD Cert.Kernel16Ideal.τ).loc Cert.Kernel16Ideal.main_arg0))
        (m ((c.tc : Thread Cert.Kernel16Ideal.nD Cert.Kernel16Ideal.τ).loc Cert.Kernel16Ideal.main_arg1))
      = Cert.Kernel16Ideal.Ffn.actOut m c := by
  funext i
  obtain ⟨r, l, rfl⟩ : ∃ (r : Fin 2048) (l : Fin 2816), i = ix2 r l := ⟨i 0, i 1, eq_ix2 i⟩
  exact Cert.Reference16Ideal.Ffn.act_apply _ _ r l

/-- The kernel and its reference compute the same array over the extended reals. -/
theorem algebraic16 : Cert.algebraic_Kernel16Ideal_Reference16Ideal := by
  intro m g m' g' _ hargs
  refine ⟨fun c => Cert.Kernel16Ideal.Ffn.actOut m c, ?_, ?_⟩
  · refine (θ_run Cert.Kernel16Ideal.defs _ _).mono (fun r h c => ?_) (Cert.Kernel16Ideal.Value.run_blocks (F := Ideal) m g)
    obtain ⟨h6, ha⟩ := h c
    exact ⟨h6.trans (Cert.Kernel16Ideal.Ffn.final_act m c), ha⟩
  · refine (θ_run Cert.Reference16Ideal.defs _ _).mono (fun r h c => ?_) (Cert.Reference16Ideal.Value.run (F := Ideal) m' g')
    obtain ⟨h27, ha⟩ := h c
    obtain ⟨e0, e1⟩ := hargs c
    refine ⟨?_, ha⟩
    rw [h27, Cert.Reference16Ideal.Read.val_main_v27_eq, e0, e1]
    exact ffn_act m c

end Cert.Proof

end
-- ==== Proof.lean ====
/-
  The certificate: every claim of the programs, one module of proofs for each.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Pre_finite14
public import proofs.«01_k».proof.Proof.ConvAlgebraic
public import proofs.«01_k».proof.Proof.NormTwo
public import proofs.«01_k».proof.Proof.NormOne
public import proofs.«01_k».proof.Proof.LossHead
public import proofs.«01_k».proof.Proof.ProductDWdown
public import proofs.«01_k».proof.Proof.ProductDAct
public import proofs.«01_k».proof.Proof.ProductDWout
public import proofs.«01_k».proof.Proof.ProductDMix
public import proofs.«01_k».proof.Proof.ProductDWin
public import proofs.«01_k».proof.Proof.ProductDWup
public import proofs.«01_k».proof.Proof.ProductInProj
public import proofs.«01_k».proof.Proof.ProductOutProj
public import proofs.«01_k».proof.Proof.ProductUp
public import proofs.«01_k».proof.Proof.ScanBack
public import proofs.«01_k».proof.Proof.ScanForward
public import proofs.«01_k».proof.Proof.FfnAct

@[expose] public section

namespace Cert.Proof

theorem claim : Cert.Claim := ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Pre_finite14.Gen.facts,
    fun m ρ _ => Cert.Kernel.Gen.frame m ρ,
    fun m ρ _ => Cert.KernelIdeal.Gen.frame m ρ,
    conv_reference_frame,
    fun m ρ _ => Cert.Kernel2.Gen.frame m ρ,
    fun m ρ _ => Cert.Kernel2Ideal.Gen.frame m ρ,
    reference_frame2,
    fun m ρ _ => Cert.Kernel3.Gen.frame m ρ,
    fun m ρ _ => Cert.Kernel3Ideal.Gen.frame m ρ,
    reference_frame3,
    fun m ρ _ => Cert.Kernel4.Gen.frame m ρ,
    fun m ρ _ => Cert.Kernel4Ideal.Gen.frame m ρ,
    reference_frame4,
    fun m ρ _ => Cert.Kernel5.Gen.frame m ρ,
    fun m ρ _ => Cert.Kernel5Ideal.Gen.frame m ρ,
    reference_frame5,
    fun m ρ _ => Cert.Kernel6.Gen.frame m ρ,
    fun m ρ _ => Cert.Kernel6Ideal.Gen.frame m ρ,
    reference_frame6,
    fun m ρ _ => Cert.Kernel7.Gen.frame m ρ,
    fun m ρ _ => Cert.Kernel7Ideal.Gen.frame m ρ,
    reference_frame7,
    fun m ρ _ => Cert.Kernel8.Gen.frame m ρ,
    fun m ρ _ => Cert.Kernel8Ideal.Gen.frame m ρ,
    reference_frame8,
    fun m ρ _ => Cert.Kernel9.Gen.frame m ρ,
    fun m ρ _ => Cert.Kernel9Ideal.Gen.frame m ρ,
    reference_frame9,
    fun m ρ _ => Cert.Kernel10.Gen.frame m ρ,
    fun m ρ _ => Cert.Kernel10Ideal.Gen.frame m ρ,
    reference_frame10,
    fun m ρ _ => Cert.Kernel11.Gen.frame m ρ,
    fun m ρ _ => Cert.Kernel11Ideal.Gen.frame m ρ,
    reference_frame11,
    fun m ρ _ => Cert.Kernel12.Gen.frame m ρ,
    fun m ρ _ => Cert.Kernel12Ideal.Gen.frame m ρ,
    reference_frame12,
    fun m ρ _ => Cert.Kernel13.Gen.frame m ρ,
    fun m ρ _ => Cert.Kernel13Ideal.Gen.frame m ρ,
    reference_frame13,
    fun m ρ _ => Cert.Kernel14.Gen.frame m ρ,
    fun m ρ _ => Cert.Kernel14Ideal.Gen.frame m ρ,
    fun m ρ _ => Cert.Kernel14Ideal.Gen.frame m ρ,
    reference_frame14,
    reference_frame14_pre,
    fun m ρ _ => Cert.Kernel15.Gen.frame m ρ,
    fun m ρ _ => Cert.Kernel15Ideal.Gen.frame m ρ,
    reference_frame15,
    fun m ρ _ => Cert.Kernel16.Gen.frame m ρ,
    fun m ρ _ => Cert.Kernel16Ideal.Gen.frame m ρ,
    reference_frame16,
    trivial,
    conv_algebraic,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16⟩

end Cert.Proof

end
